-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDact (m : (ℓ : Loc Cert.DownDact.nD Cert.DownDact.τ Cert.DownDact.sig) → Buf (Elt Bits) ℓ) : Prop :=
  True

def Pre_DownDactIdeal (m : (ℓ : Loc Cert.DownDactIdeal.nD Cert.DownDactIdeal.τ Cert.DownDactIdeal.sig) → Buf (Elt Ideal) ℓ) : Prop :=
  True

def Pre_DownDactRefIdeal (m : (ℓ : Loc Cert.DownDactRefIdeal.nD Cert.DownDactRefIdeal.τ Cert.DownDactRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_GeluBwd (m : (ℓ : Loc Cert.GeluBwd.nD Cert.GeluBwd.τ Cert.GeluBwd.sig) → Buf (Elt Bits) ℓ) : Prop :=
  True

def Pre_GeluBwdIdeal (m : (ℓ : Loc Cert.GeluBwdIdeal.nD Cert.GeluBwdIdeal.τ Cert.GeluBwdIdeal.sig) → Buf (Elt Ideal) ℓ) : Prop :=
  True

def Pre_GeluBwdRefIdeal (m : (ℓ : Loc Cert.GeluBwdRefIdeal.nD Cert.GeluBwdRefIdeal.τ Cert.GeluBwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_GluProj (m : (ℓ : Loc Cert.GluProj.nD Cert.GluProj.τ Cert.GluProj.sig) → Buf (Elt Bits) ℓ) : Prop :=
  True

def Pre_GluProjIdeal (m : (ℓ : Loc Cert.GluProjIdeal.nD Cert.GluProjIdeal.τ Cert.GluProjIdeal.sig) → Buf (Elt Ideal) ℓ) : Prop :=
  True

def Pre_GluProjRefIdeal (m : (ℓ : Loc Cert.GluProjRefIdeal.nD Cert.GluProjRefIdeal.τ Cert.GluProjRefIdeal.sig) → Buf (Elt Ideal) ℓ) : Prop :=
  True

def Pre_GluProjDx (m : (ℓ : Loc Cert.GluProjDx.nD Cert.GluProjDx.τ Cert.GluProjDx.sig) → Buf (Elt Bits) ℓ) : Prop :=
  True

def Pre_GluProjDxIdeal (m : (ℓ : Loc Cert.GluProjDxIdeal.nD Cert.GluProjDxIdeal.τ Cert.GluProjDxIdeal.sig) → Buf (Elt Ideal) ℓ) : Prop :=
  True

def Pre_GluProjDxRefIdeal (m : (ℓ : Loc Cert.GluProjDxRefIdeal.nD Cert.GluProjDxRefIdeal.τ Cert.GluProjDxRefIdeal.sig) → Buf (Elt Ideal) ℓ) : Prop :=
  True

def Pre_GluProjDw (m : (ℓ : Loc Cert.GluProjDw.nD Cert.GluProjDw.τ Cert.GluProjDw.sig) → Buf (Elt Bits) ℓ) : Prop :=
  True

def Pre_GluProjDwIdeal (m : (ℓ : Loc Cert.GluProjDwIdeal.nD Cert.GluProjDwIdeal.τ Cert.GluProjDwIdeal.sig) → Buf (Elt Ideal) ℓ) : Prop :=
  True

def Pre_GluProjDwRefIdeal (m : (ℓ : Loc Cert.GluProjDwRefIdeal.nD Cert.GluProjDwRefIdeal.τ Cert.GluProjDwRefIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluRefIdeal (m : (ℓ : Loc Cert.GeluRefIdeal.nD Cert.GeluRefIdeal.τ Cert.GeluRefIdeal.sig) → Buf (Elt Ideal) ℓ) : Prop :=
  True

def Pre_LnLast (m : (ℓ : Loc Cert.LnLast.nD Cert.LnLast.τ Cert.LnLast.sig) → Buf (Elt Bits) ℓ) : Prop :=
  True

def Pre_LnLastIdeal (m : (ℓ : Loc Cert.LnLastIdeal.nD Cert.LnLastIdeal.τ Cert.LnLastIdeal.sig) → Buf (Elt Ideal) ℓ) : Prop :=
  True

def Pre_LnLastRefIdeal (m : (ℓ : Loc Cert.LnLastRefIdeal.nD Cert.LnLastRefIdeal.τ Cert.LnLastRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDact [hDownDact : Cert.DownDact.Facts] : Prop :=
  ∀ (m : (ℓ : Loc Cert.DownDact.nD Cert.DownDact.τ Cert.DownDact.sig) → Buf (Elt Bits) ℓ) (g : Dev Cert.DownDact.nD → PrngReg), Pre_DownDact m →
    θ_run (Cert.DownDact.defs (F := Bits)) (onTc (τ := Cert.DownDact.τ) (Cert.DownDact.main (F := Bits))) ⟨m, fun _ => 0, g⟩ (fun r => (∀ c : Dev Cert.DownDact.nD,
      r.2.mem ((c.tc : Thread Cert.DownDact.nD Cert.DownDact.τ).loc Cert.DownDact.main_arg0) = m ((c.tc : Thread Cert.DownDact.nD Cert.DownDact.τ).loc Cert.DownDact.main_arg0)
      ∧ r.2.mem ((c.tc : Thread Cert.DownDact.nD Cert.DownDact.τ).loc Cert.DownDact.main_arg1) = m ((c.tc : Thread Cert.DownDact.nD Cert.DownDact.τ).loc Cert.DownDact.main_arg1))
      ∧ r.2.sem = fun _ => 0)

def quiescent_DownDactIdeal [hDownDactIdeal : Cert.DownDactIdeal.Facts] : Prop :=
  ∀ (m : (ℓ : Loc Cert.DownDactIdeal.nD Cert.DownDactIdeal.τ Cert.DownDactIdeal.sig) → Buf (Elt Ideal) ℓ) (g : Dev Cert.DownDactIdeal.nD → PrngReg), Pre_DownDactIdeal m →
    θ_run (Cert.DownDactIdeal.defs (F := Ideal)) (onTc (τ := Cert.DownDactIdeal.τ) (Cert.DownDactIdeal.main (F := Ideal))) ⟨m, fun _ => 0, g⟩ (fun r => (∀ c : Dev Cert.DownDactIdeal.nD,
      r.2.mem ((c.tc : Thread Cert.DownDactIdeal.nD Cert.DownDactIdeal.τ).loc Cert.DownDactIdeal.main_arg0) = m ((c.tc : Thread Cert.DownDactIdeal.nD Cert.DownDactIdeal.τ).loc Cert.DownDactIdeal.main_arg0)
      ∧ r.2.mem ((c.tc : Thread Cert.DownDactIdeal.nD Cert.DownDactIdeal.τ).loc Cert.DownDactIdeal.main_arg1) = m ((c.tc : Thread Cert.DownDactIdeal.nD Cert.DownDactIdeal.τ).loc Cert.DownDactIdeal.main_arg1))
      ∧ r.2.sem = fun _ => 0)

def quiescent_DownDactRefIdeal [hDownDactRefIdeal : Cert.DownDactRefIdeal.Facts] : Prop :=
  ∀ (m : (ℓ : Loc Cert.DownDactRefIdeal.nD Cert.DownDactRefIdeal.τ Cert.DownDactRefIdeal.sig) → Buf (Elt Ideal) ℓ) (g : Dev Cert.DownDactRefIdeal.nD → PrngReg), Pre_DownDactRefIdeal m →
    θ_run (Cert.DownDactRefIdeal.defs (F := Ideal)) (onTc (τ := Cert.DownDactRefIdeal.τ) (Cert.DownDactRefIdeal.main (F := Ideal))) ⟨m, fun _ => 0, g⟩ (fun r => (∀ c : Dev Cert.DownDactRefIdeal.nD,
      r.2.mem ((c.tc : Thread Cert.DownDactRefIdeal.nD Cert.DownDactRefIdeal.τ).loc Cert.DownDactRefIdeal.main_arg0) = m ((c.tc : Thread Cert.DownDactRefIdeal.nD Cert.DownDactRefIdeal.τ).loc Cert.DownDactRefIdeal.main_arg0)
      ∧ r.2.mem ((c.tc : Thread Cert.DownDactRefIdeal.nD Cert.DownDactRefIdeal.τ).loc Cert.DownDactRefIdeal.main_arg1) = m ((c.tc : Thread Cert.DownDactRefIdeal.nD Cert.DownDactRefIdeal.τ).loc Cert.DownDactRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_GeluBwd [hGeluBwd : Cert.GeluBwd.Facts] : Prop :=
  ∀ (m : (ℓ : Loc Cert.GeluBwd.nD Cert.GeluBwd.τ Cert.GeluBwd.sig) → Buf (Elt Bits) ℓ) (g : Dev Cert.GeluBwd.nD → PrngReg), Pre_GeluBwd m →
    θ_run (Cert.GeluBwd.defs (F := Bits)) (onTc (τ := Cert.GeluBwd.τ) (Cert.GeluBwd.main (F := Bits))) ⟨m, fun _ => 0, g⟩ (fun r => (∀ c : Dev Cert.GeluBwd.nD,
      r.2.mem ((c.tc : Thread Cert.GeluBwd.nD Cert.GeluBwd.τ).loc Cert.GeluBwd.main_arg0) = m ((c.tc : Thread Cert.GeluBwd.nD Cert.GeluBwd.τ).loc Cert.GeluBwd.main_arg0)
      ∧ r.2.mem ((c.tc : Thread Cert.GeluBwd.nD Cert.GeluBwd.τ).loc Cert.GeluBwd.main_arg1) = m ((c.tc : Thread Cert.GeluBwd.nD Cert.GeluBwd.τ).loc Cert.GeluBwd.main_arg1)
      ∧ r.2.mem ((c.tc : Thread Cert.GeluBwd.nD Cert.GeluBwd.τ).loc Cert.GeluBwd.main_arg2) = m ((c.tc : Thread Cert.GeluBwd.nD Cert.GeluBwd.τ).loc Cert.GeluBwd.main_arg2)
      ∧ r.2.mem ((c.tc : Thread Cert.GeluBwd.nD Cert.GeluBwd.τ).loc Cert.GeluBwd.main_arg3) = m ((c.tc : Thread Cert.GeluBwd.nD Cert.GeluBwd.τ).loc Cert.GeluBwd.main_arg3))
      ∧ r.2.sem = fun _ => 0)

def quiescent_GeluBwdIdeal [hGeluBwdIdeal : Cert.GeluBwdIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
      ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3))
      ∧ r.2.sem = fun _ => 0)

def quiescent_GeluBwdRefIdeal [hGeluBwdRefIdeal : Cert.GeluBwdRefIdeal.Facts] : Prop :=
  ∀ (m : (ℓ : Loc Cert.GeluBwdRefIdeal.nD Cert.GeluBwdRefIdeal.τ Cert.GeluBwdRefIdeal.sig) → Buf (Elt Ideal) ℓ) (g : Dev Cert.GeluBwdRefIdeal.nD → PrngReg), Pre_GeluBwdRefIdeal m →
    θ_run (Cert.GeluBwdRefIdeal.defs (F := Ideal)) (onTc (τ := Cert.GeluBwdRefIdeal.τ) (Cert.GeluBwdRefIdeal.main (F := Ideal))) ⟨m, fun _ => 0, g⟩ (fun r => (∀ c : Dev Cert.GeluBwdRefIdeal.nD,
      r.2.mem ((c.tc : Thread Cert.GeluBwdRefIdeal.nD Cert.GeluBwdRefIdeal.τ).loc Cert.GeluBwdRefIdeal.main_arg0) = m ((c.tc : Thread Cert.GeluBwdRefIdeal.nD Cert.GeluBwdRefIdeal.τ).loc Cert.GeluBwdRefIdeal.main_arg0)
      ∧ r.2.mem ((c.tc : Thread Cert.GeluBwdRefIdeal.nD Cert.GeluBwdRefIdeal.τ).loc Cert.GeluBwdRefIdeal.main_arg1) = m ((c.tc : Thread Cert.GeluBwdRefIdeal.nD Cert.GeluBwdRefIdeal.τ).loc Cert.GeluBwdRefIdeal.main_arg1)
      ∧ r.2.mem ((c.tc : Thread Cert.GeluBwdRefIdeal.nD Cert.GeluBwdRefIdeal.τ).loc Cert.GeluBwdRefIdeal.main_arg2) = m ((c.tc : Thread Cert.GeluBwdRefIdeal.nD Cert.GeluBwdRefIdeal.τ).loc Cert.GeluBwdRefIdeal.main_arg2)
      ∧ r.2.mem ((c.tc : Thread Cert.GeluBwdRefIdeal.nD Cert.GeluBwdRefIdeal.τ).loc Cert.GeluBwdRefIdeal.main_arg3) = m ((c.tc : Thread Cert.GeluBwdRefIdeal.nD Cert.GeluBwdRefIdeal.τ).loc Cert.GeluBwdRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6)
      ∧ r.2.mem ((c.tc : Thread Cert.Adamw.nD Cert.Adamw.τ).loc Cert.Adamw.main_arg7) = m ((c.tc : Thread Cert.Adamw.nD Cert.Adamw.τ).loc Cert.Adamw.main_arg7)
      ∧ r.2.mem ((c.tc : Thread Cert.Adamw.nD Cert.Adamw.τ).loc Cert.Adamw.main_arg8) = m ((c.tc : Thread Cert.Adamw.nD Cert.Adamw.τ).loc Cert.Adamw.main_arg8)
      ∧ r.2.mem ((c.tc : Thread Cert.Adamw.nD Cert.Adamw.τ).loc Cert.Adamw.main_arg9) = m ((c.tc : Thread Cert.Adamw.nD Cert.Adamw.τ).loc Cert.Adamw.main_arg9)
      ∧ r.2.mem ((c.tc : Thread Cert.Adamw.nD Cert.Adamw.τ).loc Cert.Adamw.main_arg10) = m ((c.tc : Thread Cert.Adamw.nD Cert.Adamw.τ).loc Cert.Adamw.main_arg10)
      ∧ r.2.mem ((c.tc : Thread Cert.Adamw.nD Cert.Adamw.τ).loc Cert.Adamw.main_arg11) = m ((c.tc : Thread Cert.Adamw.nD Cert.Adamw.τ).loc Cert.Adamw.main_arg11)
      ∧ r.2.mem ((c.tc : Thread Cert.Adamw.nD Cert.Adamw.τ).loc Cert.Adamw.main_arg12) = m ((c.tc : Thread Cert.Adamw.nD Cert.Adamw.τ).loc Cert.Adamw.main_arg12)
      ∧ r.2.mem ((c.tc : Thread Cert.Adamw.nD Cert.Adamw.τ).loc Cert.Adamw.main_arg13) = m ((c.tc : Thread Cert.Adamw.nD Cert.Adamw.τ).loc Cert.Adamw.main_arg13)
      ∧ r.2.mem ((c.tc : Thread Cert.Adamw.nD Cert.Adamw.τ).loc Cert.Adamw.main_arg14) = m ((c.tc : Thread Cert.Adamw.nD Cert.Adamw.τ).loc Cert.Adamw.main_arg14)
      ∧ r.2.mem ((c.tc : Thread Cert.Adamw.nD Cert.Adamw.τ).loc Cert.Adamw.main_arg15) = m ((c.tc : Thread Cert.Adamw.nD Cert.Adamw.τ).loc Cert.Adamw.main_arg15)
      ∧ r.2.mem ((c.tc : Thread Cert.Adamw.nD Cert.Adamw.τ).loc Cert.Adamw.main_arg16) = m ((c.tc : Thread Cert.Adamw.nD Cert.Adamw.τ).loc Cert.Adamw.main_arg16)
      ∧ r.2.mem ((c.tc : Thread Cert.Adamw.nD Cert.Adamw.τ).loc Cert.Adamw.main_arg17) = m ((c.tc : Thread Cert.Adamw.nD Cert.Adamw.τ).loc Cert.Adamw.main_arg17)
      ∧ r.2.mem ((c.tc : Thread Cert.Adamw.nD Cert.Adamw.τ).loc Cert.Adamw.main_arg18) = m ((c.tc : Thread Cert.Adamw.nD Cert.Adamw.τ).loc Cert.Adamw.main_arg18)
      ∧ r.2.mem ((c.tc : Thread Cert.Adamw.nD Cert.Adamw.τ).loc Cert.Adamw.main_arg19) = m ((c.tc : Thread Cert.Adamw.nD Cert.Adamw.τ).loc Cert.Adamw.main_arg19)
      ∧ r.2.mem ((c.tc : Thread Cert.Adamw.nD Cert.Adamw.τ).loc Cert.Adamw.main_arg20) = m ((c.tc : Thread Cert.Adamw.nD Cert.Adamw.τ).loc Cert.Adamw.main_arg20)
      ∧ r.2.mem ((c.tc : Thread Cert.Adamw.nD Cert.Adamw.τ).loc Cert.Adamw.main_arg21) = m ((c.tc : Thread Cert.Adamw.nD Cert.Adamw.τ).loc Cert.Adamw.main_arg21)
      ∧ r.2.mem ((c.tc : Thread Cert.Adamw.nD Cert.Adamw.τ).loc Cert.Adamw.main_arg22) = m ((c.tc : Thread Cert.Adamw.nD Cert.Adamw.τ).loc Cert.Adamw.main_arg22)
      ∧ r.2.mem ((c.tc : Thread Cert.Adamw.nD Cert.Adamw.τ).loc Cert.Adamw.main_arg23) = m ((c.tc : Thread Cert.Adamw.nD Cert.Adamw.τ).loc Cert.Adamw.main_arg23)
      ∧ r.2.mem ((c.tc : Thread Cert.Adamw.nD Cert.Adamw.τ).loc Cert.Adamw.main_arg24) = m ((c.tc : Thread Cert.Adamw.nD Cert.Adamw.τ).loc Cert.Adamw.main_arg24)
      ∧ r.2.mem ((c.tc : Thread Cert.Adamw.nD Cert.Adamw.τ).loc Cert.Adamw.main_arg25) = m ((c.tc : Thread Cert.Adamw.nD Cert.Adamw.τ).loc Cert.Adamw.main_arg25)
      ∧ r.2.mem ((c.tc : Thread Cert.Adamw.nD Cert.Adamw.τ).loc Cert.Adamw.main_arg26) = m ((c.tc : Thread Cert.Adamw.nD Cert.Adamw.τ).loc Cert.Adamw.main_arg26)
      ∧ r.2.mem ((c.tc : Thread Cert.Adamw.nD Cert.Adamw.τ).loc Cert.Adamw.main_arg27) = m ((c.tc : Thread Cert.Adamw.nD Cert.Adamw.τ).loc Cert.Adamw.main_arg27)
      ∧ r.2.mem ((c.tc : Thread Cert.Adamw.nD Cert.Adamw.τ).loc Cert.Adamw.main_arg28) = m ((c.tc : Thread Cert.Adamw.nD Cert.Adamw.τ).loc Cert.Adamw.main_arg28)
      ∧ r.2.mem ((c.tc : Thread Cert.Adamw.nD Cert.Adamw.τ).loc Cert.Adamw.main_arg29) = m ((c.tc : Thread Cert.Adamw.nD Cert.Adamw.τ).loc Cert.Adamw.main_arg29)
      ∧ r.2.mem ((c.tc : Thread Cert.Adamw.nD Cert.Adamw.τ).loc Cert.Adamw.main_arg30) = m ((c.tc : Thread Cert.Adamw.nD Cert.Adamw.τ).loc Cert.Adamw.main_arg30)
      ∧ r.2.mem ((c.tc : Thread Cert.Adamw.nD Cert.Adamw.τ).loc Cert.Adamw.main_arg31) = m ((c.tc : Thread Cert.Adamw.nD Cert.Adamw.τ).loc Cert.Adamw.main_arg31)
      ∧ r.2.mem ((c.tc : Thread Cert.Adamw.nD Cert.Adamw.τ).loc Cert.Adamw.main_arg32) = m ((c.tc : Thread Cert.Adamw.nD Cert.Adamw.τ).loc Cert.Adamw.main_arg32)
      ∧ r.2.mem ((c.tc : Thread Cert.Adamw.nD Cert.Adamw.τ).loc Cert.Adamw.main_arg33) = m ((c.tc : Thread Cert.Adamw.nD Cert.Adamw.τ).loc Cert.Adamw.main_arg33)
      ∧ r.2.mem ((c.tc : Thread Cert.Adamw.nD Cert.Adamw.τ).loc Cert.Adamw.main_arg34) = m ((c.tc : Thread Cert.Adamw.nD Cert.Adamw.τ).loc Cert.Adamw.main_arg34)
      ∧ r.2.mem ((c.tc : Thread Cert.Adamw.nD Cert.Adamw.τ).loc Cert.Adamw.main_arg35) = m ((c.tc : Thread Cert.Adamw.nD Cert.Adamw.τ).loc Cert.Adamw.main_arg35)
      ∧ r.2.mem ((c.tc : Thread Cert.Adamw.nD Cert.Adamw.τ).loc Cert.Adamw.main_arg36) = m ((c.tc : Thread Cert.Adamw.nD Cert.Adamw.τ).loc Cert.Adamw.main_arg36)
      ∧ r.2.mem ((c.tc : Thread Cert.Adamw.nD Cert.Adamw.τ).loc Cert.Adamw.main_arg37) = m ((c.tc : Thread Cert.Adamw.nD Cert.Adamw.τ).loc Cert.Adamw.main_arg37)
      ∧ r.2.mem ((c.tc : Thread Cert.Adamw.nD Cert.Adamw.τ).loc Cert.Adamw.main_arg38) = m ((c.tc : Thread Cert.Adamw.nD Cert.Adamw.τ).loc Cert.Adamw.main_arg38)
      ∧ r.2.mem ((c.tc : Thread Cert.Adamw.nD Cert.Adamw.τ).loc Cert.Adamw.main_arg39) = m ((c.tc : Thread Cert.Adamw.nD Cert.Adamw.τ).loc Cert.Adamw.main_arg39)
      ∧ r.2.mem ((c.tc : Thread Cert.Adamw.nD Cert.Adamw.τ).loc Cert.Adamw.main_arg40) = m ((c.tc : Thread Cert.Adamw.nD Cert.Adamw.τ).loc Cert.Adamw.main_arg40)
      ∧ r.2.mem ((c.tc : Thread Cert.Adamw.nD Cert.Adamw.τ).loc Cert.Adamw.main_arg41) = m ((c.tc : Thread Cert.Adamw.nD Cert.Adamw.τ).loc Cert.Adamw.main_arg41)
      ∧ r.2.mem ((c.tc : Thread Cert.Adamw.nD Cert.Adamw.τ).loc Cert.Adamw.main_arg42) = m ((c.tc : Thread Cert.Adamw.nD Cert.Adamw.τ).loc Cert.Adamw.main_arg42)
      ∧ r.2.mem ((c.tc : Thread Cert.Adamw.nD Cert.Adamw.τ).loc Cert.Adamw.main_arg43) = m ((c.tc : Thread Cert.Adamw.nD Cert.Adamw.τ).loc Cert.Adamw.main_arg43)
      ∧ r.2.mem ((c.tc : Thread Cert.Adamw.nD Cert.Adamw.τ).loc Cert.Adamw.main_arg44) = m ((c.tc : Thread Cert.Adamw.nD Cert.Adamw.τ).loc Cert.Adamw.main_arg44)
      ∧ r.2.mem ((c.tc : Thread Cert.Adamw.nD Cert.Adamw.τ).loc Cert.Adamw.main_arg45) = m ((c.tc : Thread Cert.Adamw.nD Cert.Adamw.τ).loc Cert.Adamw.main_arg45)
      ∧ r.2.mem ((c.tc : Thread Cert.Adamw.nD Cert.Adamw.τ).loc Cert.Adamw.main_arg46) = m ((c.tc : Thread Cert.Adamw.nD Cert.Adamw.τ).loc Cert.Adamw.main_arg46)
      ∧ r.2.mem ((c.tc : Thread Cert.Adamw.nD Cert.Adamw.τ).loc Cert.Adamw.main_arg47) = m ((c.tc : Thread Cert.Adamw.nD Cert.Adamw.τ).loc Cert.Adamw.main_arg47)
      ∧ r.2.mem ((c.tc : Thread Cert.Adamw.nD Cert.Adamw.τ).loc Cert.Adamw.main_arg48) = m ((c.tc : Thread Cert.Adamw.nD Cert.Adamw.τ).loc Cert.Adamw.main_arg48)
      ∧ r.2.mem ((c.tc : Thread Cert.Adamw.nD Cert.Adamw.τ).loc Cert.Adamw.main_arg49) = m ((c.tc : Thread Cert.Adamw.nD Cert.Adamw.τ).loc Cert.Adamw.main_arg49)
      ∧ r.2.mem ((c.tc : Thread Cert.Adamw.nD Cert.Adamw.τ).loc Cert.Adamw.main_arg50) = m ((c.tc : Thread Cert.Adamw.nD Cert.Adamw.τ).loc Cert.Adamw.main_arg50)
      ∧ r.2.mem ((c.tc : Thread Cert.Adamw.nD Cert.Adamw.τ).loc Cert.Adamw.main_arg51) = m ((c.tc : Thread Cert.Adamw.nD Cert.Adamw.τ).loc Cert.Adamw.main_arg51)
      ∧ r.2.mem ((c.tc : Thread Cert.Adamw.nD Cert.Adamw.τ).loc Cert.Adamw.main_arg52) = m ((c.tc : Thread Cert.Adamw.nD Cert.Adamw.τ).loc Cert.Adamw.main_arg52)
      ∧ r.2.mem ((c.tc : Thread Cert.Adamw.nD Cert.Adamw.τ).loc Cert.Adamw.main_arg53) = m ((c.tc : Thread Cert.Adamw.nD Cert.Adamw.τ).loc Cert.Adamw.main_arg53)
      ∧ r.2.mem ((c.tc : Thread Cert.Adamw.nD Cert.Adamw.τ).loc Cert.Adamw.main_arg54) = m ((c.tc : Thread Cert.Adamw.nD Cert.Adamw.τ).loc Cert.Adamw.main_arg54)
      ∧ r.2.mem ((c.tc : Thread Cert.Adamw.nD Cert.Adamw.τ).loc Cert.Adamw.main_arg55) = m ((c.tc : Thread Cert.Adamw.nD Cert.Adamw.τ).loc Cert.Adamw.main_arg55)
      ∧ r.2.mem ((c.tc : Thread Cert.Adamw.nD Cert.Adamw.τ).loc Cert.Adamw.main_arg56) = m ((c.tc : Thread Cert.Adamw.nD Cert.Adamw.τ).loc Cert.Adamw.main_arg56)
      ∧ r.2.mem ((c.tc : Thread Cert.Adamw.nD Cert.Adamw.τ).loc Cert.Adamw.main_arg57) = m ((c.tc : Thread Cert.Adamw.nD Cert.Adamw.τ).loc Cert.Adamw.main_arg57)
      ∧ r.2.mem ((c.tc : Thread Cert.Adamw.nD Cert.Adamw.τ).loc Cert.Adamw.main_arg58) = m ((c.tc : Thread Cert.Adamw.nD Cert.Adamw.τ).loc Cert.Adamw.main_arg58)
      ∧ r.2.mem ((c.tc : Thread Cert.Adamw.nD Cert.Adamw.τ).loc Cert.Adamw.main_arg59) = m ((c.tc : Thread Cert.Adamw.nD Cert.Adamw.τ).loc Cert.Adamw.main_arg59)
      ∧ r.2.mem ((c.tc : Thread Cert.Adamw.nD Cert.Adamw.τ).loc Cert.Adamw.main_arg60) = m ((c.tc : Thread Cert.Adamw.nD Cert.Adamw.τ).loc Cert.Adamw.main_arg60)
      ∧ r.2.mem ((c.tc : Thread Cert.Adamw.nD Cert.Adamw.τ).loc Cert.Adamw.main_arg61) = m ((c.tc : Thread Cert.Adamw.nD Cert.Adamw.τ).loc Cert.Adamw.main_arg61)
      ∧ r.2.mem ((c.tc : Thread Cert.Adamw.nD Cert.Adamw.τ).loc Cert.Adamw.main_arg62) = m ((c.tc : Thread Cert.Adamw.nD Cert.Adamw.τ).loc Cert.Adamw.main_arg62)
      ∧ r.2.mem ((c.tc : Thread Cert.Adamw.nD Cert.Adamw.τ).loc Cert.Adamw.main_arg63) = m ((c.tc : Thread Cert.Adamw.nD Cert.Adamw.τ).loc Cert.Adamw.main_arg63))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
      ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
      ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
      ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
      ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
      ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
      ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
      ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
      ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
      ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
      ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
      ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
      ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
      ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
      ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
      ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
      ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
      ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
      ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
      ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
      ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27)
      ∧ r.2.mem ((c.tc : Thread Cert.AdamwIdeal.nD Cert.AdamwIdeal.τ).loc Cert.AdamwIdeal.main_arg28) = m ((c.tc : Thread Cert.AdamwIdeal.nD Cert.AdamwIdeal.τ).loc Cert.AdamwIdeal.main_arg28)
      ∧ r.2.mem ((c.tc : Thread Cert.AdamwIdeal.nD Cert.AdamwIdeal.τ).loc Cert.AdamwIdeal.main_arg29) = m ((c.tc : Thread Cert.AdamwIdeal.nD Cert.AdamwIdeal.τ).loc Cert.AdamwIdeal.main_arg29)
      ∧ r.2.mem ((c.tc : Thread Cert.AdamwIdeal.nD Cert.AdamwIdeal.τ).loc Cert.AdamwIdeal.main_arg30) = m ((c.tc : Thread Cert.AdamwIdeal.nD Cert.AdamwIdeal.τ).loc Cert.AdamwIdeal.main_arg30)
      ∧ r.2.mem ((c.tc : Thread Cert.AdamwIdeal.nD Cert.AdamwIdeal.τ).loc Cert.AdamwIdeal.main_arg31) = m ((c.tc : Thread Cert.AdamwIdeal.nD Cert.AdamwIdeal.τ).loc Cert.AdamwIdeal.main_arg31)
      ∧ r.2.mem ((c.tc : Thread Cert.AdamwIdeal.nD Cert.AdamwIdeal.τ).loc Cert.AdamwIdeal.main_arg32) = m ((c.tc : Thread Cert.AdamwIdeal.nD Cert.AdamwIdeal.τ).loc Cert.AdamwIdeal.main_arg32)
      ∧ r.2.mem ((c.tc : Thread Cert.AdamwIdeal.nD Cert.AdamwIdeal.τ).loc Cert.AdamwIdeal.main_arg33) = m ((c.tc : Thread Cert.AdamwIdeal.nD Cert.AdamwIdeal.τ).loc Cert.AdamwIdeal.main_arg33)
      ∧ r.2.mem ((c.tc : Thread Cert.AdamwIdeal.nD Cert.AdamwIdeal.τ).loc Cert.AdamwIdeal.main_arg34) = m ((c.tc : Thread Cert.AdamwIdeal.nD Cert.AdamwIdeal.τ).loc Cert.AdamwIdeal.main_arg34)
      ∧ r.2.mem ((c.tc : Thread Cert.AdamwIdeal.nD Cert.AdamwIdeal.τ).loc Cert.AdamwIdeal.main_arg35) = m ((c.tc : Thread Cert.AdamwIdeal.nD Cert.AdamwIdeal.τ).loc Cert.AdamwIdeal.main_arg35)
      ∧ r.2.mem ((c.tc : Thread Cert.AdamwIdeal.nD Cert.AdamwIdeal.τ).loc Cert.AdamwIdeal.main_arg36) = m ((c.tc : Thread Cert.AdamwIdeal.nD Cert.AdamwIdeal.τ).loc Cert.AdamwIdeal.main_arg36)
      ∧ r.2.mem ((c.tc : Thread Cert.AdamwIdeal.nD Cert.AdamwIdeal.τ).loc Cert.AdamwIdeal.main_arg37) = m ((c.tc : Thread Cert.AdamwIdeal.nD Cert.AdamwIdeal.τ).loc Cert.AdamwIdeal.main_arg37)
      ∧ r.2.mem ((c.tc : Thread Cert.AdamwIdeal.nD Cert.AdamwIdeal.τ).loc Cert.AdamwIdeal.main_arg38) = m ((c.tc : Thread Cert.AdamwIdeal.nD Cert.AdamwIdeal.τ).loc Cert.AdamwIdeal.main_arg38)
      ∧ r.2.mem ((c.tc : Thread Cert.AdamwIdeal.nD Cert.AdamwIdeal.τ).loc Cert.AdamwIdeal.main_arg39) = m ((c.tc : Thread Cert.AdamwIdeal.nD Cert.AdamwIdeal.τ).loc Cert.AdamwIdeal.main_arg39)
      ∧ r.2.mem ((c.tc : Thread Cert.AdamwIdeal.nD Cert.AdamwIdeal.τ).loc Cert.AdamwIdeal.main_arg40) = m ((c.tc : Thread Cert.AdamwIdeal.nD Cert.AdamwIdeal.τ).loc Cert.AdamwIdeal.main_arg40)
      ∧ r.2.mem ((c.tc : Thread Cert.AdamwIdeal.nD Cert.AdamwIdeal.τ).loc Cert.AdamwIdeal.main_arg41) = m ((c.tc : Thread Cert.AdamwIdeal.nD Cert.AdamwIdeal.τ).loc Cert.AdamwIdeal.main_arg41)
      ∧ r.2.mem ((c.tc : Thread Cert.AdamwIdeal.nD Cert.AdamwIdeal.τ).loc Cert.AdamwIdeal.main_arg42) = m ((c.tc : Thread Cert.AdamwIdeal.nD Cert.AdamwIdeal.τ).loc Cert.AdamwIdeal.main_arg42)
      ∧ r.2.mem ((c.tc : Thread Cert.AdamwIdeal.nD Cert.AdamwIdeal.τ).loc Cert.AdamwIdeal.main_arg43) = m ((c.tc : Thread Cert.AdamwIdeal.nD Cert.AdamwIdeal.τ).loc Cert.AdamwIdeal.main_arg43)
      ∧ r.2.mem ((c.tc : Thread Cert.AdamwIdeal.nD Cert.AdamwIdeal.τ).loc Cert.AdamwIdeal.main_arg44) = m ((c.tc : Thread Cert.AdamwIdeal.nD Cert.AdamwIdeal.τ).loc Cert.AdamwIdeal.main_arg44)
      ∧ r.2.mem ((c.tc : Thread Cert.AdamwIdeal.nD Cert.AdamwIdeal.τ).loc Cert.AdamwIdeal.main_arg45) = m ((c.tc : Thread Cert.AdamwIdeal.nD Cert.AdamwIdeal.τ).loc Cert.AdamwIdeal.main_arg45)
      ∧ r.2.mem ((c.tc : Thread Cert.AdamwIdeal.nD Cert.AdamwIdeal.τ).loc Cert.AdamwIdeal.main_arg46) = m ((c.tc : Thread Cert.AdamwIdeal.nD Cert.AdamwIdeal.τ).loc Cert.AdamwIdeal.main_arg46)
      ∧ r.2.mem ((c.tc : Thread Cert.AdamwIdeal.nD Cert.AdamwIdeal.τ).loc Cert.AdamwIdeal.main_arg47) = m ((c.tc : Thread Cert.AdamwIdeal.nD Cert.AdamwIdeal.τ).loc Cert.AdamwIdeal.main_arg47)
      ∧ r.2.mem ((c.tc : Thread Cert.AdamwIdeal.nD Cert.AdamwIdeal.τ).loc Cert.AdamwIdeal.main_arg48) = m ((c.tc : Thread Cert.AdamwIdeal.nD Cert.AdamwIdeal.τ).loc Cert.AdamwIdeal.main_arg48)
      ∧ r.2.mem ((c.tc : Thread Cert.AdamwIdeal.nD Cert.AdamwIdeal.τ).loc Cert.AdamwIdeal.main_arg49) = m ((c.tc : Thread Cert.AdamwIdeal.nD Cert.AdamwIdeal.τ).loc Cert.AdamwIdeal.main_arg49)
      ∧ r.2.mem ((c.tc : Thread Cert.AdamwIdeal.nD Cert.AdamwIdeal.τ).loc Cert.AdamwIdeal.main_arg50) = m ((c.tc : Thread Cert.AdamwIdeal.nD Cert.AdamwIdeal.τ).loc Cert.AdamwIdeal.main_arg50)
      ∧ r.2.mem ((c.tc : Thread Cert.AdamwIdeal.nD Cert.AdamwIdeal.τ).loc Cert.AdamwIdeal.main_arg51) = m ((c.tc : Thread Cert.AdamwIdeal.nD Cert.AdamwIdeal.τ).loc Cert.AdamwIdeal.main_arg51)
      ∧ r.2.mem ((c.tc : Thread Cert.AdamwIdeal.nD Cert.AdamwIdeal.τ).loc Cert.AdamwIdeal.main_arg52) = m ((c.tc : Thread Cert.AdamwIdeal.nD Cert.AdamwIdeal.τ).loc Cert.AdamwIdeal.main_arg52)
      ∧ r.2.mem ((c.tc : Thread Cert.AdamwIdeal.nD Cert.AdamwIdeal.τ).loc Cert.AdamwIdeal.main_arg53) = m ((c.tc : Thread Cert.AdamwIdeal.nD Cert.AdamwIdeal.τ).loc Cert.AdamwIdeal.main_arg53)
      ∧ r.2.mem ((c.tc : Thread Cert.AdamwIdeal.nD Cert.AdamwIdeal.τ).loc Cert.AdamwIdeal.main_arg54) = m ((c.tc : Thread Cert.AdamwIdeal.nD Cert.AdamwIdeal.τ).loc Cert.AdamwIdeal.main_arg54)
      ∧ r.2.mem ((c.tc : Thread Cert.AdamwIdeal.nD Cert.AdamwIdeal.τ).loc Cert.AdamwIdeal.main_arg55) = m ((c.tc : Thread Cert.AdamwIdeal.nD Cert.AdamwIdeal.τ).loc Cert.AdamwIdeal.main_arg55)
      ∧ r.2.mem ((c.tc : Thread Cert.AdamwIdeal.nD Cert.AdamwIdeal.τ).loc Cert.AdamwIdeal.main_arg56) = m ((c.tc : Thread Cert.AdamwIdeal.nD Cert.AdamwIdeal.τ).loc Cert.AdamwIdeal.main_arg56)
      ∧ r.2.mem ((c.tc : Thread Cert.AdamwIdeal.nD Cert.AdamwIdeal.τ).loc Cert.AdamwIdeal.main_arg57) = m ((c.tc : Thread Cert.AdamwIdeal.nD Cert.AdamwIdeal.τ).loc Cert.AdamwIdeal.main_arg57)
      ∧ r.2.mem ((c.tc : Thread Cert.AdamwIdeal.nD Cert.AdamwIdeal.τ).loc Cert.AdamwIdeal.main_arg58) = m ((c.tc : Thread Cert.AdamwIdeal.nD Cert.AdamwIdeal.τ).loc Cert.AdamwIdeal.main_arg58)
      ∧ r.2.mem ((c.tc : Thread Cert.AdamwIdeal.nD Cert.AdamwIdeal.τ).loc Cert.AdamwIdeal.main_arg59) = m ((c.tc : Thread Cert.AdamwIdeal.nD Cert.AdamwIdeal.τ).loc Cert.AdamwIdeal.main_arg59)
      ∧ r.2.mem ((c.tc : Thread Cert.AdamwIdeal.nD Cert.AdamwIdeal.τ).loc Cert.AdamwIdeal.main_arg60) = m ((c.tc : Thread Cert.AdamwIdeal.nD Cert.AdamwIdeal.τ).loc Cert.AdamwIdeal.main_arg60)
      ∧ r.2.mem ((c.tc : Thread Cert.AdamwIdeal.nD Cert.AdamwIdeal.τ).loc Cert.AdamwIdeal.main_arg61) = m ((c.tc : Thread Cert.AdamwIdeal.nD Cert.AdamwIdeal.τ).loc Cert.AdamwIdeal.main_arg61)
      ∧ r.2.mem ((c.tc : Thread Cert.AdamwIdeal.nD Cert.AdamwIdeal.τ).loc Cert.AdamwIdeal.main_arg62) = m ((c.tc : Thread Cert.AdamwIdeal.nD Cert.AdamwIdeal.τ).loc Cert.AdamwIdeal.main_arg62)
      ∧ r.2.mem ((c.tc : Thread Cert.AdamwIdeal.nD Cert.AdamwIdeal.τ).loc Cert.AdamwIdeal.main_arg63) = m ((c.tc : Thread Cert.AdamwIdeal.nD Cert.AdamwIdeal.τ).loc Cert.AdamwIdeal.main_arg63))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5)
      ∧ r.2.mem ((c.tc : Thread Cert.AdamwRefIdeal.nD Cert.AdamwRefIdeal.τ).loc Cert.AdamwRefIdeal.main_arg6) = m ((c.tc : Thread Cert.AdamwRefIdeal.nD Cert.AdamwRefIdeal.τ).loc Cert.AdamwRefIdeal.main_arg6)
      ∧ r.2.mem ((c.tc : Thread Cert.AdamwRefIdeal.nD Cert.AdamwRefIdeal.τ).loc Cert.AdamwRefIdeal.main_arg7) = m ((c.tc : Thread Cert.AdamwRefIdeal.nD Cert.AdamwRefIdeal.τ).loc Cert.AdamwRefIdeal.main_arg7)
      ∧ r.2.mem ((c.tc : Thread Cert.AdamwRefIdeal.nD Cert.AdamwRefIdeal.τ).loc Cert.AdamwRefIdeal.main_arg8) = m ((c.tc : Thread Cert.AdamwRefIdeal.nD Cert.AdamwRefIdeal.τ).loc Cert.AdamwRefIdeal.main_arg8)
      ∧ r.2.mem ((c.tc : Thread Cert.AdamwRefIdeal.nD Cert.AdamwRefIdeal.τ).loc Cert.AdamwRefIdeal.main_arg9) = m ((c.tc : Thread Cert.AdamwRefIdeal.nD Cert.AdamwRefIdeal.τ).loc Cert.AdamwRefIdeal.main_arg9)
      ∧ r.2.mem ((c.tc : Thread Cert.AdamwRefIdeal.nD Cert.AdamwRefIdeal.τ).loc Cert.AdamwRefIdeal.main_arg10) = m ((c.tc : Thread Cert.AdamwRefIdeal.nD Cert.AdamwRefIdeal.τ).loc Cert.AdamwRefIdeal.main_arg10)
      ∧ r.2.mem ((c.tc : Thread Cert.AdamwRefIdeal.nD Cert.AdamwRefIdeal.τ).loc Cert.AdamwRefIdeal.main_arg11) = m ((c.tc : Thread Cert.AdamwRefIdeal.nD Cert.AdamwRefIdeal.τ).loc Cert.AdamwRefIdeal.main_arg11)
      ∧ r.2.mem ((c.tc : Thread Cert.AdamwRefIdeal.nD Cert.AdamwRefIdeal.τ).loc Cert.AdamwRefIdeal.main_arg12) = m ((c.tc : Thread Cert.AdamwRefIdeal.nD Cert.AdamwRefIdeal.τ).loc Cert.AdamwRefIdeal.main_arg12)
      ∧ r.2.mem ((c.tc : Thread Cert.AdamwRefIdeal.nD Cert.AdamwRefIdeal.τ).loc Cert.AdamwRefIdeal.main_arg13) = m ((c.tc : Thread Cert.AdamwRefIdeal.nD Cert.AdamwRefIdeal.τ).loc Cert.AdamwRefIdeal.main_arg13)
      ∧ r.2.mem ((c.tc : Thread Cert.AdamwRefIdeal.nD Cert.AdamwRefIdeal.τ).loc Cert.AdamwRefIdeal.main_arg14) = m ((c.tc : Thread Cert.AdamwRefIdeal.nD Cert.AdamwRefIdeal.τ).loc Cert.AdamwRefIdeal.main_arg14)
      ∧ r.2.mem ((c.tc : Thread Cert.AdamwRefIdeal.nD Cert.AdamwRefIdeal.τ).loc Cert.AdamwRefIdeal.main_arg15) = m ((c.tc : Thread Cert.AdamwRefIdeal.nD Cert.AdamwRefIdeal.τ).loc Cert.AdamwRefIdeal.main_arg15)
      ∧ r.2.mem ((c.tc : Thread Cert.AdamwRefIdeal.nD Cert.AdamwRefIdeal.τ).loc Cert.AdamwRefIdeal.main_arg16) = m ((c.tc : Thread Cert.AdamwRefIdeal.nD Cert.AdamwRefIdeal.τ).loc Cert.AdamwRefIdeal.main_arg16)
      ∧ r.2.mem ((c.tc : Thread Cert.AdamwRefIdeal.nD Cert.AdamwRefIdeal.τ).loc Cert.AdamwRefIdeal.main_arg17) = m ((c.tc : Thread Cert.AdamwRefIdeal.nD Cert.AdamwRefIdeal.τ).loc Cert.AdamwRefIdeal.main_arg17)
      ∧ r.2.mem ((c.tc : Thread Cert.AdamwRefIdeal.nD Cert.AdamwRefIdeal.τ).loc Cert.AdamwRefIdeal.main_arg18) = m ((c.tc : Thread Cert.AdamwRefIdeal.nD Cert.AdamwRefIdeal.τ).loc Cert.AdamwRefIdeal.main_arg18)
      ∧ r.2.mem ((c.tc : Thread Cert.AdamwRefIdeal.nD Cert.AdamwRefIdeal.τ).loc Cert.AdamwRefIdeal.main_arg19) = m ((c.tc : Thread Cert.AdamwRefIdeal.nD Cert.AdamwRefIdeal.τ).loc Cert.AdamwRefIdeal.main_arg19)
      ∧ r.2.mem ((c.tc : Thread Cert.AdamwRefIdeal.nD Cert.AdamwRefIdeal.τ).loc Cert.AdamwRefIdeal.main_arg20) = m ((c.tc : Thread Cert.AdamwRefIdeal.nD Cert.AdamwRefIdeal.τ).loc Cert.AdamwRefIdeal.main_arg20)
      ∧ r.2.mem ((c.tc : Thread Cert.AdamwRefIdeal.nD Cert.AdamwRefIdeal.τ).loc Cert.AdamwRefIdeal.main_arg21) = m ((c.tc : Thread Cert.AdamwRefIdeal.nD Cert.AdamwRefIdeal.τ).loc Cert.AdamwRefIdeal.main_arg21)
      ∧ r.2.mem ((c.tc : Thread Cert.AdamwRefIdeal.nD Cert.AdamwRefIdeal.τ).loc Cert.AdamwRefIdeal.main_arg22) = m ((c.tc : Thread Cert.AdamwRefIdeal.nD Cert.AdamwRefIdeal.τ).loc Cert.AdamwRefIdeal.main_arg22)
      ∧ r.2.mem ((c.tc : Thread Cert.AdamwRefIdeal.nD Cert.AdamwRefIdeal.τ).loc Cert.AdamwRefIdeal.main_arg23) = m ((c.tc : Thread Cert.AdamwRefIdeal.nD Cert.AdamwRefIdeal.τ).loc Cert.AdamwRefIdeal.main_arg23)
      ∧ r.2.mem ((c.tc : Thread Cert.AdamwRefIdeal.nD Cert.AdamwRefIdeal.τ).loc Cert.AdamwRefIdeal.main_arg24) = m ((c.tc : Thread Cert.AdamwRefIdeal.nD Cert.AdamwRefIdeal.τ).loc Cert.AdamwRefIdeal.main_arg24)
      ∧ r.2.mem ((c.tc : Thread Cert.AdamwRefIdeal.nD Cert.AdamwRefIdeal.τ).loc Cert.AdamwRefIdeal.main_arg25) = m ((c.tc : Thread Cert.AdamwRefIdeal.nD Cert.AdamwRefIdeal.τ).loc Cert.AdamwRefIdeal.main_arg25)
      ∧ r.2.mem ((c.tc : Thread Cert.AdamwRefIdeal.nD Cert.AdamwRefIdeal.τ).loc Cert.AdamwRefIdeal.main_arg26) = m ((c.tc : Thread Cert.AdamwRefIdeal.nD Cert.AdamwRefIdeal.τ).loc Cert.AdamwRefIdeal.main_arg26)
      ∧ r.2.mem ((c.tc : Thread Cert.AdamwRefIdeal.nD Cert.AdamwRefIdeal.τ).loc Cert.AdamwRefIdeal.main_arg27) = m ((c.tc : Thread Cert.AdamwRefIdeal.nD Cert.AdamwRefIdeal.τ).loc Cert.AdamwRefIdeal.main_arg27)
      ∧ r.2.mem ((c.tc : Thread Cert.AdamwRefIdeal.nD Cert.AdamwRefIdeal.τ).loc Cert.AdamwRefIdeal.main_arg28) = m ((c.tc : Thread Cert.AdamwRefIdeal.nD Cert.AdamwRefIdeal.τ).loc Cert.AdamwRefIdeal.main_arg28)
      ∧ r.2.mem ((c.tc : Thread Cert.AdamwRefIdeal.nD Cert.AdamwRefIdeal.τ).loc Cert.AdamwRefIdeal.main_arg29) = m ((c.tc : Thread Cert.AdamwRefIdeal.nD Cert.AdamwRefIdeal.τ).loc Cert.AdamwRefIdeal.main_arg29)
      ∧ r.2.mem ((c.tc : Thread Cert.AdamwRefIdeal.nD Cert.AdamwRefIdeal.τ).loc Cert.AdamwRefIdeal.main_arg30) = m ((c.tc : Thread Cert.AdamwRefIdeal.nD Cert.AdamwRefIdeal.τ).loc Cert.AdamwRefIdeal.main_arg30)
      ∧ r.2.mem ((c.tc : Thread Cert.AdamwRefIdeal.nD Cert.AdamwRefIdeal.τ).loc Cert.AdamwRefIdeal.main_arg31) = m ((c.tc : Thread Cert.AdamwRefIdeal.nD Cert.AdamwRefIdeal.τ).loc Cert.AdamwRefIdeal.main_arg31)
      ∧ r.2.mem ((c.tc : Thread Cert.AdamwRefIdeal.nD Cert.AdamwRefIdeal.τ).loc Cert.AdamwRefIdeal.main_arg32) = m ((c.tc : Thread Cert.AdamwRefIdeal.nD Cert.AdamwRefIdeal.τ).loc Cert.AdamwRefIdeal.main_arg32)
      ∧ r.2.mem ((c.tc : Thread Cert.AdamwRefIdeal.nD Cert.AdamwRefIdeal.τ).loc Cert.AdamwRefIdeal.main_arg33) = m ((c.tc : Thread Cert.AdamwRefIdeal.nD Cert.AdamwRefIdeal.τ).loc Cert.AdamwRefIdeal.main_arg33)
      ∧ r.2.mem ((c.tc : Thread Cert.AdamwRefIdeal.nD Cert.AdamwRefIdeal.τ).loc Cert.AdamwRefIdeal.main_arg34) = m ((c.tc : Thread Cert.AdamwRefIdeal.nD Cert.AdamwRefIdeal.τ).loc Cert.AdamwRefIdeal.main_arg34)
      ∧ r.2.mem ((c.tc : Thread Cert.AdamwRefIdeal.nD Cert.AdamwRefIdeal.τ).loc Cert.AdamwRefIdeal.main_arg35) = m ((c.tc : Thread Cert.AdamwRefIdeal.nD Cert.AdamwRefIdeal.τ).loc Cert.AdamwRefIdeal.main_arg35)
      ∧ r.2.mem ((c.tc : Thread Cert.AdamwRefIdeal.nD Cert.AdamwRefIdeal.τ).loc Cert.AdamwRefIdeal.main_arg36) = m ((c.tc : Thread Cert.AdamwRefIdeal.nD Cert.AdamwRefIdeal.τ).loc Cert.AdamwRefIdeal.main_arg36)
      ∧ r.2.mem ((c.tc : Thread Cert.AdamwRefIdeal.nD Cert.AdamwRefIdeal.τ).loc Cert.AdamwRefIdeal.main_arg37) = m ((c.tc : Thread Cert.AdamwRefIdeal.nD Cert.AdamwRefIdeal.τ).loc Cert.AdamwRefIdeal.main_arg37)
      ∧ r.2.mem ((c.tc : Thread Cert.AdamwRefIdeal.nD Cert.AdamwRefIdeal.τ).loc Cert.AdamwRefIdeal.main_arg38) = m ((c.tc : Thread Cert.AdamwRefIdeal.nD Cert.AdamwRefIdeal.τ).loc Cert.AdamwRefIdeal.main_arg38)
      ∧ r.2.mem ((c.tc : Thread Cert.AdamwRefIdeal.nD Cert.AdamwRefIdeal.τ).loc Cert.AdamwRefIdeal.main_arg39) = m ((c.tc : Thread Cert.AdamwRefIdeal.nD Cert.AdamwRefIdeal.τ).loc Cert.AdamwRefIdeal.main_arg39)
      ∧ r.2.mem ((c.tc : Thread Cert.AdamwRefIdeal.nD Cert.AdamwRefIdeal.τ).loc Cert.AdamwRefIdeal.main_arg40) = m ((c.tc : Thread Cert.AdamwRefIdeal.nD Cert.AdamwRefIdeal.τ).loc Cert.AdamwRefIdeal.main_arg40)
      ∧ r.2.mem ((c.tc : Thread Cert.AdamwRefIdeal.nD Cert.AdamwRefIdeal.τ).loc Cert.AdamwRefIdeal.main_arg41) = m ((c.tc : Thread Cert.AdamwRefIdeal.nD Cert.AdamwRefIdeal.τ).loc Cert.AdamwRefIdeal.main_arg41)
      ∧ r.2.mem ((c.tc : Thread Cert.AdamwRefIdeal.nD Cert.AdamwRefIdeal.τ).loc Cert.AdamwRefIdeal.main_arg42) = m ((c.tc : Thread Cert.AdamwRefIdeal.nD Cert.AdamwRefIdeal.τ).loc Cert.AdamwRefIdeal.main_arg42)
      ∧ r.2.mem ((c.tc : Thread Cert.AdamwRefIdeal.nD Cert.AdamwRefIdeal.τ).loc Cert.AdamwRefIdeal.main_arg43) = m ((c.tc : Thread Cert.AdamwRefIdeal.nD Cert.AdamwRefIdeal.τ).loc Cert.AdamwRefIdeal.main_arg43)
      ∧ r.2.mem ((c.tc : Thread Cert.AdamwRefIdeal.nD Cert.AdamwRefIdeal.τ).loc Cert.AdamwRefIdeal.main_arg44) = m ((c.tc : Thread Cert.AdamwRefIdeal.nD Cert.AdamwRefIdeal.τ).loc Cert.AdamwRefIdeal.main_arg44)
      ∧ r.2.mem ((c.tc : Thread Cert.AdamwRefIdeal.nD Cert.AdamwRefIdeal.τ).loc Cert.AdamwRefIdeal.main_arg45) = m ((c.tc : Thread Cert.AdamwRefIdeal.nD Cert.AdamwRefIdeal.τ).loc Cert.AdamwRefIdeal.main_arg45)
      ∧ r.2.mem ((c.tc : Thread Cert.AdamwRefIdeal.nD Cert.AdamwRefIdeal.τ).loc Cert.AdamwRefIdeal.main_arg46) = m ((c.tc : Thread Cert.AdamwRefIdeal.nD Cert.AdamwRefIdeal.τ).loc Cert.AdamwRefIdeal.main_arg46)
      ∧ r.2.mem ((c.tc : Thread Cert.AdamwRefIdeal.nD Cert.AdamwRefIdeal.τ).loc Cert.AdamwRefIdeal.main_arg47) = m ((c.tc : Thread Cert.AdamwRefIdeal.nD Cert.AdamwRefIdeal.τ).loc Cert.AdamwRefIdeal.main_arg47)
      ∧ r.2.mem ((c.tc : Thread Cert.AdamwRefIdeal.nD Cert.AdamwRefIdeal.τ).loc Cert.AdamwRefIdeal.main_arg48) = m ((c.tc : Thread Cert.AdamwRefIdeal.nD Cert.AdamwRefIdeal.τ).loc Cert.AdamwRefIdeal.main_arg48)
      ∧ r.2.mem ((c.tc : Thread Cert.AdamwRefIdeal.nD Cert.AdamwRefIdeal.τ).loc Cert.AdamwRefIdeal.main_arg49) = m ((c.tc : Thread Cert.AdamwRefIdeal.nD Cert.AdamwRefIdeal.τ).loc Cert.AdamwRefIdeal.main_arg49)
      ∧ r.2.mem ((c.tc : Thread Cert.AdamwRefIdeal.nD Cert.AdamwRefIdeal.τ).loc Cert.AdamwRefIdeal.main_arg50) = m ((c.tc : Thread Cert.AdamwRefIdeal.nD Cert.AdamwRefIdeal.τ).loc Cert.AdamwRefIdeal.main_arg50)
      ∧ r.2.mem ((c.tc : Thread Cert.AdamwRefIdeal.nD Cert.AdamwRefIdeal.τ).loc Cert.AdamwRefIdeal.main_arg51) = m ((c.tc : Thread Cert.AdamwRefIdeal.nD Cert.AdamwRefIdeal.τ).loc Cert.AdamwRefIdeal.main_arg51)
      ∧ r.2.mem ((c.tc : Thread Cert.AdamwRefIdeal.nD Cert.AdamwRefIdeal.τ).loc Cert.AdamwRefIdeal.main_arg52) = m ((c.tc : Thread Cert.AdamwRefIdeal.nD Cert.AdamwRefIdeal.τ).loc Cert.AdamwRefIdeal.main_arg52)
      ∧ r.2.mem ((c.tc : Thread Cert.AdamwRefIdeal.nD Cert.AdamwRefIdeal.τ).loc Cert.AdamwRefIdeal.main_arg53) = m ((c.tc : Thread Cert.AdamwRefIdeal.nD Cert.AdamwRefIdeal.τ).loc Cert.AdamwRefIdeal.main_arg53)
      ∧ r.2.mem ((c.tc : Thread Cert.AdamwRefIdeal.nD Cert.AdamwRefIdeal.τ).loc Cert.AdamwRefIdeal.main_arg54) = m ((c.tc : Thread Cert.AdamwRefIdeal.nD Cert.AdamwRefIdeal.τ).loc Cert.AdamwRefIdeal.main_arg54)
      ∧ r.2.mem ((c.tc : Thread Cert.AdamwRefIdeal.nD Cert.AdamwRefIdeal.τ).loc Cert.AdamwRefIdeal.main_arg55) = m ((c.tc : Thread Cert.AdamwRefIdeal.nD Cert.AdamwRefIdeal.τ).loc Cert.AdamwRefIdeal.main_arg55)
      ∧ r.2.mem ((c.tc : Thread Cert.AdamwRefIdeal.nD Cert.AdamwRefIdeal.τ).loc Cert.AdamwRefIdeal.main_arg56) = m ((c.tc : Thread Cert.AdamwRefIdeal.nD Cert.AdamwRefIdeal.τ).loc Cert.AdamwRefIdeal.main_arg56)
      ∧ r.2.mem ((c.tc : Thread Cert.AdamwRefIdeal.nD Cert.AdamwRefIdeal.τ).loc Cert.AdamwRefIdeal.main_arg57) = m ((c.tc : Thread Cert.AdamwRefIdeal.nD Cert.AdamwRefIdeal.τ).loc Cert.AdamwRefIdeal.main_arg57)
      ∧ r.2.mem ((c.tc : Thread Cert.AdamwRefIdeal.nD Cert.AdamwRefIdeal.τ).loc Cert.AdamwRefIdeal.main_arg58) = m ((c.tc : Thread Cert.AdamwRefIdeal.nD Cert.AdamwRefIdeal.τ).loc Cert.AdamwRefIdeal.main_arg58)
      ∧ r.2.mem ((c.tc : Thread Cert.AdamwRefIdeal.nD Cert.AdamwRefIdeal.τ).loc Cert.AdamwRefIdeal.main_arg59) = m ((c.tc : Thread Cert.AdamwRefIdeal.nD Cert.AdamwRefIdeal.τ).loc Cert.AdamwRefIdeal.main_arg59)
      ∧ r.2.mem ((c.tc : Thread Cert.AdamwRefIdeal.nD Cert.AdamwRefIdeal.τ).loc Cert.AdamwRefIdeal.main_arg60) = m ((c.tc : Thread Cert.AdamwRefIdeal.nD Cert.AdamwRefIdeal.τ).loc Cert.AdamwRefIdeal.main_arg60)
      ∧ r.2.mem ((c.tc : Thread Cert.AdamwRefIdeal.nD Cert.AdamwRefIdeal.τ).loc Cert.AdamwRefIdeal.main_arg61) = m ((c.tc : Thread Cert.AdamwRefIdeal.nD Cert.AdamwRefIdeal.τ).loc Cert.AdamwRefIdeal.main_arg61)
      ∧ r.2.mem ((c.tc : Thread Cert.AdamwRefIdeal.nD Cert.AdamwRefIdeal.τ).loc Cert.AdamwRefIdeal.main_arg62) = m ((c.tc : Thread Cert.AdamwRefIdeal.nD Cert.AdamwRefIdeal.τ).loc Cert.AdamwRefIdeal.main_arg62)
      ∧ r.2.mem ((c.tc : Thread Cert.AdamwRefIdeal.nD Cert.AdamwRefIdeal.τ).loc Cert.AdamwRefIdeal.main_arg63) = m ((c.tc : Thread Cert.AdamwRefIdeal.nD Cert.AdamwRefIdeal.τ).loc Cert.AdamwRefIdeal.main_arg63))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_GluProj [hGluProj : Cert.GluProj.Facts] : Prop :=
  ∀ (m : (ℓ : Loc Cert.GluProj.nD Cert.GluProj.τ Cert.GluProj.sig) → Buf (Elt Bits) ℓ) (g : Dev Cert.GluProj.nD → PrngReg), Pre_GluProj m →
    θ_run (Cert.GluProj.defs (F := Bits)) (onTc (τ := Cert.GluProj.τ) (Cert.GluProj.main (F := Bits))) ⟨m, fun _ => 0, g⟩ (fun r => (∀ c : Dev Cert.GluProj.nD,
      r.2.mem ((c.tc : Thread Cert.GluProj.nD Cert.GluProj.τ).loc Cert.GluProj.main_arg0) = m ((c.tc : Thread Cert.GluProj.nD Cert.GluProj.τ).loc Cert.GluProj.main_arg0)
      ∧ r.2.mem ((c.tc : Thread Cert.GluProj.nD Cert.GluProj.τ).loc Cert.GluProj.main_arg1) = m ((c.tc : Thread Cert.GluProj.nD Cert.GluProj.τ).loc Cert.GluProj.main_arg1))
      ∧ r.2.sem = fun _ => 0)

def quiescent_GluProjIdeal [hGluProjIdeal : Cert.GluProjIdeal.Facts] : Prop :=
  ∀ (m : (ℓ : Loc Cert.GluProjIdeal.nD Cert.GluProjIdeal.τ Cert.GluProjIdeal.sig) → Buf (Elt Ideal) ℓ) (g : Dev Cert.GluProjIdeal.nD → PrngReg), Pre_GluProjIdeal m →
    θ_run (Cert.GluProjIdeal.defs (F := Ideal)) (onTc (τ := Cert.GluProjIdeal.τ) (Cert.GluProjIdeal.main (F := Ideal))) ⟨m, fun _ => 0, g⟩ (fun r => (∀ c : Dev Cert.GluProjIdeal.nD,
      r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
      ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ r.2.sem = fun _ => 0)

def quiescent_GluProjRefIdeal [hGluProjRefIdeal : Cert.GluProjRefIdeal.Facts] : Prop :=
  ∀ (m : (ℓ : Loc Cert.GluProjRefIdeal.nD Cert.GluProjRefIdeal.τ Cert.GluProjRefIdeal.sig) → Buf (Elt Ideal) ℓ) (g : Dev Cert.GluProjRefIdeal.nD → PrngReg), Pre_GluProjRefIdeal m →
    θ_run (Cert.GluProjRefIdeal.defs (F := Ideal)) (onTc (τ := Cert.GluProjRefIdeal.τ) (Cert.GluProjRefIdeal.main (F := Ideal))) ⟨m, fun _ => 0, g⟩ (fun r => (∀ c : Dev Cert.GluProjRefIdeal.nD,
      r.2.mem ((c.tc : Thread Cert.GluProjRefIdeal.nD Cert.GluProjRefIdeal.τ).loc Cert.GluProjRefIdeal.main_arg0) = m ((c.tc : Thread Cert.GluProjRefIdeal.nD Cert.GluProjRefIdeal.τ).loc Cert.GluProjRefIdeal.main_arg0)
      ∧ r.2.mem ((c.tc : Thread Cert.GluProjRefIdeal.nD Cert.GluProjRefIdeal.τ).loc Cert.GluProjRefIdeal.main_arg1) = m ((c.tc : Thread Cert.GluProjRefIdeal.nD Cert.GluProjRefIdeal.τ).loc Cert.GluProjRefIdeal.main_arg1))
      ∧ r.2.sem = fun _ => 0)

def quiescent_GluProjDx [hGluProjDx : Cert.GluProjDx.Facts] : Prop :=
  ∀ (m : (ℓ : Loc Cert.GluProjDx.nD Cert.GluProjDx.τ Cert.GluProjDx.sig) → Buf (Elt Bits) ℓ) (g : Dev Cert.GluProjDx.nD → PrngReg), Pre_GluProjDx m →
    θ_run (Cert.GluProjDx.defs (F := Bits)) (onTc (τ := Cert.GluProjDx.τ) (Cert.GluProjDx.main (F := Bits))) ⟨m, fun _ => 0, g⟩ (fun r => (∀ c : Dev Cert.GluProjDx.nD,
      r.2.mem ((c.tc : Thread Cert.GluProjDx.nD Cert.GluProjDx.τ).loc Cert.GluProjDx.main_arg0) = m ((c.tc : Thread Cert.GluProjDx.nD Cert.GluProjDx.τ).loc Cert.GluProjDx.main_arg0)
      ∧ r.2.mem ((c.tc : Thread Cert.GluProjDx.nD Cert.GluProjDx.τ).loc Cert.GluProjDx.main_arg1) = m ((c.tc : Thread Cert.GluProjDx.nD Cert.GluProjDx.τ).loc Cert.GluProjDx.main_arg1))
      ∧ r.2.sem = fun _ => 0)

def quiescent_GluProjDxIdeal [hGluProjDxIdeal : Cert.GluProjDxIdeal.Facts] : Prop :=
  ∀ (m : (ℓ : Loc Cert.GluProjDxIdeal.nD Cert.GluProjDxIdeal.τ Cert.GluProjDxIdeal.sig) → Buf (Elt Ideal) ℓ) (g : Dev Cert.GluProjDxIdeal.nD → PrngReg), Pre_GluProjDxIdeal m →
    θ_run (Cert.GluProjDxIdeal.defs (F := Ideal)) (onTc (τ := Cert.GluProjDxIdeal.τ) (Cert.GluProjDxIdeal.main (F := Ideal))) ⟨m, fun _ => 0, g⟩ (fun r => (∀ c : Dev Cert.GluProjDxIdeal.nD,
      r.2.mem ((c.tc : Thread Cert.GluProjDxIdeal.nD Cert.GluProjDxIdeal.τ).loc Cert.GluProjDxIdeal.main_arg0) = m ((c.tc : Thread Cert.GluProjDxIdeal.nD Cert.GluProjDxIdeal.τ).loc Cert.GluProjDxIdeal.main_arg0)
      ∧ r.2.mem ((c.tc : Thread Cert.GluProjDxIdeal.nD Cert.GluProjDxIdeal.τ).loc Cert.GluProjDxIdeal.main_arg1) = m ((c.tc : Thread Cert.GluProjDxIdeal.nD Cert.GluProjDxIdeal.τ).loc Cert.GluProjDxIdeal.main_arg1))
      ∧ r.2.sem = fun _ => 0)

def quiescent_GluProjDxRefIdeal [hGluProjDxRefIdeal : Cert.GluProjDxRefIdeal.Facts] : Prop :=
  ∀ (m : (ℓ : Loc Cert.GluProjDxRefIdeal.nD Cert.GluProjDxRefIdeal.τ Cert.GluProjDxRefIdeal.sig) → Buf (Elt Ideal) ℓ) (g : Dev Cert.GluProjDxRefIdeal.nD → PrngReg), Pre_GluProjDxRefIdeal m →
    θ_run (Cert.GluProjDxRefIdeal.defs (F := Ideal)) (onTc (τ := Cert.GluProjDxRefIdeal.τ) (Cert.GluProjDxRefIdeal.main (F := Ideal))) ⟨m, fun _ => 0, g⟩ (fun r => (∀ c : Dev Cert.GluProjDxRefIdeal.nD,
      r.2.mem ((c.tc : Thread Cert.GluProjDxRefIdeal.nD Cert.GluProjDxRefIdeal.τ).loc Cert.GluProjDxRefIdeal.main_arg0) = m ((c.tc : Thread Cert.GluProjDxRefIdeal.nD Cert.GluProjDxRefIdeal.τ).loc Cert.GluProjDxRefIdeal.main_arg0)
      ∧ r.2.mem ((c.tc : Thread Cert.GluProjDxRefIdeal.nD Cert.GluProjDxRefIdeal.τ).loc Cert.GluProjDxRefIdeal.main_arg1) = m ((c.tc : Thread Cert.GluProjDxRefIdeal.nD Cert.GluProjDxRefIdeal.τ).loc Cert.GluProjDxRefIdeal.main_arg1))
      ∧ r.2.sem = fun _ => 0)

def quiescent_GluProjDw [hGluProjDw : Cert.GluProjDw.Facts] : Prop :=
  ∀ (m : (ℓ : Loc Cert.GluProjDw.nD Cert.GluProjDw.τ Cert.GluProjDw.sig) → Buf (Elt Bits) ℓ) (g : Dev Cert.GluProjDw.nD → PrngReg), Pre_GluProjDw m →
    θ_run (Cert.GluProjDw.defs (F := Bits)) (onTc (τ := Cert.GluProjDw.τ) (Cert.GluProjDw.main (F := Bits))) ⟨m, fun _ => 0, g⟩ (fun r => (∀ c : Dev Cert.GluProjDw.nD,
      r.2.mem ((c.tc : Thread Cert.GluProjDw.nD Cert.GluProjDw.τ).loc Cert.GluProjDw.main_arg0) = m ((c.tc : Thread Cert.GluProjDw.nD Cert.GluProjDw.τ).loc Cert.GluProjDw.main_arg0)
      ∧ r.2.mem ((c.tc : Thread Cert.GluProjDw.nD Cert.GluProjDw.τ).loc Cert.GluProjDw.main_arg1) = m ((c.tc : Thread Cert.GluProjDw.nD Cert.GluProjDw.τ).loc Cert.GluProjDw.main_arg1))
      ∧ r.2.sem = fun _ => 0)

def quiescent_GluProjDwIdeal [hGluProjDwIdeal : Cert.GluProjDwIdeal.Facts] : Prop :=
  ∀ (m : (ℓ : Loc Cert.GluProjDwIdeal.nD Cert.GluProjDwIdeal.τ Cert.GluProjDwIdeal.sig) → Buf (Elt Ideal) ℓ) (g : Dev Cert.GluProjDwIdeal.nD → PrngReg), Pre_GluProjDwIdeal m →
    θ_run (Cert.GluProjDwIdeal.defs (F := Ideal)) (onTc (τ := Cert.GluProjDwIdeal.τ) (Cert.GluProjDwIdeal.main (F := Ideal))) ⟨m, fun _ => 0, g⟩ (fun r => (∀ c : Dev Cert.GluProjDwIdeal.nD,
      r.2.mem ((c.tc : Thread Cert.GluProjDwIdeal.nD Cert.GluProjDwIdeal.τ).loc Cert.GluProjDwIdeal.main_arg0) = m ((c.tc : Thread Cert.GluProjDwIdeal.nD Cert.GluProjDwIdeal.τ).loc Cert.GluProjDwIdeal.main_arg0)
      ∧ r.2.mem ((c.tc : Thread Cert.GluProjDwIdeal.nD Cert.GluProjDwIdeal.τ).loc Cert.GluProjDwIdeal.main_arg1) = m ((c.tc : Thread Cert.GluProjDwIdeal.nD Cert.GluProjDwIdeal.τ).loc Cert.GluProjDwIdeal.main_arg1))
      ∧ r.2.sem = fun _ => 0)

def quiescent_GluProjDwRefIdeal [hGluProjDwRefIdeal : Cert.GluProjDwRefIdeal.Facts] : Prop :=
  ∀ (m : (ℓ : Loc Cert.GluProjDwRefIdeal.nD Cert.GluProjDwRefIdeal.τ Cert.GluProjDwRefIdeal.sig) → Buf (Elt Ideal) ℓ) (g : Dev Cert.GluProjDwRefIdeal.nD → PrngReg), Pre_GluProjDwRefIdeal m →
    θ_run (Cert.GluProjDwRefIdeal.defs (F := Ideal)) (onTc (τ := Cert.GluProjDwRefIdeal.τ) (Cert.GluProjDwRefIdeal.main (F := Ideal))) ⟨m, fun _ => 0, g⟩ (fun r => (∀ c : Dev Cert.GluProjDwRefIdeal.nD,
      r.2.mem ((c.tc : Thread Cert.GluProjDwRefIdeal.nD Cert.GluProjDwRefIdeal.τ).loc Cert.GluProjDwRefIdeal.main_arg0) = m ((c.tc : Thread Cert.GluProjDwRefIdeal.nD Cert.GluProjDwRefIdeal.τ).loc Cert.GluProjDwRefIdeal.main_arg0)
      ∧ r.2.mem ((c.tc : Thread Cert.GluProjDwRefIdeal.nD Cert.GluProjDwRefIdeal.τ).loc Cert.GluProjDwRefIdeal.main_arg1) = m ((c.tc : Thread Cert.GluProjDwRefIdeal.nD Cert.GluProjDwRefIdeal.τ).loc Cert.GluProjDwRefIdeal.main_arg1))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2))
      ∧ r.2.sem = fun _ => 0)

def quiescent_LnLast [hLnLast : Cert.LnLast.Facts] : Prop :=
  ∀ (m : (ℓ : Loc Cert.LnLast.nD Cert.LnLast.τ Cert.LnLast.sig) → Buf (Elt Bits) ℓ) (g : Dev Cert.LnLast.nD → PrngReg), Pre_LnLast m →
    θ_run (Cert.LnLast.defs (F := Bits)) (onTc (τ := Cert.LnLast.τ) (Cert.LnLast.main (F := Bits))) ⟨m, fun _ => 0, g⟩ (fun r => (∀ c : Dev Cert.LnLast.nD,
      r.2.mem ((c.tc : Thread Cert.LnLast.nD Cert.LnLast.τ).loc Cert.LnLast.main_arg0) = m ((c.tc : Thread Cert.LnLast.nD Cert.LnLast.τ).loc Cert.LnLast.main_arg0)
      ∧ r.2.mem ((c.tc : Thread Cert.LnLast.nD Cert.LnLast.τ).loc Cert.LnLast.main_arg1) = m ((c.tc : Thread Cert.LnLast.nD Cert.LnLast.τ).loc Cert.LnLast.main_arg1)
      ∧ r.2.mem ((c.tc : Thread Cert.LnLast.nD Cert.LnLast.τ).loc Cert.LnLast.main_arg2) = m ((c.tc : Thread Cert.LnLast.nD Cert.LnLast.τ).loc Cert.LnLast.main_arg2)
      ∧ r.2.mem ((c.tc : Thread Cert.LnLast.nD Cert.LnLast.τ).loc Cert.LnLast.main_arg3) = m ((c.tc : Thread Cert.LnLast.nD Cert.LnLast.τ).loc Cert.LnLast.main_arg3)
      ∧ r.2.mem ((c.tc : Thread Cert.LnLast.nD Cert.LnLast.τ).loc Cert.LnLast.main_arg4) = m ((c.tc : Thread Cert.LnLast.nD Cert.LnLast.τ).loc Cert.LnLast.main_arg4))
      ∧ r.2.sem = fun _ => 0)

def quiescent_LnLastIdeal [hLnLastIdeal : Cert.LnLastIdeal.Facts] : Prop :=
  ∀ (m : (ℓ : Loc Cert.LnLastIdeal.nD Cert.LnLastIdeal.τ Cert.LnLastIdeal.sig) → Buf (Elt Ideal) ℓ) (g : Dev Cert.LnLastIdeal.nD → PrngReg), Pre_LnLastIdeal m →
    θ_run (Cert.LnLastIdeal.defs (F := Ideal)) (onTc (τ := Cert.LnLastIdeal.τ) (Cert.LnLastIdeal.main (F := Ideal))) ⟨m, fun _ => 0, g⟩ (fun r => (∀ c : Dev Cert.LnLastIdeal.nD,
      r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
      ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
      ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2)
      ∧ r.2.mem ((c.tc : Thread Cert.LnLastIdeal.nD Cert.LnLastIdeal.τ).loc Cert.LnLastIdeal.main_arg3) = m ((c.tc : Thread Cert.LnLastIdeal.nD Cert.LnLastIdeal.τ).loc Cert.LnLastIdeal.main_arg3)
      ∧ r.2.mem ((c.tc : Thread Cert.LnLastIdeal.nD Cert.LnLastIdeal.τ).loc Cert.LnLastIdeal.main_arg4) = m ((c.tc : Thread Cert.LnLastIdeal.nD Cert.LnLastIdeal.τ).loc Cert.LnLastIdeal.main_arg4))
      ∧ r.2.sem = fun _ => 0)

def quiescent_LnLastRefIdeal [hLnLastRefIdeal : Cert.LnLastRefIdeal.Facts] : Prop :=
  ∀ (m : (ℓ : Loc Cert.LnLastRefIdeal.nD Cert.LnLastRefIdeal.τ Cert.LnLastRefIdeal.sig) → Buf (Elt Ideal) ℓ) (g : Dev Cert.LnLastRefIdeal.nD → PrngReg), Pre_LnLastRefIdeal m →
    θ_run (Cert.LnLastRefIdeal.defs (F := Ideal)) (onTc (τ := Cert.LnLastRefIdeal.τ) (Cert.LnLastRefIdeal.main (F := Ideal))) ⟨m, fun _ => 0, g⟩ (fun r => (∀ c : Dev Cert.LnLastRefIdeal.nD,
      r.2.mem ((c.tc : Thread Cert.LnLastRefIdeal.nD Cert.LnLastRefIdeal.τ).loc Cert.LnLastRefIdeal.main_arg0) = m ((c.tc : Thread Cert.LnLastRefIdeal.nD Cert.LnLastRefIdeal.τ).loc Cert.LnLastRefIdeal.main_arg0)
      ∧ r.2.mem ((c.tc : Thread Cert.LnLastRefIdeal.nD Cert.LnLastRefIdeal.τ).loc Cert.LnLastRefIdeal.main_arg1) = m ((c.tc : Thread Cert.LnLastRefIdeal.nD Cert.LnLastRefIdeal.τ).loc Cert.LnLastRefIdeal.main_arg1)
      ∧ r.2.mem ((c.tc : Thread Cert.LnLastRefIdeal.nD Cert.LnLastRefIdeal.τ).loc Cert.LnLastRefIdeal.main_arg2) = m ((c.tc : Thread Cert.LnLastRefIdeal.nD Cert.LnLastRefIdeal.τ).loc Cert.LnLastRefIdeal.main_arg2)
      ∧ r.2.mem ((c.tc : Thread Cert.LnLastRefIdeal.nD Cert.LnLastRefIdeal.τ).loc Cert.LnLastRefIdeal.main_arg3) = m ((c.tc : Thread Cert.LnLastRefIdeal.nD Cert.LnLastRefIdeal.τ).loc Cert.LnLastRefIdeal.main_arg3)
      ∧ r.2.mem ((c.tc : Thread Cert.LnLastRefIdeal.nD Cert.LnLastRefIdeal.τ).loc Cert.LnLastRefIdeal.main_arg4) = m ((c.tc : Thread Cert.LnLastRefIdeal.nD Cert.LnLastRefIdeal.τ).loc Cert.LnLastRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v6)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v2) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v4)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v4) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDact_DownDactIdeal : Prop :=
  True

def algebraic_DownDactIdeal_DownDactRefIdeal [hDownDactIdeal : Cert.DownDactIdeal.Facts] [hDownDactRefIdeal : Cert.DownDactRefIdeal.Facts] : Prop :=
  ∀ (m : (ℓ : Loc Cert.DownDactIdeal.nD Cert.DownDactIdeal.τ Cert.DownDactIdeal.sig) → Buf (Elt Ideal) ℓ) (g : Dev Cert.DownDactIdeal.nD → PrngReg)
    (m' : (ℓ : Loc Cert.DownDactRefIdeal.nD Cert.DownDactRefIdeal.τ Cert.DownDactRefIdeal.sig) → Buf (Elt Ideal) ℓ) (g' : Dev Cert.DownDactRefIdeal.nD → PrngReg), Pre_DownDactIdeal m →
    (∀ c : Dev Cert.DownDactIdeal.nD,
      m' ((c.tc : Thread Cert.DownDactRefIdeal.nD Cert.DownDactRefIdeal.τ).loc Cert.DownDactRefIdeal.main_arg0) = m ((c.tc : Thread Cert.DownDactIdeal.nD Cert.DownDactIdeal.τ).loc Cert.DownDactIdeal.main_arg0)
      ∧ m' ((c.tc : Thread Cert.DownDactRefIdeal.nD Cert.DownDactRefIdeal.τ).loc Cert.DownDactRefIdeal.main_arg1) = m ((c.tc : Thread Cert.DownDactIdeal.nD Cert.DownDactIdeal.τ).loc Cert.DownDactIdeal.main_arg1)) →
    ∃ (v0 : (c : Dev Cert.DownDactIdeal.nD) → Buf (Elt Ideal) ((c.tc : Thread Cert.DownDactIdeal.nD Cert.DownDactIdeal.τ).loc Cert.DownDactIdeal.main_v3)),
      θ_run (Cert.DownDactIdeal.defs (F := Ideal)) (onTc (τ := Cert.DownDactIdeal.τ) (Cert.DownDactIdeal.main (F := Ideal))) ⟨m, fun _ => 0, g⟩ (fun r => ∀ c : Dev Cert.DownDactIdeal.nD,
          r.2.mem ((c.tc : Thread Cert.DownDactIdeal.nD Cert.DownDactIdeal.τ).loc Cert.DownDactIdeal.main_v3) = v0 c
          ∧ r.2.mem ((c.tc : Thread Cert.DownDactIdeal.nD Cert.DownDactIdeal.τ).loc Cert.DownDactIdeal.main_arg0) = m ((c.tc : Thread Cert.DownDactIdeal.nD Cert.DownDactIdeal.τ).loc Cert.DownDactIdeal.main_arg0)
          ∧ r.2.mem ((c.tc : Thread Cert.DownDactIdeal.nD Cert.DownDactIdeal.τ).loc Cert.DownDactIdeal.main_arg1) = m ((c.tc : Thread Cert.DownDactIdeal.nD Cert.DownDactIdeal.τ).loc Cert.DownDactIdeal.main_arg1))
      ∧ θ_run (Cert.DownDactRefIdeal.defs (F := Ideal)) (onTc (τ := Cert.DownDactRefIdeal.τ) (Cert.DownDactRefIdeal.main (F := Ideal))) ⟨m', fun _ => 0, g'⟩ (fun r => ∀ c : Dev Cert.DownDactRefIdeal.nD,
          r.2.mem ((c.tc : Thread Cert.DownDactRefIdeal.nD Cert.DownDactRefIdeal.τ).loc Cert.DownDactRefIdeal.main_v4) = v0 c
          ∧ r.2.mem ((c.tc : Thread Cert.DownDactRefIdeal.nD Cert.DownDactRefIdeal.τ).loc Cert.DownDactRefIdeal.main_arg0) = m' ((c.tc : Thread Cert.DownDactRefIdeal.nD Cert.DownDactRefIdeal.τ).loc Cert.DownDactRefIdeal.main_arg0)
          ∧ r.2.mem ((c.tc : Thread Cert.DownDactRefIdeal.nD Cert.DownDactRefIdeal.τ).loc Cert.DownDactRefIdeal.main_arg1) = m' ((c.tc : Thread Cert.DownDactRefIdeal.nD Cert.DownDactRefIdeal.τ).loc Cert.DownDactRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v4)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v4) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v2) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v0)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v18) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_GeluBwd_GeluBwdIdeal : Prop :=
  True

def algebraic_GeluBwdIdeal_GeluBwdRefIdeal [hGeluBwdIdeal : Cert.GeluBwdIdeal.Facts] [hGeluBwdRefIdeal : Cert.GeluBwdRefIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg)
    (m' : (ℓ : Loc Cert.GeluBwdRefIdeal.nD Cert.GeluBwdRefIdeal.τ Cert.GeluBwdRefIdeal.sig) → Buf (Elt Ideal) ℓ) (g' : Dev Cert.GeluBwdRefIdeal.nD → PrngReg), Pre_GeluBwdIdeal m →
    (∀ c : Dev Cert.GeluBwdIdeal.nD,
      m' ((c.tc : Thread Cert.GeluBwdRefIdeal.nD Cert.GeluBwdRefIdeal.τ).loc Cert.GeluBwdRefIdeal.main_arg0) = m ((c.tc : Thread Cert.GeluBwdIdeal.nD Cert.GeluBwdIdeal.τ).loc Cert.GeluBwdIdeal.main_arg0)
      ∧ m' ((c.tc : Thread Cert.GeluBwdRefIdeal.nD Cert.GeluBwdRefIdeal.τ).loc Cert.GeluBwdRefIdeal.main_arg1) = m ((c.tc : Thread Cert.GeluBwdIdeal.nD Cert.GeluBwdIdeal.τ).loc Cert.GeluBwdIdeal.main_arg1)
      ∧ m' ((c.tc : Thread Cert.GeluBwdRefIdeal.nD Cert.GeluBwdRefIdeal.τ).loc Cert.GeluBwdRefIdeal.main_arg2) = m ((c.tc : Thread Cert.GeluBwdIdeal.nD Cert.GeluBwdIdeal.τ).loc Cert.GeluBwdIdeal.main_arg2)
      ∧ m' ((c.tc : Thread Cert.GeluBwdRefIdeal.nD Cert.GeluBwdRefIdeal.τ).loc Cert.GeluBwdRefIdeal.main_arg3) = m ((c.tc : Thread Cert.GeluBwdIdeal.nD Cert.GeluBwdIdeal.τ).loc Cert.GeluBwdIdeal.main_arg3)) →
    ∃ (v0 : (c : Dev Cert.GeluBwdIdeal.nD) → Buf (Elt Ideal) ((c.tc : Thread Cert.GeluBwdIdeal.nD Cert.GeluBwdIdeal.τ).loc Cert.GeluBwdIdeal.main_v4_0)) (v1 : (c : Dev Cert.GeluBwdIdeal.nD) → Buf (Elt Ideal) ((c.tc : Thread Cert.GeluBwdIdeal.nD Cert.GeluBwdIdeal.τ).loc Cert.GeluBwdIdeal.main_v4_1)) (v2 : (c : Dev Cert.GeluBwdIdeal.nD) → Buf (Elt Ideal) ((c.tc : Thread Cert.GeluBwdIdeal.nD Cert.GeluBwdIdeal.τ).loc Cert.GeluBwdIdeal.main_v4_2)),
      θ_run (Cert.GeluBwdIdeal.defs (F := Ideal)) (onTc (τ := Cert.GeluBwdIdeal.τ) (Cert.GeluBwdIdeal.main (F := Ideal))) ⟨m, fun _ => 0, g⟩ (fun r => ∀ c : Dev Cert.GeluBwdIdeal.nD,
          r.2.mem ((c.tc : Thread Cert.GeluBwdIdeal.nD Cert.GeluBwdIdeal.τ).loc Cert.GeluBwdIdeal.main_v4_0) = v0 c
          ∧ r.2.mem ((c.tc : Thread Cert.GeluBwdIdeal.nD Cert.GeluBwdIdeal.τ).loc Cert.GeluBwdIdeal.main_v4_1) = v1 c
          ∧ r.2.mem ((c.tc : Thread Cert.GeluBwdIdeal.nD Cert.GeluBwdIdeal.τ).loc Cert.GeluBwdIdeal.main_v4_2) = v2 c
          ∧ r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
          ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
          ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
          ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3))
      ∧ θ_run (Cert.GeluBwdRefIdeal.defs (F := Ideal)) (onTc (τ := Cert.GeluBwdRefIdeal.τ) (Cert.GeluBwdRefIdeal.main (F := Ideal))) ⟨m', fun _ => 0, g'⟩ (fun r => ∀ c : Dev Cert.GeluBwdRefIdeal.nD,
          r.2.mem ((c.tc : Thread Cert.GeluBwdRefIdeal.nD Cert.GeluBwdRefIdeal.τ).loc Cert.GeluBwdRefIdeal.main_v49) = v0 c
          ∧ r.2.mem ((c.tc : Thread Cert.GeluBwdRefIdeal.nD Cert.GeluBwdRefIdeal.τ).loc Cert.GeluBwdRefIdeal.main_v47) = v1 c
          ∧ r.2.mem ((c.tc : Thread Cert.GeluBwdRefIdeal.nD Cert.GeluBwdRefIdeal.τ).loc Cert.GeluBwdRefIdeal.main_v50) = v2 c
          ∧ r.2.mem ((c.tc : Thread Cert.GeluBwdRefIdeal.nD Cert.GeluBwdRefIdeal.τ).loc Cert.GeluBwdRefIdeal.main_arg0) = m' ((c.tc : Thread Cert.GeluBwdRefIdeal.nD Cert.GeluBwdRefIdeal.τ).loc Cert.GeluBwdRefIdeal.main_arg0)
          ∧ r.2.mem ((c.tc : Thread Cert.GeluBwdRefIdeal.nD Cert.GeluBwdRefIdeal.τ).loc Cert.GeluBwdRefIdeal.main_arg1) = m' ((c.tc : Thread Cert.GeluBwdRefIdeal.nD Cert.GeluBwdRefIdeal.τ).loc Cert.GeluBwdRefIdeal.main_arg1)
          ∧ r.2.mem ((c.tc : Thread Cert.GeluBwdRefIdeal.nD Cert.GeluBwdRefIdeal.τ).loc Cert.GeluBwdRefIdeal.main_arg2) = m' ((c.tc : Thread Cert.GeluBwdRefIdeal.nD Cert.GeluBwdRefIdeal.τ).loc Cert.GeluBwdRefIdeal.main_arg2)
          ∧ r.2.mem ((c.tc : Thread Cert.GeluBwdRefIdeal.nD Cert.GeluBwdRefIdeal.τ).loc Cert.GeluBwdRefIdeal.main_arg3) = m' ((c.tc : Thread Cert.GeluBwdRefIdeal.nD Cert.GeluBwdRefIdeal.τ).loc Cert.GeluBwdRefIdeal.main_arg3))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)
      ∧ m' ((c.tc : Thread Cert.LnBwdRefIdeal.nD Cert.LnBwdRefIdeal.τ).loc Cert.LnBwdRefIdeal.main_arg5) = m ((c.tc : Thread Cert.LnBwdIdeal.nD Cert.LnBwdIdeal.τ).loc Cert.LnBwdIdeal.main_arg5)) →
    ∃ (v0 : (c : Dev Cert.LnBwdIdeal.nD) → Buf (Elt Ideal) ((c.tc : Thread Cert.LnBwdIdeal.nD Cert.LnBwdIdeal.τ).loc Cert.LnBwdIdeal.main_v5_0)) (v1 : (c : Dev Cert.LnBwdIdeal.nD) → Buf (Elt Ideal) ((c.tc : Thread Cert.LnBwdIdeal.nD Cert.LnBwdIdeal.τ).loc Cert.LnBwdIdeal.main_v5_1)) (v2 : (c : Dev Cert.LnBwdIdeal.nD) → Buf (Elt Ideal) ((c.tc : Thread Cert.LnBwdIdeal.nD Cert.LnBwdIdeal.τ).loc Cert.LnBwdIdeal.main_v5_2)) (v3 : (c : Dev Cert.LnBwdIdeal.nD) → Buf (Elt Ideal) ((c.tc : Thread Cert.LnBwdIdeal.nD Cert.LnBwdIdeal.τ).loc Cert.LnBwdIdeal.main_v5_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v5_0) = v0 c
          ∧ r.2.mem ((c.tc : Thread Cert.LnBwdIdeal.nD Cert.LnBwdIdeal.τ).loc Cert.LnBwdIdeal.main_v5_1) = v1 c
          ∧ r.2.mem ((c.tc : Thread Cert.LnBwdIdeal.nD Cert.LnBwdIdeal.τ).loc Cert.LnBwdIdeal.main_v5_2) = v2 c
          ∧ r.2.mem ((c.tc : Thread Cert.LnBwdIdeal.nD Cert.LnBwdIdeal.τ).loc Cert.LnBwdIdeal.main_v5_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v70) = v0 c
          ∧ r.2.mem ((c.tc : Thread Cert.LnBwdRefIdeal.nD Cert.LnBwdRefIdeal.τ).loc Cert.LnBwdRefIdeal.main_v71) = v1 c
          ∧ r.2.mem ((c.tc : Thread Cert.LnBwdRefIdeal.nD Cert.LnBwdRefIdeal.τ).loc Cert.LnBwdRefIdeal.main_v72) = v2 c
          ∧ r.2.mem ((c.tc : Thread Cert.LnBwdRefIdeal.nD Cert.LnBwdRefIdeal.τ).loc Cert.LnBwdRefIdeal.main_v73) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4)
          ∧ r.2.mem ((c.tc : Thread Cert.LnBwdRefIdeal.nD Cert.LnBwdRefIdeal.τ).loc Cert.LnBwdRefIdeal.main_arg5) = m' ((c.tc : Thread Cert.LnBwdRefIdeal.nD Cert.LnBwdRefIdeal.τ).loc Cert.LnBwdRefIdeal.main_arg5))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)) (v2 : (c : Dev Cert.LnIdeal.nD) → Buf (Elt Ideal) ((c.tc : Thread Cert.LnIdeal.nD Cert.LnIdeal.τ).loc Cert.LnIdeal.main_v2_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_v2_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v2) = v0 c
          ∧ r.2.mem ((c.tc : Thread Cert.LnRefIdeal.nD Cert.LnRefIdeal.τ).loc Cert.LnRefIdeal.main_v26) = v1 c
          ∧ r.2.mem ((c.tc : Thread Cert.LnRefIdeal.nD Cert.LnRefIdeal.τ).loc Cert.LnRefIdeal.main_v27) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v5) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)
      ∧ m' ((c.tc : Thread Cert.AdamwRefIdeal.nD Cert.AdamwRefIdeal.τ).loc Cert.AdamwRefIdeal.main_arg6) = m ((c.tc : Thread Cert.AdamwIdeal.nD Cert.AdamwIdeal.τ).loc Cert.AdamwIdeal.main_arg6)
      ∧ m' ((c.tc : Thread Cert.AdamwRefIdeal.nD Cert.AdamwRefIdeal.τ).loc Cert.AdamwRefIdeal.main_arg7) = m ((c.tc : Thread Cert.AdamwIdeal.nD Cert.AdamwIdeal.τ).loc Cert.AdamwIdeal.main_arg7)
      ∧ m' ((c.tc : Thread Cert.AdamwRefIdeal.nD Cert.AdamwRefIdeal.τ).loc Cert.AdamwRefIdeal.main_arg8) = m ((c.tc : Thread Cert.AdamwIdeal.nD Cert.AdamwIdeal.τ).loc Cert.AdamwIdeal.main_arg8)
      ∧ m' ((c.tc : Thread Cert.AdamwRefIdeal.nD Cert.AdamwRefIdeal.τ).loc Cert.AdamwRefIdeal.main_arg9) = m ((c.tc : Thread Cert.AdamwIdeal.nD Cert.AdamwIdeal.τ).loc Cert.AdamwIdeal.main_arg9)
      ∧ m' ((c.tc : Thread Cert.AdamwRefIdeal.nD Cert.AdamwRefIdeal.τ).loc Cert.AdamwRefIdeal.main_arg10) = m ((c.tc : Thread Cert.AdamwIdeal.nD Cert.AdamwIdeal.τ).loc Cert.AdamwIdeal.main_arg10)
      ∧ m' ((c.tc : Thread Cert.AdamwRefIdeal.nD Cert.AdamwRefIdeal.τ).loc Cert.AdamwRefIdeal.main_arg11) = m ((c.tc : Thread Cert.AdamwIdeal.nD Cert.AdamwIdeal.τ).loc Cert.AdamwIdeal.main_arg11)
      ∧ m' ((c.tc : Thread Cert.AdamwRefIdeal.nD Cert.AdamwRefIdeal.τ).loc Cert.AdamwRefIdeal.main_arg12) = m ((c.tc : Thread Cert.AdamwIdeal.nD Cert.AdamwIdeal.τ).loc Cert.AdamwIdeal.main_arg12)
      ∧ m' ((c.tc : Thread Cert.AdamwRefIdeal.nD Cert.AdamwRefIdeal.τ).loc Cert.AdamwRefIdeal.main_arg13) = m ((c.tc : Thread Cert.AdamwIdeal.nD Cert.AdamwIdeal.τ).loc Cert.AdamwIdeal.main_arg13)
      ∧ m' ((c.tc : Thread Cert.AdamwRefIdeal.nD Cert.AdamwRefIdeal.τ).loc Cert.AdamwRefIdeal.main_arg14) = m ((c.tc : Thread Cert.AdamwIdeal.nD Cert.AdamwIdeal.τ).loc Cert.AdamwIdeal.main_arg14)
      ∧ m' ((c.tc : Thread Cert.AdamwRefIdeal.nD Cert.AdamwRefIdeal.τ).loc Cert.AdamwRefIdeal.main_arg15) = m ((c.tc : Thread Cert.AdamwIdeal.nD Cert.AdamwIdeal.τ).loc Cert.AdamwIdeal.main_arg15)
      ∧ m' ((c.tc : Thread Cert.AdamwRefIdeal.nD Cert.AdamwRefIdeal.τ).loc Cert.AdamwRefIdeal.main_arg16) = m ((c.tc : Thread Cert.AdamwIdeal.nD Cert.AdamwIdeal.τ).loc Cert.AdamwIdeal.main_arg16)
      ∧ m' ((c.tc : Thread Cert.AdamwRefIdeal.nD Cert.AdamwRefIdeal.τ).loc Cert.AdamwRefIdeal.main_arg17) = m ((c.tc : Thread Cert.AdamwIdeal.nD Cert.AdamwIdeal.τ).loc Cert.AdamwIdeal.main_arg17)
      ∧ m' ((c.tc : Thread Cert.AdamwRefIdeal.nD Cert.AdamwRefIdeal.τ).loc Cert.AdamwRefIdeal.main_arg18) = m ((c.tc : Thread Cert.AdamwIdeal.nD Cert.AdamwIdeal.τ).loc Cert.AdamwIdeal.main_arg18)
      ∧ m' ((c.tc : Thread Cert.AdamwRefIdeal.nD Cert.AdamwRefIdeal.τ).loc Cert.AdamwRefIdeal.main_arg19) = m ((c.tc : Thread Cert.AdamwIdeal.nD Cert.AdamwIdeal.τ).loc Cert.AdamwIdeal.main_arg19)
      ∧ m' ((c.tc : Thread Cert.AdamwRefIdeal.nD Cert.AdamwRefIdeal.τ).loc Cert.AdamwRefIdeal.main_arg20) = m ((c.tc : Thread Cert.AdamwIdeal.nD Cert.AdamwIdeal.τ).loc Cert.AdamwIdeal.main_arg20)
      ∧ m' ((c.tc : Thread Cert.AdamwRefIdeal.nD Cert.AdamwRefIdeal.τ).loc Cert.AdamwRefIdeal.main_arg21) = m ((c.tc : Thread Cert.AdamwIdeal.nD Cert.AdamwIdeal.τ).loc Cert.AdamwIdeal.main_arg21)
      ∧ m' ((c.tc : Thread Cert.AdamwRefIdeal.nD Cert.AdamwRefIdeal.τ).loc Cert.AdamwRefIdeal.main_arg22) = m ((c.tc : Thread Cert.AdamwIdeal.nD Cert.AdamwIdeal.τ).loc Cert.AdamwIdeal.main_arg22)
      ∧ m' ((c.tc : Thread Cert.AdamwRefIdeal.nD Cert.AdamwRefIdeal.τ).loc Cert.AdamwRefIdeal.main_arg23) = m ((c.tc : Thread Cert.AdamwIdeal.nD Cert.AdamwIdeal.τ).loc Cert.AdamwIdeal.main_arg23)
      ∧ m' ((c.tc : Thread Cert.AdamwRefIdeal.nD Cert.AdamwRefIdeal.τ).loc Cert.AdamwRefIdeal.main_arg24) = m ((c.tc : Thread Cert.AdamwIdeal.nD Cert.AdamwIdeal.τ).loc Cert.AdamwIdeal.main_arg24)
      ∧ m' ((c.tc : Thread Cert.AdamwRefIdeal.nD Cert.AdamwRefIdeal.τ).loc Cert.AdamwRefIdeal.main_arg25) = m ((c.tc : Thread Cert.AdamwIdeal.nD Cert.AdamwIdeal.τ).loc Cert.AdamwIdeal.main_arg25)
      ∧ m' ((c.tc : Thread Cert.AdamwRefIdeal.nD Cert.AdamwRefIdeal.τ).loc Cert.AdamwRefIdeal.main_arg26) = m ((c.tc : Thread Cert.AdamwIdeal.nD Cert.AdamwIdeal.τ).loc Cert.AdamwIdeal.main_arg26)
      ∧ m' ((c.tc : Thread Cert.AdamwRefIdeal.nD Cert.AdamwRefIdeal.τ).loc Cert.AdamwRefIdeal.main_arg27) = m ((c.tc : Thread Cert.AdamwIdeal.nD Cert.AdamwIdeal.τ).loc Cert.AdamwIdeal.main_arg27)
      ∧ m' ((c.tc : Thread Cert.AdamwRefIdeal.nD Cert.AdamwRefIdeal.τ).loc Cert.AdamwRefIdeal.main_arg28) = m ((c.tc : Thread Cert.AdamwIdeal.nD Cert.AdamwIdeal.τ).loc Cert.AdamwIdeal.main_arg28)
      ∧ m' ((c.tc : Thread Cert.AdamwRefIdeal.nD Cert.AdamwRefIdeal.τ).loc Cert.AdamwRefIdeal.main_arg29) = m ((c.tc : Thread Cert.AdamwIdeal.nD Cert.AdamwIdeal.τ).loc Cert.AdamwIdeal.main_arg29)
      ∧ m' ((c.tc : Thread Cert.AdamwRefIdeal.nD Cert.AdamwRefIdeal.τ).loc Cert.AdamwRefIdeal.main_arg30) = m ((c.tc : Thread Cert.AdamwIdeal.nD Cert.AdamwIdeal.τ).loc Cert.AdamwIdeal.main_arg30)
      ∧ m' ((c.tc : Thread Cert.AdamwRefIdeal.nD Cert.AdamwRefIdeal.τ).loc Cert.AdamwRefIdeal.main_arg31) = m ((c.tc : Thread Cert.AdamwIdeal.nD Cert.AdamwIdeal.τ).loc Cert.AdamwIdeal.main_arg31)
      ∧ m' ((c.tc : Thread Cert.AdamwRefIdeal.nD Cert.AdamwRefIdeal.τ).loc Cert.AdamwRefIdeal.main_arg32) = m ((c.tc : Thread Cert.AdamwIdeal.nD Cert.AdamwIdeal.τ).loc Cert.AdamwIdeal.main_arg32)
      ∧ m' ((c.tc : Thread Cert.AdamwRefIdeal.nD Cert.AdamwRefIdeal.τ).loc Cert.AdamwRefIdeal.main_arg33) = m ((c.tc : Thread Cert.AdamwIdeal.nD Cert.AdamwIdeal.τ).loc Cert.AdamwIdeal.main_arg33)
      ∧ m' ((c.tc : Thread Cert.AdamwRefIdeal.nD Cert.AdamwRefIdeal.τ).loc Cert.AdamwRefIdeal.main_arg34) = m ((c.tc : Thread Cert.AdamwIdeal.nD Cert.AdamwIdeal.τ).loc Cert.AdamwIdeal.main_arg34)
      ∧ m' ((c.tc : Thread Cert.AdamwRefIdeal.nD Cert.AdamwRefIdeal.τ).loc Cert.AdamwRefIdeal.main_arg35) = m ((c.tc : Thread Cert.AdamwIdeal.nD Cert.AdamwIdeal.τ).loc Cert.AdamwIdeal.main_arg35)
      ∧ m' ((c.tc : Thread Cert.AdamwRefIdeal.nD Cert.AdamwRefIdeal.τ).loc Cert.AdamwRefIdeal.main_arg36) = m ((c.tc : Thread Cert.AdamwIdeal.nD Cert.AdamwIdeal.τ).loc Cert.AdamwIdeal.main_arg36)
      ∧ m' ((c.tc : Thread Cert.AdamwRefIdeal.nD Cert.AdamwRefIdeal.τ).loc Cert.AdamwRefIdeal.main_arg37) = m ((c.tc : Thread Cert.AdamwIdeal.nD Cert.AdamwIdeal.τ).loc Cert.AdamwIdeal.main_arg37)
      ∧ m' ((c.tc : Thread Cert.AdamwRefIdeal.nD Cert.AdamwRefIdeal.τ).loc Cert.AdamwRefIdeal.main_arg38) = m ((c.tc : Thread Cert.AdamwIdeal.nD Cert.AdamwIdeal.τ).loc Cert.AdamwIdeal.main_arg38)
      ∧ m' ((c.tc : Thread Cert.AdamwRefIdeal.nD Cert.AdamwRefIdeal.τ).loc Cert.AdamwRefIdeal.main_arg39) = m ((c.tc : Thread Cert.AdamwIdeal.nD Cert.AdamwIdeal.τ).loc Cert.AdamwIdeal.main_arg39)
      ∧ m' ((c.tc : Thread Cert.AdamwRefIdeal.nD Cert.AdamwRefIdeal.τ).loc Cert.AdamwRefIdeal.main_arg40) = m ((c.tc : Thread Cert.AdamwIdeal.nD Cert.AdamwIdeal.τ).loc Cert.AdamwIdeal.main_arg40)
      ∧ m' ((c.tc : Thread Cert.AdamwRefIdeal.nD Cert.AdamwRefIdeal.τ).loc Cert.AdamwRefIdeal.main_arg41) = m ((c.tc : Thread Cert.AdamwIdeal.nD Cert.AdamwIdeal.τ).loc Cert.AdamwIdeal.main_arg41)
      ∧ m' ((c.tc : Thread Cert.AdamwRefIdeal.nD Cert.AdamwRefIdeal.τ).loc Cert.AdamwRefIdeal.main_arg42) = m ((c.tc : Thread Cert.AdamwIdeal.nD Cert.AdamwIdeal.τ).loc Cert.AdamwIdeal.main_arg42)
      ∧ m' ((c.tc : Thread Cert.AdamwRefIdeal.nD Cert.AdamwRefIdeal.τ).loc Cert.AdamwRefIdeal.main_arg43) = m ((c.tc : Thread Cert.AdamwIdeal.nD Cert.AdamwIdeal.τ).loc Cert.AdamwIdeal.main_arg43)
      ∧ m' ((c.tc : Thread Cert.AdamwRefIdeal.nD Cert.AdamwRefIdeal.τ).loc Cert.AdamwRefIdeal.main_arg44) = m ((c.tc : Thread Cert.AdamwIdeal.nD Cert.AdamwIdeal.τ).loc Cert.AdamwIdeal.main_arg44)
      ∧ m' ((c.tc : Thread Cert.AdamwRefIdeal.nD Cert.AdamwRefIdeal.τ).loc Cert.AdamwRefIdeal.main_arg45) = m ((c.tc : Thread Cert.AdamwIdeal.nD Cert.AdamwIdeal.τ).loc Cert.AdamwIdeal.main_arg45)
      ∧ m' ((c.tc : Thread Cert.AdamwRefIdeal.nD Cert.AdamwRefIdeal.τ).loc Cert.AdamwRefIdeal.main_arg46) = m ((c.tc : Thread Cert.AdamwIdeal.nD Cert.AdamwIdeal.τ).loc Cert.AdamwIdeal.main_arg46)
      ∧ m' ((c.tc : Thread Cert.AdamwRefIdeal.nD Cert.AdamwRefIdeal.τ).loc Cert.AdamwRefIdeal.main_arg47) = m ((c.tc : Thread Cert.AdamwIdeal.nD Cert.AdamwIdeal.τ).loc Cert.AdamwIdeal.main_arg47)
      ∧ m' ((c.tc : Thread Cert.AdamwRefIdeal.nD Cert.AdamwRefIdeal.τ).loc Cert.AdamwRefIdeal.main_arg48) = m ((c.tc : Thread Cert.AdamwIdeal.nD Cert.AdamwIdeal.τ).loc Cert.AdamwIdeal.main_arg48)
      ∧ m' ((c.tc : Thread Cert.AdamwRefIdeal.nD Cert.AdamwRefIdeal.τ).loc Cert.AdamwRefIdeal.main_arg49) = m ((c.tc : Thread Cert.AdamwIdeal.nD Cert.AdamwIdeal.τ).loc Cert.AdamwIdeal.main_arg49)
      ∧ m' ((c.tc : Thread Cert.AdamwRefIdeal.nD Cert.AdamwRefIdeal.τ).loc Cert.AdamwRefIdeal.main_arg50) = m ((c.tc : Thread Cert.AdamwIdeal.nD Cert.AdamwIdeal.τ).loc Cert.AdamwIdeal.main_arg50)
      ∧ m' ((c.tc : Thread Cert.AdamwRefIdeal.nD Cert.AdamwRefIdeal.τ).loc Cert.AdamwRefIdeal.main_arg51) = m ((c.tc : Thread Cert.AdamwIdeal.nD Cert.AdamwIdeal.τ).loc Cert.AdamwIdeal.main_arg51)
      ∧ m' ((c.tc : Thread Cert.AdamwRefIdeal.nD Cert.AdamwRefIdeal.τ).loc Cert.AdamwRefIdeal.main_arg52) = m ((c.tc : Thread Cert.AdamwIdeal.nD Cert.AdamwIdeal.τ).loc Cert.AdamwIdeal.main_arg52)
      ∧ m' ((c.tc : Thread Cert.AdamwRefIdeal.nD Cert.AdamwRefIdeal.τ).loc Cert.AdamwRefIdeal.main_arg53) = m ((c.tc : Thread Cert.AdamwIdeal.nD Cert.AdamwIdeal.τ).loc Cert.AdamwIdeal.main_arg53)
      ∧ m' ((c.tc : Thread Cert.AdamwRefIdeal.nD Cert.AdamwRefIdeal.τ).loc Cert.AdamwRefIdeal.main_arg54) = m ((c.tc : Thread Cert.AdamwIdeal.nD Cert.AdamwIdeal.τ).loc Cert.AdamwIdeal.main_arg54)
      ∧ m' ((c.tc : Thread Cert.AdamwRefIdeal.nD Cert.AdamwRefIdeal.τ).loc Cert.AdamwRefIdeal.main_arg55) = m ((c.tc : Thread Cert.AdamwIdeal.nD Cert.AdamwIdeal.τ).loc Cert.AdamwIdeal.main_arg55)
      ∧ m' ((c.tc : Thread Cert.AdamwRefIdeal.nD Cert.AdamwRefIdeal.τ).loc Cert.AdamwRefIdeal.main_arg56) = m ((c.tc : Thread Cert.AdamwIdeal.nD Cert.AdamwIdeal.τ).loc Cert.AdamwIdeal.main_arg56)
      ∧ m' ((c.tc : Thread Cert.AdamwRefIdeal.nD Cert.AdamwRefIdeal.τ).loc Cert.AdamwRefIdeal.main_arg57) = m ((c.tc : Thread Cert.AdamwIdeal.nD Cert.AdamwIdeal.τ).loc Cert.AdamwIdeal.main_arg57)
      ∧ m' ((c.tc : Thread Cert.AdamwRefIdeal.nD Cert.AdamwRefIdeal.τ).loc Cert.AdamwRefIdeal.main_arg58) = m ((c.tc : Thread Cert.AdamwIdeal.nD Cert.AdamwIdeal.τ).loc Cert.AdamwIdeal.main_arg58)
      ∧ m' ((c.tc : Thread Cert.AdamwRefIdeal.nD Cert.AdamwRefIdeal.τ).loc Cert.AdamwRefIdeal.main_arg59) = m ((c.tc : Thread Cert.AdamwIdeal.nD Cert.AdamwIdeal.τ).loc Cert.AdamwIdeal.main_arg59)
      ∧ m' ((c.tc : Thread Cert.AdamwRefIdeal.nD Cert.AdamwRefIdeal.τ).loc Cert.AdamwRefIdeal.main_arg60) = m ((c.tc : Thread Cert.AdamwIdeal.nD Cert.AdamwIdeal.τ).loc Cert.AdamwIdeal.main_arg60)
      ∧ m' ((c.tc : Thread Cert.AdamwRefIdeal.nD Cert.AdamwRefIdeal.τ).loc Cert.AdamwRefIdeal.main_arg61) = m ((c.tc : Thread Cert.AdamwIdeal.nD Cert.AdamwIdeal.τ).loc Cert.AdamwIdeal.main_arg61)
      ∧ m' ((c.tc : Thread Cert.AdamwRefIdeal.nD Cert.AdamwRefIdeal.τ).loc Cert.AdamwRefIdeal.main_arg62) = m ((c.tc : Thread Cert.AdamwIdeal.nD Cert.AdamwIdeal.τ).loc Cert.AdamwIdeal.main_arg62)
      ∧ m' ((c.tc : Thread Cert.AdamwRefIdeal.nD Cert.AdamwRefIdeal.τ).loc Cert.AdamwRefIdeal.main_arg63) = m ((c.tc : Thread Cert.AdamwIdeal.nD Cert.AdamwIdeal.τ).loc Cert.AdamwIdeal.main_arg63)) →
    ∃ (v0 : (c : Dev Cert.AdamwIdeal.nD) → Buf (Elt Ideal) ((c.tc : Thread Cert.AdamwIdeal.nD Cert.AdamwIdeal.τ).loc Cert.AdamwIdeal.main_v104_0)) (v1 : (c : Dev Cert.AdamwIdeal.nD) → Buf (Elt Ideal) ((c.tc : Thread Cert.AdamwIdeal.nD Cert.AdamwIdeal.τ).loc Cert.AdamwIdeal.main_v104_1)) (v2 : (c : Dev Cert.AdamwIdeal.nD) → Buf (Elt Ideal) ((c.tc : Thread Cert.AdamwIdeal.nD Cert.AdamwIdeal.τ).loc Cert.AdamwIdeal.main_v104_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v104_0) = v0 c
          ∧ r.2.mem ((c.tc : Thread Cert.AdamwIdeal.nD Cert.AdamwIdeal.τ).loc Cert.AdamwIdeal.main_v104_1) = v1 c
          ∧ r.2.mem ((c.tc : Thread Cert.AdamwIdeal.nD Cert.AdamwIdeal.τ).loc Cert.AdamwIdeal.main_v104_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
          ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
          ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
          ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
          ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
          ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
          ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
          ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
          ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
          ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
          ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
          ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
          ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
          ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
          ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
          ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
          ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
          ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
          ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
          ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
          ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27)
          ∧ r.2.mem ((c.tc : Thread Cert.AdamwIdeal.nD Cert.AdamwIdeal.τ).loc Cert.AdamwIdeal.main_arg28) = m ((c.tc : Thread Cert.AdamwIdeal.nD Cert.AdamwIdeal.τ).loc Cert.AdamwIdeal.main_arg28)
          ∧ r.2.mem ((c.tc : Thread Cert.AdamwIdeal.nD Cert.AdamwIdeal.τ).loc Cert.AdamwIdeal.main_arg29) = m ((c.tc : Thread Cert.AdamwIdeal.nD Cert.AdamwIdeal.τ).loc Cert.AdamwIdeal.main_arg29)
          ∧ r.2.mem ((c.tc : Thread Cert.AdamwIdeal.nD Cert.AdamwIdeal.τ).loc Cert.AdamwIdeal.main_arg30) = m ((c.tc : Thread Cert.AdamwIdeal.nD Cert.AdamwIdeal.τ).loc Cert.AdamwIdeal.main_arg30)
          ∧ r.2.mem ((c.tc : Thread Cert.AdamwIdeal.nD Cert.AdamwIdeal.τ).loc Cert.AdamwIdeal.main_arg31) = m ((c.tc : Thread Cert.AdamwIdeal.nD Cert.AdamwIdeal.τ).loc Cert.AdamwIdeal.main_arg31)
          ∧ r.2.mem ((c.tc : Thread Cert.AdamwIdeal.nD Cert.AdamwIdeal.τ).loc Cert.AdamwIdeal.main_arg32) = m ((c.tc : Thread Cert.AdamwIdeal.nD Cert.AdamwIdeal.τ).loc Cert.AdamwIdeal.main_arg32)
          ∧ r.2.mem ((c.tc : Thread Cert.AdamwIdeal.nD Cert.AdamwIdeal.τ).loc Cert.AdamwIdeal.main_arg33) = m ((c.tc : Thread Cert.AdamwIdeal.nD Cert.AdamwIdeal.τ).loc Cert.AdamwIdeal.main_arg33)
          ∧ r.2.mem ((c.tc : Thread Cert.AdamwIdeal.nD Cert.AdamwIdeal.τ).loc Cert.AdamwIdeal.main_arg34) = m ((c.tc : Thread Cert.AdamwIdeal.nD Cert.AdamwIdeal.τ).loc Cert.AdamwIdeal.main_arg34)
          ∧ r.2.mem ((c.tc : Thread Cert.AdamwIdeal.nD Cert.AdamwIdeal.τ).loc Cert.AdamwIdeal.main_arg35) = m ((c.tc : Thread Cert.AdamwIdeal.nD Cert.AdamwIdeal.τ).loc Cert.AdamwIdeal.main_arg35)
          ∧ r.2.mem ((c.tc : Thread Cert.AdamwIdeal.nD Cert.AdamwIdeal.τ).loc Cert.AdamwIdeal.main_arg36) = m ((c.tc : Thread Cert.AdamwIdeal.nD Cert.AdamwIdeal.τ).loc Cert.AdamwIdeal.main_arg36)
          ∧ r.2.mem ((c.tc : Thread Cert.AdamwIdeal.nD Cert.AdamwIdeal.τ).loc Cert.AdamwIdeal.main_arg37) = m ((c.tc : Thread Cert.AdamwIdeal.nD Cert.AdamwIdeal.τ).loc Cert.AdamwIdeal.main_arg37)
          ∧ r.2.mem ((c.tc : Thread Cert.AdamwIdeal.nD Cert.AdamwIdeal.τ).loc Cert.AdamwIdeal.main_arg38) = m ((c.tc : Thread Cert.AdamwIdeal.nD Cert.AdamwIdeal.τ).loc Cert.AdamwIdeal.main_arg38)
          ∧ r.2.mem ((c.tc : Thread Cert.AdamwIdeal.nD Cert.AdamwIdeal.τ).loc Cert.AdamwIdeal.main_arg39) = m ((c.tc : Thread Cert.AdamwIdeal.nD Cert.AdamwIdeal.τ).loc Cert.AdamwIdeal.main_arg39)
          ∧ r.2.mem ((c.tc : Thread Cert.AdamwIdeal.nD Cert.AdamwIdeal.τ).loc Cert.AdamwIdeal.main_arg40) = m ((c.tc : Thread Cert.AdamwIdeal.nD Cert.AdamwIdeal.τ).loc Cert.AdamwIdeal.main_arg40)
          ∧ r.2.mem ((c.tc : Thread Cert.AdamwIdeal.nD Cert.AdamwIdeal.τ).loc Cert.AdamwIdeal.main_arg41) = m ((c.tc : Thread Cert.AdamwIdeal.nD Cert.AdamwIdeal.τ).loc Cert.AdamwIdeal.main_arg41)
          ∧ r.2.mem ((c.tc : Thread Cert.AdamwIdeal.nD Cert.AdamwIdeal.τ).loc Cert.AdamwIdeal.main_arg42) = m ((c.tc : Thread Cert.AdamwIdeal.nD Cert.AdamwIdeal.τ).loc Cert.AdamwIdeal.main_arg42)
          ∧ r.2.mem ((c.tc : Thread Cert.AdamwIdeal.nD Cert.AdamwIdeal.τ).loc Cert.AdamwIdeal.main_arg43) = m ((c.tc : Thread Cert.AdamwIdeal.nD Cert.AdamwIdeal.τ).loc Cert.AdamwIdeal.main_arg43)
          ∧ r.2.mem ((c.tc : Thread Cert.AdamwIdeal.nD Cert.AdamwIdeal.τ).loc Cert.AdamwIdeal.main_arg44) = m ((c.tc : Thread Cert.AdamwIdeal.nD Cert.AdamwIdeal.τ).loc Cert.AdamwIdeal.main_arg44)
          ∧ r.2.mem ((c.tc : Thread Cert.AdamwIdeal.nD Cert.AdamwIdeal.τ).loc Cert.AdamwIdeal.main_arg45) = m ((c.tc : Thread Cert.AdamwIdeal.nD Cert.AdamwIdeal.τ).loc Cert.AdamwIdeal.main_arg45)
          ∧ r.2.mem ((c.tc : Thread Cert.AdamwIdeal.nD Cert.AdamwIdeal.τ).loc Cert.AdamwIdeal.main_arg46) = m ((c.tc : Thread Cert.AdamwIdeal.nD Cert.AdamwIdeal.τ).loc Cert.AdamwIdeal.main_arg46)
          ∧ r.2.mem ((c.tc : Thread Cert.AdamwIdeal.nD Cert.AdamwIdeal.τ).loc Cert.AdamwIdeal.main_arg47) = m ((c.tc : Thread Cert.AdamwIdeal.nD Cert.AdamwIdeal.τ).loc Cert.AdamwIdeal.main_arg47)
          ∧ r.2.mem ((c.tc : Thread Cert.AdamwIdeal.nD Cert.AdamwIdeal.τ).loc Cert.AdamwIdeal.main_arg48) = m ((c.tc : Thread Cert.AdamwIdeal.nD Cert.AdamwIdeal.τ).loc Cert.AdamwIdeal.main_arg48)
          ∧ r.2.mem ((c.tc : Thread Cert.AdamwIdeal.nD Cert.AdamwIdeal.τ).loc Cert.AdamwIdeal.main_arg49) = m ((c.tc : Thread Cert.AdamwIdeal.nD Cert.AdamwIdeal.τ).loc Cert.AdamwIdeal.main_arg49)
          ∧ r.2.mem ((c.tc : Thread Cert.AdamwIdeal.nD Cert.AdamwIdeal.τ).loc Cert.AdamwIdeal.main_arg50) = m ((c.tc : Thread Cert.AdamwIdeal.nD Cert.AdamwIdeal.τ).loc Cert.AdamwIdeal.main_arg50)
          ∧ r.2.mem ((c.tc : Thread Cert.AdamwIdeal.nD Cert.AdamwIdeal.τ).loc Cert.AdamwIdeal.main_arg51) = m ((c.tc : Thread Cert.AdamwIdeal.nD Cert.AdamwIdeal.τ).loc Cert.AdamwIdeal.main_arg51)
          ∧ r.2.mem ((c.tc : Thread Cert.AdamwIdeal.nD Cert.AdamwIdeal.τ).loc Cert.AdamwIdeal.main_arg52) = m ((c.tc : Thread Cert.AdamwIdeal.nD Cert.AdamwIdeal.τ).loc Cert.AdamwIdeal.main_arg52)
          ∧ r.2.mem ((c.tc : Thread Cert.AdamwIdeal.nD Cert.AdamwIdeal.τ).loc Cert.AdamwIdeal.main_arg53) = m ((c.tc : Thread Cert.AdamwIdeal.nD Cert.AdamwIdeal.τ).loc Cert.AdamwIdeal.main_arg53)
          ∧ r.2.mem ((c.tc : Thread Cert.AdamwIdeal.nD Cert.AdamwIdeal.τ).loc Cert.AdamwIdeal.main_arg54) = m ((c.tc : Thread Cert.AdamwIdeal.nD Cert.AdamwIdeal.τ).loc Cert.AdamwIdeal.main_arg54)
          ∧ r.2.mem ((c.tc : Thread Cert.AdamwIdeal.nD Cert.AdamwIdeal.τ).loc Cert.AdamwIdeal.main_arg55) = m ((c.tc : Thread Cert.AdamwIdeal.nD Cert.AdamwIdeal.τ).loc Cert.AdamwIdeal.main_arg55)
          ∧ r.2.mem ((c.tc : Thread Cert.AdamwIdeal.nD Cert.AdamwIdeal.τ).loc Cert.AdamwIdeal.main_arg56) = m ((c.tc : Thread Cert.AdamwIdeal.nD Cert.AdamwIdeal.τ).loc Cert.AdamwIdeal.main_arg56)
          ∧ r.2.mem ((c.tc : Thread Cert.AdamwIdeal.nD Cert.AdamwIdeal.τ).loc Cert.AdamwIdeal.main_arg57) = m ((c.tc : Thread Cert.AdamwIdeal.nD Cert.AdamwIdeal.τ).loc Cert.AdamwIdeal.main_arg57)
          ∧ r.2.mem ((c.tc : Thread Cert.AdamwIdeal.nD Cert.AdamwIdeal.τ).loc Cert.AdamwIdeal.main_arg58) = m ((c.tc : Thread Cert.AdamwIdeal.nD Cert.AdamwIdeal.τ).loc Cert.AdamwIdeal.main_arg58)
          ∧ r.2.mem ((c.tc : Thread Cert.AdamwIdeal.nD Cert.AdamwIdeal.τ).loc Cert.AdamwIdeal.main_arg59) = m ((c.tc : Thread Cert.AdamwIdeal.nD Cert.AdamwIdeal.τ).loc Cert.AdamwIdeal.main_arg59)
          ∧ r.2.mem ((c.tc : Thread Cert.AdamwIdeal.nD Cert.AdamwIdeal.τ).loc Cert.AdamwIdeal.main_arg60) = m ((c.tc : Thread Cert.AdamwIdeal.nD Cert.AdamwIdeal.τ).loc Cert.AdamwIdeal.main_arg60)
          ∧ r.2.mem ((c.tc : Thread Cert.AdamwIdeal.nD Cert.AdamwIdeal.τ).loc Cert.AdamwIdeal.main_arg61) = m ((c.tc : Thread Cert.AdamwIdeal.nD Cert.AdamwIdeal.τ).loc Cert.AdamwIdeal.main_arg61)
          ∧ r.2.mem ((c.tc : Thread Cert.AdamwIdeal.nD Cert.AdamwIdeal.τ).loc Cert.AdamwIdeal.main_arg62) = m ((c.tc : Thread Cert.AdamwIdeal.nD Cert.AdamwIdeal.τ).loc Cert.AdamwIdeal.main_arg62)
          ∧ r.2.mem ((c.tc : Thread Cert.AdamwIdeal.nD Cert.AdamwIdeal.τ).loc Cert.AdamwIdeal.main_arg63) = m ((c.tc : Thread Cert.AdamwIdeal.nD Cert.AdamwIdeal.τ).loc Cert.AdamwIdeal.main_arg63))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v409) = v0 c
          ∧ r.2.mem ((c.tc : Thread Cert.AdamwRefIdeal.nD Cert.AdamwRefIdeal.τ).loc Cert.AdamwRefIdeal.main_v435) = v1 c
          ∧ r.2.mem ((c.tc : Thread Cert.AdamwRefIdeal.nD Cert.AdamwRefIdeal.τ).loc Cert.AdamwRefIdeal.main_v461) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5)
          ∧ r.2.mem ((c.tc : Thread Cert.AdamwRefIdeal.nD Cert.AdamwRefIdeal.τ).loc Cert.AdamwRefIdeal.main_arg6) = m' ((c.tc : Thread Cert.AdamwRefIdeal.nD Cert.AdamwRefIdeal.τ).loc Cert.AdamwRefIdeal.main_arg6)
          ∧ r.2.mem ((c.tc : Thread Cert.AdamwRefIdeal.nD Cert.AdamwRefIdeal.τ).loc Cert.AdamwRefIdeal.main_arg7) = m' ((c.tc : Thread Cert.AdamwRefIdeal.nD Cert.AdamwRefIdeal.τ).loc Cert.AdamwRefIdeal.main_arg7)
          ∧ r.2.mem ((c.tc : Thread Cert.AdamwRefIdeal.nD Cert.AdamwRefIdeal.τ).loc Cert.AdamwRefIdeal.main_arg8) = m' ((c.tc : Thread Cert.AdamwRefIdeal.nD Cert.AdamwRefIdeal.τ).loc Cert.AdamwRefIdeal.main_arg8)
          ∧ r.2.mem ((c.tc : Thread Cert.AdamwRefIdeal.nD Cert.AdamwRefIdeal.τ).loc Cert.AdamwRefIdeal.main_arg9) = m' ((c.tc : Thread Cert.AdamwRefIdeal.nD Cert.AdamwRefIdeal.τ).loc Cert.AdamwRefIdeal.main_arg9)
          ∧ r.2.mem ((c.tc : Thread Cert.AdamwRefIdeal.nD Cert.AdamwRefIdeal.τ).loc Cert.AdamwRefIdeal.main_arg10) = m' ((c.tc : Thread Cert.AdamwRefIdeal.nD Cert.AdamwRefIdeal.τ).loc Cert.AdamwRefIdeal.main_arg10)
          ∧ r.2.mem ((c.tc : Thread Cert.AdamwRefIdeal.nD Cert.AdamwRefIdeal.τ).loc Cert.AdamwRefIdeal.main_arg11) = m' ((c.tc : Thread Cert.AdamwRefIdeal.nD Cert.AdamwRefIdeal.τ).loc Cert.AdamwRefIdeal.main_arg11)
          ∧ r.2.mem ((c.tc : Thread Cert.AdamwRefIdeal.nD Cert.AdamwRefIdeal.τ).loc Cert.AdamwRefIdeal.main_arg12) = m' ((c.tc : Thread Cert.AdamwRefIdeal.nD Cert.AdamwRefIdeal.τ).loc Cert.AdamwRefIdeal.main_arg12)
          ∧ r.2.mem ((c.tc : Thread Cert.AdamwRefIdeal.nD Cert.AdamwRefIdeal.τ).loc Cert.AdamwRefIdeal.main_arg13) = m' ((c.tc : Thread Cert.AdamwRefIdeal.nD Cert.AdamwRefIdeal.τ).loc Cert.AdamwRefIdeal.main_arg13)
          ∧ r.2.mem ((c.tc : Thread Cert.AdamwRefIdeal.nD Cert.AdamwRefIdeal.τ).loc Cert.AdamwRefIdeal.main_arg14) = m' ((c.tc : Thread Cert.AdamwRefIdeal.nD Cert.AdamwRefIdeal.τ).loc Cert.AdamwRefIdeal.main_arg14)
          ∧ r.2.mem ((c.tc : Thread Cert.AdamwRefIdeal.nD Cert.AdamwRefIdeal.τ).loc Cert.AdamwRefIdeal.main_arg15) = m' ((c.tc : Thread Cert.AdamwRefIdeal.nD Cert.AdamwRefIdeal.τ).loc Cert.AdamwRefIdeal.main_arg15)
          ∧ r.2.mem ((c.tc : Thread Cert.AdamwRefIdeal.nD Cert.AdamwRefIdeal.τ).loc Cert.AdamwRefIdeal.main_arg16) = m' ((c.tc : Thread Cert.AdamwRefIdeal.nD Cert.AdamwRefIdeal.τ).loc Cert.AdamwRefIdeal.main_arg16)
          ∧ r.2.mem ((c.tc : Thread Cert.AdamwRefIdeal.nD Cert.AdamwRefIdeal.τ).loc Cert.AdamwRefIdeal.main_arg17) = m' ((c.tc : Thread Cert.AdamwRefIdeal.nD Cert.AdamwRefIdeal.τ).loc Cert.AdamwRefIdeal.main_arg17)
          ∧ r.2.mem ((c.tc : Thread Cert.AdamwRefIdeal.nD Cert.AdamwRefIdeal.τ).loc Cert.AdamwRefIdeal.main_arg18) = m' ((c.tc : Thread Cert.AdamwRefIdeal.nD Cert.AdamwRefIdeal.τ).loc Cert.AdamwRefIdeal.main_arg18)
          ∧ r.2.mem ((c.tc : Thread Cert.AdamwRefIdeal.nD Cert.AdamwRefIdeal.τ).loc Cert.AdamwRefIdeal.main_arg19) = m' ((c.tc : Thread Cert.AdamwRefIdeal.nD Cert.AdamwRefIdeal.τ).loc Cert.AdamwRefIdeal.main_arg19)
          ∧ r.2.mem ((c.tc : Thread Cert.AdamwRefIdeal.nD Cert.AdamwRefIdeal.τ).loc Cert.AdamwRefIdeal.main_arg20) = m' ((c.tc : Thread Cert.AdamwRefIdeal.nD Cert.AdamwRefIdeal.τ).loc Cert.AdamwRefIdeal.main_arg20)
          ∧ r.2.mem ((c.tc : Thread Cert.AdamwRefIdeal.nD Cert.AdamwRefIdeal.τ).loc Cert.AdamwRefIdeal.main_arg21) = m' ((c.tc : Thread Cert.AdamwRefIdeal.nD Cert.AdamwRefIdeal.τ).loc Cert.AdamwRefIdeal.main_arg21)
          ∧ r.2.mem ((c.tc : Thread Cert.AdamwRefIdeal.nD Cert.AdamwRefIdeal.τ).loc Cert.AdamwRefIdeal.main_arg22) = m' ((c.tc : Thread Cert.AdamwRefIdeal.nD Cert.AdamwRefIdeal.τ).loc Cert.AdamwRefIdeal.main_arg22)
          ∧ r.2.mem ((c.tc : Thread Cert.AdamwRefIdeal.nD Cert.AdamwRefIdeal.τ).loc Cert.AdamwRefIdeal.main_arg23) = m' ((c.tc : Thread Cert.AdamwRefIdeal.nD Cert.AdamwRefIdeal.τ).loc Cert.AdamwRefIdeal.main_arg23)
          ∧ r.2.mem ((c.tc : Thread Cert.AdamwRefIdeal.nD Cert.AdamwRefIdeal.τ).loc Cert.AdamwRefIdeal.main_arg24) = m' ((c.tc : Thread Cert.AdamwRefIdeal.nD Cert.AdamwRefIdeal.τ).loc Cert.AdamwRefIdeal.main_arg24)
          ∧ r.2.mem ((c.tc : Thread Cert.AdamwRefIdeal.nD Cert.AdamwRefIdeal.τ).loc Cert.AdamwRefIdeal.main_arg25) = m' ((c.tc : Thread Cert.AdamwRefIdeal.nD Cert.AdamwRefIdeal.τ).loc Cert.AdamwRefIdeal.main_arg25)
          ∧ r.2.mem ((c.tc : Thread Cert.AdamwRefIdeal.nD Cert.AdamwRefIdeal.τ).loc Cert.AdamwRefIdeal.main_arg26) = m' ((c.tc : Thread Cert.AdamwRefIdeal.nD Cert.AdamwRefIdeal.τ).loc Cert.AdamwRefIdeal.main_arg26)
          ∧ r.2.mem ((c.tc : Thread Cert.AdamwRefIdeal.nD Cert.AdamwRefIdeal.τ).loc Cert.AdamwRefIdeal.main_arg27) = m' ((c.tc : Thread Cert.AdamwRefIdeal.nD Cert.AdamwRefIdeal.τ).loc Cert.AdamwRefIdeal.main_arg27)
          ∧ r.2.mem ((c.tc : Thread Cert.AdamwRefIdeal.nD Cert.AdamwRefIdeal.τ).loc Cert.AdamwRefIdeal.main_arg28) = m' ((c.tc : Thread Cert.AdamwRefIdeal.nD Cert.AdamwRefIdeal.τ).loc Cert.AdamwRefIdeal.main_arg28)
          ∧ r.2.mem ((c.tc : Thread Cert.AdamwRefIdeal.nD Cert.AdamwRefIdeal.τ).loc Cert.AdamwRefIdeal.main_arg29) = m' ((c.tc : Thread Cert.AdamwRefIdeal.nD Cert.AdamwRefIdeal.τ).loc Cert.AdamwRefIdeal.main_arg29)
          ∧ r.2.mem ((c.tc : Thread Cert.AdamwRefIdeal.nD Cert.AdamwRefIdeal.τ).loc Cert.AdamwRefIdeal.main_arg30) = m' ((c.tc : Thread Cert.AdamwRefIdeal.nD Cert.AdamwRefIdeal.τ).loc Cert.AdamwRefIdeal.main_arg30)
          ∧ r.2.mem ((c.tc : Thread Cert.AdamwRefIdeal.nD Cert.AdamwRefIdeal.τ).loc Cert.AdamwRefIdeal.main_arg31) = m' ((c.tc : Thread Cert.AdamwRefIdeal.nD Cert.AdamwRefIdeal.τ).loc Cert.AdamwRefIdeal.main_arg31)
          ∧ r.2.mem ((c.tc : Thread Cert.AdamwRefIdeal.nD Cert.AdamwRefIdeal.τ).loc Cert.AdamwRefIdeal.main_arg32) = m' ((c.tc : Thread Cert.AdamwRefIdeal.nD Cert.AdamwRefIdeal.τ).loc Cert.AdamwRefIdeal.main_arg32)
          ∧ r.2.mem ((c.tc : Thread Cert.AdamwRefIdeal.nD Cert.AdamwRefIdeal.τ).loc Cert.AdamwRefIdeal.main_arg33) = m' ((c.tc : Thread Cert.AdamwRefIdeal.nD Cert.AdamwRefIdeal.τ).loc Cert.AdamwRefIdeal.main_arg33)
          ∧ r.2.mem ((c.tc : Thread Cert.AdamwRefIdeal.nD Cert.AdamwRefIdeal.τ).loc Cert.AdamwRefIdeal.main_arg34) = m' ((c.tc : Thread Cert.AdamwRefIdeal.nD Cert.AdamwRefIdeal.τ).loc Cert.AdamwRefIdeal.main_arg34)
          ∧ r.2.mem ((c.tc : Thread Cert.AdamwRefIdeal.nD Cert.AdamwRefIdeal.τ).loc Cert.AdamwRefIdeal.main_arg35) = m' ((c.tc : Thread Cert.AdamwRefIdeal.nD Cert.AdamwRefIdeal.τ).loc Cert.AdamwRefIdeal.main_arg35)
          ∧ r.2.mem ((c.tc : Thread Cert.AdamwRefIdeal.nD Cert.AdamwRefIdeal.τ).loc Cert.AdamwRefIdeal.main_arg36) = m' ((c.tc : Thread Cert.AdamwRefIdeal.nD Cert.AdamwRefIdeal.τ).loc Cert.AdamwRefIdeal.main_arg36)
          ∧ r.2.mem ((c.tc : Thread Cert.AdamwRefIdeal.nD Cert.AdamwRefIdeal.τ).loc Cert.AdamwRefIdeal.main_arg37) = m' ((c.tc : Thread Cert.AdamwRefIdeal.nD Cert.AdamwRefIdeal.τ).loc Cert.AdamwRefIdeal.main_arg37)
          ∧ r.2.mem ((c.tc : Thread Cert.AdamwRefIdeal.nD Cert.AdamwRefIdeal.τ).loc Cert.AdamwRefIdeal.main_arg38) = m' ((c.tc : Thread Cert.AdamwRefIdeal.nD Cert.AdamwRefIdeal.τ).loc Cert.AdamwRefIdeal.main_arg38)
          ∧ r.2.mem ((c.tc : Thread Cert.AdamwRefIdeal.nD Cert.AdamwRefIdeal.τ).loc Cert.AdamwRefIdeal.main_arg39) = m' ((c.tc : Thread Cert.AdamwRefIdeal.nD Cert.AdamwRefIdeal.τ).loc Cert.AdamwRefIdeal.main_arg39)
          ∧ r.2.mem ((c.tc : Thread Cert.AdamwRefIdeal.nD Cert.AdamwRefIdeal.τ).loc Cert.AdamwRefIdeal.main_arg40) = m' ((c.tc : Thread Cert.AdamwRefIdeal.nD Cert.AdamwRefIdeal.τ).loc Cert.AdamwRefIdeal.main_arg40)
          ∧ r.2.mem ((c.tc : Thread Cert.AdamwRefIdeal.nD Cert.AdamwRefIdeal.τ).loc Cert.AdamwRefIdeal.main_arg41) = m' ((c.tc : Thread Cert.AdamwRefIdeal.nD Cert.AdamwRefIdeal.τ).loc Cert.AdamwRefIdeal.main_arg41)
          ∧ r.2.mem ((c.tc : Thread Cert.AdamwRefIdeal.nD Cert.AdamwRefIdeal.τ).loc Cert.AdamwRefIdeal.main_arg42) = m' ((c.tc : Thread Cert.AdamwRefIdeal.nD Cert.AdamwRefIdeal.τ).loc Cert.AdamwRefIdeal.main_arg42)
          ∧ r.2.mem ((c.tc : Thread Cert.AdamwRefIdeal.nD Cert.AdamwRefIdeal.τ).loc Cert.AdamwRefIdeal.main_arg43) = m' ((c.tc : Thread Cert.AdamwRefIdeal.nD Cert.AdamwRefIdeal.τ).loc Cert.AdamwRefIdeal.main_arg43)
          ∧ r.2.mem ((c.tc : Thread Cert.AdamwRefIdeal.nD Cert.AdamwRefIdeal.τ).loc Cert.AdamwRefIdeal.main_arg44) = m' ((c.tc : Thread Cert.AdamwRefIdeal.nD Cert.AdamwRefIdeal.τ).loc Cert.AdamwRefIdeal.main_arg44)
          ∧ r.2.mem ((c.tc : Thread Cert.AdamwRefIdeal.nD Cert.AdamwRefIdeal.τ).loc Cert.AdamwRefIdeal.main_arg45) = m' ((c.tc : Thread Cert.AdamwRefIdeal.nD Cert.AdamwRefIdeal.τ).loc Cert.AdamwRefIdeal.main_arg45)
          ∧ r.2.mem ((c.tc : Thread Cert.AdamwRefIdeal.nD Cert.AdamwRefIdeal.τ).loc Cert.AdamwRefIdeal.main_arg46) = m' ((c.tc : Thread Cert.AdamwRefIdeal.nD Cert.AdamwRefIdeal.τ).loc Cert.AdamwRefIdeal.main_arg46)
          ∧ r.2.mem ((c.tc : Thread Cert.AdamwRefIdeal.nD Cert.AdamwRefIdeal.τ).loc Cert.AdamwRefIdeal.main_arg47) = m' ((c.tc : Thread Cert.AdamwRefIdeal.nD Cert.AdamwRefIdeal.τ).loc Cert.AdamwRefIdeal.main_arg47)
          ∧ r.2.mem ((c.tc : Thread Cert.AdamwRefIdeal.nD Cert.AdamwRefIdeal.τ).loc Cert.AdamwRefIdeal.main_arg48) = m' ((c.tc : Thread Cert.AdamwRefIdeal.nD Cert.AdamwRefIdeal.τ).loc Cert.AdamwRefIdeal.main_arg48)
          ∧ r.2.mem ((c.tc : Thread Cert.AdamwRefIdeal.nD Cert.AdamwRefIdeal.τ).loc Cert.AdamwRefIdeal.main_arg49) = m' ((c.tc : Thread Cert.AdamwRefIdeal.nD Cert.AdamwRefIdeal.τ).loc Cert.AdamwRefIdeal.main_arg49)
          ∧ r.2.mem ((c.tc : Thread Cert.AdamwRefIdeal.nD Cert.AdamwRefIdeal.τ).loc Cert.AdamwRefIdeal.main_arg50) = m' ((c.tc : Thread Cert.AdamwRefIdeal.nD Cert.AdamwRefIdeal.τ).loc Cert.AdamwRefIdeal.main_arg50)
          ∧ r.2.mem ((c.tc : Thread Cert.AdamwRefIdeal.nD Cert.AdamwRefIdeal.τ).loc Cert.AdamwRefIdeal.main_arg51) = m' ((c.tc : Thread Cert.AdamwRefIdeal.nD Cert.AdamwRefIdeal.τ).loc Cert.AdamwRefIdeal.main_arg51)
          ∧ r.2.mem ((c.tc : Thread Cert.AdamwRefIdeal.nD Cert.AdamwRefIdeal.τ).loc Cert.AdamwRefIdeal.main_arg52) = m' ((c.tc : Thread Cert.AdamwRefIdeal.nD Cert.AdamwRefIdeal.τ).loc Cert.AdamwRefIdeal.main_arg52)
          ∧ r.2.mem ((c.tc : Thread Cert.AdamwRefIdeal.nD Cert.AdamwRefIdeal.τ).loc Cert.AdamwRefIdeal.main_arg53) = m' ((c.tc : Thread Cert.AdamwRefIdeal.nD Cert.AdamwRefIdeal.τ).loc Cert.AdamwRefIdeal.main_arg53)
          ∧ r.2.mem ((c.tc : Thread Cert.AdamwRefIdeal.nD Cert.AdamwRefIdeal.τ).loc Cert.AdamwRefIdeal.main_arg54) = m' ((c.tc : Thread Cert.AdamwRefIdeal.nD Cert.AdamwRefIdeal.τ).loc Cert.AdamwRefIdeal.main_arg54)
          ∧ r.2.mem ((c.tc : Thread Cert.AdamwRefIdeal.nD Cert.AdamwRefIdeal.τ).loc Cert.AdamwRefIdeal.main_arg55) = m' ((c.tc : Thread Cert.AdamwRefIdeal.nD Cert.AdamwRefIdeal.τ).loc Cert.AdamwRefIdeal.main_arg55)
          ∧ r.2.mem ((c.tc : Thread Cert.AdamwRefIdeal.nD Cert.AdamwRefIdeal.τ).loc Cert.AdamwRefIdeal.main_arg56) = m' ((c.tc : Thread Cert.AdamwRefIdeal.nD Cert.AdamwRefIdeal.τ).loc Cert.AdamwRefIdeal.main_arg56)
          ∧ r.2.mem ((c.tc : Thread Cert.AdamwRefIdeal.nD Cert.AdamwRefIdeal.τ).loc Cert.AdamwRefIdeal.main_arg57) = m' ((c.tc : Thread Cert.AdamwRefIdeal.nD Cert.AdamwRefIdeal.τ).loc Cert.AdamwRefIdeal.main_arg57)
          ∧ r.2.mem ((c.tc : Thread Cert.AdamwRefIdeal.nD Cert.AdamwRefIdeal.τ).loc Cert.AdamwRefIdeal.main_arg58) = m' ((c.tc : Thread Cert.AdamwRefIdeal.nD Cert.AdamwRefIdeal.τ).loc Cert.AdamwRefIdeal.main_arg58)
          ∧ r.2.mem ((c.tc : Thread Cert.AdamwRefIdeal.nD Cert.AdamwRefIdeal.τ).loc Cert.AdamwRefIdeal.main_arg59) = m' ((c.tc : Thread Cert.AdamwRefIdeal.nD Cert.AdamwRefIdeal.τ).loc Cert.AdamwRefIdeal.main_arg59)
          ∧ r.2.mem ((c.tc : Thread Cert.AdamwRefIdeal.nD Cert.AdamwRefIdeal.τ).loc Cert.AdamwRefIdeal.main_arg60) = m' ((c.tc : Thread Cert.AdamwRefIdeal.nD Cert.AdamwRefIdeal.τ).loc Cert.AdamwRefIdeal.main_arg60)
          ∧ r.2.mem ((c.tc : Thread Cert.AdamwRefIdeal.nD Cert.AdamwRefIdeal.τ).loc Cert.AdamwRefIdeal.main_arg61) = m' ((c.tc : Thread Cert.AdamwRefIdeal.nD Cert.AdamwRefIdeal.τ).loc Cert.AdamwRefIdeal.main_arg61)
          ∧ r.2.mem ((c.tc : Thread Cert.AdamwRefIdeal.nD Cert.AdamwRefIdeal.τ).loc Cert.AdamwRefIdeal.main_arg62) = m' ((c.tc : Thread Cert.AdamwRefIdeal.nD Cert.AdamwRefIdeal.τ).loc Cert.AdamwRefIdeal.main_arg62)
          ∧ r.2.mem ((c.tc : Thread Cert.AdamwRefIdeal.nD Cert.AdamwRefIdeal.τ).loc Cert.AdamwRefIdeal.main_arg63) = m' ((c.tc : Thread Cert.AdamwRefIdeal.nD Cert.AdamwRefIdeal.τ).loc Cert.AdamwRefIdeal.main_arg63))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v9) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_GluProj_GluProjIdeal : Prop :=
  True

def algebraic_GluProjIdeal_GluProjRefIdeal [hGluProjIdeal : Cert.GluProjIdeal.Facts] [hGluProjRefIdeal : Cert.GluProjRefIdeal.Facts] : Prop :=
  ∀ (m : (ℓ : Loc Cert.GluProjIdeal.nD Cert.GluProjIdeal.τ Cert.GluProjIdeal.sig) → Buf (Elt Ideal) ℓ) (g : Dev Cert.GluProjIdeal.nD → PrngReg)
    (m' : (ℓ : Loc Cert.GluProjRefIdeal.nD Cert.GluProjRefIdeal.τ Cert.GluProjRefIdeal.sig) → Buf (Elt Ideal) ℓ) (g' : Dev Cert.GluProjRefIdeal.nD → PrngReg), Pre_GluProjIdeal m →
    (∀ c : Dev Cert.GluProjIdeal.nD,
      m' ((c.tc : Thread Cert.GluProjRefIdeal.nD Cert.GluProjRefIdeal.τ).loc Cert.GluProjRefIdeal.main_arg0) = m ((c.tc : Thread Cert.GluProjIdeal.nD Cert.GluProjIdeal.τ).loc Cert.GluProjIdeal.main_arg0)
      ∧ m' ((c.tc : Thread Cert.GluProjRefIdeal.nD Cert.GluProjRefIdeal.τ).loc Cert.GluProjRefIdeal.main_arg1) = m ((c.tc : Thread Cert.GluProjIdeal.nD Cert.GluProjIdeal.τ).loc Cert.GluProjIdeal.main_arg1)) →
    ∃ (v0 : (c : Dev Cert.GluProjIdeal.nD) → Buf (Elt Ideal) ((c.tc : Thread Cert.GluProjIdeal.nD Cert.GluProjIdeal.τ).loc Cert.GluProjIdeal.main_v4)),
      θ_run (Cert.GluProjIdeal.defs (F := Ideal)) (onTc (τ := Cert.GluProjIdeal.τ) (Cert.GluProjIdeal.main (F := Ideal))) ⟨m, fun _ => 0, g⟩ (fun r => ∀ c : Dev Cert.GluProjIdeal.nD,
          r.2.mem ((c.tc : Thread Cert.GluProjIdeal.nD Cert.GluProjIdeal.τ).loc Cert.GluProjIdeal.main_v4) = v0 c
          ∧ r.2.mem ((c.tc : Thread Cert.GluProjIdeal.nD Cert.GluProjIdeal.τ).loc Cert.GluProjIdeal.main_arg0) = m ((c.tc : Thread Cert.GluProjIdeal.nD Cert.GluProjIdeal.τ).loc Cert.GluProjIdeal.main_arg0)
          ∧ r.2.mem ((c.tc : Thread Cert.GluProjIdeal.nD Cert.GluProjIdeal.τ).loc Cert.GluProjIdeal.main_arg1) = m ((c.tc : Thread Cert.GluProjIdeal.nD Cert.GluProjIdeal.τ).loc Cert.GluProjIdeal.main_arg1))
      ∧ θ_run (Cert.GluProjRefIdeal.defs (F := Ideal)) (onTc (τ := Cert.GluProjRefIdeal.τ) (Cert.GluProjRefIdeal.main (F := Ideal))) ⟨m', fun _ => 0, g'⟩ (fun r => ∀ c : Dev Cert.GluProjRefIdeal.nD,
          r.2.mem ((c.tc : Thread Cert.GluProjRefIdeal.nD Cert.GluProjRefIdeal.τ).loc Cert.GluProjRefIdeal.main_v0) = v0 c
          ∧ r.2.mem ((c.tc : Thread Cert.GluProjRefIdeal.nD Cert.GluProjRefIdeal.τ).loc Cert.GluProjRefIdeal.main_arg0) = m' ((c.tc : Thread Cert.GluProjRefIdeal.nD Cert.GluProjRefIdeal.τ).loc Cert.GluProjRefIdeal.main_arg0)
          ∧ r.2.mem ((c.tc : Thread Cert.GluProjRefIdeal.nD Cert.GluProjRefIdeal.τ).loc Cert.GluProjRefIdeal.main_arg1) = m' ((c.tc : Thread Cert.GluProjRefIdeal.nD Cert.GluProjRefIdeal.τ).loc Cert.GluProjRefIdeal.main_arg1))

def preserves_GluProjDx_GluProjDxIdeal : Prop :=
  True

def algebraic_GluProjDxIdeal_GluProjDxRefIdeal [hGluProjDxIdeal : Cert.GluProjDxIdeal.Facts] [hGluProjDxRefIdeal : Cert.GluProjDxRefIdeal.Facts] : Prop :=
  ∀ (m : (ℓ : Loc Cert.GluProjDxIdeal.nD Cert.GluProjDxIdeal.τ Cert.GluProjDxIdeal.sig) → Buf (Elt Ideal) ℓ) (g : Dev Cert.GluProjDxIdeal.nD → PrngReg)
    (m' : (ℓ : Loc Cert.GluProjDxRefIdeal.nD Cert.GluProjDxRefIdeal.τ Cert.GluProjDxRefIdeal.sig) → Buf (Elt Ideal) ℓ) (g' : Dev Cert.GluProjDxRefIdeal.nD → PrngReg), Pre_GluProjDxIdeal m →
    (∀ c : Dev Cert.GluProjDxIdeal.nD,
      m' ((c.tc : Thread Cert.GluProjDxRefIdeal.nD Cert.GluProjDxRefIdeal.τ).loc Cert.GluProjDxRefIdeal.main_arg0) = m ((c.tc : Thread Cert.GluProjDxIdeal.nD Cert.GluProjDxIdeal.τ).loc Cert.GluProjDxIdeal.main_arg0)
      ∧ m' ((c.tc : Thread Cert.GluProjDxRefIdeal.nD Cert.GluProjDxRefIdeal.τ).loc Cert.GluProjDxRefIdeal.main_arg1) = m ((c.tc : Thread Cert.GluProjDxIdeal.nD Cert.GluProjDxIdeal.τ).loc Cert.GluProjDxIdeal.main_arg1)) →
    ∃ (v0 : (c : Dev Cert.GluProjDxIdeal.nD) → Buf (Elt Ideal) ((c.tc : Thread Cert.GluProjDxIdeal.nD Cert.GluProjDxIdeal.τ).loc Cert.GluProjDxIdeal.main_v4)),
      θ_run (Cert.GluProjDxIdeal.defs (F := Ideal)) (onTc (τ := Cert.GluProjDxIdeal.τ) (Cert.GluProjDxIdeal.main (F := Ideal))) ⟨m, fun _ => 0, g⟩ (fun r => ∀ c : Dev Cert.GluProjDxIdeal.nD,
          r.2.mem ((c.tc : Thread Cert.GluProjDxIdeal.nD Cert.GluProjDxIdeal.τ).loc Cert.GluProjDxIdeal.main_v4) = v0 c
          ∧ r.2.mem ((c.tc : Thread Cert.GluProjDxIdeal.nD Cert.GluProjDxIdeal.τ).loc Cert.GluProjDxIdeal.main_arg0) = m ((c.tc : Thread Cert.GluProjDxIdeal.nD Cert.GluProjDxIdeal.τ).loc Cert.GluProjDxIdeal.main_arg0)
          ∧ r.2.mem ((c.tc : Thread Cert.GluProjDxIdeal.nD Cert.GluProjDxIdeal.τ).loc Cert.GluProjDxIdeal.main_arg1) = m ((c.tc : Thread Cert.GluProjDxIdeal.nD Cert.GluProjDxIdeal.τ).loc Cert.GluProjDxIdeal.main_arg1))
      ∧ θ_run (Cert.GluProjDxRefIdeal.defs (F := Ideal)) (onTc (τ := Cert.GluProjDxRefIdeal.τ) (Cert.GluProjDxRefIdeal.main (F := Ideal))) ⟨m', fun _ => 0, g'⟩ (fun r => ∀ c : Dev Cert.GluProjDxRefIdeal.nD,
          r.2.mem ((c.tc : Thread Cert.GluProjDxRefIdeal.nD Cert.GluProjDxRefIdeal.τ).loc Cert.GluProjDxRefIdeal.main_v2) = v0 c
          ∧ r.2.mem ((c.tc : Thread Cert.GluProjDxRefIdeal.nD Cert.GluProjDxRefIdeal.τ).loc Cert.GluProjDxRefIdeal.main_arg0) = m' ((c.tc : Thread Cert.GluProjDxRefIdeal.nD Cert.GluProjDxRefIdeal.τ).loc Cert.GluProjDxRefIdeal.main_arg0)
          ∧ r.2.mem ((c.tc : Thread Cert.GluProjDxRefIdeal.nD Cert.GluProjDxRefIdeal.τ).loc Cert.GluProjDxRefIdeal.main_arg1) = m' ((c.tc : Thread Cert.GluProjDxRefIdeal.nD Cert.GluProjDxRefIdeal.τ).loc Cert.GluProjDxRefIdeal.main_arg1))

def preserves_GluProjDw_GluProjDwIdeal : Prop :=
  True

def algebraic_GluProjDwIdeal_GluProjDwRefIdeal [hGluProjDwIdeal : Cert.GluProjDwIdeal.Facts] [hGluProjDwRefIdeal : Cert.GluProjDwRefIdeal.Facts] : Prop :=
  ∀ (m : (ℓ : Loc Cert.GluProjDwIdeal.nD Cert.GluProjDwIdeal.τ Cert.GluProjDwIdeal.sig) → Buf (Elt Ideal) ℓ) (g : Dev Cert.GluProjDwIdeal.nD → PrngReg)
    (m' : (ℓ : Loc Cert.GluProjDwRefIdeal.nD Cert.GluProjDwRefIdeal.τ Cert.GluProjDwRefIdeal.sig) → Buf (Elt Ideal) ℓ) (g' : Dev Cert.GluProjDwRefIdeal.nD → PrngReg), Pre_GluProjDwIdeal m →
    (∀ c : Dev Cert.GluProjDwIdeal.nD,
      m' ((c.tc : Thread Cert.GluProjDwRefIdeal.nD Cert.GluProjDwRefIdeal.τ).loc Cert.GluProjDwRefIdeal.main_arg0) = m ((c.tc : Thread Cert.GluProjDwIdeal.nD Cert.GluProjDwIdeal.τ).loc Cert.GluProjDwIdeal.main_arg0)
      ∧ m' ((c.tc : Thread Cert.GluProjDwRefIdeal.nD Cert.GluProjDwRefIdeal.τ).loc Cert.GluProjDwRefIdeal.main_arg1) = m ((c.tc : Thread Cert.GluProjDwIdeal.nD Cert.GluProjDwIdeal.τ).loc Cert.GluProjDwIdeal.main_arg1)) →
    ∃ (v0 : (c : Dev Cert.GluProjDwIdeal.nD) → Buf (Elt Ideal) ((c.tc : Thread Cert.GluProjDwIdeal.nD Cert.GluProjDwIdeal.τ).loc Cert.GluProjDwIdeal.main_v2)),
      θ_run (Cert.GluProjDwIdeal.defs (F := Ideal)) (onTc (τ := Cert.GluProjDwIdeal.τ) (Cert.GluProjDwIdeal.main (F := Ideal))) ⟨m, fun _ => 0, g⟩ (fun r => ∀ c : Dev Cert.GluProjDwIdeal.nD,
          r.2.mem ((c.tc : Thread Cert.GluProjDwIdeal.nD Cert.GluProjDwIdeal.τ).loc Cert.GluProjDwIdeal.main_v2) = v0 c
          ∧ r.2.mem ((c.tc : Thread Cert.GluProjDwIdeal.nD Cert.GluProjDwIdeal.τ).loc Cert.GluProjDwIdeal.main_arg0) = m ((c.tc : Thread Cert.GluProjDwIdeal.nD Cert.GluProjDwIdeal.τ).loc Cert.GluProjDwIdeal.main_arg0)
          ∧ r.2.mem ((c.tc : Thread Cert.GluProjDwIdeal.nD Cert.GluProjDwIdeal.τ).loc Cert.GluProjDwIdeal.main_arg1) = m ((c.tc : Thread Cert.GluProjDwIdeal.nD Cert.GluProjDwIdeal.τ).loc Cert.GluProjDwIdeal.main_arg1))
      ∧ θ_run (Cert.GluProjDwRefIdeal.defs (F := Ideal)) (onTc (τ := Cert.GluProjDwRefIdeal.τ) (Cert.GluProjDwRefIdeal.main (F := Ideal))) ⟨m', fun _ => 0, g'⟩ (fun r => ∀ c : Dev Cert.GluProjDwRefIdeal.nD,
          r.2.mem ((c.tc : Thread Cert.GluProjDwRefIdeal.nD Cert.GluProjDwRefIdeal.τ).loc Cert.GluProjDwRefIdeal.main_v5) = v0 c
          ∧ r.2.mem ((c.tc : Thread Cert.GluProjDwRefIdeal.nD Cert.GluProjDwRefIdeal.τ).loc Cert.GluProjDwRefIdeal.main_arg0) = m' ((c.tc : Thread Cert.GluProjDwRefIdeal.nD Cert.GluProjDwRefIdeal.τ).loc Cert.GluProjDwRefIdeal.main_arg0)
          ∧ r.2.mem ((c.tc : Thread Cert.GluProjDwRefIdeal.nD Cert.GluProjDwRefIdeal.τ).loc Cert.GluProjDwRefIdeal.main_arg1) = m' ((c.tc : Thread Cert.GluProjDwRefIdeal.nD Cert.GluProjDwRefIdeal.τ).loc Cert.GluProjDwRefIdeal.main_arg1))

def preserves_Gelu_GeluIdeal : Prop :=
  True

def algebraic_GeluIdeal_GeluRefIdeal [hGeluIdeal : Cert.GeluIdeal.Facts] [hGeluRefIdeal : Cert.GeluRefIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)
      ∧ m' ((c.tc : Thread Cert.GeluRefIdeal.nD Cert.GeluRefIdeal.τ).loc Cert.GeluRefIdeal.main_arg2) = m ((c.tc : Thread Cert.GeluIdeal.nD Cert.GeluIdeal.τ).loc Cert.GeluIdeal.main_arg2)) →
    ∃ (v0 : (c : Dev Cert.GeluIdeal.nD) → Buf (Elt Ideal) ((c.tc : Thread Cert.GeluIdeal.nD Cert.GeluIdeal.τ).loc Cert.GeluIdeal.main_v1_0)) (v1 : (c : Dev Cert.GeluIdeal.nD) → Buf (Elt Ideal) ((c.tc : Thread Cert.GeluIdeal.nD Cert.GeluIdeal.τ).loc Cert.GeluIdeal.main_v1_1)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v1_0) = v0 c
          ∧ r.2.mem ((c.tc : Thread Cert.GeluIdeal.nD Cert.GeluIdeal.τ).loc Cert.GeluIdeal.main_v1_1) = v1 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v6) = v0 c
          ∧ r.2.mem ((c.tc : Thread Cert.GeluRefIdeal.nD Cert.GeluRefIdeal.τ).loc Cert.GeluRefIdeal.main_v20) = v1 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2))

def preserves_LnLast_LnLastIdeal : Prop :=
  True

def algebraic_LnLastIdeal_LnLastRefIdeal [hLnLastIdeal : Cert.LnLastIdeal.Facts] [hLnLastRefIdeal : Cert.LnLastRefIdeal.Facts] : Prop :=
  ∀ (m : (ℓ : Loc Cert.LnLastIdeal.nD Cert.LnLastIdeal.τ Cert.LnLastIdeal.sig) → Buf (Elt Ideal) ℓ) (g : Dev Cert.LnLastIdeal.nD → PrngReg)
    (m' : (ℓ : Loc Cert.LnLastRefIdeal.nD Cert.LnLastRefIdeal.τ Cert.LnLastRefIdeal.sig) → Buf (Elt Ideal) ℓ) (g' : Dev Cert.LnLastRefIdeal.nD → PrngReg), Pre_LnLastIdeal m →
    (∀ c : Dev Cert.LnLastIdeal.nD,
      m' ((c.tc : Thread Cert.LnLastRefIdeal.nD Cert.LnLastRefIdeal.τ).loc Cert.LnLastRefIdeal.main_arg0) = m ((c.tc : Thread Cert.LnLastIdeal.nD Cert.LnLastIdeal.τ).loc Cert.LnLastIdeal.main_arg0)
      ∧ m' ((c.tc : Thread Cert.LnLastRefIdeal.nD Cert.LnLastRefIdeal.τ).loc Cert.LnLastRefIdeal.main_arg1) = m ((c.tc : Thread Cert.LnLastIdeal.nD Cert.LnLastIdeal.τ).loc Cert.LnLastIdeal.main_arg1)
      ∧ m' ((c.tc : Thread Cert.LnLastRefIdeal.nD Cert.LnLastRefIdeal.τ).loc Cert.LnLastRefIdeal.main_arg2) = m ((c.tc : Thread Cert.LnLastIdeal.nD Cert.LnLastIdeal.τ).loc Cert.LnLastIdeal.main_arg2)
      ∧ m' ((c.tc : Thread Cert.LnLastRefIdeal.nD Cert.LnLastRefIdeal.τ).loc Cert.LnLastRefIdeal.main_arg3) = m ((c.tc : Thread Cert.LnLastIdeal.nD Cert.LnLastIdeal.τ).loc Cert.LnLastIdeal.main_arg3)
      ∧ m' ((c.tc : Thread Cert.LnLastRefIdeal.nD Cert.LnLastRefIdeal.τ).loc Cert.LnLastRefIdeal.main_arg4) = m ((c.tc : Thread Cert.LnLastIdeal.nD Cert.LnLastIdeal.τ).loc Cert.LnLastIdeal.main_arg4)) →
    ∃ (v0 : (c : Dev Cert.LnLastIdeal.nD) → Buf (Elt Ideal) ((c.tc : Thread Cert.LnLastIdeal.nD Cert.LnLastIdeal.τ).loc Cert.LnLastIdeal.main_v5_0)) (v1 : (c : Dev Cert.LnLastIdeal.nD) → Buf (Elt Ideal) ((c.tc : Thread Cert.LnLastIdeal.nD Cert.LnLastIdeal.τ).loc Cert.LnLastIdeal.main_v5_1)) (v2 : (c : Dev Cert.LnLastIdeal.nD) → Buf (Elt Ideal) ((c.tc : Thread Cert.LnLastIdeal.nD Cert.LnLastIdeal.τ).loc Cert.LnLastIdeal.main_v5_2)) (v3 : (c : Dev Cert.LnLastIdeal.nD) → Buf (Elt Ideal) ((c.tc : Thread Cert.LnLastIdeal.nD Cert.LnLastIdeal.τ).loc Cert.LnLastIdeal.main_v5_3)),
      θ_run (Cert.LnLastIdeal.defs (F := Ideal)) (onTc (τ := Cert.LnLastIdeal.τ) (Cert.LnLastIdeal.main (F := Ideal))) ⟨m, fun _ => 0, g⟩ (fun r => ∀ c : Dev Cert.LnLastIdeal.nD,
          r.2.mem ((c.tc : Thread Cert.LnLastIdeal.nD Cert.LnLastIdeal.τ).loc Cert.LnLastIdeal.main_v5_0) = v0 c
          ∧ r.2.mem ((c.tc : Thread Cert.LnLastIdeal.nD Cert.LnLastIdeal.τ).loc Cert.LnLastIdeal.main_v5_1) = v1 c
          ∧ r.2.mem ((c.tc : Thread Cert.LnLastIdeal.nD Cert.LnLastIdeal.τ).loc Cert.LnLastIdeal.main_v5_2) = v2 c
          ∧ r.2.mem ((c.tc : Thread Cert.LnLastIdeal.nD Cert.LnLastIdeal.τ).loc Cert.LnLastIdeal.main_v5_3) = v3 c
          ∧ r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
          ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
          ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2)
          ∧ r.2.mem ((c.tc : Thread Cert.LnLastIdeal.nD Cert.LnLastIdeal.τ).loc Cert.LnLastIdeal.main_arg3) = m ((c.tc : Thread Cert.LnLastIdeal.nD Cert.LnLastIdeal.τ).loc Cert.LnLastIdeal.main_arg3)
          ∧ r.2.mem ((c.tc : Thread Cert.LnLastIdeal.nD Cert.LnLastIdeal.τ).loc Cert.LnLastIdeal.main_arg4) = m ((c.tc : Thread Cert.LnLastIdeal.nD Cert.LnLastIdeal.τ).loc Cert.LnLastIdeal.main_arg4))
      ∧ θ_run (Cert.LnLastRefIdeal.defs (F := Ideal)) (onTc (τ := Cert.LnLastRefIdeal.τ) (Cert.LnLastRefIdeal.main (F := Ideal))) ⟨m', fun _ => 0, g'⟩ (fun r => ∀ c : Dev Cert.LnLastRefIdeal.nD,
          r.2.mem ((c.tc : Thread Cert.LnLastRefIdeal.nD Cert.LnLastRefIdeal.τ).loc Cert.LnLastRefIdeal.main_v65) = v0 c
          ∧ r.2.mem ((c.tc : Thread Cert.LnLastRefIdeal.nD Cert.LnLastRefIdeal.τ).loc Cert.LnLastRefIdeal.main_v66) = v1 c
          ∧ r.2.mem ((c.tc : Thread Cert.LnLastRefIdeal.nD Cert.LnLastRefIdeal.τ).loc Cert.LnLastRefIdeal.main_v67) = v2 c
          ∧ r.2.mem ((c.tc : Thread Cert.LnLastRefIdeal.nD Cert.LnLastRefIdeal.τ).loc Cert.LnLastRefIdeal.main_v68) = v3 c
          ∧ r.2.mem ((c.tc : Thread Cert.LnLastRefIdeal.nD Cert.LnLastRefIdeal.τ).loc Cert.LnLastRefIdeal.main_arg0) = m' ((c.tc : Thread Cert.LnLastRefIdeal.nD Cert.LnLastRefIdeal.τ).loc Cert.LnLastRefIdeal.main_arg0)
          ∧ r.2.mem ((c.tc : Thread Cert.LnLastRefIdeal.nD Cert.LnLastRefIdeal.τ).loc Cert.LnLastRefIdeal.main_arg1) = m' ((c.tc : Thread Cert.LnLastRefIdeal.nD Cert.LnLastRefIdeal.τ).loc Cert.LnLastRefIdeal.main_arg1)
          ∧ r.2.mem ((c.tc : Thread Cert.LnLastRefIdeal.nD Cert.LnLastRefIdeal.τ).loc Cert.LnLastRefIdeal.main_arg2) = m' ((c.tc : Thread Cert.LnLastRefIdeal.nD Cert.LnLastRefIdeal.τ).loc Cert.LnLastRefIdeal.main_arg2)
          ∧ r.2.mem ((c.tc : Thread Cert.LnLastRefIdeal.nD Cert.LnLastRefIdeal.τ).loc Cert.LnLastRefIdeal.main_arg3) = m' ((c.tc : Thread Cert.LnLastRefIdeal.nD Cert.LnLastRefIdeal.τ).loc Cert.LnLastRefIdeal.main_arg3)
          ∧ r.2.mem ((c.tc : Thread Cert.LnLastRefIdeal.nD Cert.LnLastRefIdeal.τ).loc Cert.LnLastRefIdeal.main_arg4) = m' ((c.tc : Thread Cert.LnLastRefIdeal.nD Cert.LnLastRefIdeal.τ).loc Cert.LnLastRefIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDact : Cert.DownDact.Facts) (hDownDactIdeal : Cert.DownDactIdeal.Facts) (hDownDactRefIdeal : Cert.DownDactRefIdeal.Facts) (hDownDw : Cert.DownDw.Facts) (hDownDwIdeal : Cert.DownDwIdeal.Facts) (hDownDwRefIdeal : Cert.DownDwRefIdeal.Facts) (hIn : Cert.In.Facts) (hInIdeal : Cert.InIdeal.Facts) (hInRefIdeal : Cert.InRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hGluBwd : Cert.GluBwd.Facts) (hGluBwdIdeal : Cert.GluBwdIdeal.Facts) (hGluBwdRefIdeal : Cert.GluBwdRefIdeal.Facts) (hGeluBwd : Cert.GeluBwd.Facts) (hGeluBwdIdeal : Cert.GeluBwdIdeal.Facts) (hGeluBwdRefIdeal : Cert.GeluBwdRefIdeal.Facts) (hLnBwd : Cert.LnBwd.Facts) (hLnBwdIdeal : Cert.LnBwdIdeal.Facts) (hLnBwdRefIdeal : Cert.LnBwdRefIdeal.Facts) (hLn : Cert.Ln.Facts) (hLnIdeal : Cert.LnIdeal.Facts) (hLnRefIdeal : Cert.LnRefIdeal.Facts) (hLoss : Cert.Loss.Facts) (hLossIdeal : Cert.LossIdeal.Facts) (hLossRefIdeal : Cert.LossRefIdeal.Facts) (hGradX : Cert.GradX.Facts) (hGradXIdeal : Cert.GradXIdeal.Facts) (hGradXRefIdeal : Cert.GradXRefIdeal.Facts) (hAdamw : Cert.Adamw.Facts) (hAdamwIdeal : Cert.AdamwIdeal.Facts) (hAdamwRefIdeal : Cert.AdamwRefIdeal.Facts) (hGlu : Cert.Glu.Facts) (hGluIdeal : Cert.GluIdeal.Facts) (hGluRefIdeal : Cert.GluRefIdeal.Facts) (hSmallSum : Cert.SmallSum.Facts) (hSmallSumIdeal : Cert.SmallSumIdeal.Facts) (hSmallSumRefIdeal : Cert.SmallSumRefIdeal.Facts) (hGluProj : Cert.GluProj.Facts) (hGluProjIdeal : Cert.GluProjIdeal.Facts) (hGluProjRefIdeal : Cert.GluProjRefIdeal.Facts) (hGluProjDx : Cert.GluProjDx.Facts) (hGluProjDxIdeal : Cert.GluProjDxIdeal.Facts) (hGluProjDxRefIdeal : Cert.GluProjDxRefIdeal.Facts) (hGluProjDw : Cert.GluProjDw.Facts) (hGluProjDwIdeal : Cert.GluProjDwIdeal.Facts) (hGluProjDwRefIdeal : Cert.GluProjDwRefIdeal.Facts) (hGelu : Cert.Gelu.Facts) (hGeluIdeal : Cert.GeluIdeal.Facts) (hGeluRefIdeal : Cert.GeluRefIdeal.Facts) (hLnLast : Cert.LnLast.Facts) (hLnLastIdeal : Cert.LnLastIdeal.Facts) (hLnLastRefIdeal : Cert.LnLastRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDact (hDownDact := hDownDact)
    ∧ quiescent_DownDactIdeal (hDownDactIdeal := hDownDactIdeal)
    ∧ quiescent_DownDactRefIdeal (hDownDactRefIdeal := hDownDactRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_In (hIn := hIn)
    ∧ quiescent_InIdeal (hInIdeal := hInIdeal)
    ∧ quiescent_InRefIdeal (hInRefIdeal := hInRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_GeluBwd (hGeluBwd := hGeluBwd)
    ∧ quiescent_GeluBwdIdeal (hGeluBwdIdeal := hGeluBwdIdeal)
    ∧ quiescent_GeluBwdRefIdeal (hGeluBwdRefIdeal := hGeluBwdRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_Ln (hLn := hLn)
    ∧ quiescent_LnIdeal (hLnIdeal := hLnIdeal)
    ∧ quiescent_LnRefIdeal (hLnRefIdeal := hLnRefIdeal)
    ∧ quiescent_Loss (hLoss := hLoss)
    ∧ quiescent_LossIdeal (hLossIdeal := hLossIdeal)
    ∧ quiescent_LossRefIdeal (hLossRefIdeal := hLossRefIdeal)
    ∧ quiescent_GradX (hGradX := hGradX)
    ∧ quiescent_GradXIdeal (hGradXIdeal := hGradXIdeal)
    ∧ quiescent_GradXRefIdeal (hGradXRefIdeal := hGradXRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Glu (hGlu := hGlu)
    ∧ quiescent_GluIdeal (hGluIdeal := hGluIdeal)
    ∧ quiescent_GluRefIdeal (hGluRefIdeal := hGluRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_GluProj (hGluProj := hGluProj)
    ∧ quiescent_GluProjIdeal (hGluProjIdeal := hGluProjIdeal)
    ∧ quiescent_GluProjRefIdeal (hGluProjRefIdeal := hGluProjRefIdeal)
    ∧ quiescent_GluProjDx (hGluProjDx := hGluProjDx)
    ∧ quiescent_GluProjDxIdeal (hGluProjDxIdeal := hGluProjDxIdeal)
    ∧ quiescent_GluProjDxRefIdeal (hGluProjDxRefIdeal := hGluProjDxRefIdeal)
    ∧ quiescent_GluProjDw (hGluProjDw := hGluProjDw)
    ∧ quiescent_GluProjDwIdeal (hGluProjDwIdeal := hGluProjDwIdeal)
    ∧ quiescent_GluProjDwRefIdeal (hGluProjDwRefIdeal := hGluProjDwRefIdeal)
    ∧ quiescent_Gelu (hGelu := hGelu)
    ∧ quiescent_GeluIdeal (hGeluIdeal := hGeluIdeal)
    ∧ quiescent_GeluRefIdeal (hGeluRefIdeal := hGeluRefIdeal)
    ∧ quiescent_LnLast (hLnLast := hLnLast)
    ∧ quiescent_LnLastIdeal (hLnLastIdeal := hLnLastIdeal)
    ∧ quiescent_LnLastRefIdeal (hLnLastRefIdeal := hLnLastRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDact_DownDactIdeal
    ∧ algebraic_DownDactIdeal_DownDactRefIdeal (hDownDactIdeal := hDownDactIdeal) (hDownDactRefIdeal := hDownDactRefIdeal)
    ∧ preserves_DownDw_DownDwIdeal
    ∧ algebraic_DownDwIdeal_DownDwRefIdeal (hDownDwIdeal := hDownDwIdeal) (hDownDwRefIdeal := hDownDwRefIdeal)
    ∧ preserves_In_InIdeal
    ∧ algebraic_InIdeal_InRefIdeal (hInIdeal := hInIdeal) (hInRefIdeal := hInRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_GluBwd_GluBwdIdeal
    ∧ algebraic_GluBwdIdeal_GluBwdRefIdeal (hGluBwdIdeal := hGluBwdIdeal) (hGluBwdRefIdeal := hGluBwdRefIdeal)
    ∧ preserves_GeluBwd_GeluBwdIdeal
    ∧ algebraic_GeluBwdIdeal_GeluBwdRefIdeal (hGeluBwdIdeal := hGeluBwdIdeal) (hGeluBwdRefIdeal := hGeluBwdRefIdeal)
    ∧ preserves_LnBwd_LnBwdIdeal
    ∧ algebraic_LnBwdIdeal_LnBwdRefIdeal (hLnBwdIdeal := hLnBwdIdeal) (hLnBwdRefIdeal := hLnBwdRefIdeal)
    ∧ preserves_Ln_LnIdeal
    ∧ algebraic_LnIdeal_LnRefIdeal (hLnIdeal := hLnIdeal) (hLnRefIdeal := hLnRefIdeal)
    ∧ preserves_Loss_LossIdeal
    ∧ algebraic_LossIdeal_LossRefIdeal (hLossIdeal := hLossIdeal) (hLossRefIdeal := hLossRefIdeal)
    ∧ preserves_GradX_GradXIdeal
    ∧ algebraic_GradXIdeal_GradXRefIdeal (hGradXIdeal := hGradXIdeal) (hGradXRefIdeal := hGradXRefIdeal)
    ∧ preserves_Adamw_AdamwIdeal
    ∧ algebraic_AdamwIdeal_AdamwRefIdeal (hAdamwIdeal := hAdamwIdeal) (hAdamwRefIdeal := hAdamwRefIdeal)
    ∧ preserves_Glu_GluIdeal
    ∧ algebraic_GluIdeal_GluRefIdeal (hGluIdeal := hGluIdeal) (hGluRefIdeal := hGluRefIdeal)
    ∧ preserves_SmallSum_SmallSumIdeal
    ∧ algebraic_SmallSumIdeal_SmallSumRefIdeal (hSmallSumIdeal := hSmallSumIdeal) (hSmallSumRefIdeal := hSmallSumRefIdeal)
    ∧ preserves_GluProj_GluProjIdeal
    ∧ algebraic_GluProjIdeal_GluProjRefIdeal (hGluProjIdeal := hGluProjIdeal) (hGluProjRefIdeal := hGluProjRefIdeal)
    ∧ preserves_GluProjDx_GluProjDxIdeal
    ∧ algebraic_GluProjDxIdeal_GluProjDxRefIdeal (hGluProjDxIdeal := hGluProjDxIdeal) (hGluProjDxRefIdeal := hGluProjDxRefIdeal)
    ∧ preserves_GluProjDw_GluProjDwIdeal
    ∧ algebraic_GluProjDwIdeal_GluProjDwRefIdeal (hGluProjDwIdeal := hGluProjDwIdeal) (hGluProjDwRefIdeal := hGluProjDwRefIdeal)
    ∧ preserves_Gelu_GeluIdeal
    ∧ algebraic_GeluIdeal_GeluRefIdeal (hGeluIdeal := hGeluIdeal) (hGeluRefIdeal := hGeluRefIdeal)
    ∧ preserves_LnLast_LnLastIdeal
    ∧ algebraic_LnLastIdeal_LnLastRefIdeal (hLnLastIdeal := hLnLastIdeal) (hLnLastRefIdeal := hLnLastRefIdeal)
-- ==== Pre_finite.lean ====
abbrev S4x2048x2752 : Shape := ⟨3, ![4, 2048, 2752]⟩
abbrev S4x3x2752 : Shape := ⟨3, ![4, 3, 2752]⟩
abbrev S4x1x2752 : Shape := ⟨3, ![4, 1, 2752]⟩
abbrev S2x2048x2752 : Shape := ⟨3, ![2, 2048, 2752]⟩
abbrev S_ : Shape := ⟨0, ![]⟩

class Facts : Prop where
  bcast_S_S4x2048x2752 : S_.BroadcastsInDim S4x2048x2752 (![] : Fin 0 → Fin S4x2048x2752.rank)
  bcast_S_S4x3x2752 : S_.BroadcastsInDim S4x3x2752 (![] : Fin 0 → Fin S4x3x2752.rank)
  bcast_S_S4x1x2752 : S_.BroadcastsInDim S4x1x2752 (![] : Fin 0 → Fin S4x1x2752.rank)
  bcast_S_S2x2048x2752 : S_.BroadcastsInDim S2x2048x2752 (![] : Fin 0 → Fin S2x2048x2752.rank)

variable [Facts]

def fn {F : FTy → Type} [FloatOps F] (main_arg0 : FVec F S4x2048x2752 .f32) (main_arg1 : FVec F S4x3x2752 .f32) (main_arg2 : FVec F S4x1x2752 .f32) (main_arg3 : FVec F S2x2048x2752 .f32) : IVec S4x2048x2752 1 × IVec S4x3x2752 1 × IVec S4x1x2752 1 × IVec S2x2048x2752 1 :=
  let main_v0 : FVec F S4x2048x2752 .f32 := Host.absf main_arg0
  let main_cst : FVec F S_ .f32 := constant S_ .f32 0x7F800000#32
  let main_v1 : FVec F S4x2048x2752 .f32 := broadcastInDim S4x2048x2752 ![] bcast_S_S4x2048x2752 main_cst
  let main_v2 : IVec S4x2048x2752 1 := cmpf .olt main_v0 main_v1
  let main_v3 : FVec F S4x3x2752 .f32 := Host.absf main_arg1
  let main_cst_0 : FVec F S_ .f32 := constant S_ .f32 0x7F800000#32
  let main_v4 : FVec F S4x3x2752 .f32 := broadcastInDim S4x3x2752 ![] bcast_S_S4x3x2752 main_cst_0
  let main_v5 : IVec S4x3x2752 1 := cmpf .olt main_v3 main_v4
  let main_v6 : FVec F S4x1x2752 .f32 := Host.absf main_arg2
  let main_cst_1 : FVec F S_ .f32 := constant S_ .f32 0x7F800000#32
  let main_v7 : FVec F S4x1x2752 .f32 := broadcastInDim S4x1x2752 ![] bcast_S_S4x1x2752 main_cst_1
  let main_v8 : IVec S4x1x2752 1 := cmpf .olt main_v6 main_v7
  let main_v9 : FVec F S2x2048x2752 .f32 := Host.absf main_arg3
  let main_cst_2 : FVec F S_ .f32 := constant S_ .f32 0x7F800000#32
  let main_v10 : FVec F S2x2048x2752 .f32 := broadcastInDim S2x2048x2752 ![] bcast_S_S2x2048x2752 main_cst_2
  let main_v11 : IVec S2x2048x2752 1 := cmpf .olt main_v9 main_v10
  (main_v2, main_v5, main_v8, main_v11)
-- ==== Kernel.lean ====
abbrev S4x2048x2752 : Shape := ⟨3, ![4, 2048, 2752]⟩
abbrev S4x3x2752 : Shape := ⟨3, ![4, 3, 2752]⟩
abbrev S4x1x2752 : Shape := ⟨3, ![4, 1, 2752]⟩
abbrev S2x2048x2752 : Shape := ⟨3, ![2, 2048, 2752]⟩
abbrev S2x2x2048x2752 : Shape := ⟨4, ![2, 2, 2048, 2752]⟩
abbrev S2x2x3x2752 : Shape := ⟨4, ![2, 2, 3, 2752]⟩
abbrev S2x2x1x2752 : Shape := ⟨4, ![2, 2, 1, 2752]⟩
abbrev S1x128x2752 : Shape := ⟨3, ![1, 128, 2752]⟩
abbrev S1x8x2752 : Shape := ⟨3, ![1, 8, 2752]⟩
abbrev S1x3x2752 : Shape := ⟨3, ![1, 3, 2752]⟩
abbrev S1x1x2752 : Shape := ⟨3, ![1, 1, 2752]⟩
abbrev S1x2x128x2752 : Shape := ⟨4, ![1, 2, 128, 2752]⟩
abbrev S1x2x3x2752 : Shape := ⟨4, ![1, 2, 3, 2752]⟩
abbrev S1x2x1x2752 : Shape := ⟨4, ![1, 2, 1, 2752]⟩
abbrev S8x2752 : Shape := ⟨2, ![8, 2752]⟩
abbrev S128x2752 : Shape := ⟨2, ![128, 2752]⟩
abbrev S1x2752 : Shape := ⟨2, ![1, 2752]⟩
abbrev S1x1x128x2752 : Shape := ⟨4, ![1, 1, 128, 2752]⟩
abbrev S2x3x2752 : Shape := ⟨3, ![2, 3, 2752]⟩
abbrev S2x1x2752 : Shape := ⟨3, ![2, 1, 2752]⟩
abbrev S1x1x3x2752 : Shape := ⟨4, ![1, 1, 3, 2752]⟩
abbrev S3x2752 : Shape := ⟨2, ![3, 2752]⟩
abbrev S2752 : Shape := ⟨1, ![2752]⟩
abbrev S1x1x1x2752 : Shape := ⟨4, ![1, 1, 1, 2752]⟩

abbrev nBuf : Space → Nat
  | .hbm => 7
  | .vmem => 30
  | .smem => 0
  | _ => 0

abbrev bufTy : (tb : Table) → Fin (tcTables nBuf tb) → BufTy
  | .hbm, ⟨0, _⟩ => ⟨S4x2048x2752, .f32⟩
  | .hbm, ⟨1, _⟩ => ⟨S4x3x2752, .f32⟩
  | .hbm, ⟨2, _⟩ => ⟨S4x1x2752, .f32⟩
  | .hbm, ⟨3, _⟩ => ⟨S2x2048x2752, .f32⟩
  | .hbm, ⟨4, _⟩ => ⟨S2x2x2048x2752, .bf16⟩
  | .hbm, ⟨5, _⟩ => ⟨S2x2x3x2752, .f32⟩
  | .hbm, ⟨6, _⟩ => ⟨S2x2x1x2752, .f32⟩
  | .local _ .vmem, ⟨0, _⟩ => ⟨S1x128x2752, .f32⟩
  | .local _ .vmem, ⟨1, _⟩ => ⟨S1x128x2752, .f32⟩
  | .local _ .vmem, ⟨2, _⟩ => ⟨S1x8x2752, .f32⟩
  | .local _ .vmem, ⟨3, _⟩ => ⟨S1x8x2752, .f32⟩
  | .local _ .vmem, ⟨4, _⟩ => ⟨S1x8x2752, .f32⟩
  | .local _ .vmem, ⟨5, _⟩ => ⟨S1x8x2752, .f32⟩
  | .local _ .vmem, ⟨6, _⟩ => ⟨S1x128x2752, .f32⟩
  | .local _ .vmem, ⟨7, _⟩ => ⟨S1x128x2752, .f32⟩
  | .local _ .vmem, ⟨8, _⟩ => ⟨S1x8x2752, .f32⟩
  | .local _ .vmem, ⟨9, _⟩ => ⟨S1x8x2752, .f32⟩
  | .local _ .vmem, ⟨10, _⟩ => ⟨S1x8x2752, .f32⟩
  | .local _ .vmem, ⟨11, _⟩ => ⟨S1x8x2752, .f32⟩
  | .local _ .vmem, ⟨12, _⟩ => ⟨S1x3x2752, .f32⟩
  | .local _ .vmem, ⟨13, _⟩ => ⟨S1x3x2752, .f32⟩
  | .local _ .vmem, ⟨14, _⟩ => ⟨S1x3x2752, .f32⟩
  | .local _ .vmem, ⟨15, _⟩ => ⟨S1x3x2752, .f32⟩
  | .local _ .vmem, ⟨16, _⟩ => ⟨S1x1x2752, .f32⟩
  | .local _ .vmem, ⟨17, _⟩ => ⟨S1x1x2752, .f32⟩
  | .local _ .vmem, ⟨18, _⟩ => ⟨S1x1x2752, .f32⟩
  | .local _ .vmem, ⟨19, _⟩ => ⟨S1x1x2752, .f32⟩
  | .local _ .vmem, ⟨20, _⟩ => ⟨S1x128x2752, .f32⟩
  | .local _ .vmem, ⟨21, _⟩ => ⟨S1x128x2752, .f32⟩
  | .local _ .vmem, ⟨22, _⟩ => ⟨S1x8x2752, .f32⟩
  | .local _ .vmem, ⟨23, _⟩ => ⟨S1x8x2752, .f32⟩
  | .local _ .vmem, ⟨24, _⟩ => ⟨S1x2x128x2752, .bf16⟩
  | .local _ .vmem, ⟨25, _⟩ => ⟨S1x2x128x2752, .bf16⟩
  | .local _ .vmem, ⟨26, _⟩ => ⟨S1x2x3x2752, .f32⟩
  | .local _ .vmem, ⟨27, _⟩ => ⟨S1x2x3x2752, .f32⟩
  | .local _ .vmem, ⟨28, _⟩ => ⟨S1x2x1x2752, .f32⟩
  | .local _ .vmem, ⟨29, _⟩ => ⟨S1x2x1x2752, .f32⟩
  | _, _ => ⟨S4x2048x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c16_i32 : BitVec 32 := 16#32
  let v1 : BitVec 32 := Scalar.muli arg1 c16_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let v1 : BitVec 32 := Scalar.addi arg1 c1_i32
  let c16_i32 : BitVec 32 := 16#32
  let v2 : BitVec 32 := Scalar.muli v1 c16_i32
  let c255_i32 : BitVec 32 := 255#32
  let v3 : BitVec 32 := Scalar.minsi v2 c255_i32
  let c0_i32_0 : BitVec 32 := 0#32
  let c0_i32_1 : BitVec 32 := 0#32
  ![v0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c16_i32 : BitVec 32 := 16#32
  let v1 : BitVec 32 := Scalar.muli arg1 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c1_i32 : BitVec 32 := 1#32
  let v1 : BitVec 32 := Scalar.addi arg1 c1_i32
  let c16_i32 : BitVec 32 := 16#32
  let v2 : BitVec 32 := Scalar.muli v1 c16_i32
  let c255_i32 : BitVec 32 := 255#32
  let v3 : BitVec 32 := Scalar.minsi v2 c255_i32
  let c0_i32 : BitVec 32 := 0#32
  let c0_i32_0 : BitVec 32 := 0#32
  ![v0.toNat, v3.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let v1 : BitVec 32 := Scalar.addi arg1 c1_i32
  let c16_i32 : BitVec 32 := 16#32
  let v2 : BitVec 32 := Scalar.muli v1 c16_i32
  let c255_i32 : BitVec 32 := 255#32
  let v3 : BitVec 32 := Scalar.minsi v2 c255_i32
  let c0_i32_0 : BitVec 32 := 0#32
  let c0_i32_1 : BitVec 32 := 0#32
  ![v0.toNat, v3.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2752 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x2752 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2752 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2752 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x2752 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x2752 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x128x2752 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x3x2752 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x1x2752 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4x2048x2752 : Shape := ⟨3, ![4, 2048, 2752]⟩
abbrev S4x3x2752 : Shape := ⟨3, ![4, 3, 2752]⟩
abbrev S4x1x2752 : Shape := ⟨3, ![4, 1, 2752]⟩
abbrev S2x2048x2752 : Shape := ⟨3, ![2, 2048, 2752]⟩
abbrev S2048x4x2752 : Shape := ⟨3, ![2048, 4, 2752]⟩
abbrev S2048x11008 : Shape := ⟨2, ![2048, 11008]⟩
abbrev S3x4x2752 : Shape := ⟨3, ![3, 4, 2752]⟩
abbrev S3x11008 : Shape := ⟨2, ![3, 11008]⟩
abbrev S11008 : Shape := ⟨1, ![11008]⟩
abbrev S2048x2x2752 : Shape := ⟨3, ![2048, 2, 2752]⟩
abbrev S2048x5504 : Shape := ⟨2, ![2048, 5504]⟩
abbrev S_ : Shape := ⟨0, ![]⟩
abbrev S2x11008 : Shape := ⟨2, ![2, 11008]⟩
abbrev S2050x11008 : Shape := ⟨2, ![2050, 11008]⟩
abbrev S1x11008 : Shape := ⟨2, ![1, 11008]⟩
abbrev S2048x2x2x2752 : Shape := ⟨4, ![2048, 2, 2, 2752]⟩
abbrev S2x2x2048x2752 : Shape := ⟨4, ![2, 2, 2048, 2752]⟩
abbrev S3x2x2x2752 : Shape := ⟨4, ![3, 2, 2, 2752]⟩
abbrev S2x2x3x2752 : Shape := ⟨4, ![2, 2, 3, 2752]⟩
abbrev S1x2x2x2752 : Shape := ⟨4, ![1, 2, 2, 2752]⟩
abbrev S2x2x1x2752 : Shape := ⟨4, ![2, 2, 1, 2752]⟩

abbrev nBuf : Space → Nat
  | .hbm => 123
  | .vmem => 0
  | .smem => 0
  | _ => 0

abbrev bufTy : (tb : Table) → Fin (tcTables nBuf tb) → BufTy
  | .hbm, ⟨0, _⟩ => ⟨S4x2048x2752, .f32⟩
  | .hbm, ⟨1, _⟩ => ⟨S4x3x2752, .f32⟩
  | .hbm, ⟨2, _⟩ => ⟨S4x1x2752, .f32⟩
  | .hbm, ⟨3, _⟩ => ⟨S2x2048x2752, .f32⟩
  | .hbm, ⟨4, _⟩ => ⟨S2048x4x2752, .f32⟩
  | .hbm, ⟨5, _⟩ => ⟨S2048x11008, .f32⟩
  | .hbm, ⟨6, _⟩ => ⟨S3x4x2752, .f32⟩
  | .hbm, ⟨7, _⟩ => ⟨S3x11008, .f32⟩
  | .hbm, ⟨8, _⟩ => ⟨S11008, .f32⟩
  | .hbm, ⟨9, _⟩ => ⟨S2048x2x2752, .f32⟩
  | .hbm, ⟨10, _⟩ => ⟨S2048x5504, .f32⟩
  | .hbm, ⟨11, _⟩ => ⟨S_, .f32⟩
  | .hbm, ⟨12, _⟩ => ⟨S2x11008, .f32⟩
  | .hbm, ⟨13, _⟩ => ⟨S2050x11008, .f32⟩
  | .hbm, ⟨14, _⟩ => ⟨S_, .f32⟩
  | .hbm, ⟨15, _⟩ => ⟨S2x11008, .f32⟩
  | .hbm, ⟨16, _⟩ => ⟨S2048x11008, .f32⟩
  | .hbm, ⟨17, _⟩ => ⟨S1x11008, .f32⟩
  | .hbm, ⟨18, _⟩ => ⟨S11008, .f32⟩
  | .hbm, ⟨19, _⟩ => ⟨S1x11008, .f32⟩
  | .hbm, ⟨20, _⟩ => ⟨S2048x11008, .f32⟩
  | .hbm, ⟨21, _⟩ => ⟨S2048x11008, .f32⟩
  | .hbm, ⟨22, _⟩ => ⟨S1x11008, .f32⟩
  | .hbm, ⟨23, _⟩ => ⟨S2048x11008, .f32⟩
  | .hbm, ⟨24, _⟩ => ⟨S2048x11008, .f32⟩
  | .hbm, ⟨25, _⟩ => ⟨S2048x11008, .f32⟩
  | .hbm, ⟨26, _⟩ => ⟨S1x11008, .f32⟩
  | .hbm, ⟨27, _⟩ => ⟨S11008, .f32⟩
  | .hbm, ⟨28, _⟩ => ⟨S1x11008, .f32⟩
  | .hbm, ⟨29, _⟩ => ⟨S2048x11008, .f32⟩
  | .hbm, ⟨30, _⟩ => ⟨S2048x11008, .f32⟩
  | .hbm, ⟨31, _⟩ => ⟨S2048x11008, .f32⟩
  | .hbm, ⟨32, _⟩ => ⟨S2048x11008, .f32⟩
  | .hbm, ⟨33, _⟩ => ⟨S1x11008, .f32⟩
  | .hbm, ⟨34, _⟩ => ⟨S11008, .f32⟩
  | .hbm, ⟨35, _⟩ => ⟨S1x11008, .f32⟩
  | .hbm, ⟨36, _⟩ => ⟨S2048x11008, .f32⟩
  | .hbm, ⟨37, _⟩ => ⟨S2048x11008, .f32⟩
  | .hbm, ⟨38, _⟩ => ⟨S2048x11008, .f32⟩
  | .hbm, ⟨39, _⟩ => ⟨S2048x5504, .f32⟩
  | .hbm, ⟨40, _⟩ => ⟨S2048x5504, .f32⟩
  | .hbm, ⟨41, _⟩ => ⟨S2048x5504, .f32⟩
  | .hbm, ⟨42, _⟩ => ⟨S2048x5504, .f32⟩
  | .hbm, ⟨43, _⟩ => ⟨S_, .f32⟩
  | .hbm, ⟨44, _⟩ => ⟨S2048x5504, .f32⟩
  | .hbm, ⟨45, _⟩ => ⟨S2048x5504, .f32⟩
  | .hbm, ⟨46, _⟩ => ⟨S_, .f32⟩
  | .hbm, ⟨47, _⟩ => ⟨S2048x5504, .f32⟩
  | .hbm, ⟨48, _⟩ => ⟨S2048x5504, .f32⟩
  | .hbm, ⟨49, _⟩ => ⟨S_, .f32⟩
  | .hbm, ⟨50, _⟩ => ⟨S2048x5504, .f32⟩
  | .hbm, ⟨51, _⟩ => ⟨S2048x5504, .f32⟩
  | .hbm, ⟨52, _⟩ => ⟨S2048x5504, .f32⟩
  | .hbm, ⟨53, _⟩ => ⟨S2048x5504, .f32⟩
  | .hbm, ⟨54, _⟩ => ⟨S2048x5504, .f32⟩
  | .hbm, ⟨55, _⟩ => ⟨S2048x5504, .f32⟩
  | .hbm, ⟨56, _⟩ => ⟨S2048x5504, .f32⟩
  | .hbm, ⟨57, _⟩ => ⟨S2048x5504, .f32⟩
  | .hbm, ⟨58, _⟩ => ⟨S2048x5504, .f32⟩
  | .hbm, ⟨59, _⟩ => ⟨S2048x5504, .f32⟩
  | .hbm, ⟨60, _⟩ => ⟨S2048x5504, .f32⟩
  | .hbm, ⟨61, _⟩ => ⟨S_, .f32⟩
  | .hbm, ⟨62, _⟩ => ⟨S2048x11008, .f32⟩
  | .hbm, ⟨63, _⟩ => ⟨S_, .f32⟩
  | .hbm, ⟨64, _⟩ => ⟨S2048x11008, .f32⟩
  | .hbm, ⟨65, _⟩ => ⟨S2048x11008, .f32⟩
  | .hbm, ⟨66, _⟩ => ⟨S2048x11008, .f32⟩
  | .hbm, ⟨67, _⟩ => ⟨S_, .f32⟩
  | .hbm, ⟨68, _⟩ => ⟨S11008, .f32⟩
  | .hbm, ⟨69, _⟩ => ⟨S1x11008, .f32⟩
  | .hbm, ⟨70, _⟩ => ⟨S2048x11008, .f32⟩
  | .hbm, ⟨71, _⟩ => ⟨S2048x11008, .f32⟩
  | .hbm, ⟨72, _⟩ => ⟨S_, .f32⟩
  | .hbm, ⟨73, _⟩ => ⟨S11008, .f32⟩
  | .hbm, ⟨74, _⟩ => ⟨S1x11008, .f32⟩
  | .hbm, ⟨75, _⟩ => ⟨S_, .f32⟩
  | .hbm, ⟨76, _⟩ => ⟨S3x11008, .f32⟩
  | .hbm, ⟨77, _⟩ => ⟨S_, .f32⟩
  | .hbm, ⟨78, _⟩ => ⟨S2050x11008, .f32⟩
  | .hbm, ⟨79, _⟩ => ⟨S2048x11008, .f32⟩
  | .hbm, ⟨80, _⟩ => ⟨S_, .f32⟩
  | .hbm, ⟨81, _⟩ => ⟨S11008, .f32⟩
  | .hbm, ⟨82, _⟩ => ⟨S1x11008, .f32⟩
  | .hbm, ⟨83, _⟩ => ⟨S2048x11008, .f32⟩
  | .hbm, ⟨84, _⟩ => ⟨S2048x11008, .f32⟩
  | .hbm, ⟨85, _⟩ => ⟨S_, .f32⟩
  | .hbm, ⟨86, _⟩ => ⟨S11008, .f32⟩
  | .hbm, ⟨87, _⟩ => ⟨S1x11008, .f32⟩
  | .hbm, ⟨88, _⟩ => ⟨S_, .f32⟩
  | .hbm, ⟨89, _⟩ => ⟨S3x11008, .f32⟩
  | .hbm, ⟨90, _⟩ => ⟨S3x11008, .f32⟩
  | .hbm, ⟨91, _⟩ => ⟨S_, .f32⟩
  | .hbm, ⟨92, _⟩ => ⟨S2050x11008, .f32⟩
  | .hbm, ⟨93, _⟩ => ⟨S2050x11008, .f32⟩
  | .hbm, ⟨94, _⟩ => ⟨S_, .f32⟩
  | .hbm, ⟨95, _⟩ => ⟨S11008, .f32⟩
  | .hbm, ⟨96, _⟩ => ⟨S1x11008, .f32⟩
  | .hbm, ⟨97, _⟩ => ⟨S_, .f32⟩
  | .hbm, ⟨98, _⟩ => ⟨S11008, .f32⟩
  | .hbm, ⟨99, _⟩ => ⟨S2048x11008, .f32⟩
  | .hbm, ⟨100, _⟩ => ⟨S_, .f32⟩
  | .hbm, ⟨101, _⟩ => ⟨S11008, .f32⟩
  | .hbm, ⟨102, _⟩ => ⟨S1x11008, .f32⟩
  | .hbm, ⟨103, _⟩ => ⟨S2048x11008, .f32⟩
  | .hbm, ⟨104, _⟩ => ⟨S2048x11008, .f32⟩
  | .hbm, ⟨105, _⟩ => ⟨S_, .f32⟩
  | .hbm, ⟨106, _⟩ => ⟨S11008, .f32⟩
  | .hbm, ⟨107, _⟩ => ⟨S1x11008, .f32⟩
  | .hbm, ⟨108, _⟩ => ⟨S_, .f32⟩
  | .hbm, ⟨109, _⟩ => ⟨S3x11008, .f32⟩
  | .hbm, ⟨110, _⟩ => ⟨S3x11008, .f32⟩
  | .hbm, ⟨111, _⟩ => ⟨S_, .f32⟩
  | .hbm, ⟨112, _⟩ => ⟨S2050x11008, .f32⟩
  | .hbm, ⟨113, _⟩ => ⟨S2050x11008, .f32⟩
  | .hbm, ⟨114, _⟩ => ⟨S2x11008, .f32⟩
  | .hbm, ⟨115, _⟩ => ⟨S2048x11008, .f32⟩
  | .hbm, ⟨116, _⟩ => ⟨S2048x2x2x2752, .f32⟩
  | .hbm, ⟨117, _⟩ => ⟨S2x2x2048x2752, .f32⟩
  | .hbm, ⟨118, _⟩ => ⟨S2x2x2048x2752, .bf16⟩
  | .hbm, ⟨119, _⟩ => ⟨S3x2x2x2752, .f32⟩
  | .hbm, ⟨120, _⟩ => ⟨S2x2x3x2752, .f32⟩
  | .hbm, ⟨121, _⟩ => ⟨S1x2x2x2752, .f32⟩
  | .hbm, ⟨122, _⟩ => ⟨S2x2x1x2752, .f32⟩
  | _, _ => ⟨S4x2048x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v35_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v35_1 : Ref sig .tc := ⟨.hbm, 52, rfl⟩
abbrev main_v35_0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== Up.lean ====
abbrev S2048x2048 : Shape := ⟨2, ![2048, 2048]⟩
abbrev S2048x11008 : Shape := ⟨2, ![2048, 11008]⟩
abbrev S11008x2048 : Shape := ⟨2, ![11008, 2048]⟩
abbrev S4x2752x2048 : Shape := ⟨3, ![4, 2752, 2048]⟩
abbrev S4x2048x2752 : Shape := ⟨3, ![4, 2048, 2752]⟩
abbrev S512x2048 : Shape := ⟨2, ![512, 2048]⟩
abbrev S1x2752x2048 : Shape := ⟨3, ![1, 2752, 2048]⟩
abbrev S1x512x2752 : Shape := ⟨3, ![1, 512, 2752]⟩
abbrev S2752x2048 : Shape := ⟨2, ![2752, 2048]⟩
abbrev S512x2752 : Shape := ⟨2, ![512, 2752]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11008, .f32⟩
  | .hbm, ⟨2, _⟩ => ⟨S2048x2048, .bf16⟩
  | .hbm, ⟨3, _⟩ => ⟨S11008x2048, .f32⟩
  | .hbm, ⟨4, _⟩ => ⟨S4x2752x2048, .f32⟩
  | .hbm, ⟨5, _⟩ => ⟨S4x2752x2048, .bf16⟩
  | .hbm, ⟨6, _⟩ => ⟨S4x2048x2752, .f32⟩
  | .local _ .vmem, ⟨0, _⟩ => ⟨S512x2048, .bf16⟩
  | .local _ .vmem, ⟨1, _⟩ => ⟨S512x2048, .bf16⟩
  | .local _ .vmem, ⟨2, _⟩ => ⟨S1x2752x2048, .bf16⟩
  | .local _ .vmem, ⟨3, _⟩ => ⟨S1x2752x2048, .bf16⟩
  | .local _ .vmem, ⟨4, _⟩ => ⟨S1x512x2752, .f32⟩
  | .local _ .vmem, ⟨5, _⟩ => ⟨S1x512x2752, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2752x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S2048x11008 : Shape := ⟨2, ![2048, 11008]⟩
abbrev S2048x4x2752 : Shape := ⟨3, ![2048, 4, 2752]⟩
abbrev S4x2048x2752 : Shape := ⟨3, ![4, 2048, 2752]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11008, .f32⟩
  | .hbm, ⟨2, _⟩ => ⟨S2048x11008, .f32⟩
  | .hbm, ⟨3, _⟩ => ⟨S2048x4x2752, .f32⟩
  | .hbm, ⟨4, _⟩ => ⟨S4x2048x2752, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDx.lean ====
abbrev S2048x11008 : Shape := ⟨2, ![2048, 11008]⟩
abbrev S2048x2x2x2752 : Shape := ⟨4, ![2048, 2, 2, 2752]⟩
abbrev S2x2x2048x2752 : Shape := ⟨4, ![2, 2, 2048, 2752]⟩
abbrev S11008x2048 : Shape := ⟨2, ![11008, 2048]⟩
abbrev S4x2752x2048 : Shape := ⟨3, ![4, 2752, 2048]⟩
abbrev S2048x2048 : Shape := ⟨2, ![2048, 2048]⟩
abbrev S1x1x1024x2752 : Shape := ⟨4, ![1, 1, 1024, 2752]⟩
abbrev S1x2752x1024 : Shape := ⟨3, ![1, 2752, 1024]⟩
abbrev S1024x1024 : Shape := ⟨2, ![1024, 1024]⟩
abbrev S1024x2752 : Shape := ⟨2, ![1024, 2752]⟩
abbrev S2752x1024 : Shape := ⟨2, ![2752, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x11008, .f32⟩
  | .hbm, ⟨1, _⟩ => ⟨S2048x11008, .f32⟩
  | .hbm, ⟨2, _⟩ => ⟨S2048x2x2x2752, .f32⟩
  | .hbm, ⟨3, _⟩ => ⟨S2x2x2048x2752, .f32⟩
  | .hbm, ⟨4, _⟩ => ⟨S2x2x2048x2752, .bf16⟩
  | .hbm, ⟨5, _⟩ => ⟨S11008x2048, .f32⟩
  | .hbm, ⟨6, _⟩ => ⟨S4x2752x2048, .f32⟩
  | .hbm, ⟨7, _⟩ => ⟨S4x2752x2048, .bf16⟩
  | .hbm, ⟨8, _⟩ => ⟨S2048x2048, .f32⟩
  | .local _ .vmem, ⟨0, _⟩ => ⟨S1x1x1024x2752, .bf16⟩
  | .local _ .vmem, ⟨1, _⟩ => ⟨S1x1x1024x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg2 c2_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg2 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x11008 : Shape := ⟨2, ![2048, 11008]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S2048x11008, .f32⟩
  | .hbm, ⟨2, _⟩ => ⟨S_, .f32⟩
  | .hbm, ⟨3, _⟩ => ⟨S2048x2048, .f32⟩
  | .hbm, ⟨4, _⟩ => ⟨S2048x11008, .f32⟩
  | .hbm, ⟨5, _⟩ => ⟨S2048x2048, .f32⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpDw.lean ====
abbrev S2048x2048 : Shape := ⟨2, ![2048, 2048]⟩
abbrev S2048x11008 : Shape := ⟨2, ![2048, 11008]⟩
abbrev S2048x2x2x2752 : Shape := ⟨4, ![2048, 2, 2, 2752]⟩
abbrev S2x2x2048x2752 : Shape := ⟨4, ![2, 2, 2048, 2752]⟩
abbrev S4x2752x2048 : Shape := ⟨3, ![4, 2752, 2048]⟩
abbrev S1x1x2048x2752 : Shape := ⟨4, ![1, 1, 2048, 2752]⟩
abbrev S2048x512 : Shape := ⟨2, ![2048, 512]⟩
abbrev S1x2752x512 : Shape := ⟨3, ![1, 2752, 512]⟩
abbrev S2048x2752 : Shape := ⟨2, ![2048, 2752]⟩
abbrev S2752x512 : Shape := ⟨2, ![2752, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11008, .f32⟩
  | .hbm, ⟨2, _⟩ => ⟨S2048x2048, .bf16⟩
  | .hbm, ⟨3, _⟩ => ⟨S2048x2x2x2752, .f32⟩
  | .hbm, ⟨4, _⟩ => ⟨S2x2x2048x2752, .f32⟩
  | .hbm, ⟨5, _⟩ => ⟨S2x2x2048x2752, .bf16⟩
  | .hbm, ⟨6, _⟩ => ⟨S4x2752x2048, .f32⟩
  | .local _ .vmem, ⟨0, _⟩ => ⟨S1x1x2048x2752, .bf16⟩
  | .local _ .vmem, ⟨1, _⟩ => ⟨S1x1x2048x2752, .bf16⟩
  | .local _ .vmem, ⟨2, _⟩ => ⟨S2048x512, .bf16⟩
  | .local _ .vmem, ⟨3, _⟩ => ⟨S2048x512, .bf16⟩
  | .local _ .vmem, ⟨4, _⟩ => ⟨S1x2752x512, .f32⟩
  | .local _ .vmem, ⟨5, _⟩ => ⟨S1x2752x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg2.toNat, c0_i32_10.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x2048x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2048x11008 : Shape := ⟨2, ![2048, 11008]⟩
abbrev S_ : Shape := ⟨0, ![]⟩
abbrev S11008x2048 : Shape := ⟨2, ![11008, 2048]⟩
abbrev S4x2752x2048 : Shape := ⟨3, ![4, 2752, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11008, .f32⟩
  | .hbm, ⟨2, _⟩ => ⟨S_, .f32⟩
  | .hbm, ⟨3, _⟩ => ⟨S2048x11008, .f32⟩
  | .hbm, ⟨4, _⟩ => ⟨S2048x11008, .f32⟩
  | .hbm, ⟨5, _⟩ => ⟨S11008x2048, .f32⟩
  | .hbm, ⟨6, _⟩ => ⟨S2048x11008, .f32⟩
  | .hbm, ⟨7, _⟩ => ⟨S11008x2048, .f32⟩
  | .hbm, ⟨8, _⟩ => ⟨S4x2752x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S2048x5504 : Shape := ⟨2, ![2048, 5504]⟩
abbrev S5504x2048 : Shape := ⟨2, ![5504, 2048]⟩
abbrev S2048x2x2752 : Shape := ⟨3, ![2048, 2, 2752]⟩
abbrev S2x2048x2752 : Shape := ⟨3, ![2, 2048, 2752]⟩
abbrev S2x2752x2048 : Shape := ⟨3, ![2, 2752, 2048]⟩
abbrev S2048x2048 : Shape := ⟨2, ![2048, 2048]⟩
abbrev S1x1024x2752 : Shape := ⟨3, ![1, 1024, 2752]⟩
abbrev S1x2752x512 : Shape := ⟨3, ![1, 2752, 512]⟩
abbrev S1024x512 : Shape := ⟨2, ![1024, 512]⟩
abbrev S1024x2752 : Shape := ⟨2, ![1024, 2752]⟩
abbrev S2752x512 : Shape := ⟨2, ![2752, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x5504, .f32⟩
  | .hbm, ⟨1, _⟩ => ⟨S5504x2048, .f32⟩
  | .hbm, ⟨2, _⟩ => ⟨S2048x2x2752, .f32⟩
  | .hbm, ⟨3, _⟩ => ⟨S2x2048x2752, .f32⟩
  | .hbm, ⟨4, _⟩ => ⟨S2x2048x2752, .bf16⟩
  | .hbm, ⟨5, _⟩ => ⟨S2x2752x2048, .f32⟩
  | .hbm, ⟨6, _⟩ => ⟨S2x2752x2048, .bf16⟩
  | .hbm, ⟨7, _⟩ => ⟨S2048x2048, .f32⟩
  | .local _ .vmem, ⟨0, _⟩ => ⟨S1x1024x2752, .bf16⟩
  | .local _ .vmem, ⟨1, _⟩ => ⟨S1x1024x2752, .bf16⟩
  | .local _ .vmem, ⟨2, _⟩ => ⟨S1x2752x512, .bf16⟩
  | .local _ .vmem, ⟨3, _⟩ => ⟨S1x2752x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x5504 : Shape := ⟨2, ![2048, 5504]⟩
abbrev S5504x2048 : Shape := ⟨2, ![5504, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x5504, .f32⟩
  | .hbm, ⟨1, _⟩ => ⟨S5504x2048, .f32⟩
  | .hbm, ⟨2, _⟩ => ⟨S2048x2048, .f32⟩
  | _, _ => ⟨S2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDact.lean ====
abbrev S2048x2048 : Shape := ⟨2, ![2048, 2048]⟩
abbrev S5504x2048 : Shape := ⟨2, ![5504, 2048]⟩
abbrev S2x2752x2048 : Shape := ⟨3, ![2, 2752, 2048]⟩
abbrev S2x2048x2752 : Shape := ⟨3, ![2, 2048, 2752]⟩
abbrev S512x2048 : Shape := ⟨2, ![512, 2048]⟩
abbrev S1x2752x2048 : Shape := ⟨3, ![1, 2752, 2048]⟩
abbrev S1x512x2752 : Shape := ⟨3, ![1, 512, 2752]⟩
abbrev S2752x2048 : Shape := ⟨2, ![2752, 2048]⟩
abbrev S512x2752 : Shape := ⟨2, ![512, 2752]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S5504x2048, .f32⟩
  | .hbm, ⟨2, _⟩ => ⟨S2048x2048, .bf16⟩
  | .hbm, ⟨3, _⟩ => ⟨S2x2752x2048, .f32⟩
  | .hbm, ⟨4, _⟩ => ⟨S2x2752x2048, .bf16⟩
  | .hbm, ⟨5, _⟩ => ⟨S2x2048x2752, .f32⟩
  | .local _ .vmem, ⟨0, _⟩ => ⟨S512x2048, .bf16⟩
  | .local _ .vmem, ⟨1, _⟩ => ⟨S512x2048, .bf16⟩
  | .local _ .vmem, ⟨2, _⟩ => ⟨S1x2752x2048, .bf16⟩
  | .local _ .vmem, ⟨3, _⟩ => ⟨S1x2752x2048, .bf16⟩
  | .local _ .vmem, ⟨4, _⟩ => ⟨S1x512x2752, .f32⟩
  | .local _ .vmem, ⟨5, _⟩ => ⟨S1x512x2752, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2752x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDactRefIdeal.lean ====
abbrev S2048x2048 : Shape := ⟨2, ![2048, 2048]⟩
abbrev S5504x2048 : Shape := ⟨2, ![5504, 2048]⟩
abbrev S_ : Shape := ⟨0, ![]⟩
abbrev S2048x5504 : Shape := ⟨2, ![2048, 5504]⟩
abbrev S2048x2x2752 : Shape := ⟨3, ![2048, 2, 2752]⟩
abbrev S2x2048x2752 : Shape := ⟨3, ![2, 2048, 2752]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5504x2048, .f32⟩
  | .hbm, ⟨2, _⟩ => ⟨S_, .f32⟩
  | .hbm, ⟨3, _⟩ => ⟨S2048x5504, .f32⟩
  | .hbm, ⟨4, _⟩ => ⟨S2048x2048, .f32⟩
  | .hbm, ⟨5, _⟩ => ⟨S2048x5504, .f32⟩
  | .hbm, ⟨6, _⟩ => ⟨S2048x2x2752, .f32⟩
  | .hbm, ⟨7, _⟩ => ⟨S2x2048x2752, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S2048x5504 : Shape := ⟨2, ![2048, 5504]⟩
abbrev S2048x2048 : Shape := ⟨2, ![2048, 2048]⟩
abbrev S2048x2x2752 : Shape := ⟨3, ![2048, 2, 2752]⟩
abbrev S2x2048x2752 : Shape := ⟨3, ![2, 2048, 2752]⟩
abbrev S2x2752x2048 : Shape := ⟨3, ![2, 2752, 2048]⟩
abbrev S1x2048x2752 : Shape := ⟨3, ![1, 2048, 2752]⟩
abbrev S2048x512 : Shape := ⟨2, ![2048, 512]⟩
abbrev S1x2752x512 : Shape := ⟨3, ![1, 2752, 512]⟩
abbrev S2048x2752 : Shape := ⟨2, ![2048, 2752]⟩
abbrev S2752x512 : Shape := ⟨2, ![2752, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x5504, .f32⟩
  | .hbm, ⟨1, _⟩ => ⟨S2048x2048, .f32⟩
  | .hbm, ⟨2, _⟩ => ⟨S2048x2x2752, .f32⟩
  | .hbm, ⟨3, _⟩ => ⟨S2x2048x2752, .f32⟩
  | .hbm, ⟨4, _⟩ => ⟨S2x2048x2752, .bf16⟩
  | .hbm, ⟨5, _⟩ => ⟨S2048x2048, .bf16⟩
  | .hbm, ⟨6, _⟩ => ⟨S2x2752x2048, .f32⟩
  | .local _ .vmem, ⟨0, _⟩ => ⟨S1x2048x2752, .bf16⟩
  | .local _ .vmem, ⟨1, _⟩ => ⟨S1x2048x2752, .bf16⟩
  | .local _ .vmem, ⟨2, _⟩ => ⟨S2048x512, .bf16⟩
  | .local _ .vmem, ⟨3, _⟩ => ⟨S2048x512, .bf16⟩
  | .local _ .vmem, ⟨4, _⟩ => ⟨S1x2752x512, .f32⟩
  | .local _ .vmem, ⟨5, _⟩ => ⟨S1x2752x512, .f32⟩
  | _, _ => ⟨S2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5504 : Shape := ⟨2, ![2048, 5504]⟩
abbrev S2048x2048 : Shape := ⟨2, ![2048, 2048]⟩
abbrev S_ : Shape := ⟨0, ![]⟩
abbrev S5504x2048 : Shape := ⟨2, ![5504, 2048]⟩
abbrev S2x2752x2048 : Shape := ⟨3, ![2, 2752, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5504, .f32⟩
  | .hbm, ⟨1, _⟩ => ⟨S2048x2048, .f32⟩
  | .hbm, ⟨2, _⟩ => ⟨S_, .f32⟩
  | .hbm, ⟨3, _⟩ => ⟨S5504x2048, .f32⟩
  | .hbm, ⟨4, _⟩ => ⟨S2048x2048, .f32⟩
  | .hbm, ⟨5, _⟩ => ⟨S2048x5504, .f32⟩
  | .hbm, ⟨6, _⟩ => ⟨S5504x2048, .f32⟩
  | .hbm, ⟨7, _⟩ => ⟨S2x2752x2048, .f32⟩
  | _, _ => ⟨S2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In.lean ====
abbrev S2048x2048 : Shape := ⟨2, ![2048, 2048]⟩
abbrev S2048x2560 : Shape := ⟨2, ![2048, 2560]⟩
abbrev S2048x4x640 : Shape := ⟨3, ![2048, 4, 640]⟩
abbrev S4x2048x640 : Shape := ⟨3, ![4, 2048, 640]⟩
abbrev S1x2048x640 : Shape := ⟨3, ![1, 2048, 640]⟩
abbrev S2048x640 : Shape := ⟨2, ![2048, 640]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2048, .bf16⟩
  | .hbm, ⟨3, _⟩ => ⟨S2048x4x640, .f32⟩
  | .hbm, ⟨4, _⟩ => ⟨S4x2048x640, .f32⟩
  | .hbm, ⟨5, _⟩ => ⟨S4x2048x640, .bf16⟩
  | .hbm, ⟨6, _⟩ => ⟨S2048x2560, .f32⟩
  | .local _ .vmem, ⟨0, _⟩ => ⟨S2048x2048, .bf16⟩
  | .local _ .vmem, ⟨1, _⟩ => ⟨S1x2048x640, .bf16⟩
  | .local _ .vmem, ⟨2, _⟩ => ⟨S1x2048x640, .bf16⟩
  | .local _ .vmem, ⟨3, _⟩ => ⟨S2048x640, .f32⟩
  | .local _ .vmem, ⟨4, _⟩ => ⟨S2048x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S2048x2048 : Shape := ⟨2, ![2048, 2048]⟩
abbrev S2048x2560 : Shape := ⟨2, ![2048, 2560]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDx.lean ====
abbrev S2048x2560 : Shape := ⟨2, ![2048, 2560]⟩
abbrev S2048x4x640 : Shape := ⟨3, ![2048, 4, 640]⟩
abbrev S4x2048x640 : Shape := ⟨3, ![4, 2048, 640]⟩
abbrev S2048x2048 : Shape := ⟨2, ![2048, 2048]⟩
abbrev S2048x640 : Shape := ⟨2, ![2048, 640]⟩
abbrev S1x512x640 : Shape := ⟨3, ![1, 512, 640]⟩
abbrev S2048x512 : Shape := ⟨2, ![2048, 512]⟩
abbrev S512x640 : Shape := ⟨2, ![512, 640]⟩

abbrev nBuf : Space → Nat
  | .hbm => 7
  | .vmem => 7
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .bf16⟩
  | .hbm, ⟨3, _⟩ => ⟨S2048x4x640, .f32⟩
  | .hbm, ⟨4, _⟩ => ⟨S4x2048x640, .f32⟩
  | .hbm, ⟨5, _⟩ => ⟨S4x2048x640, .bf16⟩
  | .hbm, ⟨6, _⟩ => ⟨S2048x2048, .f32⟩
  | .local _ .vmem, ⟨0, _⟩ => ⟨S2048x640, .bf16⟩
  | .local _ .vmem, ⟨1, _⟩ => ⟨S2048x640, .bf16⟩
  | .local _ .vmem, ⟨2, _⟩ => ⟨S1x512x640, .bf16⟩
  | .local _ .vmem, ⟨3, _⟩ => ⟨S1x512x640, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2048x2560 : Shape := ⟨2, ![2048, 2560]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S_, .f32⟩
  | .hbm, ⟨3, _⟩ => ⟨S2048x2048, .f32⟩
  | .hbm, ⟨4, _⟩ => ⟨S2048x2560, .f32⟩
  | .hbm, ⟨5, _⟩ => ⟨S2048x2048, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S2048x2048 : Shape := ⟨2, ![2048, 2048]⟩
abbrev S2048x2560 : Shape := ⟨2, ![2048, 2560]⟩
abbrev S4x2048x640 : Shape := ⟨3, ![4, 2048, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2048, .bf16⟩
  | .hbm, ⟨3, _⟩ => ⟨S2048x2560, .bf16⟩
  | .hbm, ⟨4, _⟩ => ⟨S4x2048x640, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .f32⟩
  | .local _ .vmem, ⟨5, _⟩ => ⟨S1x1024x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S2048x2048 : Shape := ⟨2, ![2048, 2048]⟩
abbrev S2048x2560 : Shape := ⟨2, ![2048, 2560]⟩
abbrev S_ : Shape := ⟨0, ![]⟩
abbrev S2560x2048 : Shape := ⟨2, ![2560, 2048]⟩
abbrev S2048x4x640 : Shape := ⟨3, ![2048, 4, 640]⟩
abbrev S4x2048x640 : Shape := ⟨3, ![4, 2048, 640]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S_, .f32⟩
  | .hbm, ⟨3, _⟩ => ⟨S2048x2560, .f32⟩
  | .hbm, ⟨4, _⟩ => ⟨S2048x2560, .f32⟩
  | .hbm, ⟨5, _⟩ => ⟨S2560x2048, .f32⟩
  | .hbm, ⟨6, _⟩ => ⟨S2048x2560, .f32⟩
  | .hbm, ⟨7, _⟩ => ⟨S2048x4x640, .f32⟩
  | .hbm, ⟨8, _⟩ => ⟨S4x2048x640, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S2048x2048 : Shape := ⟨2, ![2048, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluBwd.lean ====
abbrev S2048x1024 : Shape := ⟨2, ![2048, 1024]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluBwdRefIdeal.lean ====
abbrev S2048x1024 : Shape := ⟨2, ![2048, 1024]⟩
abbrev S2048x512 : Shape := ⟨2, ![2048, 512]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GeluBwd.lean ====
abbrev S2048x512 : Shape := ⟨2, ![2048, 512]⟩
abbrev S32x16 : Shape := ⟨2, ![32, 16]⟩
abbrev S1x512 : Shape := ⟨2, ![1, 512]⟩
abbrev S512x512 : Shape := ⟨2, ![512, 512]⟩
abbrev S512 : Shape := ⟨1, ![512]⟩

abbrev nBuf : Space → Nat
  | .hbm => 11
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S32x16, .f32⟩
  | .hbm, ⟨3, _⟩ => ⟨S2048x512, .f32⟩
  | .hbm, ⟨4, _⟩ => ⟨S1x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .bf16⟩
  | .hbm, ⟨9, _⟩ => ⟨S2048x512, .f32⟩
  | .hbm, ⟨10, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GeluBwdRefIdeal.lean ====
abbrev S2048x512 : Shape := ⟨2, ![2048, 512]⟩
abbrev S32x16 : Shape := ⟨2, ![32, 16]⟩
abbrev S2048x32x16 : Shape := ⟨3, ![2048, 32, 16]⟩
abbrev S1x32x16 : Shape := ⟨3, ![1, 32, 16]⟩
abbrev S_ : Shape := ⟨0, ![]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S32x16, .f32⟩
  | .hbm, ⟨3, _⟩ => ⟨S2048x512, .f32⟩
  | .hbm, ⟨4, _⟩ => ⟨S2048x32x16, .f32⟩
  | .hbm, ⟨5, _⟩ => ⟨S2048x32x16, .f32⟩
  | .hbm, ⟨6, _⟩ => ⟨S1x32x16, .f32⟩
  | .hbm, ⟨7, _⟩ => ⟨S2048x32x16, .f32⟩
  | .hbm, ⟨8, _⟩ => ⟨S2048x32x16, .f32⟩
  | .hbm, ⟨9, _⟩ => ⟨S2048x32x16, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S_, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x32x16, .f32⟩
  | .hbm, ⟨55, _⟩ => ⟨S2048x32x16, .f32⟩
  | .hbm, ⟨56, _⟩ => ⟨S2048x32x16, .f32⟩
  | .hbm, ⟨57, _⟩ => ⟨S2048x32x16, .f32⟩
  | .hbm, ⟨58, _⟩ => ⟨S_, .f32⟩
  | .hbm, ⟨59, _⟩ => ⟨S32x16, .f32⟩
  | .hbm, ⟨60, _⟩ => ⟨S1x32x16, .f32⟩
  | .hbm, ⟨61, _⟩ => ⟨S_, .f32⟩
  | .hbm, ⟨62, _⟩ => ⟨S32x16, .f32⟩
  | .hbm, ⟨63, _⟩ => ⟨S2048x512, .f32⟩
  | .hbm, ⟨64, _⟩ => ⟨S2048x512, .f32⟩
  | .hbm, ⟨65, _⟩ => ⟨S2048x512, .bf16⟩
  | .hbm, ⟨66, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== LnBwd.lean ====
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048, .f32⟩
  | .hbm, ⟨11, _⟩ => ⟨S1x2048, .f32⟩
  | .hbm, ⟨12, _⟩ => ⟨S2048x2048, .f32⟩
  | .hbm, ⟨13, _⟩ => ⟨S2048x2048, .bf16⟩
  | .hbm, ⟨14, _⟩ => ⟨S1x2048, .f32⟩
  | .hbm, ⟨15, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S2048x2048, .f32⟩
  | .hbm, ⟨64, _⟩ => ⟨S2048x2048, .f32⟩
  | .hbm, ⟨65, _⟩ => ⟨S_, .f32⟩
  | .hbm, ⟨66, _⟩ => ⟨S2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S2048x1, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x2048, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x2048, .f32⟩
  | .hbm, ⟨97, _⟩ => ⟨S2048x2048, .f32⟩
  | .hbm, ⟨98, _⟩ => ⟨S2048x2048, .bf16⟩
  | .hbm, ⟨99, _⟩ => ⟨S1x2048, .f32⟩
  | .hbm, ⟨100, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Ln.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LnRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Loss.lean ====
abbrev S2048x2048 : Shape := ⟨2, ![2048, 2048]⟩
abbrev S8x128 : Shape := ⟨2, ![8, 128]⟩
abbrev S256x2048 : Shape := ⟨2, ![256, 2048]⟩
abbrev S256 : Shape := ⟨1, ![256]⟩
abbrev S1x256 : Shape := ⟨2, ![1, 256]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== GradX.lean ====
abbrev S2048x2048 : Shape := ⟨2, ![2048, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradXRefIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Adamw.lean ====
abbrev S4x16 : Shape := ⟨2, ![4, 16]⟩
abbrev S4x4x128x128 : Shape := ⟨4, ![4, 4, 128, 128]⟩
abbrev S4x512 : Shape := ⟨2, ![4, 512]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x32x16 : Shape := ⟨3, ![4, 32, 16]⟩
abbrev S4x2048 : Shape := ⟨2, ![4, 2048]⟩
abbrev S4x11008 : Shape := ⟨2, ![4, 11008]⟩
abbrev S_ : Shape := ⟨0, ![]⟩
abbrev S4x1024 : Shape := ⟨2, ![4, 1024]⟩
abbrev S4x65536 : Shape := ⟨2, ![4, 65536]⟩
abbrev S4x32768 : Shape := ⟨2, ![4, 32768]⟩
abbrev S4x11264 : Shape := ⟨2, ![4, 11264]⟩
abbrev S4x224256 : Shape := ⟨2, ![4, 224256]⟩
abbrev S7008x128 : Shape := ⟨2, ![7008, 128]⟩
abbrev S2336x128 : Shape := ⟨2, ![2336, 128]⟩

abbrev nBuf : Space → Nat
  | .hbm => 299
  | .vmem => 14
  | .smem => 0
  | _ => 0

abbrev hbmTy0_0 (i : Nat) : BufTy := match i % 128 with
  | 0 => ⟨S4x16, .f32⟩
  | 1 => ⟨S4x4x128x128, .f32⟩
  | 2 => ⟨S4x512, .f32⟩
  | 3 => ⟨S4x32x64, .f32⟩
  | 4 => ⟨S4x32x64, .f32⟩
  | 5 => ⟨S4x32, .f32⟩
  | 6 => ⟨S4x32x64x16, .f32⟩
  | 7 => ⟨S4x32x64x16, .f32⟩
  | 8 => ⟨S4x32x16x64, .f32⟩
  | 9 => ⟨S4x32x16x64, .f32⟩
  | 10 => ⟨S4x32x16, .f32⟩
  | 11 => ⟨S4x2048, .f32⟩
  | 12 => ⟨S4x2048, .f32⟩
  | 13 => ⟨S4x11008, .f32⟩
  | 14 => ⟨S4x2048, .f32⟩
  | 15 => ⟨S4x2048, .f32⟩
  | 16 => ⟨S4x16, .f32⟩
  | 17 => ⟨S4x4x128x128, .f32⟩
  | 18 => ⟨S4x512, .f32⟩
  | 19 => ⟨S4x32x64, .f32⟩
  | 20 => ⟨S4x32x64, .f32⟩
  | 21 => ⟨S4x32, .f32⟩
  | 22 => ⟨S4x32x64x16, .f32⟩
  | 23 => ⟨S4x32x64x16, .f32⟩
  | 24 => ⟨S4x32x16x64, .f32⟩
  | 25 => ⟨S4x32x16x64, .f32⟩
  | 26 => ⟨S4x32x16, .f32⟩
  | 27 => ⟨S4x2048, .f32⟩
  | 28 => ⟨S4x2048, .f32⟩
  | 29 => ⟨S4x11008, .f32⟩
  | 30 => ⟨S4x2048, .f32⟩
  | 31 => ⟨S4x2048, .f32⟩
  | 32 => ⟨S4x16, .f32⟩
  | 33 => ⟨S4x4x128x128, .f32⟩
  | 34 => ⟨S4x512, .f32⟩
  | 35 => ⟨S4x32x64, .f32⟩
  | 36 => ⟨S4x32x64, .f32⟩
  | 37 => ⟨S4x32, .f32⟩
  | 38 => ⟨S4x32x64x16, .f32⟩
  | 39 => ⟨S4x32x64x16, .f32⟩
  | 40 => ⟨S4x32x16x64, .f32⟩
  | 41 => ⟨S4x32x16x64, .f32⟩
  | 42 => ⟨S4x32x16, .f32⟩
  | 43 => ⟨S4x2048, .f32⟩
  | 44 => ⟨S4x2048, .f32⟩
  | 45 => ⟨S4x11008, .f32⟩
  | 46 => ⟨S4x2048, .f32⟩
  | 47 => ⟨S4x2048, .f32⟩
  | 48 => ⟨S4x16, .f32⟩
  | 49 => ⟨S4x4x128x128, .f32⟩
  | 50 => ⟨S4x512, .f32⟩
  | 51 => ⟨S4x32x64, .f32⟩
  | 52 => ⟨S4x32x64, .f32⟩
  | 53 => ⟨S4x32, .f32⟩
  | 54 => ⟨S4x32x64x16, .f32⟩
  | 55 => ⟨S4x32x64x16, .f32⟩
  | 56 => ⟨S4x32x16x64, .f32⟩
  | 57 => ⟨S4x32x16x64, .f32⟩
  | 58 => ⟨S4x32x16, .f32⟩
  | 59 => ⟨S4x2048, .f32⟩
  | 60 => ⟨S4x2048, .f32⟩
  | 61 => ⟨S4x11008, .f32⟩
  | 62 => ⟨S4x2048, .f32⟩
  | 63 => ⟨S4x2048, .f32⟩
  | 64 => ⟨S_, .i32⟩
  | 65 => ⟨S_, .f32⟩
  | 66 => ⟨S4x1024, .f32⟩
  | 67 => ⟨S4x65536, .f32⟩
  | 68 => ⟨S_, .i32⟩
  | 69 => ⟨S_, .f32⟩
  | 70 => ⟨S4x65536, .f32⟩
  | 71 => ⟨S_, .i32⟩
  | 72 => ⟨S_, .f32⟩
  | 73 => ⟨S4x1024, .f32⟩
  | 74 => ⟨S4x2048, .f32⟩
  | 75 => ⟨S_, .i32⟩
  | 76 => ⟨S_, .f32⟩
  | 77 => ⟨S4x2048, .f32⟩
  | 78 => ⟨S4x2048, .f32⟩
  | 79 => ⟨S_, .i32⟩
  | 80 => ⟨S_, .f32⟩
  | 81 => ⟨S4x2048, .f32⟩
  | 82 => ⟨S_, .i32⟩
  | 83 => ⟨S_, .f32⟩
  | 84 => ⟨S4x1024, .f32⟩
  | 85 => ⟨S4x32768, .f32⟩
  | 86 => ⟨S_, .i32⟩
  | 87 => ⟨S_, .f32⟩
  | 88 => ⟨S4x32768, .f32⟩
  | 89 => ⟨S4x32768, .f32⟩
  | 90 => ⟨S_, .i32⟩
  | 91 => ⟨S_, .f32⟩
  | 92 => ⟨S4x32768, .f32⟩
  | 93 => ⟨S4x32768, .f32⟩
  | 94 => ⟨S_, .i32⟩
  | 95 => ⟨S_, .f32⟩
  | 96 => ⟨S4x32768, .f32⟩
  | 97 => ⟨S4x32768, .f32⟩
  | 98 => ⟨S_, .i32⟩
  | 99 => ⟨S_, .f32⟩
  | 100 => ⟨S4x32768, .f32⟩
  | 101 => ⟨S4x512, .f32⟩
  | 102 => ⟨S_, .i32⟩
  | 103 => ⟨S_, .f32⟩
  | 104 => ⟨S4x1024, .f32⟩
  | 105 => ⟨S_, .i32⟩
  | 106 => ⟨S_, .f32⟩
  | 107 => ⟨S4x2048, .f32⟩
  | 108 => ⟨S_, .i32⟩
  | 109 => ⟨S_, .f32⟩
  | 110 => ⟨S4x2048, .f32⟩
  | 111 => ⟨S_, .i32⟩
  | 112 => ⟨S_, .f32⟩
  | 113 => ⟨S4x11264, .f32⟩
  | 114 => ⟨S_, .i32⟩
  | 115 => ⟨S_, .f32⟩
  | 116 => ⟨S4x2048, .f32⟩
  | 117 => ⟨S_, .i32⟩
  | 118 => ⟨S_, .f32⟩
  | 119 => ⟨S4x2048, .f32⟩
  | 120 => ⟨S4x224256, .f32⟩
  | 121 => ⟨S7008x128, .f32⟩
  | 122 => ⟨S_, .i32⟩
  | 123 => ⟨S_, .f32⟩
  | 124 => ⟨S4x1024, .f32⟩
  | 125 => ⟨S4x65536, .f32⟩
  | 126 => ⟨S_, .i32⟩
  | 127 => ⟨S_, .f32⟩
  | _ => ⟨S4x16, .f32⟩

abbrev hbmTy0_1 (i : Nat) : BufTy := match i % 128 with
  | 0 => ⟨S4x65536, .f32⟩
  | 1 => ⟨S_, .i32⟩
  | 2 => ⟨S_, .f32⟩
  | 3 => ⟨S4x1024, .f32⟩
  | 4 => ⟨S4x2048, .f32⟩
  | 5 => ⟨S_, .i32⟩
  | 6 => ⟨S_, .f32⟩
  | 7 => ⟨S4x2048, .f32⟩
  | 8 => ⟨S4x2048, .f32⟩
  | 9 => ⟨S_, .i32⟩
  | 10 => ⟨S_, .f32⟩
  | 11 => ⟨S4x2048, .f32⟩
  | 12 => ⟨S_, .i32⟩
  | 13 => ⟨S_, .f32⟩
  | 14 => ⟨S4x1024, .f32⟩
  | 15 => ⟨S4x32768, .f32⟩
  | 16 => ⟨S_, .i32⟩
  | 17 => ⟨S_, .f32⟩
  | 18 => ⟨S4x32768, .f32⟩
  | 19 => ⟨S4x32768, .f32⟩
  | 20 => ⟨S_, .i32⟩
  | 21 => ⟨S_, .f32⟩
  | 22 => ⟨S4x32768, .f32⟩
  | 23 => ⟨S4x32768, .f32⟩
  | 24 => ⟨S_, .i32⟩
  | 25 => ⟨S_, .f32⟩
  | 26 => ⟨S4x32768, .f32⟩
  | 27 => ⟨S4x32768, .f32⟩
  | 28 => ⟨S_, .i32⟩
  | 29 => ⟨S_, .f32⟩
  | 30 => ⟨S4x32768, .f32⟩
  | 31 => ⟨S4x512, .f32⟩
  | 32 => ⟨S_, .i32⟩
  | 33 => ⟨S_, .f32⟩
  | 34 => ⟨S4x1024, .f32⟩
  | 35 => ⟨S_, .i32⟩
  | 36 => ⟨S_, .f32⟩
  | 37 => ⟨S4x2048, .f32⟩
  | 38 => ⟨S_, .i32⟩
  | 39 => ⟨S_, .f32⟩
  | 40 => ⟨S4x2048, .f32⟩
  | 41 => ⟨S_, .i32⟩
  | 42 => ⟨S_, .f32⟩
  | 43 => ⟨S4x11264, .f32⟩
  | 44 => ⟨S_, .i32⟩
  | 45 => ⟨S_, .f32⟩
  | 46 => ⟨S4x2048, .f32⟩
  | 47 => ⟨S_, .i32⟩
  | 48 => ⟨S_, .f32⟩
  | 49 => ⟨S4x2048, .f32⟩
  | 50 => ⟨S4x224256, .f32⟩
  | 51 => ⟨S7008x128, .f32⟩
  | 52 => ⟨S_, .i32⟩
  | 53 => ⟨S_, .f32⟩
  | 54 => ⟨S4x1024, .f32⟩
  | 55 => ⟨S4x65536, .f32⟩
  | 56 => ⟨S_, .i32⟩
  | 57 => ⟨S_, .f32⟩
  | 58 => ⟨S4x65536, .f32⟩
  | 59 => ⟨S_, .i32⟩
  | 60 => ⟨S_, .f32⟩
  | 61 => ⟨S4x1024, .f32⟩
  | 62 => ⟨S4x2048, .f32⟩
  | 63 => ⟨S_, .i32⟩
  | 64 => ⟨S_, .f32⟩
  | 65 => ⟨S4x2048, .f32⟩
  | 66 => ⟨S4x2048, .f32⟩
  | 67 => ⟨S_, .i32⟩
  | 68 => ⟨S_, .f32⟩
  | 69 => ⟨S4x2048, .f32⟩
  | 70 => ⟨S_, .i32⟩
  | 71 => ⟨S_, .f32⟩
  | 72 => ⟨S4x1024, .f32⟩
  | 73 => ⟨S4x32768, .f32⟩
  | 74 => ⟨S_, .i32⟩
  | 75 => ⟨S_, .f32⟩
  | 76 => ⟨S4x32768, .f32⟩
  | 77 => ⟨S4x32768, .f32⟩
  | 78 => ⟨S_, .i32⟩
  | 79 => ⟨S_, .f32⟩
  | 80 => ⟨S4x32768, .f32⟩
  | 81 => ⟨S4x32768, .f32⟩
  | 82 => ⟨S_, .i32⟩
  | 83 => ⟨S_, .f32⟩
  | 84 => ⟨S4x32768, .f32⟩
  | 85 => ⟨S4x32768, .f32⟩
  | 86 => ⟨S_, .i32⟩
  | 87 => ⟨S_, .f32⟩
  | 88 => ⟨S4x32768, .f32⟩
  | 89 => ⟨S4x512, .f32⟩
  | 90 => ⟨S_, .i32⟩
  | 91 => ⟨S_, .f32⟩
  | 92 => ⟨S4x1024, .f32⟩
  | 93 => ⟨S_, .i32⟩
  | 94 => ⟨S_, .f32⟩
  | 95 => ⟨S4x2048, .f32⟩
  | 96 => ⟨S_, .i32⟩
  | 97 => ⟨S_, .f32⟩
  | 98 => ⟨S4x2048, .f32⟩
  | 99 => ⟨S_, .i32⟩
  | 100 => ⟨S_, .f32⟩
  | 101 => ⟨S4x11264, .f32⟩
  | 102 => ⟨S_, .i32⟩
  | 103 => ⟨S_, .f32⟩
  | 104 => ⟨S4x2048, .f32⟩
  | 105 => ⟨S_, .i32⟩
  | 106 => ⟨S_, .f32⟩
  | 107 => ⟨S4x2048, .f32⟩
  | 108 => ⟨S4x224256, .f32⟩
  | 109 => ⟨S7008x128, .f32⟩
  | 110 => ⟨S_, .i32⟩
  | 111 => ⟨S_, .f32⟩
  | 112 => ⟨S4x1024, .f32⟩
  | 113 => ⟨S4x65536, .f32⟩
  | 114 => ⟨S_, .i32⟩
  | 115 => ⟨S_, .f32⟩
  | 116 => ⟨S4x65536, .f32⟩
  | 117 => ⟨S_, .i32⟩
  | 118 => ⟨S_, .f32⟩
  | 119 => ⟨S4x1024, .f32⟩
  | 120 => ⟨S4x2048, .f32⟩
  | 121 => ⟨S_, .i32⟩
  | 122 => ⟨S_, .f32⟩
  | 123 => ⟨S4x2048, .f32⟩
  | 124 => ⟨S4x2048, .f32⟩
  | 125 => ⟨S_, .i32⟩
  | 126 => ⟨S_, .f32⟩
  | 127 => ⟨S4x2048, .f32⟩
  | _ => ⟨S4x16, .f32⟩

abbrev hbmTy0_2 (i : Nat) : BufTy := match i % 128 with
  | 0 => ⟨S_, .i32⟩
  | 1 => ⟨S_, .f32⟩
  | 2 => ⟨S4x1024, .f32⟩
  | 3 => ⟨S4x32768, .f32⟩
  | 4 => ⟨S_, .i32⟩
  | 5 => ⟨S_, .f32⟩
  | 6 => ⟨S4x32768, .f32⟩
  | 7 => ⟨S4x32768, .f32⟩
  | 8 => ⟨S_, .i32⟩
  | 9 => ⟨S_, .f32⟩
  | 10 => ⟨S4x32768, .f32⟩
  | 11 => ⟨S4x32768, .f32⟩
  | 12 => ⟨S_, .i32⟩
  | 13 => ⟨S_, .f32⟩
  | 14 => ⟨S4x32768, .f32⟩
  | 15 => ⟨S4x32768, .f32⟩
  | 16 => ⟨S_, .i32⟩
  | 17 => ⟨S_, .f32⟩
  | 18 => ⟨S4x32768, .f32⟩
  | 19 => ⟨S4x512, .f32⟩
  | 20 => ⟨S_, .i32⟩
  | 21 => ⟨S_, .f32⟩
  | 22 => ⟨S4x1024, .f32⟩
  | 23 => ⟨S_, .i32⟩
  | 24 => ⟨S_, .f32⟩
  | 25 => ⟨S4x2048, .f32⟩
  | 26 => ⟨S_, .i32⟩
  | 27 => ⟨S_, .f32⟩
  | 28 => ⟨S4x2048, .f32⟩
  | 29 => ⟨S_, .i32⟩
  | 30 => ⟨S_, .f32⟩
  | 31 => ⟨S4x11264, .f32⟩
  | 32 => ⟨S_, .i32⟩
  | 33 => ⟨S_, .f32⟩
  | 34 => ⟨S4x2048, .f32⟩
  | 35 => ⟨S_, .i32⟩
  | 36 => ⟨S_, .f32⟩
  | 37 => ⟨S4x2048, .f32⟩
  | 38 => ⟨S4x224256, .f32⟩
  | 39 => ⟨S7008x128, .f32⟩
  | 40 => ⟨S7008x128, .f32⟩
  | 41 => ⟨S7008x128, .f32⟩
  | 42 => ⟨S7008x128, .f32⟩
  | _ => ⟨S4x16, .f32⟩

abbrev hbmTy (i : Nat) : BufTy := match i / 128 with
  | 0 => hbmTy0_0 i
  | 1 => hbmTy0_1 i
  | 2 => hbmTy0_2 i
  | _ => ⟨S4x16, .f32⟩

abbrev bufTy : (tb : Table) → Fin (tcTables nBuf tb) → BufTy
  | .hbm, ⟨i, _⟩ => hbmTy i
  | .local _ .vmem, ⟨0, _⟩ => ⟨S2336x128, .f32⟩
  | .local _ .vmem, ⟨1, _⟩ => ⟨S2336x128, .f32⟩
  | .local _ .vmem, ⟨2, _⟩ => ⟨S2336x128, .f32⟩
  | .local _ .vmem, ⟨3, _⟩ => ⟨S2336x128, .f32⟩
  | .local _ .vmem, ⟨4, _⟩ => ⟨S2336x128, .f32⟩
  | .local _ .vmem, ⟨5, _⟩ => ⟨S2336x128, .f32⟩
  | .local _ .vmem, ⟨6, _⟩ => ⟨S2336x128, .f32⟩
  | .local _ .vmem, ⟨7, _⟩ => ⟨S2336x128, .f32⟩
  | .local _ .vmem, ⟨8, _⟩ => ⟨S2336x128, .f32⟩
  | .local _ .vmem, ⟨9, _⟩ => ⟨S2336x128, .f32⟩
  | .local _ .vmem, ⟨10, _⟩ => ⟨S2336x128, .f32⟩
  | .local _ .vmem, ⟨11, _⟩ => ⟨S2336x128, .f32⟩
  | .local _ .vmem, ⟨12, _⟩ => ⟨S2336x128, .f32⟩
  | .local _ .vmem, ⟨13, _⟩ => ⟨S2336x128, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_c : Ref sig .tc := ⟨.hbm, 64, rfl⟩
abbrev main_call0_v0 : Ref sig .tc := ⟨.hbm, 65, rfl⟩
abbrev main_v0 : Ref sig .tc := ⟨.hbm, 66, rfl⟩
abbrev main_v1 : Ref sig .tc := ⟨.hbm, 67, rfl⟩
abbrev main_c_0 : Ref sig .tc := ⟨.hbm, 68, rfl⟩
abbrev main_call1_v0 : Ref sig .tc := ⟨.hbm, 69, rfl⟩
abbrev main_v2 : Ref sig .tc := ⟨.hbm, 70, rfl⟩
abbrev main_c_1 : Ref sig .tc := ⟨.hbm, 71, rfl⟩
abbrev main_call2_v0 : Ref sig .tc := ⟨.hbm, 72, rfl⟩
abbrev main_v3 : Ref sig .tc := ⟨.hbm, 73, rfl⟩
abbrev main_v4 : Ref sig .tc := ⟨.hbm, 74, rfl⟩
abbrev main_c_2 : Ref sig .tc := ⟨.hbm, 75, rfl⟩
abbrev main_call3_v0 : Ref sig .tc := ⟨.hbm, 76, rfl⟩
abbrev main_v5 : Ref sig .tc := ⟨.hbm, 77, rfl⟩
abbrev main_v6 : Ref sig .tc := ⟨.hbm, 78, rfl⟩
abbrev main_c_3 : Ref sig .tc := ⟨.hbm, 79, rfl⟩
abbrev main_call4_v0 : Ref sig .tc := ⟨.hbm, 80, rfl⟩
abbrev main_v7 : Ref sig .tc := ⟨.hbm, 81, rfl⟩
abbrev main_c_4 : Ref sig .tc := ⟨.hbm, 82, rfl⟩
abbrev main_call5_v0 : Ref sig .tc := ⟨.hbm, 83, rfl⟩
abbrev main_v8 : Ref sig .tc := ⟨.hbm, 84, rfl⟩
abbrev main_v9 : Ref sig .tc := ⟨.hbm, 85, rfl⟩
abbrev main_c_5 : Ref sig .tc := ⟨.hbm, 86, rfl⟩
abbrev main_call6_v0 : Ref sig .tc := ⟨.hbm, 87, rfl⟩
abbrev main_v10 : Ref sig .tc := ⟨.hbm, 88, rfl⟩
abbrev main_v11 : Ref sig .tc := ⟨.hbm, 89, rfl⟩
abbrev main_c_6 : Ref sig .tc := ⟨.hbm, 90, rfl⟩
abbrev main_call7_v0 : Ref sig .tc := ⟨.hbm, 91, rfl⟩
abbrev main_v12 : Ref sig .tc := ⟨.hbm, 92, rfl⟩
abbrev main_v13 : Ref sig .tc := ⟨.hbm, 93, rfl⟩
abbrev main_c_7 : Ref sig .tc := ⟨.hbm, 94, rfl⟩
abbrev main_call8_v0 : Ref sig .tc := ⟨.hbm, 95, rfl⟩
abbrev main_v14 : Ref sig .tc := ⟨.hbm, 96, rfl⟩
abbrev main_v15 : Ref sig .tc := ⟨.hbm, 97, rfl⟩
abbrev main_c_8 : Ref sig .tc := ⟨.hbm, 98, rfl⟩
abbrev main_call9_v0 : Ref sig .tc := ⟨.hbm, 99, rfl⟩
abbrev main_v16 : Ref sig .tc := ⟨.hbm, 100, rfl⟩
abbrev main_v17 : Ref sig .tc := ⟨.hbm, 101, rfl⟩
abbrev main_c_9 : Ref sig .tc := ⟨.hbm, 102, rfl⟩
abbrev main_call10_v0 : Ref sig .tc := ⟨.hbm, 103, rfl⟩
abbrev main_v18 : Ref sig .tc := ⟨.hbm, 104, rfl⟩
abbrev main_c_10 : Ref sig .tc := ⟨.hbm, 105, rfl⟩
abbrev main_call11_v0 : Ref sig .tc := ⟨.hbm, 106, rfl⟩
abbrev main_v19 : Ref sig .tc := ⟨.hbm, 107, rfl⟩
abbrev main_c_11 : Ref sig .tc := ⟨.hbm, 108, rfl⟩
abbrev main_call12_v0 : Ref sig .tc := ⟨.hbm, 109, rfl⟩
abbrev main_v20 : Ref sig .tc := ⟨.hbm, 110, rfl⟩
abbrev main_c_12 : Ref sig .tc := ⟨.hbm, 111, rfl⟩
abbrev main_call13_v0 : Ref sig .tc := ⟨.hbm, 112, rfl⟩
abbrev main_v21 : Ref sig .tc := ⟨.hbm, 113, rfl⟩
abbrev main_c_13 : Ref sig .tc := ⟨.hbm, 114, rfl⟩
abbrev main_call14_v0 : Ref sig .tc := ⟨.hbm, 115, rfl⟩
abbrev main_v22 : Ref sig .tc := ⟨.hbm, 116, rfl⟩
abbrev main_c_14 : Ref sig .tc := ⟨.hbm, 117, rfl⟩
abbrev main_call15_v0 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_c_15 : Ref sig .tc := ⟨.hbm, 122, rfl⟩
abbrev main_call16_v0 : Ref sig .tc := ⟨.hbm, 123, rfl⟩
abbrev main_v26 : Ref sig .tc := ⟨.hbm, 124, rfl⟩
abbrev main_v27 : Ref sig .tc := ⟨.hbm, 125, rfl⟩
abbrev main_c_16 : Ref sig .tc := ⟨.hbm, 126, rfl⟩
abbrev main_call17_v0 : Ref sig .tc := ⟨.hbm, 127, rfl⟩
abbrev main_v28 : Ref sig .tc := ⟨.hbm, 128, rfl⟩
abbrev main_c_17 : Ref sig .tc := ⟨.hbm, 129, rfl⟩
abbrev main_call18_v0 : Ref sig .tc := ⟨.hbm, 130, rfl⟩
abbrev main_v29 : Ref sig .tc := ⟨.hbm, 131, rfl⟩
abbrev main_v30 : Ref sig .tc := ⟨.hbm, 132, rfl⟩
abbrev main_c_18 : Ref sig .tc := ⟨.hbm, 133, rfl⟩
abbrev main_call19_v0 : Ref sig .tc := ⟨.hbm, 134, rfl⟩
abbrev main_v31 : Ref sig .tc := ⟨.hbm, 135, rfl⟩
abbrev main_v32 : Ref sig .tc := ⟨.hbm, 136, rfl⟩
abbrev main_c_19 : Ref sig .tc := ⟨.hbm, 137, rfl⟩
abbrev main_call20_v0 : Ref sig .tc := ⟨.hbm, 138, rfl⟩
abbrev main_v33 : Ref sig .tc := ⟨.hbm, 139, rfl⟩
abbrev main_c_20 : Ref sig .tc := ⟨.hbm, 140, rfl⟩
abbrev main_call21_v0 : Ref sig .tc := ⟨.hbm, 141, rfl⟩
abbrev main_v34 : Ref sig .tc := ⟨.hbm, 142, rfl⟩
abbrev main_v35 : Ref sig .tc := ⟨.hbm, 143, rfl⟩
abbrev main_c_21 : Ref sig .tc := ⟨.hbm, 144, rfl⟩
abbrev main_call22_v0 : Ref sig .tc := ⟨.hbm, 145, rfl⟩
abbrev main_v36 : Ref sig .tc := ⟨.hbm, 146, rfl⟩
abbrev main_v37 : Ref sig .tc := ⟨.hbm, 147, rfl⟩
abbrev main_c_22 : Ref sig .tc := ⟨.hbm, 148, rfl⟩
abbrev main_call23_v0 : Ref sig .tc := ⟨.hbm, 149, rfl⟩
abbrev main_v38 : Ref sig .tc := ⟨.hbm, 150, rfl⟩
abbrev main_v39 : Ref sig .tc := ⟨.hbm, 151, rfl⟩
abbrev main_c_23 : Ref sig .tc := ⟨.hbm, 152, rfl⟩
abbrev main_call24_v0 : Ref sig .tc := ⟨.hbm, 153, rfl⟩
abbrev main_v40 : Ref sig .tc := ⟨.hbm, 154, rfl⟩
abbrev main_v41 : Ref sig .tc := ⟨.hbm, 155, rfl⟩
abbrev main_c_24 : Ref sig .tc := ⟨.hbm, 156, rfl⟩
abbrev main_call25_v0 : Ref sig .tc := ⟨.hbm, 157, rfl⟩
abbrev main_v42 : Ref sig .tc := ⟨.hbm, 158, rfl⟩
abbrev main_v43 : Ref sig .tc := ⟨.hbm, 159, rfl⟩
abbrev main_c_25 : Ref sig .tc := ⟨.hbm, 160, rfl⟩
abbrev main_call26_v0 : Ref sig .tc := ⟨.hbm, 161, rfl⟩
abbrev main_v44 : Ref sig .tc := ⟨.hbm, 162, rfl⟩
abbrev main_c_26 : Ref sig .tc := ⟨.hbm, 163, rfl⟩
abbrev main_call27_v0 : Ref sig .tc := ⟨.hbm, 164, rfl⟩
abbrev main_v45 : Ref sig .tc := ⟨.hbm, 165, rfl⟩
abbrev main_c_27 : Ref sig .tc := ⟨.hbm, 166, rfl⟩
abbrev main_call28_v0 : Ref sig .tc := ⟨.hbm, 167, rfl⟩
abbrev main_v46 : Ref sig .tc := ⟨.hbm, 168, rfl⟩
abbrev main_c_28 : Ref sig .tc := ⟨.hbm, 169, rfl⟩
abbrev main_call29_v0 : Ref sig .tc := ⟨.hbm, 170, rfl⟩
abbrev main_v47 : Ref sig .tc := ⟨.hbm, 171, rfl⟩
abbrev main_c_29 : Ref sig .tc := ⟨.hbm, 172, rfl⟩
abbrev main_call30_v0 : Ref sig .tc := ⟨.hbm, 173, rfl⟩
abbrev main_v48 : Ref sig .tc := ⟨.hbm, 174, rfl⟩
abbrev main_c_30 : Ref sig .tc := ⟨.hbm, 175, rfl⟩
abbrev main_call31_v0 : Ref sig .tc := ⟨.hbm, 176, rfl⟩
abbrev main_v49 : Ref sig .tc := ⟨.hbm, 177, rfl⟩
abbrev main_v50 : Ref sig .tc := ⟨.hbm, 178, rfl⟩
abbrev main_v51 : Ref sig .tc := ⟨.hbm, 179, rfl⟩
abbrev main_c_31 : Ref sig .tc := ⟨.hbm, 180, rfl⟩
abbrev main_call32_v0 : Ref sig .tc := ⟨.hbm, 181, rfl⟩
abbrev main_v52 : Ref sig .tc := ⟨.hbm, 182, rfl⟩
abbrev main_v53 : Ref sig .tc := ⟨.hbm, 183, rfl⟩
abbrev main_c_32 : Ref sig .tc := ⟨.hbm, 184, rfl⟩
abbrev main_call33_v0 : Ref sig .tc := ⟨.hbm, 185, rfl⟩
abbrev main_v54 : Ref sig .tc := ⟨.hbm, 186, rfl⟩
abbrev main_c_33 : Ref sig .tc := ⟨.hbm, 187, rfl⟩
abbrev main_call34_v0 : Ref sig .tc := ⟨.hbm, 188, rfl⟩
abbrev main_v55 : Ref sig .tc := ⟨.hbm, 189, rfl⟩
abbrev main_v56 : Ref sig .tc := ⟨.hbm, 190, rfl⟩
abbrev main_c_34 : Ref sig .tc := ⟨.hbm, 191, rfl⟩
abbrev main_call35_v0 : Ref sig .tc := ⟨.hbm, 192, rfl⟩
abbrev main_v57 : Ref sig .tc := ⟨.hbm, 193, rfl⟩
abbrev main_v58 : Ref sig .tc := ⟨.hbm, 194, rfl⟩
abbrev main_c_35 : Ref sig .tc := ⟨.hbm, 195, rfl⟩
abbrev main_call36_v0 : Ref sig .tc := ⟨.hbm, 196, rfl⟩
abbrev main_v59 : Ref sig .tc := ⟨.hbm, 197, rfl⟩
abbrev main_c_36 : Ref sig .tc := ⟨.hbm, 198, rfl⟩
abbrev main_call37_v0 : Ref sig .tc := ⟨.hbm, 199, rfl⟩
abbrev main_v60 : Ref sig .tc := ⟨.hbm, 200, rfl⟩
abbrev main_v61 : Ref sig .tc := ⟨.hbm, 201, rfl⟩
abbrev main_c_37 : Ref sig .tc := ⟨.hbm, 202, rfl⟩
abbrev main_call38_v0 : Ref sig .tc := ⟨.hbm, 203, rfl⟩
abbrev main_v62 : Ref sig .tc := ⟨.hbm, 204, rfl⟩
abbrev main_v63 : Ref sig .tc := ⟨.hbm, 205, rfl⟩
abbrev main_c_38 : Ref sig .tc := ⟨.hbm, 206, rfl⟩
abbrev main_call39_v0 : Ref sig .tc := ⟨.hbm, 207, rfl⟩
abbrev main_v64 : Ref sig .tc := ⟨.hbm, 208, rfl⟩
abbrev main_v65 : Ref sig .tc := ⟨.hbm, 209, rfl⟩
abbrev main_c_39 : Ref sig .tc := ⟨.hbm, 210, rfl⟩
abbrev main_call40_v0 : Ref sig .tc := ⟨.hbm, 211, rfl⟩
abbrev main_v66 : Ref sig .tc := ⟨.hbm, 212, rfl⟩
abbrev main_v67 : Ref sig .tc := ⟨.hbm, 213, rfl⟩
abbrev main_c_40 : Ref sig .tc := ⟨.hbm, 214, rfl⟩
abbrev main_call41_v0 : Ref sig .tc := ⟨.hbm, 215, rfl⟩
abbrev main_v68 : Ref sig .tc := ⟨.hbm, 216, rfl⟩
abbrev main_v69 : Ref sig .tc := ⟨.hbm, 217, rfl⟩
abbrev main_c_41 : Ref sig .tc := ⟨.hbm, 218, rfl⟩
abbrev main_call42_v0 : Ref sig .tc := ⟨.hbm, 219, rfl⟩
abbrev main_v70 : Ref sig .tc := ⟨.hbm, 220, rfl⟩
abbrev main_c_42 : Ref sig .tc := ⟨.hbm, 221, rfl⟩
abbrev main_call43_v0 : Ref sig .tc := ⟨.hbm, 222, rfl⟩
abbrev main_v71 : Ref sig .tc := ⟨.hbm, 223, rfl⟩
abbrev main_c_43 : Ref sig .tc := ⟨.hbm, 224, rfl⟩
abbrev main_call44_v0 : Ref sig .tc := ⟨.hbm, 225, rfl⟩
abbrev main_v72 : Ref sig .tc := ⟨.hbm, 226, rfl⟩
abbrev main_c_44 : Ref sig .tc := ⟨.hbm, 227, rfl⟩
abbrev main_call45_v0 : Ref sig .tc := ⟨.hbm, 228, rfl⟩
abbrev main_v73 : Ref sig .tc := ⟨.hbm, 229, rfl⟩
abbrev main_c_45 : Ref sig .tc := ⟨.hbm, 230, rfl⟩
abbrev main_call46_v0 : Ref sig .tc := ⟨.hbm, 231, rfl⟩
abbrev main_v74 : Ref sig .tc := ⟨.hbm, 232, rfl⟩
abbrev main_c_46 : Ref sig .tc := ⟨.hbm, 233, rfl⟩
abbrev main_call47_v0 : Ref sig .tc := ⟨.hbm, 234, rfl⟩
abbrev main_v75 : Ref sig .tc := ⟨.hbm, 235, rfl⟩
abbrev main_v76 : Ref sig .tc := ⟨.hbm, 236, rfl⟩
abbrev main_v77 : Ref sig .tc := ⟨.hbm, 237, rfl⟩
abbrev main_c_47 : Ref sig .tc := ⟨.hbm, 238, rfl⟩
abbrev main_call48_v0 : Ref sig .tc := ⟨.hbm, 239, rfl⟩
abbrev main_v78 : Ref sig .tc := ⟨.hbm, 240, rfl⟩
abbrev main_v79 : Ref sig .tc := ⟨.hbm, 241, rfl⟩
abbrev main_c_48 : Ref sig .tc := ⟨.hbm, 242, rfl⟩
abbrev main_call49_v0 : Ref sig .tc := ⟨.hbm, 243, rfl⟩
abbrev main_v80 : Ref sig .tc := ⟨.hbm, 244, rfl⟩
abbrev main_c_49 : Ref sig .tc := ⟨.hbm, 245, rfl⟩
abbrev main_call50_v0 : Ref sig .tc := ⟨.hbm, 246, rfl⟩
abbrev main_v81 : Ref sig .tc := ⟨.hbm, 247, rfl⟩
abbrev main_v82 : Ref sig .tc := ⟨.hbm, 248, rfl⟩
abbrev main_c_50 : Ref sig .tc := ⟨.hbm, 249, rfl⟩
abbrev main_call51_v0 : Ref sig .tc := ⟨.hbm, 250, rfl⟩
abbrev main_v83 : Ref sig .tc := ⟨.hbm, 251, rfl⟩
abbrev main_v84 : Ref sig .tc := ⟨.hbm, 252, rfl⟩
abbrev main_c_51 : Ref sig .tc := ⟨.hbm, 253, rfl⟩
abbrev main_call52_v0 : Ref sig .tc := ⟨.hbm, 254, rfl⟩
abbrev main_v85 : Ref sig .tc := ⟨.hbm, 255, rfl⟩
abbrev main_c_52 : Ref sig .tc := ⟨.hbm, 256, rfl⟩
abbrev main_call53_v0 : Ref sig .tc := ⟨.hbm, 257, rfl⟩
abbrev main_v86 : Ref sig .tc := ⟨.hbm, 258, rfl⟩
abbrev main_v87 : Ref sig .tc := ⟨.hbm, 259, rfl⟩
abbrev main_c_53 : Ref sig .tc := ⟨.hbm, 260, rfl⟩
abbrev main_call54_v0 : Ref sig .tc := ⟨.hbm, 261, rfl⟩
abbrev main_v88 : Ref sig .tc := ⟨.hbm, 262, rfl⟩
abbrev main_v89 : Ref sig .tc := ⟨.hbm, 263, rfl⟩
abbrev main_c_54 : Ref sig .tc := ⟨.hbm, 264, rfl⟩
abbrev main_call55_v0 : Ref sig .tc := ⟨.hbm, 265, rfl⟩
abbrev main_v90 : Ref sig .tc := ⟨.hbm, 266, rfl⟩
abbrev main_v91 : Ref sig .tc := ⟨.hbm, 267, rfl⟩
abbrev main_c_55 : Ref sig .tc := ⟨.hbm, 268, rfl⟩
abbrev main_call56_v0 : Ref sig .tc := ⟨.hbm, 269, rfl⟩
abbrev main_v92 : Ref sig .tc := ⟨.hbm, 270, rfl⟩
abbrev main_v93 : Ref sig .tc := ⟨.hbm, 271, rfl⟩
abbrev main_c_56 : Ref sig .tc := ⟨.hbm, 272, rfl⟩
abbrev main_call57_v0 : Ref sig .tc := ⟨.hbm, 273, rfl⟩
abbrev main_v94 : Ref sig .tc := ⟨.hbm, 274, rfl⟩
abbrev main_v95 : Ref sig .tc := ⟨.hbm, 275, rfl⟩
abbrev main_c_57 : Ref sig .tc := ⟨.hbm, 276, rfl⟩
abbrev main_call58_v0 : Ref sig .tc := ⟨.hbm, 277, rfl⟩
abbrev main_v96 : Ref sig .tc := ⟨.hbm, 278, rfl⟩
abbrev main_c_58 : Ref sig .tc := ⟨.hbm, 279, rfl⟩
abbrev main_call59_v0 : Ref sig .tc := ⟨.hbm, 280, rfl⟩
abbrev main_v97 : Ref sig .tc := ⟨.hbm, 281, rfl⟩
abbrev main_c_59 : Ref sig .tc := ⟨.hbm, 282, rfl⟩
abbrev main_call60_v0 : Ref sig .tc := ⟨.hbm, 283, rfl⟩
abbrev main_v98 : Ref sig .tc := ⟨.hbm, 284, rfl⟩
abbrev main_c_60 : Ref sig .tc := ⟨.hbm, 285, rfl⟩
abbrev main_call61_v0 : Ref sig .tc := ⟨.hbm, 286, rfl⟩
abbrev main_v99 : Ref sig .tc := ⟨.hbm, 287, rfl⟩
abbrev main_c_61 : Ref sig .tc := ⟨.hbm, 288, rfl⟩
abbrev main_call62_v0 : Ref sig .tc := ⟨.hbm, 289, rfl⟩
abbrev main_v100 : Ref sig .tc := ⟨.hbm, 290, rfl⟩
abbrev main_c_62 : Ref sig .tc := ⟨.hbm, 291, rfl⟩
abbrev main_call63_v0 : Ref sig .tc := ⟨.hbm, 292, rfl⟩
abbrev main_v101 : Ref sig .tc := ⟨.hbm, 293, rfl⟩
abbrev main_v102 : Ref sig .tc := ⟨.hbm, 294, rfl⟩
abbrev main_v103 : Ref sig .tc := ⟨.hbm, 295, rfl⟩
abbrev main_v104_0 : Ref sig .tc := ⟨.hbm, 296, rfl⟩
abbrev main_v104_1 : Ref sig .tc := ⟨.hbm, 297, rfl⟩
abbrev main_v104_2 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2336x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2336x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2336x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2336x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2336x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2336x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2336x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S4x16 : Shape := ⟨2, ![4, 16]⟩
abbrev S4x4x128x128 : Shape := ⟨4, ![4, 4, 128, 128]⟩
abbrev S4x512 : Shape := ⟨2, ![4, 512]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x32x16 : Shape := ⟨3, ![4, 32, 16]⟩
abbrev S4x2048 : Shape := ⟨2, ![4, 2048]⟩
abbrev S4x11008 : Shape := ⟨2, ![4, 11008]⟩
abbrev S_ : Shape := ⟨0, ![]⟩
abbrev S4x65536 : Shape := ⟨2, ![4, 65536]⟩
abbrev S4x32768 : Shape := ⟨2, ![4, 32768]⟩
abbrev S4x1024 : Shape := ⟨2, ![4, 1024]⟩
abbrev S4x11264 : Shape := ⟨2, ![4, 11264]⟩
abbrev S4x224256 : Shape := ⟨2, ![4, 224256]⟩
abbrev S7008x128 : Shape := ⟨2, ![7008, 128]⟩

abbrev nBuf : Space → Nat
  | .hbm => 766
  | .vmem => 0
  | .smem => 0
  | _ => 0

abbrev hbmTy0_0 (i : Nat) : BufTy := match i % 128 with
  | 0 => ⟨S4x16, .f32⟩
  | 1 => ⟨S4x4x128x128, .f32⟩
  | 2 => ⟨S4x512, .f32⟩
  | 3 => ⟨S4x32x64, .f32⟩
  | 4 => ⟨S4x32x64, .f32⟩
  | 5 => ⟨S4x32, .f32⟩
  | 6 => ⟨S4x32x64x16, .f32⟩
  | 7 => ⟨S4x32x64x16, .f32⟩
  | 8 => ⟨S4x32x16x64, .f32⟩
  | 9 => ⟨S4x32x16x64, .f32⟩
  | 10 => ⟨S4x32x16, .f32⟩
  | 11 => ⟨S4x2048, .f32⟩
  | 12 => ⟨S4x2048, .f32⟩
  | 13 => ⟨S4x11008, .f32⟩
  | 14 => ⟨S4x2048, .f32⟩
  | 15 => ⟨S4x2048, .f32⟩
  | 16 => ⟨S4x16, .f32⟩
  | 17 => ⟨S4x4x128x128, .f32⟩
  | 18 => ⟨S4x512, .f32⟩
  | 19 => ⟨S4x32x64, .f32⟩
  | 20 => ⟨S4x32x64, .f32⟩
  | 21 => ⟨S4x32, .f32⟩
  | 22 => ⟨S4x32x64x16, .f32⟩
  | 23 => ⟨S4x32x64x16, .f32⟩
  | 24 => ⟨S4x32x16x64, .f32⟩
  | 25 => ⟨S4x32x16x64, .f32⟩
  | 26 => ⟨S4x32x16, .f32⟩
  | 27 => ⟨S4x2048, .f32⟩
  | 28 => ⟨S4x2048, .f32⟩
  | 29 => ⟨S4x11008, .f32⟩
  | 30 => ⟨S4x2048, .f32⟩
  | 31 => ⟨S4x2048, .f32⟩
  | 32 => ⟨S4x16, .f32⟩
  | 33 => ⟨S4x4x128x128, .f32⟩
  | 34 => ⟨S4x512, .f32⟩
  | 35 => ⟨S4x32x64, .f32⟩
  | 36 => ⟨S4x32x64, .f32⟩
  | 37 => ⟨S4x32, .f32⟩
  | 38 => ⟨S4x32x64x16, .f32⟩
  | 39 => ⟨S4x32x64x16, .f32⟩
  | 40 => ⟨S4x32x16x64, .f32⟩
  | 41 => ⟨S4x32x16x64, .f32⟩
  | 42 => ⟨S4x32x16, .f32⟩
  | 43 => ⟨S4x2048, .f32⟩
  | 44 => ⟨S4x2048, .f32⟩
  | 45 => ⟨S4x11008, .f32⟩
  | 46 => ⟨S4x2048, .f32⟩
  | 47 => ⟨S4x2048, .f32⟩
  | 48 => ⟨S4x16, .f32⟩
  | 49 => ⟨S4x4x128x128, .f32⟩
  | 50 => ⟨S4x512, .f32⟩
  | 51 => ⟨S4x32x64, .f32⟩
  | 52 => ⟨S4x32x64, .f32⟩
  | 53 => ⟨S4x32, .f32⟩
  | 54 => ⟨S4x32x64x16, .f32⟩
  | 55 => ⟨S4x32x64x16, .f32⟩
  | 56 => ⟨S4x32x16x64, .f32⟩
  | 57 => ⟨S4x32x16x64, .f32⟩
  | 58 => ⟨S4x32x16, .f32⟩
  | 59 => ⟨S4x2048, .f32⟩
  | 60 => ⟨S4x2048, .f32⟩
  | 61 => ⟨S4x11008, .f32⟩
  | 62 => ⟨S4x2048, .f32⟩
  | 63 => ⟨S4x2048, .f32⟩
  | 64 => ⟨S_, .f32⟩
  | 65 => ⟨S4x16, .f32⟩
  | 66 => ⟨S4x16, .f32⟩
  | 67 => ⟨S_, .f32⟩
  | 68 => ⟨S4x16, .f32⟩
  | 69 => ⟨S4x16, .f32⟩
  | 70 => ⟨S4x16, .f32⟩
  | 71 => ⟨S_, .f32⟩
  | 72 => ⟨S4x16, .f32⟩
  | 73 => ⟨S4x16, .f32⟩
  | 74 => ⟨S4x16, .f32⟩
  | 75 => ⟨S_, .f32⟩
  | 76 => ⟨S4x16, .f32⟩
  | 77 => ⟨S4x16, .f32⟩
  | 78 => ⟨S4x16, .f32⟩
  | 79 => ⟨S_, .f32⟩
  | 80 => ⟨S4x16, .f32⟩
  | 81 => ⟨S4x16, .f32⟩
  | 82 => ⟨S_, .f32⟩
  | 83 => ⟨S4x16, .f32⟩
  | 84 => ⟨S4x16, .f32⟩
  | 85 => ⟨S4x16, .f32⟩
  | 86 => ⟨S_, .f32⟩
  | 87 => ⟨S4x16, .f32⟩
  | 88 => ⟨S4x16, .f32⟩
  | 89 => ⟨S4x16, .f32⟩
  | 90 => ⟨S_, .f32⟩
  | 91 => ⟨S4x16, .f32⟩
  | 92 => ⟨S4x16, .f32⟩
  | 93 => ⟨S4x16, .f32⟩
  | 94 => ⟨S_, .f32⟩
  | 95 => ⟨S4x16, .f32⟩
  | 96 => ⟨S4x16, .f32⟩
  | 97 => ⟨S_, .f32⟩
  | 98 => ⟨S4x4x128x128, .f32⟩
  | 99 => ⟨S4x4x128x128, .f32⟩
  | 100 => ⟨S_, .f32⟩
  | 101 => ⟨S4x4x128x128, .f32⟩
  | 102 => ⟨S4x4x128x128, .f32⟩
  | 103 => ⟨S4x4x128x128, .f32⟩
  | 104 => ⟨S_, .f32⟩
  | 105 => ⟨S4x4x128x128, .f32⟩
  | 106 => ⟨S4x4x128x128, .f32⟩
  | 107 => ⟨S4x4x128x128, .f32⟩
  | 108 => ⟨S_, .f32⟩
  | 109 => ⟨S4x4x128x128, .f32⟩
  | 110 => ⟨S4x4x128x128, .f32⟩
  | 111 => ⟨S4x4x128x128, .f32⟩
  | 112 => ⟨S_, .f32⟩
  | 113 => ⟨S4x4x128x128, .f32⟩
  | 114 => ⟨S4x4x128x128, .f32⟩
  | 115 => ⟨S_, .f32⟩
  | 116 => ⟨S4x4x128x128, .f32⟩
  | 117 => ⟨S4x4x128x128, .f32⟩
  | 118 => ⟨S4x4x128x128, .f32⟩
  | 119 => ⟨S_, .f32⟩
  | 120 => ⟨S4x4x128x128, .f32⟩
  | 121 => ⟨S4x4x128x128, .f32⟩
  | 122 => ⟨S4x4x128x128, .f32⟩
  | 123 => ⟨S_, .f32⟩
  | 124 => ⟨S4x4x128x128, .f32⟩
  | 125 => ⟨S4x4x128x128, .f32⟩
  | 126 => ⟨S4x4x128x128, .f32⟩
  | 127 => ⟨S_, .f32⟩
  | _ => ⟨S4x16, .f32⟩

abbrev hbmTy0_1 (i : Nat) : BufTy := match i % 128 with
  | 0 => ⟨S4x4x128x128, .f32⟩
  | 1 => ⟨S4x4x128x128, .f32⟩
  | 2 => ⟨S_, .f32⟩
  | 3 => ⟨S4x512, .f32⟩
  | 4 => ⟨S4x512, .f32⟩
  | 5 => ⟨S_, .f32⟩
  | 6 => ⟨S4x512, .f32⟩
  | 7 => ⟨S4x512, .f32⟩
  | 8 => ⟨S4x512, .f32⟩
  | 9 => ⟨S_, .f32⟩
  | 10 => ⟨S4x512, .f32⟩
  | 11 => ⟨S4x512, .f32⟩
  | 12 => ⟨S4x512, .f32⟩
  | 13 => ⟨S_, .f32⟩
  | 14 => ⟨S4x512, .f32⟩
  | 15 => ⟨S4x512, .f32⟩
  | 16 => ⟨S4x512, .f32⟩
  | 17 => ⟨S_, .f32⟩
  | 18 => ⟨S4x512, .f32⟩
  | 19 => ⟨S4x512, .f32⟩
  | 20 => ⟨S_, .f32⟩
  | 21 => ⟨S4x512, .f32⟩
  | 22 => ⟨S4x512, .f32⟩
  | 23 => ⟨S4x512, .f32⟩
  | 24 => ⟨S_, .f32⟩
  | 25 => ⟨S4x512, .f32⟩
  | 26 => ⟨S4x512, .f32⟩
  | 27 => ⟨S4x512, .f32⟩
  | 28 => ⟨S_, .f32⟩
  | 29 => ⟨S4x512, .f32⟩
  | 30 => ⟨S4x512, .f32⟩
  | 31 => ⟨S4x512, .f32⟩
  | 32 => ⟨S_, .f32⟩
  | 33 => ⟨S4x512, .f32⟩
  | 34 => ⟨S4x512, .f32⟩
  | 35 => ⟨S_, .f32⟩
  | 36 => ⟨S4x32x64, .f32⟩
  | 37 => ⟨S4x32x64, .f32⟩
  | 38 => ⟨S_, .f32⟩
  | 39 => ⟨S4x32x64, .f32⟩
  | 40 => ⟨S4x32x64, .f32⟩
  | 41 => ⟨S4x32x64, .f32⟩
  | 42 => ⟨S_, .f32⟩
  | 43 => ⟨S4x32x64, .f32⟩
  | 44 => ⟨S4x32x64, .f32⟩
  | 45 => ⟨S4x32x64, .f32⟩
  | 46 => ⟨S_, .f32⟩
  | 47 => ⟨S4x32x64, .f32⟩
  | 48 => ⟨S4x32x64, .f32⟩
  | 49 => ⟨S4x32x64, .f32⟩
  | 50 => ⟨S_, .f32⟩
  | 51 => ⟨S4x32x64, .f32⟩
  | 52 => ⟨S4x32x64, .f32⟩
  | 53 => ⟨S_, .f32⟩
  | 54 => ⟨S4x32x64, .f32⟩
  | 55 => ⟨S4x32x64, .f32⟩
  | 56 => ⟨S4x32x64, .f32⟩
  | 57 => ⟨S_, .f32⟩
  | 58 => ⟨S4x32x64, .f32⟩
  | 59 => ⟨S4x32x64, .f32⟩
  | 60 => ⟨S4x32x64, .f32⟩
  | 61 => ⟨S_, .f32⟩
  | 62 => ⟨S4x32x64, .f32⟩
  | 63 => ⟨S4x32x64, .f32⟩
  | 64 => ⟨S4x32x64, .f32⟩
  | 65 => ⟨S_, .f32⟩
  | 66 => ⟨S4x32x64, .f32⟩
  | 67 => ⟨S4x32x64, .f32⟩
  | 68 => ⟨S_, .f32⟩
  | 69 => ⟨S4x32x64, .f32⟩
  | 70 => ⟨S4x32x64, .f32⟩
  | 71 => ⟨S_, .f32⟩
  | 72 => ⟨S4x32x64, .f32⟩
  | 73 => ⟨S4x32x64, .f32⟩
  | 74 => ⟨S4x32x64, .f32⟩
  | 75 => ⟨S_, .f32⟩
  | 76 => ⟨S4x32x64, .f32⟩
  | 77 => ⟨S4x32x64, .f32⟩
  | 78 => ⟨S4x32x64, .f32⟩
  | 79 => ⟨S_, .f32⟩
  | 80 => ⟨S4x32x64, .f32⟩
  | 81 => ⟨S4x32x64, .f32⟩
  | 82 => ⟨S4x32x64, .f32⟩
  | 83 => ⟨S_, .f32⟩
  | 84 => ⟨S4x32x64, .f32⟩
  | 85 => ⟨S4x32x64, .f32⟩
  | 86 => ⟨S_, .f32⟩
  | 87 => ⟨S4x32x64, .f32⟩
  | 88 => ⟨S4x32x64, .f32⟩
  | 89 => ⟨S4x32x64, .f32⟩
  | 90 => ⟨S_, .f32⟩
  | 91 => ⟨S4x32x64, .f32⟩
  | 92 => ⟨S4x32x64, .f32⟩
  | 93 => ⟨S4x32x64, .f32⟩
  | 94 => ⟨S_, .f32⟩
  | 95 => ⟨S4x32x64, .f32⟩
  | 96 => ⟨S4x32x64, .f32⟩
  | 97 => ⟨S4x32x64, .f32⟩
  | 98 => ⟨S_, .f32⟩
  | 99 => ⟨S4x32x64, .f32⟩
  | 100 => ⟨S4x32x64, .f32⟩
  | 101 => ⟨S_, .f32⟩
  | 102 => ⟨S4x32, .f32⟩
  | 103 => ⟨S4x32, .f32⟩
  | 104 => ⟨S_, .f32⟩
  | 105 => ⟨S4x32, .f32⟩
  | 106 => ⟨S4x32, .f32⟩
  | 107 => ⟨S4x32, .f32⟩
  | 108 => ⟨S_, .f32⟩
  | 109 => ⟨S4x32, .f32⟩
  | 110 => ⟨S4x32, .f32⟩
  | 111 => ⟨S4x32, .f32⟩
  | 112 => ⟨S_, .f32⟩
  | 113 => ⟨S4x32, .f32⟩
  | 114 => ⟨S4x32, .f32⟩
  | 115 => ⟨S4x32, .f32⟩
  | 116 => ⟨S_, .f32⟩
  | 117 => ⟨S4x32, .f32⟩
  | 118 => ⟨S4x32, .f32⟩
  | 119 => ⟨S_, .f32⟩
  | 120 => ⟨S4x32, .f32⟩
  | 121 => ⟨S4x32, .f32⟩
  | 122 => ⟨S4x32, .f32⟩
  | 123 => ⟨S_, .f32⟩
  | 124 => ⟨S4x32, .f32⟩
  | 125 => ⟨S4x32, .f32⟩
  | 126 => ⟨S4x32, .f32⟩
  | 127 => ⟨S_, .f32⟩
  | _ => ⟨S4x16, .f32⟩

abbrev hbmTy0_2 (i : Nat) : BufTy := match i % 128 with
  | 0 => ⟨S4x32, .f32⟩
  | 1 => ⟨S4x32, .f32⟩
  | 2 => ⟨S4x32, .f32⟩
  | 3 => ⟨S_, .f32⟩
  | 4 => ⟨S4x32, .f32⟩
  | 5 => ⟨S4x32, .f32⟩
  | 6 => ⟨S_, .f32⟩
  | 7 => ⟨S4x32x64x16, .f32⟩
  | 8 => ⟨S4x32x64x16, .f32⟩
  | 9 => ⟨S_, .f32⟩
  | 10 => ⟨S4x32x64x16, .f32⟩
  | 11 => ⟨S4x32x64x16, .f32⟩
  | 12 => ⟨S4x32x64x16, .f32⟩
  | 13 => ⟨S_, .f32⟩
  | 14 => ⟨S4x32x64x16, .f32⟩
  | 15 => ⟨S4x32x64x16, .f32⟩
  | 16 => ⟨S4x32x64x16, .f32⟩
  | 17 => ⟨S_, .f32⟩
  | 18 => ⟨S4x32x64x16, .f32⟩
  | 19 => ⟨S4x32x64x16, .f32⟩
  | 20 => ⟨S4x32x64x16, .f32⟩
  | 21 => ⟨S_, .f32⟩
  | 22 => ⟨S4x32x64x16, .f32⟩
  | 23 => ⟨S4x32x64x16, .f32⟩
  | 24 => ⟨S_, .f32⟩
  | 25 => ⟨S4x32x64x16, .f32⟩
  | 26 => ⟨S4x32x64x16, .f32⟩
  | 27 => ⟨S4x32x64x16, .f32⟩
  | 28 => ⟨S_, .f32⟩
  | 29 => ⟨S4x32x64x16, .f32⟩
  | 30 => ⟨S4x32x64x16, .f32⟩
  | 31 => ⟨S4x32x64x16, .f32⟩
  | 32 => ⟨S_, .f32⟩
  | 33 => ⟨S4x32x64x16, .f32⟩
  | 34 => ⟨S4x32x64x16, .f32⟩
  | 35 => ⟨S4x32x64x16, .f32⟩
  | 36 => ⟨S_, .f32⟩
  | 37 => ⟨S4x32x64x16, .f32⟩
  | 38 => ⟨S4x32x64x16, .f32⟩
  | 39 => ⟨S_, .f32⟩
  | 40 => ⟨S4x32x64x16, .f32⟩
  | 41 => ⟨S4x32x64x16, .f32⟩
  | 42 => ⟨S_, .f32⟩
  | 43 => ⟨S4x32x64x16, .f32⟩
  | 44 => ⟨S4x32x64x16, .f32⟩
  | 45 => ⟨S4x32x64x16, .f32⟩
  | 46 => ⟨S_, .f32⟩
  | 47 => ⟨S4x32x64x16, .f32⟩
  | 48 => ⟨S4x32x64x16, .f32⟩
  | 49 => ⟨S4x32x64x16, .f32⟩
  | 50 => ⟨S_, .f32⟩
  | 51 => ⟨S4x32x64x16, .f32⟩
  | 52 => ⟨S4x32x64x16, .f32⟩
  | 53 => ⟨S4x32x64x16, .f32⟩
  | 54 => ⟨S_, .f32⟩
  | 55 => ⟨S4x32x64x16, .f32⟩
  | 56 => ⟨S4x32x64x16, .f32⟩
  | 57 => ⟨S_, .f32⟩
  | 58 => ⟨S4x32x64x16, .f32⟩
  | 59 => ⟨S4x32x64x16, .f32⟩
  | 60 => ⟨S4x32x64x16, .f32⟩
  | 61 => ⟨S_, .f32⟩
  | 62 => ⟨S4x32x64x16, .f32⟩
  | 63 => ⟨S4x32x64x16, .f32⟩
  | 64 => ⟨S4x32x64x16, .f32⟩
  | 65 => ⟨S_, .f32⟩
  | 66 => ⟨S4x32x64x16, .f32⟩
  | 67 => ⟨S4x32x64x16, .f32⟩
  | 68 => ⟨S4x32x64x16, .f32⟩
  | 69 => ⟨S_, .f32⟩
  | 70 => ⟨S4x32x64x16, .f32⟩
  | 71 => ⟨S4x32x64x16, .f32⟩
  | 72 => ⟨S_, .f32⟩
  | 73 => ⟨S4x32x16x64, .f32⟩
  | 74 => ⟨S4x32x16x64, .f32⟩
  | 75 => ⟨S_, .f32⟩
  | 76 => ⟨S4x32x16x64, .f32⟩
  | 77 => ⟨S4x32x16x64, .f32⟩
  | 78 => ⟨S4x32x16x64, .f32⟩
  | 79 => ⟨S_, .f32⟩
  | 80 => ⟨S4x32x16x64, .f32⟩
  | 81 => ⟨S4x32x16x64, .f32⟩
  | 82 => ⟨S4x32x16x64, .f32⟩
  | 83 => ⟨S_, .f32⟩
  | 84 => ⟨S4x32x16x64, .f32⟩
  | 85 => ⟨S4x32x16x64, .f32⟩
  | 86 => ⟨S4x32x16x64, .f32⟩
  | 87 => ⟨S_, .f32⟩
  | 88 => ⟨S4x32x16x64, .f32⟩
  | 89 => ⟨S4x32x16x64, .f32⟩
  | 90 => ⟨S_, .f32⟩
  | 91 => ⟨S4x32x16x64, .f32⟩
  | 92 => ⟨S4x32x16x64, .f32⟩
  | 93 => ⟨S4x32x16x64, .f32⟩
  | 94 => ⟨S_, .f32⟩
  | 95 => ⟨S4x32x16x64, .f32⟩
  | 96 => ⟨S4x32x16x64, .f32⟩
  | 97 => ⟨S4x32x16x64, .f32⟩
  | 98 => ⟨S_, .f32⟩
  | 99 => ⟨S4x32x16x64, .f32⟩
  | 100 => ⟨S4x32x16x64, .f32⟩
  | 101 => ⟨S4x32x16x64, .f32⟩
  | 102 => ⟨S_, .f32⟩
  | 103 => ⟨S4x32x16x64, .f32⟩
  | 104 => ⟨S4x32x16x64, .f32⟩
  | 105 => ⟨S_, .f32⟩
  | 106 => ⟨S4x32x16x64, .f32⟩
  | 107 => ⟨S4x32x16x64, .f32⟩
  | 108 => ⟨S_, .f32⟩
  | 109 => ⟨S4x32x16x64, .f32⟩
  | 110 => ⟨S4x32x16x64, .f32⟩
  | 111 => ⟨S4x32x16x64, .f32⟩
  | 112 => ⟨S_, .f32⟩
  | 113 => ⟨S4x32x16x64, .f32⟩
  | 114 => ⟨S4x32x16x64, .f32⟩
  | 115 => ⟨S4x32x16x64, .f32⟩
  | 116 => ⟨S_, .f32⟩
  | 117 => ⟨S4x32x16x64, .f32⟩
  | 118 => ⟨S4x32x16x64, .f32⟩
  | 119 => ⟨S4x32x16x64, .f32⟩
  | 120 => ⟨S_, .f32⟩
  | 121 => ⟨S4x32x16x64, .f32⟩
  | 122 => ⟨S4x32x16x64, .f32⟩
  | 123 => ⟨S_, .f32⟩
  | 124 => ⟨S4x32x16x64, .f32⟩
  | 125 => ⟨S4x32x16x64, .f32⟩
  | 126 => ⟨S4x32x16x64, .f32⟩
  | 127 => ⟨S_, .f32⟩
  | _ => ⟨S4x16, .f32⟩

abbrev hbmTy0_3 (i : Nat) : BufTy := match i % 128 with
  | 0 => ⟨S4x32x16x64, .f32⟩
  | 1 => ⟨S4x32x16x64, .f32⟩
  | 2 => ⟨S4x32x16x64, .f32⟩
  | 3 => ⟨S_, .f32⟩
  | 4 => ⟨S4x32x16x64, .f32⟩
  | 5 => ⟨S4x32x16x64, .f32⟩
  | 6 => ⟨S4x32x16x64, .f32⟩
  | 7 => ⟨S_, .f32⟩
  | 8 => ⟨S4x32x16x64, .f32⟩
  | 9 => ⟨S4x32x16x64, .f32⟩
  | 10 => ⟨S_, .f32⟩
  | 11 => ⟨S4x32x16, .f32⟩
  | 12 => ⟨S4x32x16, .f32⟩
  | 13 => ⟨S_, .f32⟩
  | 14 => ⟨S4x32x16, .f32⟩
  | 15 => ⟨S4x32x16, .f32⟩
  | 16 => ⟨S4x32x16, .f32⟩
  | 17 => ⟨S_, .f32⟩
  | 18 => ⟨S4x32x16, .f32⟩
  | 19 => ⟨S4x32x16, .f32⟩
  | 20 => ⟨S4x32x16, .f32⟩
  | 21 => ⟨S_, .f32⟩
  | 22 => ⟨S4x32x16, .f32⟩
  | 23 => ⟨S4x32x16, .f32⟩
  | 24 => ⟨S4x32x16, .f32⟩
  | 25 => ⟨S_, .f32⟩
  | 26 => ⟨S4x32x16, .f32⟩
  | 27 => ⟨S4x32x16, .f32⟩
  | 28 => ⟨S_, .f32⟩
  | 29 => ⟨S4x32x16, .f32⟩
  | 30 => ⟨S4x32x16, .f32⟩
  | 31 => ⟨S4x32x16, .f32⟩
  | 32 => ⟨S_, .f32⟩
  | 33 => ⟨S4x32x16, .f32⟩
  | 34 => ⟨S4x32x16, .f32⟩
  | 35 => ⟨S4x32x16, .f32⟩
  | 36 => ⟨S_, .f32⟩
  | 37 => ⟨S4x32x16, .f32⟩
  | 38 => ⟨S4x32x16, .f32⟩
  | 39 => ⟨S4x32x16, .f32⟩
  | 40 => ⟨S_, .f32⟩
  | 41 => ⟨S4x32x16, .f32⟩
  | 42 => ⟨S4x32x16, .f32⟩
  | 43 => ⟨S_, .f32⟩
  | 44 => ⟨S4x2048, .f32⟩
  | 45 => ⟨S4x2048, .f32⟩
  | 46 => ⟨S_, .f32⟩
  | 47 => ⟨S4x2048, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S_, .f32⟩
  | 62 => ⟨S4x2048, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S_, .f32⟩
  | 80 => ⟨S4x2048, .f32⟩
  | 81 => ⟨S4x2048, .f32⟩
  | 82 => ⟨S4x2048, .f32⟩
  | 83 => ⟨S_, .f32⟩
  | 84 => ⟨S4x2048, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S_, .f32⟩
  | 95 => ⟨S4x2048, .f32⟩
  | 96 => ⟨S4x2048, .f32⟩
  | 97 => ⟨S4x2048, .f32⟩
  | 98 => ⟨S_, .f32⟩
  | 99 => ⟨S4x2048, .f32⟩
  | 100 => ⟨S4x2048, .f32⟩
  | 101 => ⟨S4x2048, .f32⟩
  | 102 => ⟨S_, .f32⟩
  | 103 => ⟨S4x2048, .f32⟩
  | 104 => ⟨S4x2048, .f32⟩
  | 105 => ⟨S4x2048, .f32⟩
  | 106 => ⟨S_, .f32⟩
  | 107 => ⟨S4x2048, .f32⟩
  | 108 => ⟨S4x2048, .f32⟩
  | 109 => ⟨S_, .f32⟩
  | 110 => ⟨S4x11008, .f32⟩
  | 111 => ⟨S4x11008, .f32⟩
  | 112 => ⟨S_, .f32⟩
  | 113 => ⟨S4x11008, .f32⟩
  | 114 => ⟨S4x11008, .f32⟩
  | 115 => ⟨S4x11008, .f32⟩
  | 116 => ⟨S_, .f32⟩
  | 117 => ⟨S4x11008, .f32⟩
  | 118 => ⟨S4x11008, .f32⟩
  | 119 => ⟨S4x11008, .f32⟩
  | 120 => ⟨S_, .f32⟩
  | 121 => ⟨S4x11008, .f32⟩
  | 122 => ⟨S4x11008, .f32⟩
  | 123 => ⟨S4x11008, .f32⟩
  | 124 => ⟨S_, .f32⟩
  | 125 => ⟨S4x11008, .f32⟩
  | 126 => ⟨S4x11008, .f32⟩
  | 127 => ⟨S_, .f32⟩
  | _ => ⟨S4x16, .f32⟩

abbrev hbmTy0_4 (i : Nat) : BufTy := match i % 128 with
  | 0 => ⟨S4x11008, .f32⟩
  | 1 => ⟨S4x11008, .f32⟩
  | 2 => ⟨S4x11008, .f32⟩
  | 3 => ⟨S_, .f32⟩
  | 4 => ⟨S4x11008, .f32⟩
  | 5 => ⟨S4x11008, .f32⟩
  | 6 => ⟨S4x11008, .f32⟩
  | 7 => ⟨S_, .f32⟩
  | 8 => ⟨S4x11008, .f32⟩
  | 9 => ⟨S4x11008, .f32⟩
  | 10 => ⟨S4x11008, .f32⟩
  | 11 => ⟨S_, .f32⟩
  | 12 => ⟨S4x11008, .f32⟩
  | 13 => ⟨S4x11008, .f32⟩
  | 14 => ⟨S_, .f32⟩
  | 15 => ⟨S4x2048, .f32⟩
  | 16 => ⟨S4x2048, .f32⟩
  | 17 => ⟨S_, .f32⟩
  | 18 => ⟨S4x2048, .f32⟩
  | 19 => ⟨S4x2048, .f32⟩
  | 20 => ⟨S4x2048, .f32⟩
  | 21 => ⟨S_, .f32⟩
  | 22 => ⟨S4x2048, .f32⟩
  | 23 => ⟨S4x2048, .f32⟩
  | 24 => ⟨S4x2048, .f32⟩
  | 25 => ⟨S_, .f32⟩
  | 26 => ⟨S4x2048, .f32⟩
  | 27 => ⟨S4x2048, .f32⟩
  | 28 => ⟨S4x2048, .f32⟩
  | 29 => ⟨S_, .f32⟩
  | 30 => ⟨S4x2048, .f32⟩
  | 31 => ⟨S4x2048, .f32⟩
  | 32 => ⟨S_, .f32⟩
  | 33 => ⟨S4x2048, .f32⟩
  | 34 => ⟨S4x2048, .f32⟩
  | 35 => ⟨S4x2048, .f32⟩
  | 36 => ⟨S_, .f32⟩
  | 37 => ⟨S4x2048, .f32⟩
  | 38 => ⟨S4x2048, .f32⟩
  | 39 => ⟨S4x2048, .f32⟩
  | 40 => ⟨S_, .f32⟩
  | 41 => ⟨S4x2048, .f32⟩
  | 42 => ⟨S4x2048, .f32⟩
  | 43 => ⟨S4x2048, .f32⟩
  | 44 => ⟨S_, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S_, .f32⟩
  | 66 => ⟨S4x2048, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S_, .f32⟩
  | 78 => ⟨S4x2048, .f32⟩
  | 79 => ⟨S4x2048, .f32⟩
  | 80 => ⟨S4x65536, .f32⟩
  | 81 => ⟨S4x2048, .f32⟩
  | 82 => ⟨S4x2048, .f32⟩
  | 83 => ⟨S4x32768, .f32⟩
  | 84 => ⟨S4x32768, .f32⟩
  | 85 => ⟨S4x32768, .f32⟩
  | 86 => ⟨S4x32768, .f32⟩
  | 87 => ⟨S4x512, .f32⟩
  | 88 => ⟨S_, .i32⟩
  | 89 => ⟨S_, .f32⟩
  | 90 => ⟨S4x1024, .f32⟩
  | 91 => ⟨S_, .i32⟩
  | 92 => ⟨S_, .f32⟩
  | 93 => ⟨S4x65536, .f32⟩
  | 94 => ⟨S_, .i32⟩
  | 95 => ⟨S_, .f32⟩
  | 96 => ⟨S4x1024, .f32⟩
  | 97 => ⟨S_, .i32⟩
  | 98 => ⟨S_, .f32⟩
  | 99 => ⟨S4x2048, .f32⟩
  | 100 => ⟨S_, .i32⟩
  | 101 => ⟨S_, .f32⟩
  | 102 => ⟨S4x2048, .f32⟩
  | 103 => ⟨S_, .i32⟩
  | 104 => ⟨S_, .f32⟩
  | 105 => ⟨S4x1024, .f32⟩
  | 106 => ⟨S_, .i32⟩
  | 107 => ⟨S_, .f32⟩
  | 108 => ⟨S4x32768, .f32⟩
  | 109 => ⟨S_, .i32⟩
  | 110 => ⟨S_, .f32⟩
  | 111 => ⟨S4x32768, .f32⟩
  | 112 => ⟨S_, .i32⟩
  | 113 => ⟨S_, .f32⟩
  | 114 => ⟨S4x32768, .f32⟩
  | 115 => ⟨S_, .i32⟩
  | 116 => ⟨S_, .f32⟩
  | 117 => ⟨S4x32768, .f32⟩
  | 118 => ⟨S_, .i32⟩
  | 119 => ⟨S_, .f32⟩
  | 120 => ⟨S4x1024, .f32⟩
  | 121 => ⟨S_, .i32⟩
  | 122 => ⟨S_, .f32⟩
  | 123 => ⟨S4x2048, .f32⟩
  | 124 => ⟨S_, .i32⟩
  | 125 => ⟨S_, .f32⟩
  | 126 => ⟨S4x2048, .f32⟩
  | 127 => ⟨S_, .i32⟩
  | _ => ⟨S4x16, .f32⟩

abbrev hbmTy0_5 (i : Nat) : BufTy := match i % 128 with
  | 0 => ⟨S_, .f32⟩
  | 1 => ⟨S4x11264, .f32⟩
  | 2 => ⟨S_, .i32⟩
  | 3 => ⟨S_, .f32⟩
  | 4 => ⟨S4x2048, .f32⟩
  | 5 => ⟨S_, .i32⟩
  | 6 => ⟨S_, .f32⟩
  | 7 => ⟨S4x2048, .f32⟩
  | 8 => ⟨S4x224256, .f32⟩
  | 9 => ⟨S7008x128, .f32⟩
  | 10 => ⟨S4x65536, .f32⟩
  | 11 => ⟨S4x2048, .f32⟩
  | 12 => ⟨S4x2048, .f32⟩
  | 13 => ⟨S4x32768, .f32⟩
  | 14 => ⟨S4x32768, .f32⟩
  | 15 => ⟨S4x32768, .f32⟩
  | 16 => ⟨S4x32768, .f32⟩
  | 17 => ⟨S4x512, .f32⟩
  | 18 => ⟨S_, .i32⟩
  | 19 => ⟨S_, .f32⟩
  | 20 => ⟨S4x1024, .f32⟩
  | 21 => ⟨S_, .i32⟩
  | 22 => ⟨S_, .f32⟩
  | 23 => ⟨S4x65536, .f32⟩
  | 24 => ⟨S_, .i32⟩
  | 25 => ⟨S_, .f32⟩
  | 26 => ⟨S4x1024, .f32⟩
  | 27 => ⟨S_, .i32⟩
  | 28 => ⟨S_, .f32⟩
  | 29 => ⟨S4x2048, .f32⟩
  | 30 => ⟨S_, .i32⟩
  | 31 => ⟨S_, .f32⟩
  | 32 => ⟨S4x2048, .f32⟩
  | 33 => ⟨S_, .i32⟩
  | 34 => ⟨S_, .f32⟩
  | 35 => ⟨S4x1024, .f32⟩
  | 36 => ⟨S_, .i32⟩
  | 37 => ⟨S_, .f32⟩
  | 38 => ⟨S4x32768, .f32⟩
  | 39 => ⟨S_, .i32⟩
  | 40 => ⟨S_, .f32⟩
  | 41 => ⟨S4x32768, .f32⟩
  | 42 => ⟨S_, .i32⟩
  | 43 => ⟨S_, .f32⟩
  | 44 => ⟨S4x32768, .f32⟩
  | 45 => ⟨S_, .i32⟩
  | 46 => ⟨S_, .f32⟩
  | 47 => ⟨S4x32768, .f32⟩
  | 48 => ⟨S_, .i32⟩
  | 49 => ⟨S_, .f32⟩
  | 50 => ⟨S4x1024, .f32⟩
  | 51 => ⟨S_, .i32⟩
  | 52 => ⟨S_, .f32⟩
  | 53 => ⟨S4x2048, .f32⟩
  | 54 => ⟨S_, .i32⟩
  | 55 => ⟨S_, .f32⟩
  | 56 => ⟨S4x2048, .f32⟩
  | 57 => ⟨S_, .i32⟩
  | 58 => ⟨S_, .f32⟩
  | 59 => ⟨S4x11264, .f32⟩
  | 60 => ⟨S_, .i32⟩
  | 61 => ⟨S_, .f32⟩
  | 62 => ⟨S4x2048, .f32⟩
  | 63 => ⟨S_, .i32⟩
  | 64 => ⟨S_, .f32⟩
  | 65 => ⟨S4x2048, .f32⟩
  | 66 => ⟨S4x224256, .f32⟩
  | 67 => ⟨S7008x128, .f32⟩
  | 68 => ⟨S4x65536, .f32⟩
  | 69 => ⟨S4x2048, .f32⟩
  | 70 => ⟨S4x2048, .f32⟩
  | 71 => ⟨S4x32768, .f32⟩
  | 72 => ⟨S4x32768, .f32⟩
  | 73 => ⟨S4x32768, .f32⟩
  | 74 => ⟨S4x32768, .f32⟩
  | 75 => ⟨S4x512, .f32⟩
  | 76 => ⟨S_, .i32⟩
  | 77 => ⟨S_, .f32⟩
  | 78 => ⟨S4x1024, .f32⟩
  | 79 => ⟨S_, .i32⟩
  | 80 => ⟨S_, .f32⟩
  | 81 => ⟨S4x65536, .f32⟩
  | 82 => ⟨S_, .i32⟩
  | 83 => ⟨S_, .f32⟩
  | 84 => ⟨S4x1024, .f32⟩
  | 85 => ⟨S_, .i32⟩
  | 86 => ⟨S_, .f32⟩
  | 87 => ⟨S4x2048, .f32⟩
  | 88 => ⟨S_, .i32⟩
  | 89 => ⟨S_, .f32⟩
  | 90 => ⟨S4x2048, .f32⟩
  | 91 => ⟨S_, .i32⟩
  | 92 => ⟨S_, .f32⟩
  | 93 => ⟨S4x1024, .f32⟩
  | 94 => ⟨S_, .i32⟩
  | 95 => ⟨S_, .f32⟩
  | 96 => ⟨S4x32768, .f32⟩
  | 97 => ⟨S_, .i32⟩
  | 98 => ⟨S_, .f32⟩
  | 99 => ⟨S4x32768, .f32⟩
  | 100 => ⟨S_, .i32⟩
  | 101 => ⟨S_, .f32⟩
  | 102 => ⟨S4x32768, .f32⟩
  | 103 => ⟨S_, .i32⟩
  | 104 => ⟨S_, .f32⟩
  | 105 => ⟨S4x32768, .f32⟩
  | 106 => ⟨S_, .i32⟩
  | 107 => ⟨S_, .f32⟩
  | 108 => ⟨S4x1024, .f32⟩
  | 109 => ⟨S_, .i32⟩
  | 110 => ⟨S_, .f32⟩
  | 111 => ⟨S4x2048, .f32⟩
  | 112 => ⟨S_, .i32⟩
  | 113 => ⟨S_, .f32⟩
  | 114 => ⟨S4x2048, .f32⟩
  | 115 => ⟨S_, .i32⟩
  | 116 => ⟨S_, .f32⟩
  | 117 => ⟨S4x11264, .f32⟩
  | 118 => ⟨S_, .i32⟩
  | 119 => ⟨S_, .f32⟩
  | 120 => ⟨S4x2048, .f32⟩
  | 121 => ⟨S_, .i32⟩
  | 122 => ⟨S_, .f32⟩
  | 123 => ⟨S4x2048, .f32⟩
  | 124 => ⟨S4x224256, .f32⟩
  | 125 => ⟨S7008x128, .f32⟩
  | _ => ⟨S4x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x16, .f32⟩

abbrev bufTy : (tb : Table) → Fin (tcTables nBuf tb) → BufTy
  | .hbm, ⟨i, _⟩ => hbmTy i
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_cst : Ref sig .tc := ⟨.hbm, 64, rfl⟩
abbrev main_v0 : Ref sig .tc := ⟨.hbm, 65, rfl⟩
abbrev main_v1 : Ref sig .tc := ⟨.hbm, 66, rfl⟩
abbrev main_cst_0 : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_cst_1 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_cst_2 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_cst_3 : Ref sig .tc := ⟨.hbm, 79, rfl⟩
abbrev main_v11 : Ref sig .tc := ⟨.hbm, 80, rfl⟩
abbrev main_v12 : Ref sig .tc := ⟨.hbm, 81, rfl⟩
abbrev main_cst_4 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_5 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_6 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_cst_7 : Ref sig .tc := ⟨.hbm, 94, rfl⟩
abbrev main_v22 : Ref sig .tc := ⟨.hbm, 95, rfl⟩
abbrev main_v23 : Ref sig .tc := ⟨.hbm, 96, rfl⟩
abbrev main_cst_8 : Ref sig .tc := ⟨.hbm, 97, rfl⟩
abbrev main_v24 : Ref sig .tc := ⟨.hbm, 98, rfl⟩
abbrev main_v25 : Ref sig .tc := ⟨.hbm, 99, rfl⟩
abbrev main_cst_9 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_cst_10 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_11 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_cst_12 : Ref sig .tc := ⟨.hbm, 112, rfl⟩
abbrev main_v35 : Ref sig .tc := ⟨.hbm, 113, rfl⟩
abbrev main_v36 : Ref sig .tc := ⟨.hbm, 114, rfl⟩
abbrev main_cst_13 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_14 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_15 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_cst_16 : Ref sig .tc := ⟨.hbm, 127, rfl⟩
abbrev main_v46 : Ref sig .tc := ⟨.hbm, 128, rfl⟩
abbrev main_v47 : Ref sig .tc := ⟨.hbm, 129, rfl⟩
abbrev main_cst_17 : Ref sig .tc := ⟨.hbm, 130, rfl⟩
abbrev main_v48 : Ref sig .tc := ⟨.hbm, 131, rfl⟩
abbrev main_v49 : Ref sig .tc := ⟨.hbm, 132, rfl⟩
abbrev main_cst_18 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_cst_19 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_cst_20 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_cst_21 : Ref sig .tc := ⟨.hbm, 145, rfl⟩
abbrev main_v59 : Ref sig .tc := ⟨.hbm, 146, rfl⟩
abbrev main_v60 : Ref sig .tc := ⟨.hbm, 147, rfl⟩
abbrev main_cst_22 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_cst_23 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_cst_24 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_cst_25 : Ref sig .tc := ⟨.hbm, 160, rfl⟩
abbrev main_v70 : Ref sig .tc := ⟨.hbm, 161, rfl⟩
abbrev main_v71 : Ref sig .tc := ⟨.hbm, 162, rfl⟩
abbrev main_cst_26 : Ref sig .tc := ⟨.hbm, 163, rfl⟩
abbrev main_v72 : Ref sig .tc := ⟨.hbm, 164, rfl⟩
abbrev main_v73 : Ref sig .tc := ⟨.hbm, 165, rfl⟩
abbrev main_cst_27 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst_28 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_cst_29 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_cst_30 : Ref sig .tc := ⟨.hbm, 178, rfl⟩
abbrev main_v83 : Ref sig .tc := ⟨.hbm, 179, rfl⟩
abbrev main_v84 : Ref sig .tc := ⟨.hbm, 180, rfl⟩
abbrev main_cst_31 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_cst_32 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_cst_33 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_cst_34 : Ref sig .tc := ⟨.hbm, 193, rfl⟩
abbrev main_v94 : Ref sig .tc := ⟨.hbm, 194, rfl⟩
abbrev main_v95 : Ref sig .tc := ⟨.hbm, 195, rfl⟩
abbrev main_cst_35 : Ref sig .tc := ⟨.hbm, 196, rfl⟩
abbrev main_v96 : Ref sig .tc := ⟨.hbm, 197, rfl⟩
abbrev main_v97 : Ref sig .tc := ⟨.hbm, 198, rfl⟩
abbrev main_cst_36 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_cst_37 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_cst_38 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_cst_39 : Ref sig .tc := ⟨.hbm, 211, rfl⟩
abbrev main_v107 : Ref sig .tc := ⟨.hbm, 212, rfl⟩
abbrev main_v108 : Ref sig .tc := ⟨.hbm, 213, rfl⟩
abbrev main_cst_40 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_cst_41 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_cst_42 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_cst_43 : Ref sig .tc := ⟨.hbm, 226, rfl⟩
abbrev main_v118 : Ref sig .tc := ⟨.hbm, 227, rfl⟩
abbrev main_v119 : Ref sig .tc := ⟨.hbm, 228, rfl⟩
abbrev main_cst_44 : Ref sig .tc := ⟨.hbm, 229, rfl⟩
abbrev main_v120 : Ref sig .tc := ⟨.hbm, 230, rfl⟩
abbrev main_v121 : Ref sig .tc := ⟨.hbm, 231, rfl⟩
abbrev main_cst_45 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_cst_46 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_cst_47 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_cst_48 : Ref sig .tc := ⟨.hbm, 244, rfl⟩
abbrev main_v131 : Ref sig .tc := ⟨.hbm, 245, rfl⟩
abbrev main_v132 : Ref sig .tc := ⟨.hbm, 246, rfl⟩
abbrev main_cst_49 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_cst_50 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_cst_51 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_cst_52 : Ref sig .tc := ⟨.hbm, 259, rfl⟩
abbrev main_v142 : Ref sig .tc := ⟨.hbm, 260, rfl⟩
abbrev main_v143 : Ref sig .tc := ⟨.hbm, 261, rfl⟩
abbrev main_cst_53 : Ref sig .tc := ⟨.hbm, 262, rfl⟩
abbrev main_v144 : Ref sig .tc := ⟨.hbm, 263, rfl⟩
abbrev main_v145 : Ref sig .tc := ⟨.hbm, 264, rfl⟩
abbrev main_cst_54 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_cst_55 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_cst_56 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_cst_57 : Ref sig .tc := ⟨.hbm, 277, rfl⟩
abbrev main_v155 : Ref sig .tc := ⟨.hbm, 278, rfl⟩
abbrev main_v156 : Ref sig .tc := ⟨.hbm, 279, rfl⟩
abbrev main_cst_58 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_cst_59 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_cst_60 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_cst_61 : Ref sig .tc := ⟨.hbm, 292, rfl⟩
abbrev main_v166 : Ref sig .tc := ⟨.hbm, 293, rfl⟩
abbrev main_v167 : Ref sig .tc := ⟨.hbm, 294, rfl⟩
abbrev main_cst_62 : Ref sig .tc := ⟨.hbm, 295, rfl⟩
abbrev main_v168 : Ref sig .tc := ⟨.hbm, 296, rfl⟩
abbrev main_v169 : Ref sig .tc := ⟨.hbm, 297, rfl⟩
abbrev main_cst_63 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_cst_64 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_cst_65 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_cst_66 : Ref sig .tc := ⟨.hbm, 310, rfl⟩
abbrev main_v179 : Ref sig .tc := ⟨.hbm, 311, rfl⟩
abbrev main_v180 : Ref sig .tc := ⟨.hbm, 312, rfl⟩
abbrev main_cst_67 : Ref sig .tc := ⟨.hbm, 313, rfl⟩
abbrev main_v181 : Ref sig .tc := ⟨.hbm, 314, rfl⟩
abbrev main_v182 : Ref sig .tc := ⟨.hbm, 315, rfl⟩
abbrev main_v183 : Ref sig .tc := ⟨.hbm, 316, rfl⟩
abbrev main_cst_68 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_cst_69 : Ref sig .tc := ⟨.hbm, 321, rfl⟩
abbrev main_v187 : Ref sig .tc := ⟨.hbm, 322, rfl⟩
abbrev main_v188 : Ref sig .tc := ⟨.hbm, 323, rfl⟩
abbrev main_v189 : Ref sig .tc := ⟨.hbm, 324, rfl⟩
abbrev main_cst_70 : Ref sig .tc := ⟨.hbm, 325, rfl⟩
abbrev main_v190 : Ref sig .tc := ⟨.hbm, 326, rfl⟩
abbrev main_v191 : Ref sig .tc := ⟨.hbm, 327, rfl⟩
abbrev main_cst_71 : Ref sig .tc := ⟨.hbm, 328, rfl⟩
abbrev main_v192 : Ref sig .tc := ⟨.hbm, 329, rfl⟩
abbrev main_v193 : Ref sig .tc := ⟨.hbm, 330, rfl⟩
abbrev main_cst_72 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_cst_73 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_cst_74 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_cst_75 : Ref sig .tc := ⟨.hbm, 343, rfl⟩
abbrev main_v203 : Ref sig .tc := ⟨.hbm, 344, rfl⟩
abbrev main_v204 : Ref sig .tc := ⟨.hbm, 345, rfl⟩
abbrev main_cst_76 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_cst_77 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_cst_78 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_cst_79 : Ref sig .tc := ⟨.hbm, 358, rfl⟩
abbrev main_v214 : Ref sig .tc := ⟨.hbm, 359, rfl⟩
abbrev main_v215 : Ref sig .tc := ⟨.hbm, 360, rfl⟩
abbrev main_cst_80 : Ref sig .tc := ⟨.hbm, 361, rfl⟩
abbrev main_v216 : Ref sig .tc := ⟨.hbm, 362, rfl⟩
abbrev main_v217 : Ref sig .tc := ⟨.hbm, 363, rfl⟩
abbrev main_cst_81 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_cst_82 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_cst_83 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_cst_84 : Ref sig .tc := ⟨.hbm, 376, rfl⟩
abbrev main_v227 : Ref sig .tc := ⟨.hbm, 377, rfl⟩
abbrev main_v228 : Ref sig .tc := ⟨.hbm, 378, rfl⟩
abbrev main_cst_85 : Ref sig .tc := ⟨.hbm, 379, rfl⟩
abbrev main_v229 : Ref sig .tc := ⟨.hbm, 380, rfl⟩
abbrev main_v230 : Ref sig .tc := ⟨.hbm, 381, rfl⟩
abbrev main_v231 : Ref sig .tc := ⟨.hbm, 382, rfl⟩
abbrev main_cst_86 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_cst_87 : Ref sig .tc := ⟨.hbm, 387, rfl⟩
abbrev main_v235 : Ref sig .tc := ⟨.hbm, 388, rfl⟩
abbrev main_v236 : Ref sig .tc := ⟨.hbm, 389, rfl⟩
abbrev main_v237 : Ref sig .tc := ⟨.hbm, 390, rfl⟩
abbrev main_cst_88 : Ref sig .tc := ⟨.hbm, 391, rfl⟩
abbrev main_v238 : Ref sig .tc := ⟨.hbm, 392, rfl⟩
abbrev main_v239 : Ref sig .tc := ⟨.hbm, 393, rfl⟩
abbrev main_cst_89 : Ref sig .tc := ⟨.hbm, 394, rfl⟩
abbrev main_v240 : Ref sig .tc := ⟨.hbm, 395, rfl⟩
abbrev main_v241 : Ref sig .tc := ⟨.hbm, 396, rfl⟩
abbrev main_cst_90 : Ref sig .tc := ⟨.hbm, 397, rfl⟩
abbrev main_v242 : Ref sig .tc := ⟨.hbm, 398, rfl⟩
abbrev main_v243 : Ref sig .tc := ⟨.hbm, 399, rfl⟩
abbrev main_v244 : Ref sig .tc := ⟨.hbm, 400, rfl⟩
abbrev main_cst_91 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_cst_92 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_cst_93 : Ref sig .tc := ⟨.hbm, 409, rfl⟩
abbrev main_v251 : Ref sig .tc := ⟨.hbm, 410, rfl⟩
abbrev main_v252 : Ref sig .tc := ⟨.hbm, 411, rfl⟩
abbrev main_cst_94 : Ref sig .tc := ⟨.hbm, 412, rfl⟩
abbrev main_v253 : Ref sig .tc := ⟨.hbm, 413, rfl⟩
abbrev main_v254 : Ref sig .tc := ⟨.hbm, 414, rfl⟩
abbrev main_v255 : Ref sig .tc := ⟨.hbm, 415, rfl⟩
abbrev main_cst_95 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_cst_96 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_cst_97 : Ref sig .tc := ⟨.hbm, 424, rfl⟩
abbrev main_v262 : Ref sig .tc := ⟨.hbm, 425, rfl⟩
abbrev main_v263 : Ref sig .tc := ⟨.hbm, 426, rfl⟩
abbrev main_cst_98 : Ref sig .tc := ⟨.hbm, 427, rfl⟩
abbrev main_v264 : Ref sig .tc := ⟨.hbm, 428, rfl⟩
abbrev main_v265 : Ref sig .tc := ⟨.hbm, 429, rfl⟩
abbrev main_cst_99 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_cst_100 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_cst_101 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_cst_102 : Ref sig .tc := ⟨.hbm, 442, rfl⟩
abbrev main_v275 : Ref sig .tc := ⟨.hbm, 443, rfl⟩
abbrev main_v276 : Ref sig .tc := ⟨.hbm, 444, rfl⟩
abbrev main_cst_103 : Ref sig .tc := ⟨.hbm, 445, rfl⟩
abbrev main_v277 : Ref sig .tc := ⟨.hbm, 446, rfl⟩
abbrev main_v278 : Ref sig .tc := ⟨.hbm, 447, rfl⟩
abbrev main_v279 : Ref sig .tc := ⟨.hbm, 448, rfl⟩
abbrev main_cst_104 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_cst_105 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_106 : Ref sig .tc := ⟨.hbm, 457, rfl⟩
abbrev main_v286 : Ref sig .tc := ⟨.hbm, 458, rfl⟩
abbrev main_v287 : Ref sig .tc := ⟨.hbm, 459, rfl⟩
abbrev main_cst_107 : Ref sig .tc := ⟨.hbm, 460, rfl⟩
abbrev main_v288 : Ref sig .tc := ⟨.hbm, 461, rfl⟩
abbrev main_v289 : Ref sig .tc := ⟨.hbm, 462, rfl⟩
abbrev main_cst_108 : Ref sig .tc := ⟨.hbm, 463, rfl⟩
abbrev main_v290 : Ref sig .tc := ⟨.hbm, 464, rfl⟩
abbrev main_v291 : Ref sig .tc := ⟨.hbm, 465, rfl⟩
abbrev main_v292 : Ref sig .tc := ⟨.hbm, 466, rfl⟩
abbrev main_cst_109 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_cst_110 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev main_cst_111 : Ref sig .tc := ⟨.hbm, 475, rfl⟩
abbrev main_v299 : Ref sig .tc := ⟨.hbm, 476, rfl⟩
abbrev main_v300 : Ref sig .tc := ⟨.hbm, 477, rfl⟩
abbrev main_cst_112 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_cst_113 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_cst_114 : Ref sig .tc := ⟨.hbm, 486, rfl⟩
abbrev main_v307 : Ref sig .tc := ⟨.hbm, 487, rfl⟩
abbrev main_v308 : Ref sig .tc := ⟨.hbm, 488, rfl⟩
abbrev main_v309 : Ref sig .tc := ⟨.hbm, 489, rfl⟩
abbrev main_cst_115 : Ref sig .tc := ⟨.hbm, 490, rfl⟩
abbrev main_v310 : Ref sig .tc := ⟨.hbm, 491, rfl⟩
abbrev main_v311 : Ref sig .tc := ⟨.hbm, 492, rfl⟩
abbrev main_cst_116 : Ref sig .tc := ⟨.hbm, 493, rfl⟩
abbrev main_v312 : Ref sig .tc := ⟨.hbm, 494, rfl⟩
abbrev main_v313 : Ref sig .tc := ⟨.hbm, 495, rfl⟩
abbrev main_cst_117 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_cst_118 : Ref sig .tc := ⟨.hbm, 500, rfl⟩
abbrev main_v317 : Ref sig .tc := ⟨.hbm, 501, rfl⟩
abbrev main_v318 : Ref sig .tc := ⟨.hbm, 502, rfl⟩
abbrev main_v319 : Ref sig .tc := ⟨.hbm, 503, rfl⟩
abbrev main_cst_119 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_cst_120 : Ref sig .tc := ⟨.hbm, 508, rfl⟩
abbrev main_v323 : Ref sig .tc := ⟨.hbm, 509, rfl⟩
abbrev main_v324 : Ref sig .tc := ⟨.hbm, 510, rfl⟩
abbrev main_cst_121 : Ref sig .tc := ⟨.hbm, 511, rfl⟩
abbrev main_v325 : Ref sig .tc := ⟨.hbm, 512, rfl⟩
abbrev main_v326 : Ref sig .tc := ⟨.hbm, 513, rfl⟩
abbrev main_v327 : Ref sig .tc := ⟨.hbm, 514, rfl⟩
abbrev main_cst_122 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_cst_123 : Ref sig .tc := ⟨.hbm, 519, rfl⟩
abbrev main_v331 : Ref sig .tc := ⟨.hbm, 520, rfl⟩
abbrev main_v332 : Ref sig .tc := ⟨.hbm, 521, rfl⟩
abbrev main_v333 : Ref sig .tc := ⟨.hbm, 522, rfl⟩
abbrev main_cst_124 : Ref sig .tc := ⟨.hbm, 523, rfl⟩
abbrev main_v334 : Ref sig .tc := ⟨.hbm, 524, rfl⟩
abbrev main_v335 : Ref sig .tc := ⟨.hbm, 525, rfl⟩
abbrev main_cst_125 : Ref sig .tc := ⟨.hbm, 526, rfl⟩
abbrev main_v336 : Ref sig .tc := ⟨.hbm, 527, rfl⟩
abbrev main_v337 : Ref sig .tc := ⟨.hbm, 528, rfl⟩
abbrev main_cst_126 : Ref sig .tc := ⟨.hbm, 529, rfl⟩
abbrev main_v338 : Ref sig .tc := ⟨.hbm, 530, rfl⟩
abbrev main_v339 : Ref sig .tc := ⟨.hbm, 531, rfl⟩
abbrev main_v340 : Ref sig .tc := ⟨.hbm, 532, rfl⟩
abbrev main_cst_127 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_cst_128 : Ref sig .tc := ⟨.hbm, 537, rfl⟩
abbrev main_v344 : Ref sig .tc := ⟨.hbm, 538, rfl⟩
abbrev main_v345 : Ref sig .tc := ⟨.hbm, 539, rfl⟩
abbrev main_v346 : Ref sig .tc := ⟨.hbm, 540, rfl⟩
abbrev main_cst_129 : Ref sig .tc := ⟨.hbm, 541, rfl⟩
abbrev main_v347 : Ref sig .tc := ⟨.hbm, 542, rfl⟩
abbrev main_v348 : Ref sig .tc := ⟨.hbm, 543, rfl⟩
abbrev main_cst_130 : Ref sig .tc := ⟨.hbm, 544, rfl⟩
abbrev main_v349 : Ref sig .tc := ⟨.hbm, 545, rfl⟩
abbrev main_v350 : Ref sig .tc := ⟨.hbm, 546, rfl⟩
abbrev main_v351 : Ref sig .tc := ⟨.hbm, 547, rfl⟩
abbrev main_cst_131 : Ref sig .tc := ⟨.hbm, 548, rfl⟩
abbrev main_v352 : Ref sig .tc := ⟨.hbm, 549, rfl⟩
abbrev main_v353 : Ref sig .tc := ⟨.hbm, 550, rfl⟩
abbrev main_v354 : Ref sig .tc := ⟨.hbm, 551, rfl⟩
abbrev main_cst_132 : Ref sig .tc := ⟨.hbm, 552, rfl⟩
abbrev main_v355 : Ref sig .tc := ⟨.hbm, 553, rfl⟩
abbrev main_v356 : Ref sig .tc := ⟨.hbm, 554, rfl⟩
abbrev main_v357 : Ref sig .tc := ⟨.hbm, 555, rfl⟩
abbrev main_cst_133 : Ref sig .tc := ⟨.hbm, 556, rfl⟩
abbrev main_v358 : Ref sig .tc := ⟨.hbm, 557, rfl⟩
abbrev main_v359 : Ref sig .tc := ⟨.hbm, 558, rfl⟩
abbrev main_cst_134 : Ref sig .tc := ⟨.hbm, 559, rfl⟩
abbrev main_v360 : Ref sig .tc := ⟨.hbm, 560, rfl⟩
abbrev main_v361 : Ref sig .tc := ⟨.hbm, 561, rfl⟩
abbrev main_cst_135 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_cst_136 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_cst_137 : Ref sig .tc := ⟨.hbm, 570, rfl⟩
abbrev main_v368 : Ref sig .tc := ⟨.hbm, 571, rfl⟩
abbrev main_v369 : Ref sig .tc := ⟨.hbm, 572, rfl⟩
abbrev main_v370 : Ref sig .tc := ⟨.hbm, 573, rfl⟩
abbrev main_cst_138 : Ref sig .tc := ⟨.hbm, 574, rfl⟩
abbrev main_v371 : Ref sig .tc := ⟨.hbm, 575, rfl⟩
abbrev main_v372 : Ref sig .tc := ⟨.hbm, 576, rfl⟩
abbrev main_cst_139 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_cst_140 : Ref sig .tc := ⟨.hbm, 581, rfl⟩
abbrev main_v376 : Ref sig .tc := ⟨.hbm, 582, rfl⟩
abbrev main_v377 : Ref sig .tc := ⟨.hbm, 583, rfl⟩
abbrev main_v378 : Ref sig .tc := ⟨.hbm, 584, rfl⟩
abbrev main_cst_141 : Ref sig .tc := ⟨.hbm, 585, rfl⟩
abbrev main_v379 : Ref sig .tc := ⟨.hbm, 586, rfl⟩
abbrev main_v380 : Ref sig .tc := ⟨.hbm, 587, rfl⟩
abbrev main_v381 : Ref sig .tc := ⟨.hbm, 588, rfl⟩
abbrev main_cst_142 : Ref sig .tc := ⟨.hbm, 589, rfl⟩
abbrev main_v382 : Ref sig .tc := ⟨.hbm, 590, rfl⟩
abbrev main_v383 : Ref sig .tc := ⟨.hbm, 591, rfl⟩
abbrev main_v384 : Ref sig .tc := ⟨.hbm, 592, rfl⟩
abbrev main_v385 : Ref sig .tc := ⟨.hbm, 593, rfl⟩
abbrev main_v386 : Ref sig .tc := ⟨.hbm, 594, rfl⟩
abbrev main_v387 : Ref sig .tc := ⟨.hbm, 595, rfl⟩
abbrev main_v388 : Ref sig .tc := ⟨.hbm, 596, rfl⟩
abbrev main_v389 : Ref sig .tc := ⟨.hbm, 597, rfl⟩
abbrev main_v390 : Ref sig .tc := ⟨.hbm, 598, rfl⟩
abbrev main_v391 : Ref sig .tc := ⟨.hbm, 599, rfl⟩
abbrev main_c : Ref sig .tc := ⟨.hbm, 600, rfl⟩
abbrev main_call0_v0 : Ref sig .tc := ⟨.hbm, 601, rfl⟩
abbrev main_v392 : Ref sig .tc := ⟨.hbm, 602, rfl⟩
abbrev main_c_143 : Ref sig .tc := ⟨.hbm, 603, rfl⟩
abbrev main_call1_v0 : Ref sig .tc := ⟨.hbm, 604, rfl⟩
abbrev main_v393 : Ref sig .tc := ⟨.hbm, 605, rfl⟩
abbrev main_c_144 : Ref sig .tc := ⟨.hbm, 606, rfl⟩
abbrev main_call2_v0 : Ref sig .tc := ⟨.hbm, 607, rfl⟩
abbrev main_v394 : Ref sig .tc := ⟨.hbm, 608, rfl⟩
abbrev main_c_145 : Ref sig .tc := ⟨.hbm, 609, rfl⟩
abbrev main_call3_v0 : Ref sig .tc := ⟨.hbm, 610, rfl⟩
abbrev main_v395 : Ref sig .tc := ⟨.hbm, 611, rfl⟩
abbrev main_c_146 : Ref sig .tc := ⟨.hbm, 612, rfl⟩
abbrev main_call4_v0 : Ref sig .tc := ⟨.hbm, 613, rfl⟩
abbrev main_v396 : Ref sig .tc := ⟨.hbm, 614, rfl⟩
abbrev main_c_147 : Ref sig .tc := ⟨.hbm, 615, rfl⟩
abbrev main_call5_v0 : Ref sig .tc := ⟨.hbm, 616, rfl⟩
abbrev main_v397 : Ref sig .tc := ⟨.hbm, 617, rfl⟩
abbrev main_c_148 : Ref sig .tc := ⟨.hbm, 618, rfl⟩
abbrev main_call6_v0 : Ref sig .tc := ⟨.hbm, 619, rfl⟩
abbrev main_v398 : Ref sig .tc := ⟨.hbm, 620, rfl⟩
abbrev main_c_149 : Ref sig .tc := ⟨.hbm, 621, rfl⟩
abbrev main_call7_v0 : Ref sig .tc := ⟨.hbm, 622, rfl⟩
abbrev main_v399 : Ref sig .tc := ⟨.hbm, 623, rfl⟩
abbrev main_c_150 : Ref sig .tc := ⟨.hbm, 624, rfl⟩
abbrev main_call8_v0 : Ref sig .tc := ⟨.hbm, 625, rfl⟩
abbrev main_v400 : Ref sig .tc := ⟨.hbm, 626, rfl⟩
abbrev main_c_151 : Ref sig .tc := ⟨.hbm, 627, rfl⟩
abbrev main_call9_v0 : Ref sig .tc := ⟨.hbm, 628, rfl⟩
abbrev main_v401 : Ref sig .tc := ⟨.hbm, 629, rfl⟩
abbrev main_c_152 : Ref sig .tc := ⟨.hbm, 630, rfl⟩
abbrev main_call10_v0 : Ref sig .tc := ⟨.hbm, 631, rfl⟩
abbrev main_v402 : Ref sig .tc := ⟨.hbm, 632, rfl⟩
abbrev main_c_153 : Ref sig .tc := ⟨.hbm, 633, rfl⟩
abbrev main_call11_v0 : Ref sig .tc := ⟨.hbm, 634, rfl⟩
abbrev main_v403 : Ref sig .tc := ⟨.hbm, 635, rfl⟩
abbrev main_c_154 : Ref sig .tc := ⟨.hbm, 636, rfl⟩
abbrev main_call12_v0 : Ref sig .tc := ⟨.hbm, 637, rfl⟩
abbrev main_v404 : Ref sig .tc := ⟨.hbm, 638, rfl⟩
abbrev main_c_155 : Ref sig .tc := ⟨.hbm, 639, rfl⟩
abbrev main_call13_v0 : Ref sig .tc := ⟨.hbm, 640, rfl⟩
abbrev main_v405 : Ref sig .tc := ⟨.hbm, 641, rfl⟩
abbrev main_c_156 : Ref sig .tc := ⟨.hbm, 642, rfl⟩
abbrev main_call14_v0 : Ref sig .tc := ⟨.hbm, 643, rfl⟩
abbrev main_v406 : Ref sig .tc := ⟨.hbm, 644, rfl⟩
abbrev main_c_157 : Ref sig .tc := ⟨.hbm, 645, rfl⟩
abbrev main_call15_v0 : Ref sig .tc := ⟨.hbm, 646, rfl⟩
abbrev main_v407 : Ref sig .tc := ⟨.hbm, 647, rfl⟩
abbrev main_v408 : Ref sig .tc := ⟨.hbm, 648, rfl⟩
abbrev main_v409 : Ref sig .tc := ⟨.hbm, 649, rfl⟩
abbrev main_v410 : Ref sig .tc := ⟨.hbm, 650, rfl⟩
abbrev main_v411 : Ref sig .tc := ⟨.hbm, 651, rfl⟩
abbrev main_v412 : Ref sig .tc := ⟨.hbm, 652, rfl⟩
abbrev main_v413 : Ref sig .tc := ⟨.hbm, 653, rfl⟩
abbrev main_v414 : Ref sig .tc := ⟨.hbm, 654, rfl⟩
abbrev main_v415 : Ref sig .tc := ⟨.hbm, 655, rfl⟩
abbrev main_v416 : Ref sig .tc := ⟨.hbm, 656, rfl⟩
abbrev main_v417 : Ref sig .tc := ⟨.hbm, 657, rfl⟩
abbrev main_c_158 : Ref sig .tc := ⟨.hbm, 658, rfl⟩
abbrev main_call16_v0 : Ref sig .tc := ⟨.hbm, 659, rfl⟩
abbrev main_v418 : Ref sig .tc := ⟨.hbm, 660, rfl⟩
abbrev main_c_159 : Ref sig .tc := ⟨.hbm, 661, rfl⟩
abbrev main_call17_v0 : Ref sig .tc := ⟨.hbm, 662, rfl⟩
abbrev main_v419 : Ref sig .tc := ⟨.hbm, 663, rfl⟩
abbrev main_c_160 : Ref sig .tc := ⟨.hbm, 664, rfl⟩
abbrev main_call18_v0 : Ref sig .tc := ⟨.hbm, 665, rfl⟩
abbrev main_v420 : Ref sig .tc := ⟨.hbm, 666, rfl⟩
abbrev main_c_161 : Ref sig .tc := ⟨.hbm, 667, rfl⟩
abbrev main_call19_v0 : Ref sig .tc := ⟨.hbm, 668, rfl⟩
abbrev main_v421 : Ref sig .tc := ⟨.hbm, 669, rfl⟩
abbrev main_c_162 : Ref sig .tc := ⟨.hbm, 670, rfl⟩
abbrev main_call20_v0 : Ref sig .tc := ⟨.hbm, 671, rfl⟩
abbrev main_v422 : Ref sig .tc := ⟨.hbm, 672, rfl⟩
abbrev main_c_163 : Ref sig .tc := ⟨.hbm, 673, rfl⟩
abbrev main_call21_v0 : Ref sig .tc := ⟨.hbm, 674, rfl⟩
abbrev main_v423 : Ref sig .tc := ⟨.hbm, 675, rfl⟩
abbrev main_c_164 : Ref sig .tc := ⟨.hbm, 676, rfl⟩
abbrev main_call22_v0 : Ref sig .tc := ⟨.hbm, 677, rfl⟩
abbrev main_v424 : Ref sig .tc := ⟨.hbm, 678, rfl⟩
abbrev main_c_165 : Ref sig .tc := ⟨.hbm, 679, rfl⟩
abbrev main_call23_v0 : Ref sig .tc := ⟨.hbm, 680, rfl⟩
abbrev main_v425 : Ref sig .tc := ⟨.hbm, 681, rfl⟩
abbrev main_c_166 : Ref sig .tc := ⟨.hbm, 682, rfl⟩
abbrev main_call24_v0 : Ref sig .tc := ⟨.hbm, 683, rfl⟩
abbrev main_v426 : Ref sig .tc := ⟨.hbm, 684, rfl⟩
abbrev main_c_167 : Ref sig .tc := ⟨.hbm, 685, rfl⟩
abbrev main_call25_v0 : Ref sig .tc := ⟨.hbm, 686, rfl⟩
abbrev main_v427 : Ref sig .tc := ⟨.hbm, 687, rfl⟩
abbrev main_c_168 : Ref sig .tc := ⟨.hbm, 688, rfl⟩
abbrev main_call26_v0 : Ref sig .tc := ⟨.hbm, 689, rfl⟩
abbrev main_v428 : Ref sig .tc := ⟨.hbm, 690, rfl⟩
abbrev main_c_169 : Ref sig .tc := ⟨.hbm, 691, rfl⟩
abbrev main_call27_v0 : Ref sig .tc := ⟨.hbm, 692, rfl⟩
abbrev main_v429 : Ref sig .tc := ⟨.hbm, 693, rfl⟩
abbrev main_c_170 : Ref sig .tc := ⟨.hbm, 694, rfl⟩
abbrev main_call28_v0 : Ref sig .tc := ⟨.hbm, 695, rfl⟩
abbrev main_v430 : Ref sig .tc := ⟨.hbm, 696, rfl⟩
abbrev main_c_171 : Ref sig .tc := ⟨.hbm, 697, rfl⟩
abbrev main_call29_v0 : Ref sig .tc := ⟨.hbm, 698, rfl⟩
abbrev main_v431 : Ref sig .tc := ⟨.hbm, 699, rfl⟩
abbrev main_c_172 : Ref sig .tc := ⟨.hbm, 700, rfl⟩
abbrev main_call30_v0 : Ref sig .tc := ⟨.hbm, 701, rfl⟩
abbrev main_v432 : Ref sig .tc := ⟨.hbm, 702, rfl⟩
abbrev main_c_173 : Ref sig .tc := ⟨.hbm, 703, rfl⟩
abbrev main_call31_v0 : Ref sig .tc := ⟨.hbm, 704, rfl⟩
abbrev main_v433 : Ref sig .tc := ⟨.hbm, 705, rfl⟩
abbrev main_v434 : Ref sig .tc := ⟨.hbm, 706, rfl⟩
abbrev main_v435 : Ref sig .tc := ⟨.hbm, 707, rfl⟩
abbrev main_v436 : Ref sig .tc := ⟨.hbm, 708, rfl⟩
abbrev main_v437 : Ref sig .tc := ⟨.hbm, 709, rfl⟩
abbrev main_v438 : Ref sig .tc := ⟨.hbm, 710, rfl⟩
abbrev main_v439 : Ref sig .tc := ⟨.hbm, 711, rfl⟩
abbrev main_v440 : Ref sig .tc := ⟨.hbm, 712, rfl⟩
abbrev main_v441 : Ref sig .tc := ⟨.hbm, 713, rfl⟩
abbrev main_v442 : Ref sig .tc := ⟨.hbm, 714, rfl⟩
abbrev main_v443 : Ref sig .tc := ⟨.hbm, 715, rfl⟩
abbrev main_c_174 : Ref sig .tc := ⟨.hbm, 716, rfl⟩
abbrev main_call32_v0 : Ref sig .tc := ⟨.hbm, 717, rfl⟩
abbrev main_v444 : Ref sig .tc := ⟨.hbm, 718, rfl⟩
abbrev main_c_175 : Ref sig .tc := ⟨.hbm, 719, rfl⟩
abbrev main_call33_v0 : Ref sig .tc := ⟨.hbm, 720, rfl⟩
abbrev main_v445 : Ref sig .tc := ⟨.hbm, 721, rfl⟩
abbrev main_c_176 : Ref sig .tc := ⟨.hbm, 722, rfl⟩
abbrev main_call34_v0 : Ref sig .tc := ⟨.hbm, 723, rfl⟩
abbrev main_v446 : Ref sig .tc := ⟨.hbm, 724, rfl⟩
abbrev main_c_177 : Ref sig .tc := ⟨.hbm, 725, rfl⟩
abbrev main_call35_v0 : Ref sig .tc := ⟨.hbm, 726, rfl⟩
abbrev main_v447 : Ref sig .tc := ⟨.hbm, 727, rfl⟩
abbrev main_c_178 : Ref sig .tc := ⟨.hbm, 728, rfl⟩
abbrev main_call36_v0 : Ref sig .tc := ⟨.hbm, 729, rfl⟩
abbrev main_v448 : Ref sig .tc := ⟨.hbm, 730, rfl⟩
abbrev main_c_179 : Ref sig .tc := ⟨.hbm, 731, rfl⟩
abbrev main_call37_v0 : Ref sig .tc := ⟨.hbm, 732, rfl⟩
abbrev main_v449 : Ref sig .tc := ⟨.hbm, 733, rfl⟩
abbrev main_c_180 : Ref sig .tc := ⟨.hbm, 734, rfl⟩
abbrev main_call38_v0 : Ref sig .tc := ⟨.hbm, 735, rfl⟩
abbrev main_v450 : Ref sig .tc := ⟨.hbm, 736, rfl⟩
abbrev main_c_181 : Ref sig .tc := ⟨.hbm, 737, rfl⟩
abbrev main_call39_v0 : Ref sig .tc := ⟨.hbm, 738, rfl⟩
abbrev main_v451 : Ref sig .tc := ⟨.hbm, 739, rfl⟩
abbrev main_c_182 : Ref sig .tc := ⟨.hbm, 740, rfl⟩
abbrev main_call40_v0 : Ref sig .tc := ⟨.hbm, 741, rfl⟩
abbrev main_v452 : Ref sig .tc := ⟨.hbm, 742, rfl⟩
abbrev main_c_183 : Ref sig .tc := ⟨.hbm, 743, rfl⟩
abbrev main_call41_v0 : Ref sig .tc := ⟨.hbm, 744, rfl⟩
abbrev main_v453 : Ref sig .tc := ⟨.hbm, 745, rfl⟩
abbrev main_c_184 : Ref sig .tc := ⟨.hbm, 746, rfl⟩
abbrev main_call42_v0 : Ref sig .tc := ⟨.hbm, 747, rfl⟩
abbrev main_v454 : Ref sig .tc := ⟨.hbm, 748, rfl⟩
abbrev main_c_185 : Ref sig .tc := ⟨.hbm, 749, rfl⟩
abbrev main_call43_v0 : Ref sig .tc := ⟨.hbm, 750, rfl⟩
abbrev main_v455 : Ref sig .tc := ⟨.hbm, 751, rfl⟩
abbrev main_c_186 : Ref sig .tc := ⟨.hbm, 752, rfl⟩
abbrev main_call44_v0 : Ref sig .tc := ⟨.hbm, 753, rfl⟩
abbrev main_v456 : Ref sig .tc := ⟨.hbm, 754, rfl⟩
abbrev main_c_187 : Ref sig .tc := ⟨.hbm, 755, rfl⟩
abbrev main_call45_v0 : Ref sig .tc := ⟨.hbm, 756, rfl⟩
abbrev main_v457 : Ref sig .tc := ⟨.hbm, 757, rfl⟩
abbrev main_c_188 : Ref sig .tc := ⟨.hbm, 758, rfl⟩
abbrev main_call46_v0 : Ref sig .tc := ⟨.hbm, 759, rfl⟩
abbrev main_v458 : Ref sig .tc := ⟨.hbm, 760, rfl⟩
abbrev main_c_189 : Ref sig .tc := ⟨.hbm, 761, rfl⟩
abbrev main_call47_v0 : Ref sig .tc := ⟨.hbm, 762, rfl⟩
abbrev main_v459 : Ref sig .tc := ⟨.hbm, 763, rfl⟩
abbrev main_v460 : Ref sig .tc := ⟨.hbm, 764, rfl⟩
abbrev main_v461 : Ref sig .tc := ⟨.hbm, 765, rfl⟩

abbrev nD : Nat := 1
abbrev τ : Topo := Topo.v7x

variable {F : FTy → Type} [FloatOps F]
-- ==== Glu.lean ====
abbrev S2048x1024 : Shape := ⟨2, ![2048, 1024]⟩
abbrev S2048x512 : Shape := ⟨2, ![2048, 512]⟩
abbrev S512x1024 : Shape := ⟨2, ![512, 1024]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GluRefIdeal.lean ====
abbrev S2048x1024 : Shape := ⟨2, ![2048, 1024]⟩
abbrev S2048x512 : Shape := ⟨2, ![2048, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SmallSum.lean ====
abbrev S8x7008x128 : Shape := ⟨3, ![8, 7008, 128]⟩
abbrev S7008x128 : Shape := ⟨2, ![7008, 128]⟩
abbrev S8x1168x128 : Shape := ⟨3, ![8, 1168, 128]⟩
abbrev S1168x128 : Shape := ⟨2, ![1168, 128]⟩
abbrev S1x1168x128 : Shape := ⟨3, ![1, 1168, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x7008x128, .f32⟩
  | .hbm, ⟨1, _⟩ => ⟨S7008x128, .f32⟩
  | .local _ .vmem, ⟨0, _⟩ => ⟨S8x1168x128, .f32⟩
  | .local _ .vmem, ⟨1, _⟩ => ⟨S8x1168x128, .f32⟩
  | .local _ .vmem, ⟨2, _⟩ => ⟨S1168x128, .f32⟩
  | .local _ .vmem, ⟨3, _⟩ => ⟨S1168x128, .f32⟩
  | _, _ => ⟨S8x7008x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1168x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1168x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SmallSumRefIdeal.lean ====
abbrev S8x7008x128 : Shape := ⟨3, ![8, 7008, 128]⟩
abbrev S_ : Shape := ⟨0, ![]⟩
abbrev S7008x128 : Shape := ⟨2, ![7008, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x7008x128, .f32⟩
  | .hbm, ⟨1, _⟩ => ⟨S_, .f32⟩
  | .hbm, ⟨2, _⟩ => ⟨S7008x128, .f32⟩
  | _, _ => ⟨S8x7008x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluProj.lean ====
abbrev S2048x512 : Shape := ⟨2, ![2048, 512]⟩
abbrev S512x1024 : Shape := ⟨2, ![512, 1024]⟩
abbrev S512x4x256 : Shape := ⟨3, ![512, 4, 256]⟩
abbrev S4x512x256 : Shape := ⟨3, ![4, 512, 256]⟩
abbrev S2048x1024 : Shape := ⟨2, ![2048, 1024]⟩
abbrev S1x512x256 : Shape := ⟨3, ![1, 512, 256]⟩
abbrev S2048x256 : Shape := ⟨2, ![2048, 256]⟩
abbrev S512x256 : Shape := ⟨2, ![512, 256]⟩

abbrev nBuf : Space → Nat
  | .hbm => 7
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x512, .bf16⟩
  | .hbm, ⟨3, _⟩ => ⟨S512x4x256, .f32⟩
  | .hbm, ⟨4, _⟩ => ⟨S4x512x256, .f32⟩
  | .hbm, ⟨5, _⟩ => ⟨S4x512x256, .bf16⟩
  | .hbm, ⟨6, _⟩ => ⟨S2048x1024, .f32⟩
  | .local _ .vmem, ⟨0, _⟩ => ⟨S2048x512, .bf16⟩
  | .local _ .vmem, ⟨1, _⟩ => ⟨S1x512x256, .bf16⟩
  | .local _ .vmem, ⟨2, _⟩ => ⟨S1x512x256, .bf16⟩
  | .local _ .vmem, ⟨3, _⟩ => ⟨S2048x256, .f32⟩
  | .local _ .vmem, ⟨4, _⟩ => ⟨S2048x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluProjRefIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GluProjDx.lean ====
abbrev S2048x1024 : Shape := ⟨2, ![2048, 1024]⟩
abbrev S512x1024 : Shape := ⟨2, ![512, 1024]⟩
abbrev S512x4x256 : Shape := ⟨3, ![512, 4, 256]⟩
abbrev S4x512x256 : Shape := ⟨3, ![4, 512, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S2048x1024, .bf16⟩
  | .hbm, ⟨3, _⟩ => ⟨S512x4x256, .f32⟩
  | .hbm, ⟨4, _⟩ => ⟨S4x512x256, .f32⟩
  | .hbm, ⟨5, _⟩ => ⟨S4x512x256, .bf16⟩
  | .hbm, ⟨6, _⟩ => ⟨S2048x512, .f32⟩
  | .local _ .vmem, ⟨0, _⟩ => ⟨S2048x256, .bf16⟩
  | .local _ .vmem, ⟨1, _⟩ => ⟨S2048x256, .bf16⟩
  | .local _ .vmem, ⟨2, _⟩ => ⟨S1x512x256, .bf16⟩
  | .local _ .vmem, ⟨3, _⟩ => ⟨S1x512x256, .bf16⟩
  | .local _ .vmem, ⟨4, _⟩ => ⟨S2048x512, .f32⟩
  | .local _ .vmem, ⟨5, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluProjDxRefIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S_, .f32⟩
  | .hbm, ⟨3, _⟩ => ⟨S2048x512, .f32⟩
  | .hbm, ⟨4, _⟩ => ⟨S2048x1024, .f32⟩
  | .hbm, ⟨5, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GluProjDw.lean ====
abbrev S2048x512 : Shape := ⟨2, ![2048, 512]⟩
abbrev S2048x1024 : Shape := ⟨2, ![2048, 1024]⟩
abbrev S4x512x256 : Shape := ⟨3, ![4, 512, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S2048x512, .bf16⟩
  | .hbm, ⟨3, _⟩ => ⟨S2048x1024, .bf16⟩
  | .hbm, ⟨4, _⟩ => ⟨S4x512x256, .f32⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S1x512x256, .f32⟩
  | .local _ .vmem, ⟨4, _⟩ => ⟨S1x512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluProjDwRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S_, .f32⟩
  | .hbm, ⟨3, _⟩ => ⟨S512x1024, .f32⟩
  | .hbm, ⟨4, _⟩ => ⟨S2048x1024, .f32⟩
  | .hbm, ⟨5, _⟩ => ⟨S1024x512, .f32⟩
  | .hbm, ⟨6, _⟩ => ⟨S512x1024, .f32⟩
  | .hbm, ⟨7, _⟩ => ⟨S512x4x256, .f32⟩
  | .hbm, ⟨8, _⟩ => ⟨S4x512x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gelu.lean ====
abbrev S2048x512 : Shape := ⟨2, ![2048, 512]⟩
abbrev S32x16 : Shape := ⟨2, ![32, 16]⟩
abbrev S1x512 : Shape := ⟨2, ![1, 512]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S32x16, .f32⟩
  | .hbm, ⟨3, _⟩ => ⟨S1x512, .f32⟩
  | .hbm, ⟨4, _⟩ => ⟨S2048x512, .f32⟩
  | .hbm, ⟨5, _⟩ => ⟨S2048x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GeluRefIdeal.lean ====
abbrev S2048x512 : Shape := ⟨2, ![2048, 512]⟩
abbrev S32x16 : Shape := ⟨2, ![32, 16]⟩
abbrev S2048x32x16 : Shape := ⟨3, ![2048, 32, 16]⟩
abbrev S1x32x16 : Shape := ⟨3, ![1, 32, 16]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S32x16, .f32⟩
  | .hbm, ⟨3, _⟩ => ⟨S2048x32x16, .f32⟩
  | .hbm, ⟨4, _⟩ => ⟨S2048x32x16, .f32⟩
  | .hbm, ⟨5, _⟩ => ⟨S1x32x16, .f32⟩
  | .hbm, ⟨6, _⟩ => ⟨S2048x32x16, .f32⟩
  | .hbm, ⟨7, _⟩ => ⟨S2048x32x16, .f32⟩
  | .hbm, ⟨8, _⟩ => ⟨S2048x32x16, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== LnLast.lean ====
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnLastRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x1, .f32⟩
  | .hbm, ⟨66, _⟩ => ⟨S2048x2048, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S2048x2048, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x2048, .f32⟩
  | .hbm, ⟨89, _⟩ => ⟨S2048x2048, .f32⟩
  | .hbm, ⟨90, _⟩ => ⟨S2048x2048, .bf16⟩
  | .hbm, ⟨91, _⟩ => ⟨S1x2048, .f32⟩
  | .hbm, ⟨92, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Proof.Conv.lean ====
module

public import Idealize.ShloMosaic.Lib.Pipeline.ValueKit

@[expose] public section

/-! The gated causal convolution and its gradient, written out at single elements. -/

noncomputable section

open Idealize.ShloMosaic

namespace Cert.Conv

/-- The pre-activations as stored: four column groups of 2752, 2048 positions each. -/
abbrev HArr := FVec Ideal (⟨3, ![4, 2048, 2752]⟩ : Shape) .f32
/-- The three taps of the convolution, per column group. -/
abbrev WArr := FVec Ideal (⟨3, ![4, 3, 2752]⟩ : Shape) .f32
/-- The convolution's bias, per column group. -/
abbrev BArr := FVec Ideal (⟨3, ![4, 1, 2752]⟩ : Shape) .f32
/-- The incoming gradient of the gated activations. -/
abbrev DArr := FVec Ideal (⟨3, ![2, 2048, 2752]⟩ : Shape) .f32

/-- Position `n` of the sequence preceded by two zero positions, and zero past its end. -/
def row (X : HArr) (q : Fin 4) (n : ℕ) (f : Fin 2752) : EReal :=
  if h : 2 ≤ n ∧ n - 2 < 2048 then X (ix3 q ⟨n - 2, h.2⟩ f) else 0

theorem row_of_lt (X : HArr) (q : Fin 4) (n : ℕ) (f : Fin 2752) (h : n < 2) : row X q n f = 0 :=
  dif_neg (fun h' => by omega)

theorem row_add_two (X : HArr) (q : Fin 4) (n : ℕ) (f : Fin 2752) (h : n < 2048) :
    row X q (n + 2) f = X (ix3 q ⟨n, h⟩ f) :=
  dif_pos (⟨by omega, by omega⟩ : 2 ≤ n + 2 ∧ n + 2 - 2 < 2048)

/-- The convolution at output position `s`. -/
def cv (X : HArr) (W : WArr) (B : BArr) (q : Fin 4) (s : ℕ) (f : Fin 2752) : EReal :=
  B (ix3 q 0 f) + row X q s f * W (ix3 q 0 f) + row X q (s + 1) f * W (ix3 q 1 f) + row X q (s + 2) f * W (ix3 q 2 f)

/-- The column group of the values in shard `p`. -/
abbrev vq (p : Fin 2) : Fin 4 := ⟨p.val, by omega⟩
/-- The column group of the gates in shard `p`. -/
abbrev gq (p : Fin 2) : Fin 4 := ⟨p.val + 2, by omega⟩
/-- The column group that belongs to half `k` of shard `p`. -/
abbrev cq (p k : Fin 2) : Fin 4 := ⟨p.val + 2 * k.val, by omega⟩

/-- The incoming gradient at position `s`, zero past the end of the sequence. -/
def da (A : DArr) (p : Fin 2) (s : ℕ) (f : Fin 2752) : EReal :=
  if h : s < 2048 then A (ix3 p ⟨s, h⟩ f) else 0

theorem da_of_lt (A : DArr) (p : Fin 2) (s : ℕ) (f : Fin 2752) (h : s < 2048) : da A p s f = A (ix3 p ⟨s, h⟩ f) := dif_pos h

/-- The gradient that reaches the convolved values at position `s`. -/
def dval (X : HArr) (W : WArr) (B : BArr) (A : DArr) (p : Fin 2) (s : ℕ) (f : Fin 2752) : EReal :=
  da A p s f * (cv X W B (gq p) s f * Ideal.logistic (cv X W B (gq p) s f))

/-- The gradient that reaches the convolved gates at position `s`. -/
def dgate (X : HArr) (W : WArr) (B : BArr) (A : DArr) (p : Fin 2) (s : ℕ) (f : Fin 2752) : EReal :=
  da A p s f * cv X W B (vq p) s f * (Ideal.logistic (cv X W B (gq p) s f)
    + cv X W B (gq p) s f * Ideal.logistic (cv X W B (gq p) s f) * (1 - Ideal.logistic (cv X W B (gq p) s f)))

/-- Both gradients under one name: half 0 the values, half 1 the gates; zero past the end of the sequence. -/
def dk (X : HArr) (W : WArr) (B : BArr) (A : DArr) (p k : Fin 2) (s : ℕ) (f : Fin 2752) : EReal :=
  if s < 2048 then (if k.val = 0 then dval X W B A p s f else dgate X W B A p s f) else 0

theorem dk_zero (X : HArr) (W : WArr) (B : BArr) (A : DArr) (p : Fin 2) (s : ℕ) (f : Fin 2752) (h : s < 2048) :
    dk X W B A p 0 s f = dval X W B A p s f := (if_pos h).trans (if_pos rfl)

theorem dk_one (X : HArr) (W : WArr) (B : BArr) (A : DArr) (p : Fin 2) (s : ℕ) (f : Fin 2752) (h : s < 2048) :
    dk X W B A p 1 s f = dgate X W B A p s f := (if_pos h).trans (if_neg (by decide))

theorem dk_of_le (X : HArr) (W : WArr) (B : BArr) (A : DArr) (p k : Fin 2) (s : ℕ) (f : Fin 2752) (h : 2048 ≤ s) :
    dk X W B A p k s f = 0 := if_neg (by omega)

/-- The gradient of the pre-activations. -/
def dhAt (X : HArr) (W : WArr) (B : BArr) (A : DArr) (p k : Fin 2) (s : ℕ) (f : Fin 2752) : EReal :=
  dk X W B A p k s f * W (ix3 (cq p k) 2 f) + dk X W B A p k (s + 1) f * W (ix3 (cq p k) 1 f)
    + dk X W B A p k (s + 2) f * W (ix3 (cq p k) 0 f)

/-- The gradient of tap `j`. -/
def dwAt (X : HArr) (W : WArr) (B : BArr) (A : DArr) (p k : Fin 2) (j : Fin 3) (f : Fin 2752) : EReal :=
  ∑ s : Fin 2048, dk X W B A p k s f * row X (cq p k) (s + j) f

/-- The gradient of the bias. -/
def dbAt (X : HArr) (W : WArr) (B : BArr) (A : DArr) (p k : Fin 2) (f : Fin 2752) : EReal :=
  ∑ s : Fin 2048, dk X W B A p k s f

end Cert.Conv
-- ==== Proof.Tile.lean ====
module

public import proofs.«01_k».proof.Proof.Gen.KernelIdeal.Frame
public import Idealize.ShloMosaic.Lib.Pipeline.ValueKit
public import proofs.«01_k».proof.Proof.Conv

@[expose] public section

/-! What one grid point of the gated convolution's gradient computes, tile by tile. -/

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Conv
variable (m : (ℓ : Loc nD τ sig) → Buf (Elt Ideal) ℓ)

theorem sel_eq (n k : ℕ) (hn : n < 2 ^ 32) (hk : k < 2 ^ 32) (a b : EReal) :
    Scalar.select (IntOp.cmpi .eq (BitVec.ofNat 32 n) (BitVec.ofNat 32 k)) a b = if n = k then a else b := by
  rw [WordCmp.cmpi_eq_ofNat hn hk]
  by_cases h : n = k <;> simp [h, Scalar.select]

theorem sel_gt (n k : ℕ) (hn : n < 2 ^ 31) (hk : k < 2 ^ 31) (a b : EReal) :
    Scalar.select (Scalar.cmpi .sgt (BitVec.ofNat 32 n) (BitVec.ofNat 32 k)) a b = if k < n then a else b := by
  have : Scalar.cmpi .sgt (BitVec.ofNat 32 n) (BitVec.ofNat 32 k) = IntOp.cmpi .sgt (BitVec.ofNat 32 n) (BitVec.ofNat 32 k) := rfl
  rw [this, WordCmp.cmpi_sgt_ofNat hn hk]
  by_cases h : k < n <;> simp [h, Scalar.select]

theorem sel_lt (n k : ℕ) (hn : n < 2 ^ 31) (hk : k < 2 ^ 31) (a b : EReal) :
    Scalar.select (Scalar.cmpi .slt (BitVec.ofNat 32 n) (BitVec.ofNat 32 k)) a b = if n < k then a else b := by
  have : Scalar.cmpi .slt (BitVec.ofNat 32 n) (BitVec.ofNat 32 k) = IntOp.cmpi .slt (BitVec.ofNat 32 n) (BitVec.ofNat 32 k) := rfl
  rw [this, WordCmp.cmpi_slt_ofNat hn hk]
  by_cases h : n < k <;> simp [h, Scalar.select]

/-- A choice by one row number equals `R` when both branches do where they are taken. -/
theorem pick1 (n k : ℕ) (hn : n < 2 ^ 32) (hk : k < 2 ^ 32) {a b R : EReal} (ha : n = k → a = R) (hb : n ≠ k → b = R) :
    Scalar.select (IntOp.cmpi .eq (BitVec.ofNat 32 n) (BitVec.ofNat 32 k)) a b = R := by
  rw [sel_eq n k hn hk]
  split_ifs with h
  · exact ha h
  · exact hb h

/-- A choice by a grid coordinate being positive. -/
theorem pickGt (n k : ℕ) (hn : n < 2 ^ 31) (hk : k < 2 ^ 31) {a b R : EReal} (ha : k < n → a = R) (hb : n ≤ k → b = R) :
    Scalar.select (Scalar.cmpi .sgt (BitVec.ofNat 32 n) (BitVec.ofNat 32 k)) a b = R := by
  rw [sel_gt n k hn hk]
  split_ifs with h
  · exact ha h
  · exact hb (not_lt.mp h)

/-- A choice by a grid coordinate being below a bound. -/
theorem pickLt (n k : ℕ) (hn : n < 2 ^ 31) (hk : k < 2 ^ 31) {a b R : EReal} (ha : n < k → a = R) (hb : k ≤ n → b = R) :
    Scalar.select (Scalar.cmpi .slt (BitVec.ofNat 32 n) (BitVec.ofNat 32 k)) a b = R := by
  rw [sel_lt n k hn hk]
  split_ifs with h
  · exact ha h
  · exact hb (not_lt.mp h)

theorem row_at (X : HArr) (q : Fin 4) (f : Fin 2752) {a b : ℕ} (h : a = b) : row X q a f = row X q b f := by rw [h]

/-- The block of every window at every grid point. -/
theorem idx : ∀ t : Fin cfg0.N, win0_0.index t = ![t.val / 16, t.val % 16, 0]
    ∧ win0_1.index t = ![t.val / 16, t.val % 16 * 16 - 1, 0]
    ∧ win0_2.index t = ![t.val / 16, min (t.val % 16 * 16 + 16) 255, 0]
    ∧ win0_3.index t = ![(t.val / 16) + 2, t.val % 16, 0]
    ∧ win0_4.index t = ![t.val / 16 + 2, t.val % 16 * 16 - 1, 0]
    ∧ win0_5.index t = ![t.val / 16 + 2, min (t.val % 16 * 16 + 16) 255, 0]
    ∧ win0_6.index t = ![t.val / 16, 0, 0]
    ∧ win0_7.index t = ![(t.val / 16) + 2, 0, 0]
    ∧ win0_8.index t = ![t.val / 16, 0, 0]
    ∧ win0_9.index t = ![(t.val / 16) + 2, 0, 0]
    ∧ win0_10.index t = ![t.val / 16, t.val % 16, 0]
    ∧ win0_11.index t = ![t.val / 16, min (t.val % 16 * 16 + 16) 255, 0]
    ∧ win0_12.index t = ![t.val / 16, 0, t.val % 16, 0]
    ∧ win0_13.index t = ![t.val / 16, 0, 0, 0]
    ∧ win0_14.index t = ![t.val / 16, 0, 0, 0] :=
  (by decide +kernel : ∀ t : Fin grid0.N, _)

theorem crd : ∀ t : Fin cfg0.N, (grid0.coords t 1).val = t.val % 16 := (by decide +kernel : ∀ t : Fin grid0.N, _)

theorem lt32 (t : Fin cfg0.N) : t.val < 32 := lt_of_lt_of_eq t.isLt N_0

/-- The shard of grid point `t`. -/
abbrev sh (t : Fin cfg0.N) : Fin 2 := ⟨t.val / 16, by have := lt32 t; omega⟩

/-- The pre-activations in memory. -/
abbrev HX (c : Dev nD) : HArr := m ((c : Thread nD τ).loc main_arg0)
/-- The taps in memory. -/
abbrev WX (c : Dev nD) : WArr := m ((c : Thread nD τ).loc main_arg1)
/-- The bias in memory. -/
abbrev BX (c : Dev nD) : BArr := m ((c : Thread nD τ).loc main_arg2)
/-- The incoming gradient in memory. -/
abbrev DX (c : Dev nD) : DArr := m ((c : Thread nD τ).loc main_arg3)

theorem b0 (c : Dev nD) (t : Fin cfg0.N) (r : Fin 128) (f : Fin 2752) :
    iblk m c 0 t (ix3 0 r f) = row (HX m c) (vq (sh t)) (128 * (t.val % 16) + r.val + 2) f := by
  rw [row_add_two _ _ _ _ (by omega)]
  blk_ext [iblk, V, idx t]

theorem b3 (c : Dev nD) (t : Fin cfg0.N) (r : Fin 128) (f : Fin 2752) :
    iblk m c 3 t (ix3 0 r f) = row (HX m c) (gq (sh t)) (128 * (t.val % 16) + r.val + 2) f := by
  rw [row_add_two _ _ _ _ (by omega)]
  blk_ext [iblk, V, idx t]

theorem b1 (c : Dev nD) (t : Fin cfg0.N) (h : 0 < t.val % 16) (r : Fin 8) (f : Fin 2752) :
    iblk m c 1 t (ix3 0 r f) = row (HX m c) (vq (sh t)) (128 * (t.val % 16) - 8 + r.val + 2) f := by
  rw [row_add_two _ _ _ _ (by omega)]
  blk_ext [iblk, V, idx t]

theorem b4 (c : Dev nD) (t : Fin cfg0.N) (h : 0 < t.val % 16) (r : Fin 8) (f : Fin 2752) :
    iblk m c 4 t (ix3 0 r f) = row (HX m c) (gq (sh t)) (128 * (t.val % 16) - 8 + r.val + 2) f := by
  rw [row_add_two _ _ _ _ (by omega)]
  blk_ext [iblk, V, idx t]

theorem b2 (c : Dev nD) (t : Fin cfg0.N) (h : t.val % 16 < 15) (r : Fin 8) (f : Fin 2752) :
    iblk m c 2 t (ix3 0 r f) = row (HX m c) (vq (sh t)) (128 * (t.val % 16) + 128 + r.val + 2) f := by
  rw [row_add_two _ _ _ _ (by omega)]
  blk_ext [iblk, V, idx t]

theorem b5 (c : Dev nD) (t : Fin cfg0.N) (h : t.val % 16 < 15) (r : Fin 8) (f : Fin 2752) :
    iblk m c 5 t (ix3 0 r f) = row (HX m c) (gq (sh t)) (128 * (t.val % 16) + 128 + r.val + 2) f := by
  rw [row_add_two _ _ _ _ (by omega)]
  blk_ext [iblk, V, idx t]

theorem b6 (c : Dev nD) (t : Fin cfg0.N) (r : Fin 3) (f : Fin 2752) :
    iblk m c 6 t (ix3 0 r f) = WX m c (ix3 (vq (sh t)) r f) := by
  blk_ext [iblk, V, idx t]

theorem b7 (c : Dev nD) (t : Fin cfg0.N) (r : Fin 3) (f : Fin 2752) :
    iblk m c 7 t (ix3 0 r f) = WX m c (ix3 (gq (sh t)) r f) := by
  blk_ext [iblk, V, idx t]

theorem b8 (c : Dev nD) (t : Fin cfg0.N) (f : Fin 2752) :
    iblk m c 8 t (ix3 0 0 f) = BX m c (ix3 (vq (sh t)) 0 f) := by
  blk_ext [iblk, V, idx t]

theorem b9 (c : Dev nD) (t : Fin cfg0.N) (f : Fin 2752) :
    iblk m c 9 t (ix3 0 0 f) = BX m c (ix3 (gq (sh t)) 0 f) := by
  blk_ext [iblk, V, idx t]

theorem b10 (c : Dev nD) (t : Fin cfg0.N) (r : Fin 128) (f : Fin 2752) :
    iblk m c 10 t (ix3 0 r f) = da (DX m c) (sh t) (128 * (t.val % 16) + r.val) f := by
  rw [da_of_lt _ _ _ _ (by omega)]
  blk_ext [iblk, V, idx t]

theorem b11 (c : Dev nD) (t : Fin cfg0.N) (h : t.val % 16 < 15) (r : Fin 8) (f : Fin 2752) :
    iblk m c 11 t (ix3 0 r f) = da (DX m c) (sh t) (128 * (t.val % 16) + 128 + r.val) f := by
  rw [da_of_lt _ _ _ _ (by omega)]
  blk_ext [iblk, V, idx t]

/-- The values one position back. -/
theorem v1_at (c : Dev nD) (t : Fin cfg0.N) (r : Fin 128) (f : Fin 2752) :
    (k0_pay6 (grid0.coords t) (iblk m c 1 t) (iblk m c 0 t)) (ix2 r f) = row (HX m c) (vq (sh t)) (128 * (t.val % 16) + r.val + 1) f := by
  have hc := crd t
  pointwise [k0_pay6, k0_pay2, k0_pay4]
  refine pick1 _ 0 (by omega) (by norm_num) (fun h => pickGt _ 0 (by omega) (by norm_num) (fun hp => ?_) (fun hp => ?_)) (fun h => ?_)
  · exact (b1 m c t (by omega) 7 f).trans (row_at _ _ _ (by show _ - 8 + 7 + 2 = _; omega))
  · exact (row_of_lt _ _ _ _ (by omega)).symm
  · exact (b0 m c t _ f).trans (row_at _ _ _ (by dsimp only; omega))

/-- The values two positions back. -/
theorem v2_at (c : Dev nD) (t : Fin cfg0.N) (r : Fin 128) (f : Fin 2752) :
    (k0_pay7 (grid0.coords t) (iblk m c 1 t) (iblk m c 0 t)) (ix2 r f) = row (HX m c) (vq (sh t)) (128 * (t.val % 16) + r.val) f := by
  have hc := crd t
  pointwise [k0_pay7, k0_pay2, k0_pay4]
  refine pick1 _ 0 (by omega) (by norm_num) (fun h => pickGt _ 0 (by omega) (by norm_num) (fun hp => ?_) (fun hp => ?_))
    (fun h => pick1 _ 1 (by omega) (by norm_num) (fun h' => pickGt _ 0 (by omega) (by norm_num) (fun hp => ?_) (fun hp => ?_)) (fun h' => ?_))
  · exact (b1 m c t (by omega) 6 f).trans (row_at _ _ _ (by show _ - 8 + 6 + 2 = _; omega))
  · exact (row_of_lt _ _ _ _ (by omega)).symm
  · exact (b1 m c t (by omega) 7 f).trans (row_at _ _ _ (by show _ - 8 + 7 + 2 = _; omega))
  · exact (row_of_lt _ _ _ _ (by omega)).symm
  · exact (b0 m c t _ f).trans (row_at _ _ _ (by dsimp only; omega))

/-- The gates one position back. -/
theorem g1_at (c : Dev nD) (t : Fin cfg0.N) (r : Fin 128) (f : Fin 2752) :
    (k0_pay9 (k0_pay3 (grid0.coords t) (iblk m c 4 t)) (k0_pay5 (iblk m c 3 t))) (ix2 r f) = row (HX m c) (gq (sh t)) (128 * (t.val % 16) + r.val + 1) f := by
  have hc := crd t
  pointwise [k0_pay9, k0_pay3, k0_pay5]
  refine pick1 _ 0 (by omega) (by norm_num) (fun h => pickGt _ 0 (by omega) (by norm_num) (fun hp => ?_) (fun hp => ?_)) (fun h => ?_)
  · exact (b4 m c t (by omega) 7 f).trans (row_at _ _ _ (by show _ - 8 + 7 + 2 = _; omega))
  · exact (row_of_lt _ _ _ _ (by omega)).symm
  · exact (b3 m c t _ f).trans (row_at _ _ _ (by dsimp only; omega))

/-- The gates two positions back. -/
theorem g2_at (c : Dev nD) (t : Fin cfg0.N) (r : Fin 128) (f : Fin 2752) :
    (k0_pay10 (k0_pay3 (grid0.coords t) (iblk m c 4 t)) (k0_pay5 (iblk m c 3 t))) (ix2 r f) = row (HX m c) (gq (sh t)) (128 * (t.val % 16) + r.val) f := by
  have hc := crd t
  pointwise [k0_pay10, k0_pay3, k0_pay5]
  refine pick1 _ 0 (by omega) (by norm_num) (fun h => pickGt _ 0 (by omega) (by norm_num) (fun hp => ?_) (fun hp => ?_))
    (fun h => pick1 _ 1 (by omega) (by norm_num) (fun h' => pickGt _ 0 (by omega) (by norm_num) (fun hp => ?_) (fun hp => ?_)) (fun h' => ?_))
  · exact (b4 m c t (by omega) 6 f).trans (row_at _ _ _ (by show _ - 8 + 6 + 2 = _; omega))
  · exact (row_of_lt _ _ _ _ (by omega)).symm
  · exact (b4 m c t (by omega) 7 f).trans (row_at _ _ _ (by show _ - 8 + 7 + 2 = _; omega))
  · exact (row_of_lt _ _ _ _ (by omega)).symm
  · exact (b3 m c t _ f).trans (row_at _ _ _ (by dsimp only; omega))

/-- The tile of the values itself. -/
theorem v0_at (c : Dev nD) (t : Fin cfg0.N) (r : Fin 128) (f : Fin 2752) :
    (k0_pay4 (iblk m c 0 t)) (ix2 r f) = row (HX m c) (vq (sh t)) (128 * (t.val % 16) + r.val + 2) f := by
  pointwise [k0_pay4]
  exact b0 m c t r f

/-- The tile of the gates itself. -/
theorem g0_at (c : Dev nD) (t : Fin cfg0.N) (r : Fin 128) (f : Fin 2752) :
    (k0_pay5 (iblk m c 3 t)) (ix2 r f) = row (HX m c) (gq (sh t)) (128 * (t.val % 16) + r.val + 2) f := by
  pointwise [k0_pay5]
  exact b3 m c t r f

/-- The convolved values of the tile. -/
theorem val_at (c : Dev nD) (t : Fin cfg0.N) (r : Fin 128) (f : Fin 2752) :
    (k0_pay8 (k0_pay4 (iblk m c 0 t)) (k0_pay6 (grid0.coords t) (iblk m c 1 t) (iblk m c 0 t)) (k0_pay7 (grid0.coords t) (iblk m c 1 t) (iblk m c 0 t)) (iblk m c 8 t) (View.ld (iblk m c 6 t) (Rect.unit ![0, 0, 0] ![1, 1, 2752] inb_S1x3x2752_S1x1x2752_0_0_0)) (View.ld (iblk m c 6 t) (Rect.unit ![0, 1, 0] ![1, 1, 2752] inb_S1x3x2752_S1x1x2752_0_1_0)) (View.ld (iblk m c 6 t) (Rect.unit ![0, 2, 0] ![1, 1, 2752] inb_S1x3x2752_S1x1x2752_0_2_0))) (ix2 r f) = cv (HX m c) (WX m c) (BX m c) (vq (sh t)) (128 * (t.val % 16) + r.val) f := by
  pointwise [k0_pay8, v0_at m c t, v1_at m c t, v2_at m c t]
  unfold cv
  rw [b6 m c t, b6 m c t, b6 m c t, b8 m c t]

/-- The convolved gates of the tile. -/
theorem gate_at (c : Dev nD) (t : Fin cfg0.N) (r : Fin 128) (f : Fin 2752) :
    (k0_pay12 (k0_pay5 (iblk m c 3 t)) (k0_pay9 (k0_pay3 (grid0.coords t) (iblk m c 4 t)) (k0_pay5 (iblk m c 3 t))) (k0_pay10 (k0_pay3 (grid0.coords t) (iblk m c 4 t)) (k0_pay5 (iblk m c 3 t))) (k0_pay11 (iblk m c 9 t)) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0))) (ix2 r f) = cv (HX m c) (WX m c) (BX m c) (gq (sh t)) (128 * (t.val % 16) + r.val) f := by
  pointwise [k0_pay12, k0_pay11, g0_at m c t, g1_at m c t, g2_at m c t]
  unfold cv
  rw [b7 m c t, b7 m c t, b7 m c t, b9 m c t]

/-- The gradient at the tile's convolved values. -/
theorem dv_at (c : Dev nD) (t : Fin cfg0.N) (r : Fin 128) (f : Fin 2752) :
    (k0_pay16 (k0_pay5 (iblk m c 3 t)) (k0_pay9 (k0_pay3 (grid0.coords t) (iblk m c 4 t)) (k0_pay5 (iblk m c 3 t))) (k0_pay10 (k0_pay3 (grid0.coords t) (iblk m c 4 t)) (k0_pay5 (iblk m c 3 t))) (k0_pay11 (iblk m c 9 t)) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 10 t)) (ix2 r f) = dval (HX m c) (WX m c) (BX m c) (DX m c) (sh t) (128 * (t.val % 16) + r.val) f := by
  pointwise [k0_pay16, k0_pay15, k0_pay14, k0_pay13, gate_at m c t]
  unfold dval
  rw [b10 m c t]

/-- The gradient at the tile's convolved gates. -/
theorem dg_at (c : Dev nD) (t : Fin cfg0.N) (r : Fin 128) (f : Fin 2752) :
    (k0_pay17 (k0_pay5 (iblk m c 3 t)) (k0_pay8 (k0_pay4 (iblk m c 0 t)) (k0_pay6 (grid0.coords t) (iblk m c 1 t) (iblk m c 0 t)) (k0_pay7 (grid0.coords t) (iblk m c 1 t) (iblk m c 0 t)) (iblk m c 8 t) (View.ld (iblk m c 6 t) (Rect.unit ![0, 0, 0] ![1, 1, 2752] inb_S1x3x2752_S1x1x2752_0_0_0)) (View.ld (iblk m c 6 t) (Rect.unit ![0, 1, 0] ![1, 1, 2752] inb_S1x3x2752_S1x1x2752_0_1_0)) (View.ld (iblk m c 6 t) (Rect.unit ![0, 2, 0] ![1, 1, 2752] inb_S1x3x2752_S1x1x2752_0_2_0))) (k0_pay9 (k0_pay3 (grid0.coords t) (iblk m c 4 t)) (k0_pay5 (iblk m c 3 t))) (k0_pay10 (k0_pay3 (grid0.coords t) (iblk m c 4 t)) (k0_pay5 (iblk m c 3 t))) (k0_pay11 (iblk m c 9 t)) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 10 t)) (ix2 r f) = dgate (HX m c) (WX m c) (BX m c) (DX m c) (sh t) (128 * (t.val % 16) + r.val) f := by
  pointwise [k0_pay17, k0_pay15, k0_pay14, k0_pay13, gate_at m c t, val_at m c t]
  unfold dgate
  rw [b10 m c t]

/-- The convolved values of the tile that follows. -/
theorem nval_at (c : Dev nD) (t : Fin cfg0.N) (h : t.val % 16 < 15) (r : Fin 8) (f : Fin 2752) :
    (k0_pay23 (k0_pay18 (iblk m c 2 t)) (k0_pay19 (k0_pay4 (iblk m c 0 t))) (iota Kind.tc S8x2752 32 [0] iota_S8x2752_d0_w32) (k0_pay20 (k0_pay4 (iblk m c 0 t)) (iblk m c 2 t)) k0_pay21 (k0_pay22 (k0_pay4 (iblk m c 0 t))) (1#32) (iblk m c 8 t) (View.ld (iblk m c 6 t) (Rect.unit ![0, 0, 0] ![1, 1, 2752] inb_S1x3x2752_S1x1x2752_0_0_0)) (View.ld (iblk m c 6 t) (Rect.unit ![0, 1, 0] ![1, 1, 2752] inb_S1x3x2752_S1x1x2752_0_1_0)) (View.ld (iblk m c 6 t) (Rect.unit ![0, 2, 0] ![1, 1, 2752] inb_S1x3x2752_S1x1x2752_0_2_0))) (ix2 r f) = cv (HX m c) (WX m c) (BX m c) (vq (sh t)) (128 * (t.val % 16) + 128 + r.val) f := by
  pointwise [k0_pay23, k0_pay22, k0_pay21, k0_pay20, k0_pay19, k0_pay18, k0_pay4]
  unfold cv
  refine Ideal.add_congr (Ideal.add_congr (Ideal.add_congr (b8 m c t f) (Ideal.mul_congr ?_ (b6 m c t 0 f)))
    (Ideal.mul_congr ?_ (b6 m c t 1 f))) (Ideal.mul_congr ?_ (b6 m c t 2 f))
  · refine pick1 _ 0 (by omega) (by norm_num) (fun hr => ?_) (fun hr => pick1 _ 1 (by omega) (by norm_num) (fun hr' => ?_) (fun hr' => ?_))
    · exact (b0 m c t _ f).trans (row_at _ _ _ (by (try dsimp only); omega))
    · exact (b0 m c t _ f).trans (row_at _ _ _ (by (try dsimp only); omega))
    · exact (b2 m c t h _ f).trans (row_at _ _ _ (by (try dsimp only); omega))
  · refine pick1 _ 0 (by omega) (by norm_num) (fun hr => ?_) (fun hr => ?_)
    · exact (b0 m c t _ f).trans (row_at _ _ _ (by (try dsimp only); omega))
    · exact (b2 m c t h _ f).trans (row_at _ _ _ (by (try dsimp only); omega))
  · exact b2 m c t h r f

/-- The convolved gates of the tile that follows. -/
theorem ngate_at (c : Dev nD) (t : Fin cfg0.N) (h : t.val % 16 < 15) (r : Fin 8) (f : Fin 2752) :
    (k0_pay28 (k0_pay24 (iblk m c 5 t)) (k0_pay25 (k0_pay5 (iblk m c 3 t))) (iota Kind.tc S8x2752 32 [0] iota_S8x2752_d0_w32) (k0_pay26 (k0_pay5 (iblk m c 3 t)) (iblk m c 5 t)) k0_pay27 (iblk m c 9 t) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0))) (ix2 r f) = cv (HX m c) (WX m c) (BX m c) (gq (sh t)) (128 * (t.val % 16) + 128 + r.val) f := by
  pointwise [k0_pay28, k0_pay27, k0_pay26, k0_pay25, k0_pay24, k0_pay5]
  unfold cv
  refine Ideal.add_congr (Ideal.add_congr (Ideal.add_congr (b9 m c t f) (Ideal.mul_congr ?_ (b7 m c t 0 f)))
    (Ideal.mul_congr ?_ (b7 m c t 1 f))) (Ideal.mul_congr ?_ (b7 m c t 2 f))
  · refine pick1 _ 0 (by omega) (by norm_num) (fun hr => ?_) (fun hr => pick1 _ 1 (by omega) (by norm_num) (fun hr' => ?_) (fun hr' => ?_))
    · exact (b3 m c t _ f).trans (row_at _ _ _ (by (try dsimp only); omega))
    · exact (b3 m c t _ f).trans (row_at _ _ _ (by (try dsimp only); omega))
    · exact (b5 m c t h _ f).trans (row_at _ _ _ (by (try dsimp only); omega))
  · refine pick1 _ 0 (by omega) (by norm_num) (fun hr => ?_) (fun hr => ?_)
    · exact (b3 m c t _ f).trans (row_at _ _ _ (by (try dsimp only); omega))
    · exact (b5 m c t h _ f).trans (row_at _ _ _ (by (try dsimp only); omega))
  · exact b5 m c t h r f

/-- The gradient at the convolved values of the tile that follows. -/
theorem ndv_at (c : Dev nD) (t : Fin cfg0.N) (h : t.val % 16 < 15) (r : Fin 8) (f : Fin 2752) :
    (k0_pay32 (k0_pay24 (iblk m c 5 t)) (k0_pay25 (k0_pay5 (iblk m c 3 t))) (iota Kind.tc S8x2752 32 [0] iota_S8x2752_d0_w32) (k0_pay26 (k0_pay5 (iblk m c 3 t)) (iblk m c 5 t)) k0_pay27 (iblk m c 9 t) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 11 t)) (ix2 r f) = dval (HX m c) (WX m c) (BX m c) (DX m c) (sh t) (128 * (t.val % 16) + 128 + r.val) f := by
  pointwise [k0_pay32, k0_pay31, k0_pay30, k0_pay29, ngate_at m c t h]
  unfold dval
  rw [b11 m c t h]

/-- The gradient at the convolved gates of the tile that follows. -/
theorem ndg_at (c : Dev nD) (t : Fin cfg0.N) (h : t.val % 16 < 15) (r : Fin 8) (f : Fin 2752) :
    (k0_pay33 (k0_pay23 (k0_pay18 (iblk m c 2 t)) (k0_pay19 (k0_pay4 (iblk m c 0 t))) (iota Kind.tc S8x2752 32 [0] iota_S8x2752_d0_w32) (k0_pay20 (k0_pay4 (iblk m c 0 t)) (iblk m c 2 t)) k0_pay21 (k0_pay22 (k0_pay4 (iblk m c 0 t))) (1#32) (iblk m c 8 t) (View.ld (iblk m c 6 t) (Rect.unit ![0, 0, 0] ![1, 1, 2752] inb_S1x3x2752_S1x1x2752_0_0_0)) (View.ld (iblk m c 6 t) (Rect.unit ![0, 1, 0] ![1, 1, 2752] inb_S1x3x2752_S1x1x2752_0_1_0)) (View.ld (iblk m c 6 t) (Rect.unit ![0, 2, 0] ![1, 1, 2752] inb_S1x3x2752_S1x1x2752_0_2_0))) (k0_pay24 (iblk m c 5 t)) (k0_pay25 (k0_pay5 (iblk m c 3 t))) (iota Kind.tc S8x2752 32 [0] iota_S8x2752_d0_w32) (k0_pay26 (k0_pay5 (iblk m c 3 t)) (iblk m c 5 t)) k0_pay27 (iblk m c 9 t) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 11 t)) (ix2 r f) = dgate (HX m c) (WX m c) (BX m c) (DX m c) (sh t) (128 * (t.val % 16) + 128 + r.val) f := by
  pointwise [k0_pay33, k0_pay31, k0_pay30, k0_pay29, ngate_at m c t h, nval_at m c t h]
  unfold dgate
  rw [b11 m c t h]

/-- The tile's share of the pre-activations' gradient, values. -/
theorem dhv_at (c : Dev nD) (t : Fin cfg0.N) (r : Fin 128) (f : Fin 2752) :
    k0_pay34 (Scalar.cmpi CmpIPredicate.slt (BitVec.ofNat 32 ↑(grid0.coords t 1)) 15#32) (k0_pay16 (k0_pay5 (iblk m c 3 t)) (k0_pay9 (k0_pay3 (grid0.coords t) (iblk m c 4 t)) (k0_pay5 (iblk m c 3 t))) (k0_pay10 (k0_pay3 (grid0.coords t) (iblk m c 4 t)) (k0_pay5 (iblk m c 3 t))) (k0_pay11 (iblk m c 9 t)) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 10 t)) (k0_pay32 (k0_pay24 (iblk m c 5 t)) (k0_pay25 (k0_pay5 (iblk m c 3 t))) (iota Kind.tc S8x2752 32 [0] iota_S8x2752_d0_w32) (k0_pay26 (k0_pay5 (iblk m c 3 t)) (iblk m c 5 t)) k0_pay27 (iblk m c 9 t) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 11 t)) (iota Kind.tc S128x2752 32 [0] iota_S128x2752_d0_w32) (FloatOps.ofBits FTy.f32 0#32) (View.ld (iblk m c 6 t) (Rect.unit ![0, 2, 0] ![1, 1, 2752] inb_S1x3x2752_S1x1x2752_0_2_0)) (View.ld (iblk m c 6 t) (Rect.unit ![0, 1, 0] ![1, 1, 2752] inb_S1x3x2752_S1x1x2752_0_1_0)) (View.ld (iblk m c 6 t) (Rect.unit ![0, 0, 0] ![1, 1, 2752] inb_S1x3x2752_S1x1x2752_0_0_0)) (ix4 0 0 r f)
      = dhAt (HX m c) (WX m c) (BX m c) (DX m c) (sh t) 0 (128 * (t.val % 16) + r.val) f := by
  have hc := crd t
  pointwise [k0_pay34, dv_at m c t]
  unfold dhAt
  refine Ideal.add_congr (Ideal.add_congr (Ideal.mul_congr ?_ ?_) (Ideal.mul_congr ?_ ?_)) (Ideal.mul_congr ?_ ?_)
  · exact (dk_zero _ _ _ _ _ _ _ (by omega)).symm
  · exact b6 m c t 2 f
  · refine pick1 _ 127 (by omega) (by norm_num) (fun hr => pickLt _ 15 (by omega) (by norm_num) (fun hp => ?_) (fun hp => ?_)) (fun hr => ?_)
    · rw [dk_zero _ _ _ _ _ _ _ (by omega)]
      exact (ndv_at m c t (by omega) 0 f).trans (congrArg (fun n => dval _ _ _ _ _ n f) (by show _ + 0 = _; omega))
    · exact (dk_of_le _ _ _ _ _ _ _ _ (by omega)).symm
    · rw [dk_zero _ _ _ _ _ _ _ (by omega)]
      exact congrArg (fun n => dval _ _ _ _ _ n f) (by omega)
  · exact b6 m c t 1 f
  · refine pick1 _ 127 (by omega) (by norm_num) (fun hr => pickLt _ 15 (by omega) (by norm_num) (fun hp => ?_) (fun hp => ?_))
      (fun hr => pick1 _ 126 (by omega) (by norm_num) (fun hr' => pickLt _ 15 (by omega) (by norm_num) (fun hp => ?_) (fun hp => ?_)) (fun hr' => ?_))
    · rw [dk_zero _ _ _ _ _ _ _ (by omega)]
      exact (ndv_at m c t (by omega) 1 f).trans (congrArg (fun n => dval _ _ _ _ _ n f) (by show _ + 1 = _; omega))
    · exact (dk_of_le _ _ _ _ _ _ _ _ (by omega)).symm
    · rw [dk_zero _ _ _ _ _ _ _ (by omega)]
      exact (ndv_at m c t (by omega) 0 f).trans (congrArg (fun n => dval _ _ _ _ _ n f) (by show _ + 0 = _; omega))
    · exact (dk_of_le _ _ _ _ _ _ _ _ (by omega)).symm
    · rw [dk_zero _ _ _ _ _ _ _ (by omega)]
      exact congrArg (fun n => dval _ _ _ _ _ n f) (by omega)
  · exact b6 m c t 0 f

/-- The tile's share of the pre-activations' gradient, gates. -/
theorem dhg_at (c : Dev nD) (t : Fin cfg0.N) (r : Fin 128) (f : Fin 2752) :
    k0_pay35 (Scalar.cmpi CmpIPredicate.slt (BitVec.ofNat 32 ↑(grid0.coords t 1)) 15#32) (k0_pay17 (k0_pay5 (iblk m c 3 t)) (k0_pay8 (k0_pay4 (iblk m c 0 t)) (k0_pay6 (grid0.coords t) (iblk m c 1 t) (iblk m c 0 t)) (k0_pay7 (grid0.coords t) (iblk m c 1 t) (iblk m c 0 t)) (iblk m c 8 t) (View.ld (iblk m c 6 t) (Rect.unit ![0, 0, 0] ![1, 1, 2752] inb_S1x3x2752_S1x1x2752_0_0_0)) (View.ld (iblk m c 6 t) (Rect.unit ![0, 1, 0] ![1, 1, 2752] inb_S1x3x2752_S1x1x2752_0_1_0)) (View.ld (iblk m c 6 t) (Rect.unit ![0, 2, 0] ![1, 1, 2752] inb_S1x3x2752_S1x1x2752_0_2_0))) (k0_pay9 (k0_pay3 (grid0.coords t) (iblk m c 4 t)) (k0_pay5 (iblk m c 3 t))) (k0_pay10 (k0_pay3 (grid0.coords t) (iblk m c 4 t)) (k0_pay5 (iblk m c 3 t))) (k0_pay11 (iblk m c 9 t)) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 10 t)) (k0_pay33 (k0_pay23 (k0_pay18 (iblk m c 2 t)) (k0_pay19 (k0_pay4 (iblk m c 0 t))) (iota Kind.tc S8x2752 32 [0] iota_S8x2752_d0_w32) (k0_pay20 (k0_pay4 (iblk m c 0 t)) (iblk m c 2 t)) k0_pay21 (k0_pay22 (k0_pay4 (iblk m c 0 t))) (1#32) (iblk m c 8 t) (View.ld (iblk m c 6 t) (Rect.unit ![0, 0, 0] ![1, 1, 2752] inb_S1x3x2752_S1x1x2752_0_0_0)) (View.ld (iblk m c 6 t) (Rect.unit ![0, 1, 0] ![1, 1, 2752] inb_S1x3x2752_S1x1x2752_0_1_0)) (View.ld (iblk m c 6 t) (Rect.unit ![0, 2, 0] ![1, 1, 2752] inb_S1x3x2752_S1x1x2752_0_2_0))) (k0_pay24 (iblk m c 5 t)) (k0_pay25 (k0_pay5 (iblk m c 3 t))) (iota Kind.tc S8x2752 32 [0] iota_S8x2752_d0_w32) (k0_pay26 (k0_pay5 (iblk m c 3 t)) (iblk m c 5 t)) k0_pay27 (iblk m c 9 t) (View.ld (iblk m c 7 t) (Rect.unit ![0, 0, 0] ![1, 1, 2752] inb_S1x3x2752_S1x1x2752_0_0_0)) (View.ld (iblk m c 7 t) (Rect.unit ![0, 1, 0] ![1, 1, 2752] inb_S1x3x2752_S1x1x2752_0_1_0)) (View.ld (iblk m c 7 t) (Rect.unit ![0, 2, 0] ![1, 1, 2752] inb_S1x3x2752_S1x1x2752_0_2_0)) (iblk m c 11 t)) (iota Kind.tc S128x2752 32 [0] iota_S128x2752_d0_w32) (FloatOps.ofBits FTy.f32 0#32) (View.ld (iblk m c 7 t) (Rect.unit ![0, 2, 0] ![1, 1, 2752] inb_S1x3x2752_S1x1x2752_0_2_0)) (View.ld (iblk m c 7 t) (Rect.unit ![0, 1, 0] ![1, 1, 2752] inb_S1x3x2752_S1x1x2752_0_1_0)) (View.ld (iblk m c 7 t) (Rect.unit ![0, 0, 0] ![1, 1, 2752] inb_S1x3x2752_S1x1x2752_0_0_0)) (ix4 0 0 r f)
      = dhAt (HX m c) (WX m c) (BX m c) (DX m c) (sh t) 1 (128 * (t.val % 16) + r.val) f := by
  have hc := crd t
  pointwise [k0_pay35, dg_at m c t]
  unfold dhAt
  refine Ideal.add_congr (Ideal.add_congr (Ideal.mul_congr ?_ ?_) (Ideal.mul_congr ?_ ?_)) (Ideal.mul_congr ?_ ?_)
  · exact (dk_one _ _ _ _ _ _ _ (by omega)).symm
  · exact b7 m c t 2 f
  · refine pick1 _ 127 (by omega) (by norm_num) (fun hr => pickLt _ 15 (by omega) (by norm_num) (fun hp => ?_) (fun hp => ?_)) (fun hr => ?_)
    · rw [dk_one _ _ _ _ _ _ _ (by omega)]
      exact (ndg_at m c t (by omega) 0 f).trans (congrArg (fun n => dgate _ _ _ _ _ n f) (by show _ + 0 = _; omega))
    · exact (dk_of_le _ _ _ _ _ _ _ _ (by omega)).symm
    · rw [dk_one _ _ _ _ _ _ _ (by omega)]
      exact congrArg (fun n => dgate _ _ _ _ _ n f) (by omega)
  · exact b7 m c t 1 f
  · refine pick1 _ 127 (by omega) (by norm_num) (fun hr => pickLt _ 15 (by omega) (by norm_num) (fun hp => ?_) (fun hp => ?_))
      (fun hr => pick1 _ 126 (by omega) (by norm_num) (fun hr' => pickLt _ 15 (by omega) (by norm_num) (fun hp => ?_) (fun hp => ?_)) (fun hr' => ?_))
    · rw [dk_one _ _ _ _ _ _ _ (by omega)]
      exact (ndg_at m c t (by omega) 1 f).trans (congrArg (fun n => dgate _ _ _ _ _ n f) (by show _ + 1 = _; omega))
    · exact (dk_of_le _ _ _ _ _ _ _ _ (by omega)).symm
    · rw [dk_one _ _ _ _ _ _ _ (by omega)]
      exact (ndg_at m c t (by omega) 0 f).trans (congrArg (fun n => dgate _ _ _ _ _ n f) (by show _ + 0 = _; omega))
    · exact (dk_of_le _ _ _ _ _ _ _ _ (by omega)).symm
    · rw [dk_one _ _ _ _ _ _ _ (by omega)]
      exact congrArg (fun n => dgate _ _ _ _ _ n f) (by omega)
  · exact b7 m c t 0 f

end Cert.KernelIdeal.Value
-- ==== Proof.Rows.lean ====
module

public import proofs.«01_k».proof.Proof.Tile

@[expose] public section
set_option maxRecDepth 16384
/-! Reading the gradient rows back that one grid point adds into, and what it adds. -/

noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Conv
variable (m : (ℓ : Loc nD τ sig) → Buf (Elt Ideal) ℓ)

theorem hit_coords (k j : ℕ) (i1 i2 e1 e2 e3 e4 h0)
    (x : ((Rect.unit (s := S1x2x3x2752) ![0, k, 0, 0] ![1, 1, 3, 2752] i1).within
      (((Rect.unit (s := S3x2752) ![j, 0] ![1, 2752] i2).consLift ![1, 3, 2752] e1 e2).consLift ![1, 1, 3, 2752] e3 e4) h0).shape.Idx)
    (y : S1x2x3x2752.Idx)
    (h : ((Rect.unit (s := S1x2x3x2752) ![0, k, 0, 0] ![1, 1, 3, 2752] i1).within
      (((Rect.unit (s := S3x2752) ![j, 0] ![1, 2752] i2).consLift ![1, 3, 2752] e1 e2).consLift ![1, 1, 3, 2752] e3 e4) h0).emb x = y) :
    (y 1).val = k ∧ (y 2).val = j ∧ (y 3).val = (x 3).val := by
  subst h
  have h1 : (x 1).val < 1 := (x 1).isLt
  have h2 : (x 2).val < 1 := (x 2).isLt
  refine ⟨?_, ?_, ?_⟩
  · show k + 0 + 1 * (x 1).val = k; omega
  · show 0 + j + 1 * (x 2).val = j; omega
  · show 0 + 0 + 1 * (x 3).val = (x 3).val; omega

theorem miss13 {sg : RefSig} {κ : Kind} {sp : Space} (v : View sg κ sp S1x2x3x2752 .f32) (g : v.ty.Contents (Elt Ideal)) (k j : ℕ) (i1 i2 e1 e2 e3 e4 h0 w)
    (L : List (View.Piece (Elt Ideal) S1x2x3x2752 .f32)) (a b d : _) (f : Fin 2752) (hne : b.val ≠ k ∨ d.val ≠ j) :
    v.read (Elt Ideal) (v.writes (Elt Ideal) g (⟨(Rect.unit (s := S1x2x3x2752) ![0, k, 0, 0] ![1, 1, 3, 2752] i1).within
      (((Rect.unit (s := S3x2752) ![j, 0] ![1, 2752] i2).consLift ![1, 3, 2752] e1 e2).consLift ![1, 1, 3, 2752] e3 e4) h0, w⟩ :: L)) (ix4 a b d f)
      = v.read (Elt Ideal) (v.writes (Elt Ideal) g L) (ix4 a b d f) := by
  apply View.read_writes_cons_miss
  intro hm
  rw [← Rect.map_emb_univ] at hm
  obtain ⟨x, -, hx⟩ := Finset.mem_map.mp hm
  obtain ⟨h1, h2, -⟩ := hit_coords k j i1 i2 e1 e2 e3 e4 h0 x _ hx
  rcases hne with h | h
  · exact h h1
  · exact h h2

theorem load13 (k j : ℕ) (i1 i2 e1 e2 e3 e4 h0) (hk : k < 2) (hj : j < 3)
    (hR : S1x2752.numel = ((Rect.unit (s := S1x2x3x2752) ![0, k, 0, 0] ![1, 1, 3, 2752] i1).withinL
      (((Rect.unit (s := S3x2752) ![j, 0] ![1, 2752] i2).toLoadRect.consLift ![1, 3, 2752] e1 e2).consLift ![1, 1, 3, 2752] e3 e4) h0).shape.numel)
    (f : Fin 2752) :
    ((Rect.unit (s := S1x2x3x2752) ![0, k, 0, 0] ![1, 1, 3, 2752] i1).withinL
      (((Rect.unit (s := S3x2752) ![j, 0] ![1, 2752] i2).toLoadRect.consLift ![1, 3, 2752] e1 e2).consLift ![1, 1, 3, 2752] e3 e4) h0).idx
       (Shape.reshapeEquiv hR (ix2 0 f)) = ix4 0 ⟨k, hk⟩ ⟨j, hj⟩ f := by
  have e : Shape.reshapeEquiv hR (ix2 0 f) = (ix4 0 0 0 f : (⟨4, ![1, 1, 1, 2752]⟩ : Shape).Idx) := by
    apply Shape.reshapeEquiv_eq_of_rowMajor
    refine (Shape.rowMajor_val_four (d := ![1, 1, 1, 2752]) (ix4 0 0 0 f)).trans ?_
    rw [Shape.rowMajor_val_two]
    rfl
  rw [e]
  funext a
  apply Fin.ext
  fin_cases a
  · rfl
  · show k + 0 + 1 * 0 = k; omega
  · show 0 + j + 1 * 0 = j; omega
  · show 0 + 0 + 1 * f.val = f.val; omega

/-- Stores that the later stores of the list have overwritten at an index do not matter there. -/
theorem canon_over {Val : EltTy → Type} {S : Shape} {e : EltTy} [∀ e, Nonempty (Val e)] (L' : List (View.Piece Val S e)) (y : S.Idx) (v : Val e) :
    ∀ (L : List (View.Piece Val S e)), (∃ p ∈ L, y ∈ p.1.set) → View.canon L y = v → View.canon (L ++ L') y = v
  | [], hc, _ => by obtain ⟨p, hp, _⟩ := hc; exact absurd hp List.not_mem_nil
  | p :: L, hc, h => by
    by_cases hm : y ∈ p.1.set
    · obtain ⟨x, rfl⟩ := p.1.exists_idx_of_mem hm
      rw [show p.1.idx x = p.1.emb x from rfl, View.canon_cons_emb] at h
      rw [show p.1.idx x = p.1.emb x from rfl, List.cons_append, View.canon_cons_emb]
      exact h
    · rw [View.canon_cons_of_not_mem _ _ hm] at h
      rw [List.cons_append, View.canon_cons_of_not_mem _ _ hm]
      refine canon_over L' y v L ?_ h
      obtain ⟨q, hq, hyq⟩ := hc
      rcases List.mem_cons.mp hq with rfl | hq'
      · exact absurd hyq hm
      · exact ⟨q, hq', hyq⟩

theorem cov13 {sg : RefSig} {κ : Kind} {sp : Space} (v : View sg κ sp S1x2x3x2752 .f32) (L : List (View.Piece (Elt Ideal) S1x2x3x2752 .f32))
    (k j : ℕ) (i1 i2 e1 e2 e3 e4 h0) (hk : k < 2) (hj : j < 3)
    (hR : S1x2752.numel = ((Rect.unit (s := S1x2x3x2752) ![0, k, 0, 0] ![1, 1, 3, 2752] i1).withinL
      (((Rect.unit (s := S3x2752) ![j, 0] ![1, 2752] i2).toLoadRect.consLift ![1, 3, 2752] e1 e2).consLift ![1, 1, 3, 2752] e3 e4) h0).shape.numel) (f : Fin 2752) :
    LoadRect.valAlong (lr := (Rect.unit (s := S3x2752) ![j, 0] ![1, 2752] i2).toLoadRect) hR (v.readCov L ((Rect.unit (s := S1x2x3x2752) ![0, k, 0, 0] ![1, 1, 3, 2752] i1).withinL
      (((Rect.unit (s := S3x2752) ![j, 0] ![1, 2752] i2).toLoadRect.consLift ![1, 3, 2752] e1 e2).consLift ![1, 1, 3, 2752] e3 e4) h0)) (ix2 0 f)
      = v.read (Elt Ideal) (v.writes (Elt Ideal) v.junk L) (ix4 0 ⟨k, hk⟩ ⟨j, hj⟩ f) :=
  congrArg (v.read (Elt Ideal) (v.writes (Elt Ideal) v.junk L)) (load13 k j i1 i2 e1 e2 e3 e4 h0 hk hj hR f)

theorem raw13 {sg : RefSig} {κ : Kind} {sp : Space} (v : View sg κ sp S1x2x3x2752 .f32) (g : v.ty.Contents (Elt Ideal))
    (k j : ℕ) (i1 i2 e1 e2 e3 e4 h0) (hk : k < 2) (hj : j < 3)
    (hR : S1x2752.numel = ((Rect.unit (s := S1x2x3x2752) ![0, k, 0, 0] ![1, 1, 3, 2752] i1).withinL
      (((Rect.unit (s := S3x2752) ![j, 0] ![1, 2752] i2).toLoadRect.consLift ![1, 3, 2752] e1 e2).consLift ![1, 1, 3, 2752] e3 e4) h0).shape.numel) (f : Fin 2752) :
    LoadRect.valAlong (lr := (Rect.unit (s := S3x2752) ![j, 0] ![1, 2752] i2).toLoadRect) hR (View.readAt (Elt Ideal) v ((Rect.unit (s := S1x2x3x2752) ![0, k, 0, 0] ![1, 1, 3, 2752] i1).withinL
      (((Rect.unit (s := S3x2752) ![j, 0] ![1, 2752] i2).toLoadRect.consLift ![1, 3, 2752] e1 e2).consLift ![1, 1, 3, 2752] e3 e4) h0) g) (ix2 0 f)
      = v.read (Elt Ideal) g (ix4 0 ⟨k, hk⟩ ⟨j, hj⟩ f) :=
  congrArg (v.read (Elt Ideal) g) (load13 k j i1 i2 e1 e2 e3 e4 h0 hk hj hR f)

theorem full13 {sg : RefSig} {κ : Kind} {sp : Space} (v : View sg κ sp S1x2x3x2752 .f32) (g : v.ty.Contents (Elt Ideal)) (i w y) :
    v.read (Elt Ideal) (v.writes (Elt Ideal) g [⟨Rect.unit (s := S1x2x3x2752) ![0, 0, 0, 0] ![1, 2, 3, 2752] i, w⟩]) y = w y :=
  View.read_writes_cons_hit_of_coords v g _ w [] y y (fun a => by
    fin_cases a
    · show (y 0).val = 0 + 1 * (y 0).val; omega
    · show (y 1).val = 0 + 1 * (y 1).val; omega
    · show (y 2).val = 0 + 1 * (y 2).val; omega
    · show (y 3).val = 0 + 1 * (y 3).val; omega)

theorem full14 {sg : RefSig} {κ : Kind} {sp : Space} (v : View sg κ sp S1x2x1x2752 .f32) (g : v.ty.Contents (Elt Ideal)) (i w y) :
    v.read (Elt Ideal) (v.writes (Elt Ideal) g [⟨Rect.unit (s := S1x2x1x2752) ![0, 0, 0, 0] ![1, 2, 1, 2752] i, w⟩]) y = w y :=
  View.read_writes_cons_hit_of_coords v g _ w [] y y (fun a => by
    fin_cases a
    · show (y 0).val = 0 + 1 * (y 0).val; omega
    · show (y 1).val = 0 + 1 * (y 1).val; omega
    · show (y 2).val = 0 + 1 * (y 2).val; omega
    · show (y 3).val = 0 + 1 * (y 3).val; omega)

theorem load14 (k : ℕ) (i) (hk : k < 2) (f : Fin 2752) :
    (Rect.unit (s := S1x2x1x2752) ![0, k, 0, 0] ![1, 1, 1, 2752] i).toLoadRect.idx (ix4 0 0 0 f) = ix4 0 ⟨k, hk⟩ 0 f := by
  funext a
  apply Fin.ext
  fin_cases a
  · rfl
  · show k + 1 * 0 = k; omega
  · rfl
  · show 0 + 1 * f.val = f.val; omega

theorem cov14 {sg : RefSig} {κ : Kind} {sp : Space} (v : View sg κ sp S1x2x1x2752 .f32) (L : List (View.Piece (Elt Ideal) S1x2x1x2752 .f32))
    (k : ℕ) (i) (hk : k < 2) (f : Fin 2752) :
    v.readCov L (Rect.unit (s := S1x2x1x2752) ![0, k, 0, 0] ![1, 1, 1, 2752] i).toLoadRect (ix4 0 0 0 f)
      = v.read (Elt Ideal) (v.writes (Elt Ideal) v.junk L) (ix4 0 ⟨k, hk⟩ 0 f) :=
  congrArg (v.read (Elt Ideal) (v.writes (Elt Ideal) v.junk L)) (load14 k i hk f)

theorem miss14 {sg : RefSig} {κ : Kind} {sp : Space} (v : View sg κ sp S1x2x1x2752 .f32) (g : v.ty.Contents (Elt Ideal)) (k : ℕ) (i w)
    (L : List (View.Piece (Elt Ideal) S1x2x1x2752 .f32)) (a b d : _) (f : Fin 2752) (hne : b.val < k ∨ k + 1 ≤ b.val) :
    v.read (Elt Ideal) (v.writes (Elt Ideal) g (⟨Rect.unit (s := S1x2x1x2752) ![0, k, 0, 0] ![1, 1, 1, 2752] i, w⟩ :: L)) (ix4 a b d f)
      = v.read (Elt Ideal) (v.writes (Elt Ideal) g L) (ix4 a b d f) :=
  View.read_writes_cons_miss_of_axis v g _ L _ (1 : Fin 4) k 1 rfl rfl rfl hne

theorem along13 (k j : ℕ) (i1 i2 e1 e2 e3 e4 h0)
    (hR : ((Rect.unit (s := S1x2x3x2752) ![0, k, 0, 0] ![1, 1, 3, 2752] i1).within
      (((Rect.unit (s := S3x2752) ![j, 0] ![1, 2752] i2).consLift ![1, 3, 2752] e1 e2).consLift ![1, 1, 3, 2752] e3 e4) h0).shape.numel
        = (Rect.unit (s := S3x2752) ![j, 0] ![1, 2752] i2).shape.numel)
    (w : FVec Ideal S1x2752 .f32)
    (x : ((Rect.unit (s := S1x2x3x2752) ![0, k, 0, 0] ![1, 1, 3, 2752] i1).within
      (((Rect.unit (s := S3x2752) ![j, 0] ![1, 2752] i2).consLift ![1, 3, 2752] e1 e2).consLift ![1, 1, 3, 2752] e3 e4) h0).shape.Idx) :
    Rect.payAlong hR w x = w (ix2 0 (x 3)) := by
  have h0' : (x 0).val < 1 := (x 0).isLt
  have h1' : (x 1).val < 1 := (x 1).isLt
  have h2' : (x 2).val < 1 := (x 2).isLt
  refine congrArg w (?_ : Shape.reshapeEquiv hR x = (ix2 0 (x 3) : S1x2752.Idx))
  apply Shape.reshapeEquiv_eq_of_rowMajor
  refine (Shape.rowMajor_val_two (d := ![1, 2752]) (ix2 0 (x 3))).trans ?_
  refine Eq.trans ?_ (Shape.rowMajor_val_four (d := ![1, 1, 1, 2752]) x).symm
  show 0 * 2752 + (x 3).val = (((x 0).val * 1 + (x 1).val) * 1 + (x 2).val) * 2752 + (x 3).val
  omega

theorem pay38_at (T D : FVec Ideal S128x2752 .f32) (acc : FVec Ideal S1x2752 .f32) (f : Fin 2752) :
    k0_pay38 T D acc (ix2 0 f) = acc (ix2 0 f) + ∑ r : Fin 128, D (ix2 r f) * T (ix2 r f) := by
  pointwise [k0_pay38]
theorem pay39_at (T D : FVec Ideal S128x2752 .f32) (acc : FVec Ideal S1x2752 .f32) (f : Fin 2752) :
    k0_pay39 T D acc (ix2 0 f) = acc (ix2 0 f) + ∑ r : Fin 128, D (ix2 r f) * T (ix2 r f) := by
  pointwise [k0_pay39]
theorem pay40_at (T D : FVec Ideal S128x2752 .f32) (acc : FVec Ideal S1x2752 .f32) (f : Fin 2752) :
    k0_pay40 T D acc (ix2 0 f) = acc (ix2 0 f) + ∑ r : Fin 128, D (ix2 r f) * T (ix2 r f) := by
  pointwise [k0_pay40]
theorem pay42_at (T D : FVec Ideal S128x2752 .f32) (acc : FVec Ideal S1x2752 .f32) (f : Fin 2752) :
    k0_pay42 T D acc (ix2 0 f) = acc (ix2 0 f) + ∑ r : Fin 128, D (ix2 r f) * T (ix2 r f) := by
  pointwise [k0_pay42]
theorem pay43_at (T D : FVec Ideal S128x2752 .f32) (acc : FVec Ideal S1x2752 .f32) (f : Fin 2752) :
    k0_pay43 T D acc (ix2 0 f) = acc (ix2 0 f) + ∑ r : Fin 128, D (ix2 r f) * T (ix2 r f) := by
  pointwise [k0_pay43]
theorem pay44_at (T D : FVec Ideal S128x2752 .f32) (acc : FVec Ideal S1x2752 .f32) (f : Fin 2752) :
    k0_pay44 T D acc (ix2 0 f) = acc (ix2 0 f) + ∑ r : Fin 128, D (ix2 r f) * T (ix2 r f) := by
  pointwise [k0_pay44]
theorem pay41_at (D : FVec Ideal S128x2752 .f32) (acc : FVec Ideal S1x1x1x2752 .f32) (f : Fin 2752) :
    k0_pay41 D acc (ix4 0 0 0 f) = acc (ix4 0 0 0 f) + ∑ r : Fin 128, D (ix2 r f) := by
  pointwise [k0_pay41]
theorem pay45_at (D : FVec Ideal S128x2752 .f32) (acc : FVec Ideal S1x1x1x2752 .f32) (f : Fin 2752) :
    k0_pay1 D (k0_pay45 acc) (ix4 0 0 0 f) = acc (ix4 0 0 0 f) + ∑ r : Fin 128, D (ix2 r f) := by
  pointwise [k0_pay1, k0_pay45]
theorem pay36_at (y) : k0_pay36 (F := Ideal) y = 0 := by pointwise [k0_pay36]
theorem pay37_at (y) : k0_pay37 (F := Ideal) y = 0 := by pointwise [k0_pay37]

end Cert.KernelIdeal.Value
-- ==== Proof.Value.lean ====
module

public import proofs.«01_k».proof.Proof.Rows

@[expose] public section

/-! The three arrays the gated convolution's gradient leaves, in closed form. -/

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Conv
variable (m : (ℓ : Loc nD τ sig) → Buf (Elt Ideal) ℓ)

/-- The gradient of the pre-activations as one array. -/
def dhArr (X : HArr) (W : WArr) (B : BArr) (A : DArr) : FVec Ideal S2x2x2048x2752 .bf16 :=
  fun i => dhAt X W B A (i 0) (i 1) (i 2).val (i 3)

/-- The taps' gradient as one array. -/
def dwArr (X : HArr) (W : WArr) (B : BArr) (A : DArr) : FVec Ideal S2x2x3x2752 .f32 :=
  fun i => dwAt X W B A (i 0) (i 1) (i 2) (i 3)

/-- The bias's gradient as one array. -/
def dbArr (X : HArr) (W : WArr) (B : BArr) (A : DArr) : FVec Ideal S2x2x1x2752 .f32 :=
  fun i => dbAt X W B A (i 0) (i 1) (i 3)

theorem ix4_of (x : S1x1x128x2752.Idx) : x = ix4 0 0 (x 2) (x 3) := by
  have h0 : (x 0).val < 1 := (x 0).isLt
  have h1 : (x 1).val < 1 := (x 1).isLt
  funext a
  apply Fin.ext
  fin_cases a
  · show (x 0).val = 0; omega
  · show (x 1).val = 0; omega
  · rfl
  · rfl

theorem dh_place (c : Dev nD) (t : Fin cfg0.N) (y : S1x2x128x2752.Idx) (k : Fin 2) (r : Fin 128) (f : Fin 2752)
    (h1 : (y 1).val = k.val) (h2 : (y 2).val = r.val) (h3 : (y 3).val = f.val) :
    dhAt (HX m c) (WX m c) (BX m c) (DX m c) (sh t) k (128 * (t.val % 16) + r.val) f
      = dhArr (HX m c) (WX m c) (BX m c) (DX m c) (((cfg0.win 12).blk t).view.emb y) := by
  have hi : ((cfg0.win 12).blk t).view.emb y = ix4 (sh t) k ⟨128 * (t.val % 16) + r.val, by have := r.isLt; omega⟩ f := by
    blk_ext [idx t]
  rw [hi]
  rfl

theorem point12_A (c : Dev nD) (t : Fin cfg0.N) (h0 : t.val % 16 = 0) (y : S1x2x128x2752.Idx) :
    (outsAt0 m c t.val t.isLt).1 y = dhArr (HX m c) (WX m c) (BX m c) (DX m c) (((cfg0.win 12).blk t).view.emb y) := by
  have hi := idx t
  rw [outsAt0_A m c t h0]
  frame_out
  canon_tiles x h
  case piece0 =>
    refine (congrArg _ (ix4_of x)).trans ((dhg_at m c t (x 2) (x 3)).trans ?_)
    exact dh_place m c t y 1 (x 2) (x 3) (by omega) h2 h3
  case piece1 =>
    refine (congrArg _ (ix4_of x)).trans ((dhv_at m c t (x 2) (x 3)).trans ?_)
    exact dh_place m c t y 0 (x 2) (x 3) (by omega) h2 h3

theorem point12_B (c : Dev nD) (t : Fin cfg0.N) (h0 : ¬ t.val % 16 = 0) (y : S1x2x128x2752.Idx) :
    (outsAt0 m c t.val t.isLt).1 y = dhArr (HX m c) (WX m c) (BX m c) (DX m c) (((cfg0.win 12).blk t).view.emb y) := by
  have hi := idx t
  rw [outsAt0_B m c t h0]
  frame_out
  canon_tiles x h
  case piece0 =>
    refine (congrArg _ (ix4_of x)).trans ((dhg_at m c t (x 2) (x 3)).trans ?_)
    exact dh_place m c t y 1 (x 2) (x 3) (by omega) h2 h3
  case piece1 =>
    refine (congrArg _ (ix4_of x)).trans ((dhv_at m c t (x 2) (x 3)).trans ?_)
    exact dh_place m c t y 0 (x 2) (x 3) (by omega) h2 h3

theorem final12 (c : Dev nD) : (dats m 0 c).arrAt 12 (cfgs 0).N = dhArr (HX m c) (WX m c) (BX m c) (DX m c) := by
  refine (dats m 0 c).arrAt_eq_of_covers 12 _ (by decide +kernel) fun t hf y => ?_
  blk_simp
  rw [after0_12]
  by_cases h : t.val % 16 = 0
  · exact point12_A m c t h y
  · exact point12_B m c t h y

/-- What one grid point adds to the taps' gradient. -/
def part13 (c : Dev nD) (t : Fin cfg0.N) (y : S1x2x3x2752.Idx) : EReal :=
  ∑ r : Fin 128, dk (HX m c) (WX m c) (BX m c) (DX m c) (sh t) (y 1) (128 * (t.val % 16) + r.val) (y 3)
    * row (HX m c) (cq (sh t) (y 1)) (128 * (t.val % 16) + r.val + (y 2).val) (y 3)

theorem sum13 (c : Dev nD) (t : Fin cfg0.N) (y : S1x2x3x2752.Idx) (k : Fin 2) (j : ℕ) (f : Fin 2752)
    (hy : (y 1).val = k.val ∧ (y 2).val = j ∧ (y 3).val = f.val) (D T : FVec Ideal S128x2752 .f32) (z z' : EReal) (hz : z = z')
    (hD : ∀ r f, D (ix2 r f) = dk (HX m c) (WX m c) (BX m c) (DX m c) (sh t) k (128 * (t.val % 16) + r.val) f)
    (hT : ∀ r f, T (ix2 r f) = row (HX m c) (cq (sh t) k) (128 * (t.val % 16) + r.val + j) f) :
    z + ∑ r : Fin 128, D (ix2 r f) * T (ix2 r f) = z' + part13 m c t y := by
  obtain ⟨h1, h2, h3⟩ := hy
  have e1 : y 1 = k := Fin.ext h1
  have e3 : y 3 = f := Fin.ext h3
  unfold part13
  rw [e1, h2, e3, hz]
  exact congrArg (z' + ·) (Finset.sum_congr rfl fun r _ => by rw [hD, hT])

theorem dvk_at (c : Dev nD) (t : Fin cfg0.N) (r : Fin 128) (f : Fin 2752) :
    dval (HX m c) (WX m c) (BX m c) (DX m c) (sh t) (128 * (t.val % 16) + r.val) f
      = dk (HX m c) (WX m c) (BX m c) (DX m c) (sh t) 0 (128 * (t.val % 16) + r.val) f :=
  (dk_zero _ _ _ _ _ _ _ (by omega)).symm

theorem dgk_at (c : Dev nD) (t : Fin cfg0.N) (r : Fin 128) (f : Fin 2752) :
    dgate (HX m c) (WX m c) (BX m c) (DX m c) (sh t) (128 * (t.val % 16) + r.val) f
      = dk (HX m c) (WX m c) (BX m c) (DX m c) (sh t) 1 (128 * (t.val % 16) + r.val) f :=
  (dk_one _ _ _ _ _ _ _ (by omega)).symm

theorem ix13 (y : S1x2x3x2752.Idx) (k : Fin 2) (j : Fin 3) (f : Fin 2752)
    (h : (y 1).val = k.val ∧ (y 2).val = j.val ∧ (y 3).val = f.val) : y = ix4 0 k j f := by
  have h0 : (y 0).val < 1 := (y 0).isLt
  funext a
  apply Fin.ext
  fin_cases a
  · show (y 0).val = 0; omega
  · exact h.1
  · exact h.2.1
  · exact h.2.2

theorem ix14 (y : S1x2x1x2752.Idx) (k : Fin 2) (f : Fin 2752)
    (h : (y 1).val = k.val ∧ (y 3).val = f.val) : y = ix4 0 k 0 f := by
  have h0 : (y 0).val < 1 := (y 0).isLt
  have h2 : (y 2).val < 1 := (y 2).isLt
  funext a
  apply Fin.ext
  fin_cases a
  · show (y 0).val = 0; omega
  · exact h.1
  · show (y 2).val = 0; omega
  · exact h.2

theorem ix1112 (x : S1x1x1x2752.Idx) : x = ix4 0 0 0 (x 3) := by
  have h0 : (x 0).val < 1 := (x 0).isLt
  have h1 : (x 1).val < 1 := (x 1).isLt
  have h2 : (x 2).val < 1 := (x 2).isLt
  funext a
  apply Fin.ext
  fin_cases a
  · show (x 0).val = 0; omega
  · show (x 1).val = 0; omega
  · show (x 2).val = 0; omega
  · rfl

theorem step13_A (c : Dev nD) (t : Fin cfg0.N) (h0 : t.val % 16 = 0) (y : S1x2x3x2752.Idx) :
    (outsAt0 m c t.val t.isLt).2.1 y = 0 + part13 m c t y := by
  rw [outsAt0_A m c t h0]
  frame_out
  refine canon_over [_] y _ [_, _, _, _, _, _] (View.cover_of_tiled_head _ _ _ rfl y) ?_
  canon_tiles x h
  case piece0 =>
    have hy := hit_coords 1 2 _ _ _ _ _ _ _ x y h
    refine (along13 _ _ _ _ _ _ _ _ _ _ _ x).trans ((pay44_at _ _ _ _).trans ?_)
    refine sum13 m c t y 1 2 (x 3) hy _ _ _ _ ?_ (fun r f => (dg_at m c t r f).trans (dgk_at m c t r f)) (fun r f => g0_at m c t r f)
    refine (cov13 _ _ 1 2 _ _ _ _ _ _ _ (by decide) (by decide) _ (x 3)).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    exact (full13 _ _ _ _ _).trans (pay36_at _)
  case piece1 =>
    have hy := hit_coords 1 1 _ _ _ _ _ _ _ x y h
    refine (along13 _ _ _ _ _ _ _ _ _ _ _ x).trans ((pay43_at _ _ _ _).trans ?_)
    refine sum13 m c t y 1 1 (x 3) hy _ _ _ _ ?_ (fun r f => (dg_at m c t r f).trans (dgk_at m c t r f)) (fun r f => g1_at m c t r f)
    refine (cov13 _ _ 1 1 _ _ _ _ _ _ _ (by decide) (by decide) _ (x 3)).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    exact (full13 _ _ _ _ _).trans (pay36_at _)
  case piece2 =>
    have hy := hit_coords 1 0 _ _ _ _ _ _ _ x y h
    refine (along13 _ _ _ _ _ _ _ _ _ _ _ x).trans ((pay42_at _ _ _ _).trans ?_)
    refine sum13 m c t y 1 0 (x 3) hy _ _ _ _ ?_ (fun r f => (dg_at m c t r f).trans (dgk_at m c t r f)) (fun r f => g2_at m c t r f)
    refine (cov13 _ _ 1 0 _ _ _ _ _ _ _ (by decide) (by decide) _ (x 3)).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    exact (full13 _ _ _ _ _).trans (pay36_at _)
  case piece3 =>
    have hy := hit_coords 0 2 _ _ _ _ _ _ _ x y h
    refine (along13 _ _ _ _ _ _ _ _ _ _ _ x).trans ((pay40_at _ _ _ _).trans ?_)
    refine sum13 m c t y 0 2 (x 3) hy _ _ _ _ ?_ (fun r f => (dv_at m c t r f).trans (dvk_at m c t r f)) (fun r f => v0_at m c t r f)
    refine (cov13 _ _ 0 2 _ _ _ _ _ _ _ (by decide) (by decide) _ (x 3)).trans ?_
    refine (miss13 _ _ _ _ _ _ _ _ _ _ _ _ _ _ _ _ _ (by first | exact Or.inl (by decide) | exact Or.inr (by decide))).trans ?_
    refine (miss13 _ _ _ _ _ _ _ _ _ _ _ _ _ _ _ _ _ (by first | exact Or.inl (by decide) | exact Or.inr (by decide))).trans ?_
    exact (full13 _ _ _ _ _).trans (pay36_at _)
  case piece4 =>
    have hy := hit_coords 0 1 _ _ _ _ _ _ _ x y h
    refine (along13 _ _ _ _ _ _ _ _ _ _ _ x).trans ((pay39_at _ _ _ _).trans ?_)
    refine sum13 m c t y 0 1 (x 3) hy _ _ _ _ ?_ (fun r f => (dv_at m c t r f).trans (dvk_at m c t r f)) (fun r f => v1_at m c t r f)
    refine (cov13 _ _ 0 1 _ _ _ _ _ _ _ (by decide) (by decide) _ (x 3)).trans ?_
    refine (miss13 _ _ _ _ _ _ _ _ _ _ _ _ _ _ _ _ _ (by first | exact Or.inl (by decide) | exact Or.inr (by decide))).trans ?_
    exact (full13 _ _ _ _ _).trans (pay36_at _)
  case piece5 =>
    have hy := hit_coords 0 0 _ _ _ _ _ _ _ x y h
    refine (along13 _ _ _ _ _ _ _ _ _ _ _ x).trans ((pay38_at _ _ _ _).trans ?_)
    refine sum13 m c t y 0 0 (x 3) hy _ _ _ _ ?_ (fun r f => (dv_at m c t r f).trans (dvk_at m c t r f)) (fun r f => v2_at m c t r f)
    refine (cov13 _ _ 0 0 _ _ _ _ _ _ _ (by decide) (by decide) _ (x 3)).trans ?_
    exact (full13 _ _ _ _ _).trans (pay36_at _)

theorem step13_B (c : Dev nD) (t : Fin cfg0.N) (h0 : ¬ t.val % 16 = 0) (y : S1x2x3x2752.Idx) :
    (outsAt0 m c t.val t.isLt).2.1 y = (outsAt0 m c (t.val - 1) (Nat.lt_of_le_of_lt (Nat.sub_le _ _) t.isLt)).2.1 y + part13 m c t y := by
  rw [outsAt0_B m c t h0]
  frame_out
  canon_tiles x h
  case piece0 =>
    have hy := hit_coords 1 2 _ _ _ _ _ _ _ x y h
    refine (along13 _ _ _ _ _ _ _ _ _ _ _ x).trans ((pay44_at _ _ _ _).trans ?_)
    refine sum13 m c t y 1 2 (x 3) hy _ _ _ _ ?_ (fun r f => (dg_at m c t r f).trans (dgk_at m c t r f)) (fun r f => g0_at m c t r f)
    refine (raw13 _ _ 1 2 _ _ _ _ _ _ _ (by decide) (by decide) _ (x 3)).trans ?_
    rw [(hs0_13 t).read_unread, ix13 y 1 2 (x 3) hy]
    rfl
  case piece1 =>
    have hy := hit_coords 1 1 _ _ _ _ _ _ _ x y h
    refine (along13 _ _ _ _ _ _ _ _ _ _ _ x).trans ((pay43_at _ _ _ _).trans ?_)
    refine sum13 m c t y 1 1 (x 3) hy _ _ _ _ ?_ (fun r f => (dg_at m c t r f).trans (dgk_at m c t r f)) (fun r f => g1_at m c t r f)
    refine (raw13 _ _ 1 1 _ _ _ _ _ _ _ (by decide) (by decide) _ (x 3)).trans ?_
    rw [(hs0_13 t).read_unread, ix13 y 1 1 (x 3) hy]
    rfl
  case piece2 =>
    have hy := hit_coords 1 0 _ _ _ _ _ _ _ x y h
    refine (along13 _ _ _ _ _ _ _ _ _ _ _ x).trans ((pay42_at _ _ _ _).trans ?_)
    refine sum13 m c t y 1 0 (x 3) hy _ _ _ _ ?_ (fun r f => (dg_at m c t r f).trans (dgk_at m c t r f)) (fun r f => g2_at m c t r f)
    refine (raw13 _ _ 1 0 _ _ _ _ _ _ _ (by decide) (by decide) _ (x 3)).trans ?_
    rw [(hs0_13 t).read_unread, ix13 y 1 0 (x 3) hy]
    rfl
  case piece3 =>
    have hy := hit_coords 0 2 _ _ _ _ _ _ _ x y h
    refine (along13 _ _ _ _ _ _ _ _ _ _ _ x).trans ((pay40_at _ _ _ _).trans ?_)
    refine sum13 m c t y 0 2 (x 3) hy _ _ _ _ ?_ (fun r f => (dv_at m c t r f).trans (dvk_at m c t r f)) (fun r f => v0_at m c t r f)
    refine (raw13 _ _ 0 2 _ _ _ _ _ _ _ (by decide) (by decide) _ (x 3)).trans ?_
    rw [(hs0_13 t).read_unread, ix13 y 0 2 (x 3) hy]
    rfl
  case piece4 =>
    have hy := hit_coords 0 1 _ _ _ _ _ _ _ x y h
    refine (along13 _ _ _ _ _ _ _ _ _ _ _ x).trans ((pay39_at _ _ _ _).trans ?_)
    refine sum13 m c t y 0 1 (x 3) hy _ _ _ _ ?_ (fun r f => (dv_at m c t r f).trans (dvk_at m c t r f)) (fun r f => v1_at m c t r f)
    refine (raw13 _ _ 0 1 _ _ _ _ _ _ _ (by decide) (by decide) _ (x 3)).trans ?_
    rw [(hs0_13 t).read_unread, ix13 y 0 1 (x 3) hy]
    rfl
  case piece5 =>
    have hy := hit_coords 0 0 _ _ _ _ _ _ _ x y h
    refine (along13 _ _ _ _ _ _ _ _ _ _ _ x).trans ((pay38_at _ _ _ _).trans ?_)
    refine sum13 m c t y 0 0 (x 3) hy _ _ _ _ ?_ (fun r f => (dv_at m c t r f).trans (dvk_at m c t r f)) (fun r f => v2_at m c t r f)
    refine (raw13 _ _ 0 0 _ _ _ _ _ _ _ (by decide) (by decide) _ (x 3)).trans ?_
    rw [(hs0_13 t).read_unread, ix13 y 0 0 (x 3) hy]
    rfl

/-- What one grid point adds to the bias's gradient. -/
def part14 (c : Dev nD) (t : Fin cfg0.N) (y : S1x2x1x2752.Idx) : EReal :=
  ∑ r : Fin 128, dk (HX m c) (WX m c) (BX m c) (DX m c) (sh t) (y 1) (128 * (t.val % 16) + r.val) (y 3)

theorem sum14 (c : Dev nD) (t : Fin cfg0.N) (y : S1x2x1x2752.Idx) (k : Fin 2) (f : Fin 2752)
    (hy : (y 1).val = k.val ∧ (y 3).val = f.val) (D : FVec Ideal S128x2752 .f32) (z z' : EReal) (hz : z = z')
    (hD : ∀ r f, D (ix2 r f) = dk (HX m c) (WX m c) (BX m c) (DX m c) (sh t) k (128 * (t.val % 16) + r.val) f) :
    z + ∑ r : Fin 128, D (ix2 r f) = z' + part14 m c t y := by
  have e1 : y 1 = k := Fin.ext hy.1
  have e3 : y 3 = f := Fin.ext hy.2
  unfold part14
  rw [e1, e3, hz]
  exact congrArg (z' + ·) (Finset.sum_congr rfl fun r _ => by rw [hD])

theorem step14_A (c : Dev nD) (t : Fin cfg0.N) (h0 : t.val % 16 = 0) (y : S1x2x1x2752.Idx) :
    (outsAt0 m c t.val t.isLt).2.2 y = 0 + part14 m c t y := by
  rw [outsAt0_A m c t h0]
  frame_out
  refine canon_over [_] y _ [_, _] (View.cover_of_tiled_head _ _ _ rfl y) ?_
  canon_tiles x h
  case piece0 =>
    rw [ix1112 x]
    refine (pay45_at _ _ _).trans (sum14 m c t y 1 (x 3) ⟨by show _ = 1; omega, h3⟩ _ _ _ ?_ (fun r f => (dg_at m c t r f).trans (dgk_at m c t r f)))
    refine (cov14 _ _ 1 _ (by decide) (x 3)).trans ((miss14 _ _ _ _ _ _ _ _ _ _ (by first | exact Or.inl (by decide) | exact Or.inr (by decide))).trans ?_)
    exact (full14 _ _ _ _ _).trans (pay37_at _)
  case piece1 =>
    rw [ix1112 x]
    refine (pay41_at _ _ _).trans (sum14 m c t y 0 (x 3) ⟨by show _ = 0; omega, h3⟩ _ _ _ ?_ (fun r f => (dv_at m c t r f).trans (dvk_at m c t r f)))
    refine (cov14 _ _ 0 _ (by decide) (x 3)).trans ?_
    exact (full14 _ _ _ _ _).trans (pay37_at _)

theorem step14_B (c : Dev nD) (t : Fin cfg0.N) (h0 : ¬ t.val % 16 = 0) (y : S1x2x1x2752.Idx) :
    (outsAt0 m c t.val t.isLt).2.2 y = (outsAt0 m c (t.val - 1) (Nat.lt_of_le_of_lt (Nat.sub_le _ _) t.isLt)).2.2 y + part14 m c t y := by
  rw [outsAt0_B m c t h0]
  frame_out
  canon_tiles x h
  case piece0 =>
    rw [ix1112 x]
    refine (pay45_at _ _ _).trans (sum14 m c t y 1 (x 3) ⟨by show _ = 1; omega, h3⟩ _ _ _ ?_ (fun r f => (dg_at m c t r f).trans (dgk_at m c t r f)))
    rw [ix14 y 1 (x 3) ⟨by show _ = 1; omega, h3⟩]
    exact congrArg (outsAt0 m c (t.val - 1) (Nat.lt_of_le_of_lt (Nat.sub_le _ _) t.isLt)).2.2 (load14 1 _ (by decide) (x 3))
  case piece1 =>
    rw [ix1112 x]
    refine (pay41_at _ _ _).trans (sum14 m c t y 0 (x 3) ⟨by show _ = 0; omega, h3⟩ _ _ _ ?_ (fun r f => (dv_at m c t r f).trans (dvk_at m c t r f)))
    rw [ix14 y 0 (x 3) ⟨by show _ = 0; omega, h3⟩]
    exact congrArg (outsAt0 m c (t.val - 1) (Nat.lt_of_le_of_lt (Nat.sub_le _ _) t.isLt)).2.2 (load14 0 _ (by decide) (x 3))

theorem run_tile (t s : ℕ) (h : s < 16) : (16 * (t / 16) + s) / 16 = t / 16 ∧ (16 * (t / 16) + s) % 16 = s := by omega

theorem part13_run (c : Dev nD) (t : Fin cfg0.N) (s : Fin 16) (hlt : 16 * (t.val / 16) + s.val < cfg0.N) (y : S1x2x3x2752.Idx) :
    part13 m c ⟨16 * (t.val / 16) + s.val, hlt⟩ y
      = ∑ r : Fin 128, dk (HX m c) (WX m c) (BX m c) (DX m c) (sh t) (y 1) (128 * s.val + r.val) (y 3)
          * row (HX m c) (cq (sh t) (y 1)) (128 * s.val + r.val + (y 2).val) (y 3) := by
  unfold part13
  have e := run_tile t.val s.val s.isLt
  have es : sh ⟨16 * (t.val / 16) + s.val, hlt⟩ = sh t := Fin.ext e.1
  rw [es]
  simp only [e.2]

theorem part14_run (c : Dev nD) (t : Fin cfg0.N) (s : Fin 16) (hlt : 16 * (t.val / 16) + s.val < cfg0.N) (y : S1x2x1x2752.Idx) :
    part14 m c ⟨16 * (t.val / 16) + s.val, hlt⟩ y
      = ∑ r : Fin 128, dk (HX m c) (WX m c) (BX m c) (DX m c) (sh t) (y 1) (128 * s.val + r.val) (y 3) := by
  unfold part14
  have e := run_tile t.val s.val s.isLt
  have es : sh ⟨16 * (t.val / 16) + s.val, hlt⟩ = sh t := Fin.ext e.1
  rw [es]
  simp only [e.2]

theorem final13 (c : Dev nD) : (dats m 0 c).arrAt 13 (cfgs 0).N = dwArr (HX m c) (WX m c) (BX m c) (DX m c) := by
  refine (dats m 0 c).arrAt_eq_of_covers 13 _ (by decide +kernel) fun t hf y => ?_
  blk_simp
  rw [after0_13, Pipeline.eq_sum_fin_of_reset_step_apply_of_flush (fun n h => (outsAt0 m c n h).2.1) 16 (fun _ => 0) (fun t y => part13 m c t y)
    (fun t h j => step13_A m c t h j)
    (fun t h j => step13_B m c t h j)
    t ((flush0_13 t).mp hf) _, zero_add]
  have hi : (win0_13.blk t).view.emb y = ix4 (sh t) (y 1) (y 2) (y 3) := by
    skip
    blk_ext [idx t]
  rw [hi]
  show _ = dwAt (HX m c) (WX m c) (BX m c) (DX m c) (sh t) (y 1) (y 2) (y 3)
  refine (Finset.sum_congr rfl fun s _ => part13_run m c t s _ y).trans ?_
  refine Fin.sum_mul_add_congr fun s k hl => ?_
  rw [show 128 * s.val + k.val = s.val * 128 + k.val by omega]

theorem final14 (c : Dev nD) : (dats m 0 c).arrAt 14 (cfgs 0).N = dbArr (HX m c) (WX m c) (BX m c) (DX m c) := by
  refine (dats m 0 c).arrAt_eq_of_covers 14 _ (by decide +kernel) fun t hf y => ?_
  blk_simp
  rw [after0_14, Pipeline.eq_sum_fin_of_reset_step_apply_of_flush (fun n h => (outsAt0 m c n h).2.2) 16 (fun _ => 0) (fun t y => part14 m c t y)
    (fun t h j => step14_A m c t h j)
    (fun t h j => step14_B m c t h j)
    t ((flush0_14 t).mp hf) _, zero_add]
  have hi : (win0_14.blk t).view.emb y = ix4 (sh t) (y 1) 0 (y 3) := by
    have h2 : (y 2).val < 1 := (y 2).isLt
    blk_ext [idx t]
  rw [hi]
  show _ = dbAt (HX m c) (WX m c) (BX m c) (DX m c) (sh t) (y 1) (y 3)
  refine (Finset.sum_congr rfl fun s _ => part14_run m c t s _ y).trans ?_
  refine Fin.sum_mul_add_congr fun s k hl => ?_
  rw [show 128 * s.val + k.val = s.val * 128 + k.val by omega]

end Cert.KernelIdeal.Value
-- ==== Proof.Ref.lean ====
module

public import proofs.«01_k».proof.Proof.Gen.ReferenceIdeal.Read
public import proofs.«01_k».proof.Proof.Conv

@[expose] public section

/-! The reference's gradient, read one element at a time. -/

set_option maxRecDepth 16384
noncomputable section
open Idealize.ShloMosaic Idealize.ShloMosaic.TcCoe Idealize.SL.Sem Idealize.ShloMosaic.StableHlo
namespace Cert.ReferenceIdeal.Grad
open Cert.ReferenceIdeal Cert.ReferenceIdeal.Gen Cert.ReferenceIdeal.Read Cert.Conv
variable (X : HArr) (W : WArr) (B : BArr) (A : DArr)

/-- The column of the full width at which column `f` of group `q` stands. -/
abbrev col (q : Fin 4) (f : Fin 2752) : Fin 11008 := ⟨q.val * 2752 + f.val, by omega⟩
/-- The column of the half width at which column `f` of shard `p` stands. -/
abbrev col2 (p : Fin 2) (f : Fin 2752) : Fin 5504 := ⟨p.val * 2752 + f.val, by omega⟩

theorem r1 (s : Fin 2048) (q : Fin 4) (f : Fin 2752) : val_main_v1 (F := Ideal) X (ix2 s (col q f)) = X (ix3 q s f) := by
  rw [val_main_v1_apply, val_main_v0_apply]
  refine congrArg X (funext fun a => Fin.ext ?_)
  fin_cases a
  · show (s.val * 11008 + (q.val * 2752 + f.val)) / 2752 % 4 = q.val; omega
  · show (s.val * 11008 + (q.val * 2752 + f.val)) / 11008 = s.val; omega
  · show (s.val * 11008 + (q.val * 2752 + f.val)) % 2752 = f.val; omega

theorem r3 (j : Fin 3) (q : Fin 4) (f : Fin 2752) : val_main_v3 (F := Ideal) W (ix2 j (col q f)) = W (ix3 q j f) := by
  rw [val_main_v3_apply, val_main_v2_apply]
  refine congrArg W (funext fun a => Fin.ext ?_)
  fin_cases a
  · show (j.val * 11008 + (q.val * 2752 + f.val)) / 2752 % 4 = q.val; omega
  · show (j.val * 11008 + (q.val * 2752 + f.val)) / 11008 = j.val; omega
  · show (j.val * 11008 + (q.val * 2752 + f.val)) % 2752 = f.val; omega

theorem r4 (q : Fin 4) (f : Fin 2752) : val_main_v4 (F := Ideal) B (ix1 (col q f)) = B (ix3 q 0 f) := by
  rw [val_main_v4_apply]
  refine congrArg B (funext fun a => Fin.ext ?_)
  fin_cases a
  · show (q.val * 2752 + f.val) / 2752 = q.val; omega
  · rfl
  · show (q.val * 2752 + f.val) % 2752 = f.val; omega

theorem r6 (s : Fin 2048) (p : Fin 2) (f : Fin 2752) : val_main_v6 (F := Ideal) A (ix2 s (col2 p f)) = A (ix3 p s f) := by
  rw [val_main_v6_apply, val_main_v5_apply]
  refine congrArg A (funext fun a => Fin.ext ?_)
  fin_cases a
  · show (s.val * 5504 + (p.val * 2752 + f.val)) / 2752 % 2 = p.val; omega
  · show (s.val * 5504 + (p.val * 2752 + f.val)) / 5504 = s.val; omega
  · show (s.val * 5504 + (p.val * 2752 + f.val)) % 2752 = f.val; omega

theorem r8 (n : Fin 2050) (q : Fin 4) (f : Fin 2752) : val_main_v8 (F := Ideal) X (ix2 n (col q f)) = row X q n.val f := by
  unfold val_main_v8
  by_cases h : n.val < 2
  · rw [row_of_lt _ _ _ _ h]
    generalize val_main_v1 (F := Ideal) X = y
    pointwise [val_main_v7, val_main_cst]
    rw [dif_pos h]
  · obtain ⟨s, hs⟩ : ∃ s : Fin 2048, n.val = s.val + 2 := ⟨⟨n.val - 2, by omega⟩, by show n.val = n.val - 2 + 2; omega⟩
    rw [hs, row_add_two _ _ _ _ s.isLt]
    refine Eq.trans ?_ (r1 X s q f)
    generalize val_main_v1 (F := Ideal) X = y
    pointwise [val_main_v7, val_main_cst]
    rw [dif_neg h]
    exact congrArg y (congrArg (fun z => ix2 z (col q f)) (Fin.ext (by show n.val - 2 = s.val; omega)))

theorem r10 (s : Fin 2048) (q : Fin 4) (f : Fin 2752) : val_main_v10 (F := Ideal) X (ix2 s (col q f)) = row X q s.val f := by
  rw [val_main_v10_apply]
  refine Eq.trans (congrArg _ ?_) (r8 X ⟨s.val, by omega⟩ q f)
  funext a; fin_cases a <;> rfl

theorem r19 (s : Fin 2048) (q : Fin 4) (f : Fin 2752) : val_main_v19 (F := Ideal) X (ix2 s (col q f)) = row X q (s.val + 1) f := by
  rw [val_main_v19_apply, show s.val + 1 = 1 + s.val by omega]
  refine Eq.trans (congrArg _ ?_) (r8 X ⟨1 + s.val, by omega⟩ q f)
  funext a; fin_cases a <;> rfl

theorem r26 (s : Fin 2048) (q : Fin 4) (f : Fin 2752) : val_main_v26 (F := Ideal) X (ix2 s (col q f)) = row X q (s.val + 2) f := by
  rw [val_main_v26_apply, show s.val + 2 = 2 + s.val by omega]
  refine Eq.trans (congrArg _ ?_) (r8 X ⟨2 + s.val, by omega⟩ q f)
  funext a; fin_cases a <;> rfl

theorem r13 (q : Fin 4) (f : Fin 2752) (z : Fin 1) : val_main_v13 (F := Ideal) W (ix2 z (col q f)) = W (ix3 q 0 f) := by
  rw [val_main_v13_apply, val_main_v12_apply, val_main_v11_apply]
  refine Eq.trans (congrArg _ ?_) (r3 W 0 q f)
  funext a; apply Fin.ext; fin_cases a
  · show 0 = 0; omega
  · show (q.val * 2752 + f.val) % 11008 = q.val * 2752 + f.val; omega

theorem r22 (q : Fin 4) (f : Fin 2752) (z : Fin 1) : val_main_v22 (F := Ideal) W (ix2 z (col q f)) = W (ix3 q 1 f) := by
  rw [val_main_v22_apply, val_main_v21_apply, val_main_v20_apply]
  refine Eq.trans (congrArg _ ?_) (r3 W 1 q f)
  funext a; apply Fin.ext; fin_cases a
  · rfl
  · show (q.val * 2752 + f.val) % 11008 = q.val * 2752 + f.val; omega

theorem r29 (q : Fin 4) (f : Fin 2752) (z : Fin 1) : val_main_v29 (F := Ideal) W (ix2 z (col q f)) = W (ix3 q 2 f) := by
  rw [val_main_v29_apply, val_main_v28_apply, val_main_v27_apply]
  refine Eq.trans (congrArg _ ?_) (r3 W 2 q f)
  funext a; apply Fin.ext; fin_cases a
  · rfl
  · show (q.val * 2752 + f.val) % 11008 = q.val * 2752 + f.val; omega

theorem r17 (s : Fin 2048) (q : Fin 4) (f : Fin 2752) : val_main_v17 (F := Ideal) B (ix2 s (col q f)) = B (ix3 q 0 f) := by
  rw [val_main_v17_apply, val_main_v16_apply]
  refine Eq.trans (congrArg _ ?_) (r4 B q f)
  funext a; fin_cases a; rfl

theorem tap (G : FVec Ideal S1x11008 .f32) (i : S2048x11008.Idx) (j : S1x11008.Idx) (c : Fin 11008) (v : EReal)
    (h : ∀ z : Fin 1, G (ix2 z c) = v) (hj : j = ix2 0 c) : G j = v := by rw [hj]; exact h 0

theorem r14 (s : Fin 2048) (q : Fin 4) (f : Fin 2752) : val_main_v14 (F := Ideal) W (ix2 s (col q f)) = W (ix3 q 0 f) := by
  rw [val_main_v14_apply]
  exact (congrArg _ (by funext a; fin_cases a <;> rfl)).trans (r13 W q f 0)
theorem r23 (s : Fin 2048) (q : Fin 4) (f : Fin 2752) : val_main_v23 (F := Ideal) W (ix2 s (col q f)) = W (ix3 q 1 f) := by
  rw [val_main_v23_apply]
  exact (congrArg _ (by funext a; fin_cases a <;> rfl)).trans (r22 W q f 0)
theorem r30 (s : Fin 2048) (q : Fin 4) (f : Fin 2752) : val_main_v30 (F := Ideal) W (ix2 s (col q f)) = W (ix3 q 2 f) := by
  rw [val_main_v30_apply]
  exact (congrArg _ (by funext a; fin_cases a <;> rfl)).trans (r29 W q f 0)
theorem r46 (s : Fin 2048) (q : Fin 4) (f : Fin 2752) : val_main_v46 (F := Ideal) W (ix2 s (col q f)) = W (ix3 q 2 f) := by
  rw [val_main_v46_apply]
  exact (congrArg _ (by funext a; fin_cases a <;> rfl)).trans (r29 W q f 0)
theorem r55 (s : Fin 2048) (q : Fin 4) (f : Fin 2752) : val_main_v55 (F := Ideal) W (ix2 s (col q f)) = W (ix3 q 1 f) := by
  rw [val_main_v55_apply]
  exact (congrArg _ (by funext a; fin_cases a <;> rfl)).trans (r22 W q f 0)
theorem r69 (s : Fin 2048) (q : Fin 4) (f : Fin 2752) : val_main_v69 (F := Ideal) W (ix2 s (col q f)) = W (ix3 q 0 f) := by
  rw [val_main_v69_apply]
  exact (congrArg _ (by funext a; fin_cases a <;> rfl)).trans (r13 W q f 0)

theorem r32 (s : Fin 2048) (q : Fin 4) (f : Fin 2752) : val_main_v32 (F := Ideal) X W B (ix2 s (col q f)) = cv X W B q s.val f := by
  rw [val_main_v32_apply, val_main_v31_apply, val_main_v25_apply, val_main_v24_apply, val_main_v18_apply, val_main_v15_apply,
    r10, r19, r26, r14, r23, r30, r17]
  rfl

theorem r33 (s : Fin 2048) (p : Fin 2) (f : Fin 2752) : val_main_v33 (F := Ideal) X W B (ix2 s (col2 p f)) = cv X W B (vq p) s.val f := by
  rw [val_main_v33_apply]
  refine Eq.trans (congrArg _ ?_) (r32 X W B s (vq p) f)
  funext a; fin_cases a <;> rfl

theorem r34 (s : Fin 2048) (p : Fin 2) (f : Fin 2752) : val_main_v34 (F := Ideal) X W B (ix2 s (col2 p f)) = cv X W B (gq p) s.val f := by
  rw [val_main_v34_apply]
  refine Eq.trans (congrArg _ ?_) (r32 X W B s (gq p) f)
  funext a; apply Fin.ext; fin_cases a
  · rfl
  · show 5504 + (p.val * 2752 + f.val) = (p.val + 2) * 2752 + f.val; omega

theorem rsig (s : Fin 2048) (p : Fin 2) (f : Fin 2752) :
    val_main_v35_2 (F := Ideal) X W B (ix2 s (col2 p f)) = Ideal.logistic (cv X W B (gq p) s.val f) := by
  rw [val_main_v35_2_apply, val_main_call0_v3_apply, val_main_call0_v1_apply, val_main_call0_v0_apply, r34,
    val_main_call0_v4_apply, val_main_call0_v2_apply]
  generalize cv X W B (gq p) s.val f = g
  pointwise [val_main_call0_cst_0, val_main_call0_cst, Ideal.logistic]

/-- The gates' gradient in the order in which the reference multiplies. -/
def gref (p : Fin 2) (s : ℕ) (f : Fin 2752) : EReal :=
  da A p s f * cv X W B (vq p) s f * Ideal.logistic (cv X W B (gq p) s f)
    + cv X W B (gq p) s f * (da A p s f * cv X W B (vq p) s f)
      * (Ideal.logistic (cv X W B (gq p) s f) * (1 - Ideal.logistic (cv X W B (gq p) s f)))

theorem r39 (s : Fin 2048) (p : Fin 2) (f : Fin 2752) : val_main_v39 (F := Ideal) X W B A (ix2 s (col2 p f)) = gref X W B A p s.val f := by
  rw [val_main_v39_apply, val_main_call1_v2_apply, val_main_call1_v1_apply, val_main_call1_v0_apply, val_main_v38_apply,
    val_main_v35_1_apply, val_main_call0_v7_apply, val_main_call0_v6_apply, rsig, r34, r33, r6]
  unfold gref
  rw [da_of_lt A p s.val f s.isLt]
  pointwise [val_main_call0_cst_1]

theorem r37 (s : Fin 2048) (p : Fin 2) (f : Fin 2752) : val_main_v37 (F := Ideal) X W B A (ix2 s (col2 p f)) = dval X W B A p s.val f := by
  rw [val_main_v37_apply, val_main_v35_0_apply, rsig, r34, r6]
  unfold dval
  rw [da_of_lt A p s.val f s.isLt, mul_comm]
  rfl

theorem at2 {a b : ℕ} (y : (⟨2, ![a, b]⟩ : Shape).Idx → EReal) (i i' : Fin a) (j j' : Fin b) (hi : i.val = i'.val) (hj : j.val = j'.val) :
    y (ix2 i j) = y (ix2 i' j') := by
  rw [Fin.ext hi, Fin.ext hj]

theorem bits0 : (FloatOps.ofBits .f32 0x00000000#32 : Ideal .f32) = (0 : EReal) := by
  pointwise

theorem add3 (a b c a' b' c' v : EReal) (ha : a = a') (hb : b = b') (hc : c = c') (h : a' + b' + c' = v) : a + b + c = v := by
  rw [ha, hb, hc, h]

theorem from0 (z S S' : EReal) (hz : z = 0) (h : S = S') : z + S = S' := by rw [hz, h, zero_add]

/-- Every element of an array is a real number. -/
def AllReal {S : Shape} {φ : FTy} (X : FVec Ideal S φ) : Prop := ∀ i, ∃ r : ℝ, X i = (r : EReal)

theorem row_real (hX : AllReal X) (q : Fin 4) (n : ℕ) (f : Fin 2752) : ∃ r : ℝ, row X q n f = (r : EReal) := by
  unfold row
  split
  · exact hX _
  · exact ⟨0, rfl⟩

theorem cv_real (hX : AllReal X) (hW : AllReal W) (hB : AllReal B) (q : Fin 4) (s : ℕ) (f : Fin 2752) : ∃ r : ℝ, cv X W B q s f = (r : EReal) := by
  obtain ⟨b, hb⟩ := hB (ix3 q 0 f)
  obtain ⟨w0, h0⟩ := hW (ix3 q 0 f)
  obtain ⟨w1, h1⟩ := hW (ix3 q 1 f)
  obtain ⟨w2, h2⟩ := hW (ix3 q 2 f)
  obtain ⟨x0, g0⟩ := row_real X hX q s f
  obtain ⟨x1, g1⟩ := row_real X hX q (s + 1) f
  obtain ⟨x2, g2⟩ := row_real X hX q (s + 2) f
  refine ⟨b + x0 * w0 + x1 * w1 + x2 * w2, ?_⟩
  unfold cv
  rw [hb, h0, h1, h2, g0, g1, g2]
  push_cast
  rfl

theorem gref_eq (hX : AllReal X) (hW : AllReal W) (hB : AllReal B) (hA : AllReal A) (p : Fin 2) (s : ℕ) (f : Fin 2752) (h : s < 2048) :
    gref X W B A p s f = dgate X W B A p s f := by
  obtain ⟨v, hv⟩ := cv_real X W B hX hW hB (vq p) s f
  obtain ⟨g, hg⟩ := cv_real X W B hX hW hB (gq p) s f
  obtain ⟨a, ha⟩ := hA (ix3 p ⟨s, h⟩ f)
  unfold gref dgate
  rw [da_of_lt A p s f h, ha, hv, hg, Ideal.logistic_coe]
  generalize (1 + Real.exp (-g))⁻¹ = z
  rw [show (1 : EReal) = ((1 : ℝ) : EReal) from rfl]
  norm_cast
  ring

theorem r40 (s : Fin 2048) (p k : Fin 2) (f : Fin 2752) :
    val_main_v40 (F := Ideal) X W B A (ix2 s (col (cq p k) f)) = if k.val = 0 then 0 else gref X W B A p s.val f := by
  unfold val_main_v40
  rw [← r39 X W B A s p f]
  generalize val_main_v39 (F := Ideal) X W B A = y
  pointwise [val_main_cst_1]
  by_cases hk : k.val = 0
  · rw [if_pos hk]
    split
    · exfalso; omega
    · rfl
  · rw [if_neg hk]
    split
    · exact at2 y _ _ _ _ (by first | omega | (dsimp only; omega) | rfl) (by first | omega | (dsimp only; omega) | rfl)
    · exfalso; omega

theorem r41 (s : Fin 2048) (p k : Fin 2) (f : Fin 2752) :
    val_main_v41 (F := Ideal) X W B A (ix2 s (col (cq p k) f)) = if k.val = 0 then dval X W B A p s.val f else 0 := by
  unfold val_main_v41
  rw [← r37 X W B A s p f]
  generalize val_main_v37 (F := Ideal) X W B A = y
  pointwise [val_main_cst_2]
  by_cases hk : k.val = 0
  · rw [if_pos hk]
    split
    · exact at2 y _ _ _ _ (by first | omega | (dsimp only; omega) | rfl) (by first | omega | (dsimp only; omega) | rfl)
    · exfalso; omega
  · rw [if_neg hk]
    split
    · exfalso; omega
    · rfl

variable (hX : AllReal X) (hW : AllReal W) (hB : AllReal B) (hA : AllReal A)
include hX hW hB hA

theorem r42 (s : Fin 2048) (p k : Fin 2) (f : Fin 2752) :
    val_main_v42 (F := Ideal) X W B A (ix2 s (col (cq p k) f)) = dk X W B A p k s.val f := by
  rw [val_main_v42_apply, r40, r41, gref_eq X W B A hX hW hB hA p s.val f s.isLt]
  unfold dk
  rw [if_pos s.isLt]
  split
  · exact zero_add _
  · exact add_zero _

theorem r47 (s : Fin 2048) (p k : Fin 2) (f : Fin 2752) :
    val_main_v47 (F := Ideal) X W B A (ix2 s (col (cq p k) f)) = dk X W B A p k s.val f * W (ix3 (cq p k) 2 f) := by
  rw [val_main_v47_apply, r42 X W B A hX hW hB hA, r46]; rfl
theorem r56 (s : Fin 2048) (p k : Fin 2) (f : Fin 2752) :
    val_main_v56 (F := Ideal) X W B A (ix2 s (col (cq p k) f)) = dk X W B A p k s.val f * W (ix3 (cq p k) 1 f) := by
  rw [val_main_v56_apply, r42 X W B A hX hW hB hA, r55]; rfl
theorem r70 (s : Fin 2048) (p k : Fin 2) (f : Fin 2752) :
    val_main_v70 (F := Ideal) X W B A (ix2 s (col (cq p k) f)) = dk X W B A p k s.val f * W (ix3 (cq p k) 0 f) := by
  rw [val_main_v70_apply, r42 X W B A hX hW hB hA, r69]; rfl

theorem r51 (s : Fin 2048) (p k : Fin 2) (f : Fin 2752) :
    val_main_v51 (F := Ideal) X W B A (ix2 (⟨2 + s.val, by omega⟩ : Fin 2050) (col (cq p k) f)) = dk X W B A p k s.val f * W (ix3 (cq p k) 2 f) := by
  unfold val_main_v51
  rw [← r47 X W B A hX hW hB hA s p k f]
  generalize val_main_v47 (F := Ideal) X W B A = y
  pointwise [val_main_cst_6]
  split
  · exact at2 y _ _ _ _ (by first | omega | (dsimp only; omega) | rfl) (by first | omega | (dsimp only; omega) | rfl)
  · exfalso; omega

theorem r61 (s : Fin 2048) (p k : Fin 2) (f : Fin 2752) :
    val_main_v61 (F := Ideal) X W B A (ix2 (⟨2 + s.val, by omega⟩ : Fin 2050) (col (cq p k) f)) = dk X W B A p k (s.val + 1) f * W (ix3 (cq p k) 1 f) := by
  unfold val_main_v61
  by_cases h : s.val + 1 < 2048
  · refine Eq.trans ?_ (r56 X W B A hX hW hB hA ⟨s.val + 1, h⟩ p k f)
    generalize val_main_v56 (F := Ideal) X W B A = y
    pointwise [val_main_cst_10]
    split
    · exact at2 y _ _ _ _ (by first | omega | (dsimp only; omega) | rfl) (by first | omega | (dsimp only; omega) | rfl)
    · exfalso; omega
  · rw [dk_of_le X W B A p k _ f (by omega), zero_mul]
    generalize val_main_v56 (F := Ideal) X W B A = y
    pointwise [val_main_cst_10]
    split
    · exfalso; omega
    · rfl

theorem r75 (s : Fin 2048) (p k : Fin 2) (f : Fin 2752) :
    val_main_v75 (F := Ideal) X W B A (ix2 (⟨2 + s.val, by omega⟩ : Fin 2050) (col (cq p k) f)) = dk X W B A p k (s.val + 2) f * W (ix3 (cq p k) 0 f) := by
  unfold val_main_v75
  by_cases h : s.val + 2 < 2048
  · refine Eq.trans ?_ (r70 X W B A hX hW hB hA ⟨s.val + 2, h⟩ p k f)
    generalize val_main_v70 (F := Ideal) X W B A = y
    pointwise [val_main_cst_16]
    split
    · exact at2 y _ _ _ _ (by first | omega | (dsimp only; omega) | rfl) (by first | omega | (dsimp only; omega) | rfl)
    · exfalso; omega
  · rw [dk_of_le X W B A p k _ f (by omega), zero_mul]
    generalize val_main_v70 (F := Ideal) X W B A = y
    pointwise [val_main_cst_16]
    split
    · exfalso; omega
    · rfl

theorem r81 (s : Fin 2048) (p k : Fin 2) (f : Fin 2752) :
    val_main_v81 (F := Ideal) X W B A (ix4 p k s f) = dhAt X W B A p k s.val f := by
  rw [val_main_v81_apply]
  show val_main_v80 (F := Ideal) X W B A (ix4 p k s f) = _
  rw [val_main_v80_apply, val_main_v79_apply, val_main_v78_apply]
  refine Eq.trans (congrArg (val_main_v76 (F := Ideal) X W B A) (?_ : _ = ix2 (⟨2 + s.val, by omega⟩ : Fin 2050) (col (cq p k) f))) ?_
  · funext a; apply Fin.ext; fin_cases a
    · show 2 + (((s.val * 2 + k.val) * 2 + p.val) * 2752 + f.val) / 11008 = 2 + s.val; omega
    · show (((s.val * 2 + k.val) * 2 + p.val) * 2752 + f.val) % 11008 = (p.val + 2 * k.val) * 2752 + f.val; omega
  · rw [val_main_v76_apply, val_main_v62_apply, r51 X W B A hX hW hB hA, r61 X W B A hX hW hB hA, r75 X W B A hX hW hB hA]
    rfl

theorem r44 (p k : Fin 2) (f : Fin 2752) :
    val_main_v44 (F := Ideal) X W B A (ix1 (col (cq p k) f)) = dwAt X W B A p k 2 f := by
  rw [val_main_v44_apply]
  refine from0 _ _ _ bits0 (Finset.sum_congr rfl fun s _ => ?_)
  rw [show idx_main_v44 (ix1 (col (cq p k) f)) s = ix2 s (col (cq p k) f) from by funext a; fin_cases a <;> rfl,
    val_main_v43_apply, r42 X W B A hX hW hB hA, r26]
  exact mul_comm _ _
theorem r53 (p k : Fin 2) (f : Fin 2752) :
    val_main_v53 (F := Ideal) X W B A (ix1 (col (cq p k) f)) = dwAt X W B A p k 1 f := by
  rw [val_main_v53_apply]
  refine from0 _ _ _ bits0 (Finset.sum_congr rfl fun s _ => ?_)
  rw [show idx_main_v53 (ix1 (col (cq p k) f)) s = ix2 s (col (cq p k) f) from by funext a; fin_cases a <;> rfl,
    val_main_v52_apply, r42 X W B A hX hW hB hA, r19]
  exact mul_comm _ _
theorem r67 (p k : Fin 2) (f : Fin 2752) :
    val_main_v67 (F := Ideal) X W B A (ix1 (col (cq p k) f)) = dwAt X W B A p k 0 f := by
  rw [val_main_v67_apply]
  refine from0 _ _ _ bits0 (Finset.sum_congr rfl fun s _ => ?_)
  rw [show idx_main_v67 (ix1 (col (cq p k) f)) s = ix2 s (col (cq p k) f) from by funext a; fin_cases a <;> rfl,
    val_main_v66_apply, r42 X W B A hX hW hB hA, r10]
  exact mul_comm _ _
theorem r63 (p k : Fin 2) (f : Fin 2752) :
    val_main_v63 (F := Ideal) X W B A (ix1 (col (cq p k) f)) = dbAt X W B A p k f := by
  rw [val_main_v63_apply]
  refine from0 _ _ _ bits0 (Finset.sum_congr rfl fun s _ => ?_)
  rw [show idx_main_v63 (ix1 (col (cq p k) f)) s = ix2 s (col (cq p k) f) from by funext a; fin_cases a <;> rfl,
    r42 X W B A hX hW hB hA]

theorem r49 (p k : Fin 2) (f : Fin 2752) :
    val_main_v49 (F := Ideal) X W B A (ix2 0 (col (cq p k) f)) = dwAt X W B A p k 2 f := by
  rw [val_main_v49_apply, val_main_v48_apply]
  refine from0 _ _ _ bits0 ((Fin.sum_univ_one _).trans ?_)
  rw [val_main_v45_apply]
  refine Eq.trans (congrArg _ ?_) (r44 X W B A hX hW hB hA p k f)
  funext a; apply Fin.ext; fin_cases a
  show 0 * 11008 + (col (cq p k) f).val = _
  exact (congrArg (· + (col (cq p k) f).val) (Nat.zero_mul _)).trans (Nat.zero_add _)
theorem r58 (p k : Fin 2) (f : Fin 2752) :
    val_main_v58 (F := Ideal) X W B A (ix2 0 (col (cq p k) f)) = dwAt X W B A p k 1 f := by
  rw [val_main_v58_apply, val_main_v57_apply]
  refine from0 _ _ _ bits0 ((Fin.sum_univ_one _).trans ?_)
  rw [val_main_v54_apply]
  refine Eq.trans (congrArg _ ?_) (r53 X W B A hX hW hB hA p k f)
  funext a; apply Fin.ext; fin_cases a
  show 0 * 11008 + (col (cq p k) f).val = _
  exact (congrArg (· + (col (cq p k) f).val) (Nat.zero_mul _)).trans (Nat.zero_add _)
theorem r72 (p k : Fin 2) (f : Fin 2752) :
    val_main_v72 (F := Ideal) X W B A (ix2 0 (col (cq p k) f)) = dwAt X W B A p k 0 f := by
  rw [val_main_v72_apply, val_main_v71_apply]
  refine from0 _ _ _ bits0 ((Fin.sum_univ_one _).trans ?_)
  rw [val_main_v68_apply]
  refine Eq.trans (congrArg _ ?_) (r67 X W B A hX hW hB hA p k f)
  funext a; apply Fin.ext; fin_cases a
  show 0 * 11008 + (col (cq p k) f).val = _
  exact (congrArg (· + (col (cq p k) f).val) (Nat.zero_mul _)).trans (Nat.zero_add _)
theorem r65 (p k : Fin 2) (f : Fin 2752) :
    val_main_v65 (F := Ideal) X W B A (ix1 (col (cq p k) f)) = dbAt X W B A p k f := by
  rw [val_main_v65_apply]
  refine from0 _ _ _ bits0 ((Fin.sum_univ_one _).trans ?_)
  rw [val_main_v64_apply]
  refine Eq.trans (congrArg _ ?_) (r63 X W B A hX hW hB hA p k f)
  funext a; apply Fin.ext; fin_cases a
  show 0 * 11008 + (col (cq p k) f).val = _
  exact (congrArg (· + (col (cq p k) f).val) (Nat.zero_mul _)).trans (Nat.zero_add _)

theorem r74 (j : Fin 3) (p k : Fin 2) (f : Fin 2752) :
    val_main_v74 (F := Ideal) X W B A (ix2 j (col (cq p k) f)) = dwAt X W B A p k j f := by
  rw [val_main_v74_apply, val_main_v60_apply]
  unfold val_main_v50 val_main_v59 val_main_v73
  have e2 := r49 X W B A hX hW hB hA p k f
  have e1 := r58 X W B A hX hW hB hA p k f
  have e0 := r72 X W B A hX hW hB hA p k f
  generalize val_main_v49 (F := Ideal) X W B A = y2 at *
  generalize val_main_v58 (F := Ideal) X W B A = y1 at *
  generalize val_main_v72 (F := Ideal) X W B A = y0 at *
  pointwise [val_main_cst_5, val_main_cst_9, val_main_cst_15]
  have hj : j.val = 0 ∨ j.val = 1 ∨ j.val = 2 := by omega
  rcases hj with h | h | h
  · have ej : j = 0 := Fin.ext h
    refine Eq.trans ?_ (e0.trans (by rw [ej]))
    refine add3 _ _ _ (0) (0) (y0 (ix2 0 (col (cq p k) f))) _ ?_ ?_ ?_ ((congrArg (· + _) (zero_add (0 : EReal))).trans (zero_add _))
    · split
      · exfalso; omega
      · rfl
    · split
      · exfalso; omega
      · rfl
    · split
      · exact at2 y0 _ _ _ _ (by first | omega | (dsimp only; omega) | rfl) (by first | omega | (dsimp only; omega) | rfl)
      · exfalso; omega
  · have ej : j = 1 := Fin.ext h
    refine Eq.trans ?_ (e1.trans (by rw [ej]))
    refine add3 _ _ _ (0) (y1 (ix2 0 (col (cq p k) f))) (0) _ ?_ ?_ ?_ ((congrArg (· + (0 : EReal)) (zero_add _)).trans (add_zero _))
    · split
      · exfalso; omega
      · rfl
    · split
      · exact at2 y1 _ _ _ _ (by first | omega | (dsimp only; omega) | rfl) (by first | omega | (dsimp only; omega) | rfl)
      · exfalso; omega
    · split
      · exfalso; omega
      · rfl
  · have ej : j = 2 := Fin.ext h
    refine Eq.trans ?_ (e2.trans (by rw [ej]))
    refine add3 _ _ _ (y2 (ix2 0 (col (cq p k) f))) (0) (0) _ ?_ ?_ ?_ ((congrArg (· + (0 : EReal)) (add_zero _)).trans (add_zero _))
    · split
      · exact at2 y2 _ _ _ _ (by first | omega | (dsimp only; omega) | rfl) (by first | omega | (dsimp only; omega) | rfl)
      · exfalso; omega
    · split
      · exfalso; omega
      · rfl
    · split
      · exfalso; omega
      · rfl

theorem r83 (j : Fin 3) (p k : Fin 2) (f : Fin 2752) :
    val_main_v83 (F := Ideal) X W B A (ix4 p k j f) = dwAt X W B A p k j f := by
  rw [val_main_v83_apply, val_main_v82_apply]
  refine Eq.trans (congrArg _ ?_) (r74 X W B A hX hW hB hA j p k f)
  funext a; apply Fin.ext; fin_cases a
  · show (((j.val * 2 + k.val) * 2 + p.val) * 2752 + f.val) / 11008 = j.val; omega
  · show (((j.val * 2 + k.val) * 2 + p.val) * 2752 + f.val) % 11008 = (p.val + 2 * k.val) * 2752 + f.val; omega

theorem r85 (p k : Fin 2) (f : Fin 2752) :
    val_main_v85 (F := Ideal) X W B A (ix4 p k 0 f) = dbAt X W B A p k f := by
  rw [val_main_v85_apply, val_main_v84_apply]
  refine Eq.trans (congrArg _ ?_) (r65 X W B A hX hW hB hA p k f)
  funext a; apply Fin.ext; fin_cases a
  show ((0 * 2 + k.val) * 2 + p.val) * 2752 + f.val = (p.val + 2 * k.val) * 2752 + f.val; omega

end Cert.ReferenceIdeal.Grad
-- ==== Proof.Grad.lean ====
module

public import proofs.«01_k».proof.Defs
public import proofs.«01_k».proof.Proof.Value
public import proofs.«01_k».proof.Proof.Ref
public import proofs.«01_k».proof.Proof.Gen.Kernel.Frame
public import proofs.«01_k».proof.Proof.Gen.ReferenceIdeal.Run
public import Idealize.ShloMosaic.Lib.Claim

@[expose] public section

/-! The gated convolution's gradient: the kernel's three arrays are the reference's, at finite arguments. -/

set_option maxRecDepth 16384
noncomputable section
open Idealize.ShloMosaic Idealize.ShloMosaic.TcCoe Idealize.SL.Sem
namespace Cert.Grad

instance preFacts : Cert.Pre_finite.Facts where
  bcast_S_S4x2048x2752 := by decide
  bcast_S_S4x3x2752 := by decide
  bcast_S_S4x1x2752 := by decide
  bcast_S_S2x2048x2752 := by decide

/-- An extended real below plus infinity in absolute value is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x with
  | coe r => exact ⟨r, rfl⟩
  | top => simp [Ideal.cmp] at h
  | bot => simp [Ideal.cmp] at h

variable (m : (ℓ : Loc Cert.KernelIdeal.nD Cert.KernelIdeal.τ Cert.KernelIdeal.sig) → Buf (Elt Ideal) ℓ)

open Cert.ReferenceIdeal.Grad (AllReal)
open Cert.KernelIdeal.Value (HX WX BX DX)

theorem reals (h : Cert.Pre_KernelIdeal_finite m) (c : Dev Cert.KernelIdeal.nD) :
    AllReal (HX m c) ∧ AllReal (WX m c) ∧ AllReal (BX m c) ∧ AllReal (DX m c) := by
  obtain ⟨h0, h1, h2, h3⟩ := h c
  exact ⟨fun i => real_of_abs_lt _ (congrFun h0 i), fun i => real_of_abs_lt _ (congrFun h1 i),
    fun i => real_of_abs_lt _ (congrFun h2 i), fun i => real_of_abs_lt _ (congrFun h3 i)⟩

theorem quiet_kernel : Cert.quiescent_Kernel (hKernel := Cert.Kernel.Gen.facts) := fun m g _ => Cert.Kernel.Gen.frame m g

theorem quiet_ideal : Cert.quiescent_KernelIdeal (hKernelIdeal := Cert.KernelIdeal.Gen.facts) :=
  fun m g _ => Cert.KernelIdeal.Gen.frame m g

theorem quiet_ideal_pre : Cert.quiescent_KernelIdeal_pre_finite (hKernelIdeal := Cert.KernelIdeal.Gen.facts) :=
  fun m g _ => Cert.KernelIdeal.Gen.frame m g

theorem quiet_ref : Cert.quiescent_ReferenceIdeal (hReferenceIdeal := Cert.ReferenceIdeal.Gen.facts) := by
  intro m g _
  exact (θ_run Cert.ReferenceIdeal.defs _ _).mono (fun r h => ⟨fun c => (h c).2.2.2, funext fun x => nomatch x.2⟩) (Cert.ReferenceIdeal.Value.run m g)

theorem quiet_ref_pre : Cert.quiescent_ReferenceIdeal_pre_finite (hReferenceIdeal := Cert.ReferenceIdeal.Gen.facts) := by
  intro m g _
  exact (θ_run Cert.ReferenceIdeal.defs _ _).mono (fun r h => ⟨fun c => (h c).2.2.2, funext fun x => nomatch x.2⟩) (Cert.ReferenceIdeal.Value.run m g)

variable (m' : (ℓ : Loc Cert.ReferenceIdeal.nD Cert.ReferenceIdeal.τ Cert.ReferenceIdeal.sig) → Buf (Elt Ideal) ℓ)

/-- The two programs' arguments are equal on one device. -/
def Agree (c : Dev Cert.KernelIdeal.nD) : Prop :=
  m' ((c.tc : Thread Cert.ReferenceIdeal.nD Cert.ReferenceIdeal.τ).loc Cert.ReferenceIdeal.main_arg0) = HX m c
  ∧ m' ((c.tc : Thread Cert.ReferenceIdeal.nD Cert.ReferenceIdeal.τ).loc Cert.ReferenceIdeal.main_arg1) = WX m c
  ∧ m' ((c.tc : Thread Cert.ReferenceIdeal.nD Cert.ReferenceIdeal.τ).loc Cert.ReferenceIdeal.main_arg2) = BX m c
  ∧ m' ((c.tc : Thread Cert.ReferenceIdeal.nD Cert.ReferenceIdeal.τ).loc Cert.ReferenceIdeal.main_arg3) = DX m c

theorem final81 (hp : Cert.Pre_KernelIdeal_finite m) (c : Dev Cert.KernelIdeal.nD) (ha : Agree m m' c) :
    Cert.ReferenceIdeal.Value.res_main_v81 m' c = (Cert.KernelIdeal.Gen.dats m 0 c).arrAt 12 (Cert.KernelIdeal.cfgs 0).N := by
  obtain ⟨h0, h1, h2, h3⟩ := reals m hp c
  obtain ⟨e0, e1, e2, e3⟩ := ha
  rw [Cert.ReferenceIdeal.Read.val_main_v81_eq, e0, e1, e2, e3, Cert.KernelIdeal.Value.final12 m c]
  funext i
  rw [eq_ix4 i]
  exact Cert.ReferenceIdeal.Grad.r81 (HX m c) (WX m c) (BX m c) (DX m c) h0 h1 h2 h3 (i 2) (i 0) (i 1) (i 3)

theorem final83 (hp : Cert.Pre_KernelIdeal_finite m) (c : Dev Cert.KernelIdeal.nD) (ha : Agree m m' c) :
    Cert.ReferenceIdeal.Value.res_main_v83 m' c = (Cert.KernelIdeal.Gen.dats m 0 c).arrAt 13 (Cert.KernelIdeal.cfgs 0).N := by
  obtain ⟨h0, h1, h2, h3⟩ := reals m hp c
  obtain ⟨e0, e1, e2, e3⟩ := ha
  rw [Cert.ReferenceIdeal.Read.val_main_v83_eq, e0, e1, e2, e3, Cert.KernelIdeal.Value.final13 m c]
  funext i
  rw [eq_ix4 i]
  exact Cert.ReferenceIdeal.Grad.r83 (HX m c) (WX m c) (BX m c) (DX m c) h0 h1 h2 h3 (i 2) (i 0) (i 1) (i 3)

theorem final85 (hp : Cert.Pre_KernelIdeal_finite m) (c : Dev Cert.KernelIdeal.nD) (ha : Agree m m' c) :
    Cert.ReferenceIdeal.Value.res_main_v85 m' c = (Cert.KernelIdeal.Gen.dats m 0 c).arrAt 14 (Cert.KernelIdeal.cfgs 0).N := by
  obtain ⟨h0, h1, h2, h3⟩ := reals m hp c
  obtain ⟨e0, e1, e2, e3⟩ := ha
  rw [Cert.ReferenceIdeal.Read.val_main_v85_eq, e0, e1, e2, e3, Cert.KernelIdeal.Value.final14 m c]
  funext i
  rw [show i = ix4 (i 0) (i 1) 0 (i 3) from (eq_ix4 i).trans (congrArg (fun z => ix4 (i 0) (i 1) z (i 3)) (Subsingleton.elim (α := Fin 1) _ _))]
  exact Cert.ReferenceIdeal.Grad.r85 (HX m c) (WX m c) (BX m c) (DX m c) h0 h1 h2 h3 (i 0) (i 1) (i 3)

theorem algebraic : Cert.algebraic_KernelIdeal_ReferenceIdeal_pre_finite (hKernelIdeal := Cert.KernelIdeal.Gen.facts)
    (hReferenceIdeal := Cert.ReferenceIdeal.Gen.facts) := by
  pair_intro
  · run_from Cert.KernelIdeal.Gen.run_main m g
  · run_from Cert.ReferenceIdeal.Value.run m' g'
    · exact final81 m m' hpre c (hagree c)
    · exact final83 m m' hpre c (hagree c)
    · exact final85 m m' hpre c (hagree c)

end Cert.Grad
-- ==== Proof.Up.lean ====
module

public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import Idealize.ShloMosaic.Lib.Claim
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open scoped BigOperators

namespace Cert.UpIdeal.Product
open Cert.UpIdeal Cert.UpIdeal.Gen
variable (m : (ℓ : Loc nD τ sig) → Buf (Elt Ideal) ℓ)

/-- The column of the whole gated width at which column `f` of shard `q` lies. -/
def col (q : Fin 4) (f : Fin 2752) : Fin 11008 := ⟨q.val * 2752 + f.val, by omega⟩

/-- The up-projection, cut into shards. -/
def arr (X : FVec Ideal S2048x2048 .f32) (W : FVec Ideal S2048x11008 .f32) : FVec Ideal S4x2048x2752 .f32 :=
  fun i => ∑ k : Fin 2048, X (ix2 (i 1) k) * W (ix2 k (col (i 0) (i 2)))

theorem idx : ∀ t : Fin cfg0.N, win0_0.index t = ![(grid0.coords t 1).val, 0]
    ∧ win0_1.index t = ![(grid0.coords t 0).val, 0, 0]
    ∧ win0_2.index t = ![(grid0.coords t 0).val, (grid0.coords t 1).val, 0] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr, col]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.UpIdeal.Product

namespace Cert.UpRefIdeal.Product
open Cert.UpRefIdeal Cert.UpRefIdeal.Read

theorem eq (X : FVec Ideal S2048x2048 .f32) (W : FVec Ideal S2048x11008 .f32) :
    val_main_v2 (F := Ideal) X W = Cert.UpIdeal.Product.arr X W := by
  funext i
  pointwise [val_main_v2, val_main_v1, val_main_v0, Cert.UpIdeal.Product.arr, Cert.UpIdeal.Product.col]

end Cert.UpRefIdeal.Product

namespace Cert.UpClaim

theorem quiet : Cert.quiescent_Up (hUp := Cert.Up.Gen.facts) := fun m g _ => Cert.Up.Gen.frame m g

theorem quiet_ideal : Cert.quiescent_UpIdeal (hUpIdeal := Cert.UpIdeal.Gen.facts) := fun m g _ => Cert.UpIdeal.Gen.frame m g

theorem quiet_ref : Cert.quiescent_UpRefIdeal (hUpRefIdeal := Cert.UpRefIdeal.Gen.facts) := fun m g _ =>
  (θ_run Cert.UpRefIdeal.defs _ _).mono (fun r h => ⟨fun c => (h c).2, funext fun x => nomatch x.2⟩) (Cert.UpRefIdeal.Value.run m g)

theorem algebraic : Cert.algebraic_UpIdeal_UpRefIdeal (hUpIdeal := Cert.UpIdeal.Gen.facts)
    (hUpRefIdeal := Cert.UpRefIdeal.Gen.facts) := by
  pair_intro
  · run_from Cert.UpIdeal.Gen.run_main m g
  · run_from Cert.UpRefIdeal.Value.run m' g'
    obtain ⟨e0, e1⟩ := hagree c
    rw [Cert.UpIdeal.Product.final m c, ← e0, ← e1]
    exact Cert.UpRefIdeal.Product.eq _ _

end Cert.UpClaim
-- ==== Proof.UpDx.lean ====
module

public import proofs.«01_k».proof.Defs
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.UpDxIdeal.Product
open Cert.UpDxIdeal Cert.UpDxIdeal.Gen
variable (m : (ℓ : Loc nD τ sig) → Buf (Elt Ideal) ℓ)

/-- The gradient of the block's input. -/
def arr (D : FVec Ideal S2048x11008 .f32) (W : FVec Ideal S2048x11008 .f32) : FVec Ideal S2048x2048 .f32 :=
  fun i => ∑ k : Fin 11008, D (ix2 (i 0) k) * W (ix2 (i 1) k)

theorem idx : ∀ t : Fin cfg0.N, win0_0.index t = ![(grid0.coords t 2).val % 2, (grid0.coords t 2).val / 2, (grid0.coords t 0).val, 0]
    ∧ win0_1.index t = ![(grid0.coords t 2).val, 0, (grid0.coords t 1).val]
    ∧ win0_2.index t = ![(grid0.coords t 0).val, (grid0.coords t 1).val] :=
  (by decide +kernel : ∀ t : Fin grid0.N, _)

theorem idx_val : ∀ t : Fin cfg0.N, win0_0.index t = ![t.val % 4 % 2, t.val % 4 / 2, t.val / 8, 0]
    ∧ win0_1.index t = ![t.val % 4, 0, t.val / 4 % 2]
    ∧ win0_2.index t = ![t.val / 8, t.val / 4 % 2] :=
  (by decide +kernel : ∀ t : Fin grid0.N, _)

/-- The block of the gradient at a point. -/
def lhs (c : Dev nD) (t : Fin cfg0.N) : S1x1x1024x2752.Idx → EReal := iblk m c 0 t

/-- The block of the weight at a point. -/
def rhs (c : Dev nD) (t : Fin cfg0.N) : S1x2752x1024.Idx → EReal := iblk m c 1 t

/-- What one shard contributes to a tile. -/
def part (c : Dev nD) (t : Fin cfg0.N) (y : S1024x1024.Idx) : EReal :=
  ∑ f : Fin 2752, lhs m c t (ix4 0 0 (y 0) f) * rhs m c t (ix3 0 f (y 1))

theorem first (c : Dev nD) (t : Fin cfg0.N) (h : t.val % 4 = 0) (y : S1024x1024.Idx) :
    (outsAt0 m c t.val t.isLt).2 y = 0 + part m c t y := by
  rw [outsAt0_A m c t h (by omega) (by omega)]
  frame_out
  refine Eq.trans ?_ (zero_add _).symm
  pointwise [k0_pay1, part, lhs, rhs]

theorem later (c : Dev nD) (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay2, part, lhs, rhs]
    rw [read_unread_whole]
  · rw [outsAt0_B m c t h (by omega) h2]
    frame_out
    pointwise [k0_pay2, part, lhs, rhs]
    rw [read_unread_whole]

theorem same (c : Dev nD) (t : Fin cfg0.N) (h : t.val % 4 = 3) :
    (outsAt0 m c t.val t.isLt).1 = (outsAt0 m c t.val t.isLt).2 := by
  rw [outsAt0_C m c t (by omega) (by omega) h]
  frame_out

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  blk_simp
  rw [after0_2, same m c t hr, Pipeline.eq_sum_fin_of_reset_step_apply_of_flush (fun n h => (outsAt0 m c n h).2) 4 (fun _ => 0)
    (fun t y => part m c t y) (fun t h j => first m c t h j) (fun t h j => later m c t h j) t hr _, zero_add]
  refine Fin.sum_mul_add_congr fun s k hl => ?_
  have hs := s.isLt
  have ht := t.isLt
  blk_point [lhs, rhs, iblk, V, idx_val ⟨4 * (t.val / 4) + s.val, Pipeline.run_point_lt_of_flush t hr s⟩, idx_val t]

end Cert.UpDxIdeal.Product

namespace Cert.UpDxRefIdeal.Product
open Cert.UpDxRefIdeal Cert.UpDxRefIdeal.Read

theorem eq (D : FVec Ideal S2048x11008 .f32) (W : FVec Ideal S2048x11008 .f32) :
    val_main_v2 (F := Ideal) D W = Cert.UpDxIdeal.Product.arr D W := by
  funext i
  pointwise [val_main_v2, Cert.UpDxIdeal.Product.arr]

end Cert.UpDxRefIdeal.Product

namespace Cert.UpDxClaim

theorem quiet : Cert.quiescent_UpDx (hUpDx := Cert.UpDx.Gen.facts) := fun m g _ => Cert.UpDx.Gen.frame m g

theorem quiet_ideal : Cert.quiescent_UpDxIdeal (hUpDxIdeal := Cert.UpDxIdeal.Gen.facts) := fun m g _ => Cert.UpDxIdeal.Gen.frame m g

theorem quiet_ref : Cert.quiescent_UpDxRefIdeal (hUpDxRefIdeal := Cert.UpDxRefIdeal.Gen.facts) := fun m g _ =>
  (θ_run Cert.UpDxRefIdeal.defs _ _).mono (fun r h => ⟨fun c => (h c).2, funext fun x => nomatch x.2⟩) (Cert.UpDxRefIdeal.Value.run m g)

theorem algebraic : Cert.algebraic_UpDxIdeal_UpDxRefIdeal (hUpDxIdeal := Cert.UpDxIdeal.Gen.facts)
    (hUpDxRefIdeal := Cert.UpDxRefIdeal.Gen.facts) := by
  pair_intro
  · run_from Cert.UpDxIdeal.Gen.run_main m g
  · run_from Cert.UpDxRefIdeal.Value.run m' g'
    obtain ⟨e0, e1⟩ := hagree c
    rw [Cert.UpDxIdeal.Product.final m c, ← e0, ← e1]
    exact Cert.UpDxRefIdeal.Product.eq _ _

end Cert.UpDxClaim
-- ==== Proof.UpDw.lean ====
module

public import proofs.«01_k».proof.Defs
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import Idealize.ShloMosaic.Lib.Claim
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open scoped BigOperators

namespace Cert.UpDwIdeal.Product
open Cert.UpDwIdeal Cert.UpDwIdeal.Gen
variable (m : (ℓ : Loc nD τ sig) → Buf (Elt Ideal) ℓ)

/-- The column of the whole gated width at which column `f` of shard `q` lies. -/
def col (q : Fin 4) (f : Fin 2752) : Fin 11008 := ⟨q.val * 2752 + f.val, by omega⟩

/-- The weight's gradient, cut into shards. -/
def arr (X : FVec Ideal S2048x2048 .f32) (D : FVec Ideal S2048x11008 .f32) : FVec Ideal S4x2752x2048 .f32 :=
  fun i => ∑ k : Fin 2048, D (ix2 k (col (i 0) (i 1))) * X (ix2 k (i 2))

theorem idx : ∀ t : Fin cfg0.N, win0_0.index t = ![(grid0.coords t 0).val % 2, (grid0.coords t 0).val / 2, 0, 0]
    ∧ win0_1.index t = ![0, (grid0.coords t 1).val]
    ∧ win0_2.index t = ![(grid0.coords t 0).val, 0, (grid0.coords t 1).val] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr, col]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.UpDwIdeal.Product

namespace Cert.UpDwRefIdeal.Product
open Cert.UpDwRefIdeal Cert.UpDwRefIdeal.Read

theorem eq (X : FVec Ideal S2048x2048 .f32) (D : FVec Ideal S2048x11008 .f32) :
    val_main_v5 (F := Ideal) X D = Cert.UpDwIdeal.Product.arr X D := by
  funext i
  pointwise [val_main_v5, val_main_v4, val_main_v3, val_main_v2, Cert.UpDwIdeal.Product.arr, Cert.UpDwIdeal.Product.col]

end Cert.UpDwRefIdeal.Product

namespace Cert.UpDwClaim

theorem quiet : Cert.quiescent_UpDw (hUpDw := Cert.UpDw.Gen.facts) := fun m g _ => Cert.UpDw.Gen.frame m g

theorem quiet_ideal : Cert.quiescent_UpDwIdeal (hUpDwIdeal := Cert.UpDwIdeal.Gen.facts) := fun m g _ => Cert.UpDwIdeal.Gen.frame m g

theorem quiet_ref : Cert.quiescent_UpDwRefIdeal (hUpDwRefIdeal := Cert.UpDwRefIdeal.Gen.facts) := fun m g _ =>
  (θ_run Cert.UpDwRefIdeal.defs _ _).mono (fun r h => ⟨fun c => (h c).2, funext fun x => nomatch x.2⟩) (Cert.UpDwRefIdeal.Value.run m g)

theorem algebraic : Cert.algebraic_UpDwIdeal_UpDwRefIdeal (hUpDwIdeal := Cert.UpDwIdeal.Gen.facts)
    (hUpDwRefIdeal := Cert.UpDwRefIdeal.Gen.facts) := by
  pair_intro
  · run_from Cert.UpDwIdeal.Gen.run_main m g
  · run_from Cert.UpDwRefIdeal.Value.run m' g'
    obtain ⟨e0, e1⟩ := hagree c
    rw [Cert.UpDwIdeal.Product.final m c, ← e0, ← e1]
    exact Cert.UpDwRefIdeal.Product.eq _ _

end Cert.UpDwClaim
-- ==== Proof.Down.lean ====
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.DownIdeal.Product
open Cert.DownIdeal Cert.DownIdeal.Gen
variable (m : (ℓ : Loc nD τ sig) → Buf (Elt Ideal) ℓ)

/-- The down-projection. -/
def arr (A : FVec Ideal S2048x5504 .f32) (W : FVec Ideal S5504x2048 .f32) : FVec Ideal S2048x2048 .f32 :=
  fun i => ∑ k : Fin 5504, A (ix2 (i 0) k) * W (ix2 k (i 1))

theorem idx_val : ∀ t : Fin cfg0.N, win0_0.index t = ![t.val % 2, t.val / 8, 0]
    ∧ win0_1.index t = ![t.val % 2, 0, t.val / 2 % 4]
    ∧ win0_2.index t = ![t.val / 8, t.val / 2 % 4] :=
  (by decide +kernel : ∀ t : Fin grid0.N, _)

/-- The left factor's block at a point. -/
def lhs (c : Dev nD) (t : Fin cfg0.N) : S1x1024x2752.Idx → EReal := iblk m c 0 t

/-- The right factor's block at a point. -/
def rhs (c : Dev nD) (t : Fin cfg0.N) : S1x2752x512.Idx → EReal := iblk m c 1 t

/-- What one shard contributes to a tile. -/
def part (c : Dev nD) (t : Fin cfg0.N) (y : S1024x512.Idx) : EReal :=
  ∑ f : Fin 2752, lhs m c t (ix3 0 (y 0) f) * rhs m c t (ix3 0 f (y 1))

theorem first (c : Dev nD) (t : Fin cfg0.N) (h : t.val % 2 = 0) (y : S1024x512.Idx) :
    (outsAt0 m c t.val t.isLt).2 y = 0 + part m c t y := by
  rw [outsAt0_A m c t h (by omega) (by omega)]
  frame_out
  refine Eq.trans ?_ (zero_add _).symm
  pointwise [k0_pay1, part, lhs, rhs]

theorem later (c : Dev nD) (t : Fin cfg0.N) (h : ¬t.val % 2 = 0) (y : S1024x512.Idx) :
    (outsAt0 m c t.val t.isLt).2 y = (outsAt0 m c (t.val - 1) (Nat.lt_of_le_of_lt (Nat.sub_le _ _) t.isLt)).2 y + part m c t y := by
  rw [outsAt0_B m c t h (by omega) (by omega)]
  frame_out
  pointwise [k0_pay2, part, lhs, rhs]
  rw [read_unread_whole]

theorem same (c : Dev nD) (t : Fin cfg0.N) (h : t.val % 2 = 1) :
    (outsAt0 m c t.val t.isLt).1 = (outsAt0 m c t.val t.isLt).2 := by
  rw [outsAt0_B m c t (by omega) (by omega) h]
  frame_out

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  have hr : t.val % 2 = 1 := (flush0_2 t).mp hf
  blk_simp
  rw [after0_2, same m c t hr, Pipeline.eq_sum_fin_of_reset_step_apply_of_flush (fun n h => (outsAt0 m c n h).2) 2 (fun _ => 0)
    (fun t y => part m c t y) (fun t h j => first m c t h j) (fun t h j => later m c t h j) t hr _, zero_add]
  refine Fin.sum_mul_add_congr fun s k hl => ?_
  have hs := s.isLt
  have ht := t.isLt
  blk_point [lhs, rhs, iblk, V, idx_val ⟨2 * (t.val / 2) + s.val, Pipeline.run_point_lt_of_flush t hr s⟩, idx_val t]

end Cert.DownIdeal.Product

namespace Cert.DownRefIdeal.Product
open Cert.DownRefIdeal Cert.DownRefIdeal.Read

theorem eq (A : FVec Ideal S2048x5504 .f32) (W : FVec Ideal S5504x2048 .f32) :
    val_main_v0 (F := Ideal) A W = Cert.DownIdeal.Product.arr A W := by
  funext i
  pointwise [val_main_v0, Cert.DownIdeal.Product.arr]

end Cert.DownRefIdeal.Product

namespace Cert.DownClaim

theorem quiet : Cert.quiescent_Down (hDown := Cert.Down.Gen.facts) := fun m g _ => Cert.Down.Gen.frame m g

theorem quiet_ideal : Cert.quiescent_DownIdeal (hDownIdeal := Cert.DownIdeal.Gen.facts) := fun m g _ => Cert.DownIdeal.Gen.frame m g

theorem quiet_ref : Cert.quiescent_DownRefIdeal (hDownRefIdeal := Cert.DownRefIdeal.Gen.facts) := fun m g _ =>
  (θ_run Cert.DownRefIdeal.defs _ _).mono (fun r h => ⟨fun c => (h c).2, funext fun x => nomatch x.2⟩) (Cert.DownRefIdeal.Value.run m g)

theorem algebraic : Cert.algebraic_DownIdeal_DownRefIdeal (hDownIdeal := Cert.DownIdeal.Gen.facts)
    (hDownRefIdeal := Cert.DownRefIdeal.Gen.facts) := by
  pair_intro
  · run_from Cert.DownIdeal.Gen.run_main m g
  · run_from Cert.DownRefIdeal.Value.run m' g'
    obtain ⟨e0, e1⟩ := hagree c
    rw [Cert.DownIdeal.Product.final m c, ← e0, ← e1]
    exact Cert.DownRefIdeal.Product.eq _ _

end Cert.DownClaim
-- ==== Proof.DownDact.lean ====
module

public import proofs.«01_k».proof.Defs
public import proofs.«01_k».proof.Proof.Gen.DownDact.Frame
public import proofs.«01_k».proof.Proof.Gen.DownDactIdeal.Frame
public import proofs.«01_k».proof.Proof.Gen.DownDactIdeal.Value
public import proofs.«01_k».proof.Proof.Gen.DownDactRefIdeal.Run
public import proofs.«01_k».proof.Proof.Gen.DownDactRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.DownDactIdeal.Product
open Cert.DownDactIdeal Cert.DownDactIdeal.Gen
variable (m : (ℓ : Loc nD τ sig) → Buf (Elt Ideal) ℓ)

/-- The column of the whole width at which column `f` of shard `q` lies. -/
def col (q : Fin 2) (f : Fin 2752) : Fin 5504 := ⟨q.val * 2752 + f.val, by omega⟩

/-- The gradient of the gated activations, cut into shards. -/
def arr (D : FVec Ideal S2048x2048 .f32) (W : FVec Ideal S5504x2048 .f32) : FVec Ideal S2x2048x2752 .f32 :=
  fun i => ∑ k : Fin 2048, D (ix2 (i 1) k) * W (ix2 (col (i 0) (i 2)) k)

theorem idx : ∀ t : Fin cfg0.N, win0_0.index t = ![(grid0.coords t 1).val, 0]
    ∧ win0_1.index t = ![(grid0.coords t 0).val, 0, 0]
    ∧ win0_2.index t = ![(grid0.coords t 0).val, (grid0.coords t 1).val, 0] :=
  (by decide +kernel : ∀ t : Fin grid0.N, _)

/-- The tile's product, as a sum over the blocks. -/
theorem body (c : Dev nD) (t : Fin cfg0.N) (y : S1x512x2752.Idx) :
    k0_pay1 (iblk m c 0 t) (iblk m c 1 t) y
      = ∑ x : Fin 2048, (show S512x2048.Idx → EReal from iblk m c 0 t) (ix2 (y 1) x)
        * (show S1x2752x2048.Idx → EReal from iblk m c 1 t) (ix3 0 (y 2) x) := by
  pointwise [k0_pay1]

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  rw [body m c t y]
  unfold arr
  refine Finset.sum_congr rfl fun x _ => ?_
  have h0 : (show S512x2048.Idx → EReal from iblk m c 0 t) (ix2 (y 1) x)
      = m ((c : Thread nD τ).loc main_arg0) (ix2 ((((cfg0.win 2).blk t).view.emb y) 1) x) := by
    blk_point [iblk, V, idx t]
  have h1 : (show S1x2752x2048.Idx → EReal from iblk m c 1 t) (ix3 0 (y 2) x)
      = m ((c : Thread nD τ).loc main_arg1) (ix2 (col ((((cfg0.win 2).blk t).view.emb y) 0) ((((cfg0.win 2).blk t).view.emb y) 2)) x) := by
    unfold iblk V
    blk_simp [idx t]
    entry_read
    generalize hz : m (c.tc.loc main_arg1) (ix2 (col ((win0_2.blk t).view.emb y 0) ((win0_2.blk t).view.emb y 2)) x) = z
    pointwise
    rw [← hz]
    blk_ext [col, idx t]
  rw [h0, h1]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.DownDactIdeal.Product

namespace Cert.DownDactRefIdeal.Product
open Cert.DownDactRefIdeal Cert.DownDactRefIdeal.Read

theorem eq (D : FVec Ideal S2048x2048 .f32) (W : FVec Ideal S5504x2048 .f32) :
    val_main_v4 (F := Ideal) D W = Cert.DownDactIdeal.Product.arr D W := by
  funext i
  pointwise [val_main_v4, val_main_v3, val_main_v2, val_main_v1, val_main_v0, Cert.DownDactIdeal.Product.arr, Cert.DownDactIdeal.Product.col]

end Cert.DownDactRefIdeal.Product

namespace Cert.DownDactClaim

theorem quiet : Cert.quiescent_DownDact (hDownDact := Cert.DownDact.Gen.facts) := fun m g _ => Cert.DownDact.Gen.frame m g

theorem quiet_ideal : Cert.quiescent_DownDactIdeal (hDownDactIdeal := Cert.DownDactIdeal.Gen.facts) := fun m g _ => Cert.DownDactIdeal.Gen.frame m g

theorem quiet_ref : Cert.quiescent_DownDactRefIdeal (hDownDactRefIdeal := Cert.DownDactRefIdeal.Gen.facts) := fun m g _ =>
  (θ_run Cert.DownDactRefIdeal.defs _ _).mono (fun r h => ⟨fun c => (h c).2, funext fun x => nomatch x.2⟩) (Cert.DownDactRefIdeal.Value.run m g)

theorem algebraic : Cert.algebraic_DownDactIdeal_DownDactRefIdeal (hDownDactIdeal := Cert.DownDactIdeal.Gen.facts)
    (hDownDactRefIdeal := Cert.DownDactRefIdeal.Gen.facts) := by
  pair_intro
  · run_from Cert.DownDactIdeal.Gen.run_main m g
  · run_from Cert.DownDactRefIdeal.Value.run m' g'
    obtain ⟨e0, e1⟩ := hagree c
    rw [Cert.DownDactIdeal.Product.final m c, ← e0, ← e1]
    exact Cert.DownDactRefIdeal.Product.eq _ _

end Cert.DownDactClaim
-- ==== Proof.DownDw.lean ====
module

public import proofs.«01_k».proof.Defs
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.DownDwIdeal.Product
open Cert.DownDwIdeal Cert.DownDwIdeal.Gen
variable (m : (ℓ : Loc nD τ sig) → Buf (Elt Ideal) ℓ)

/-- The column of the whole width at which column `f` of shard `q` lies. -/
def col (q : Fin 2) (f : Fin 2752) : Fin 5504 := ⟨q.val * 2752 + f.val, by omega⟩

/-- The gradient of the down-projection's weight, cut into shards. -/
def arr (A : FVec Ideal S2048x5504 .f32) (D : FVec Ideal S2048x2048 .f32) : FVec Ideal S2x2752x2048 .f32 :=
  fun i => ∑ k : Fin 2048, A (ix2 k (col (i 0) (i 1))) * D (ix2 k (i 2))

theorem idx : ∀ t : Fin cfg0.N, win0_0.index t = ![(grid0.coords t 0).val, 0, 0]
    ∧ win0_1.index t = ![0, (grid0.coords t 1).val]
    ∧ win0_2.index t = ![(grid0.coords t 0).val, 0, (grid0.coords t 1).val] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr, col]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.DownDwIdeal.Product

namespace Cert.DownDwRefIdeal.Product
open Cert.DownDwRefIdeal Cert.DownDwRefIdeal.Read

theorem eq (A : FVec Ideal S2048x5504 .f32) (D : FVec Ideal S2048x2048 .f32) :
    val_main_v4 (F := Ideal) A D = Cert.DownDwIdeal.Product.arr A D := by
  funext i
  pointwise [val_main_v4, val_main_v3, val_main_v2, val_main_v1, val_main_v0, Cert.DownDwIdeal.Product.arr, Cert.DownDwIdeal.Product.col]
  exact Finset.sum_congr rfl fun k _ => mul_comm _ _

end Cert.DownDwRefIdeal.Product

namespace Cert.DownDwClaim

theorem quiet : Cert.quiescent_DownDw (hDownDw := Cert.DownDw.Gen.facts) := fun m g _ => Cert.DownDw.Gen.frame m g

theorem quiet_ideal : Cert.quiescent_DownDwIdeal (hDownDwIdeal := Cert.DownDwIdeal.Gen.facts) := fun m g _ => Cert.DownDwIdeal.Gen.frame m g

theorem quiet_ref : Cert.quiescent_DownDwRefIdeal (hDownDwRefIdeal := Cert.DownDwRefIdeal.Gen.facts) := fun m g _ =>
  (θ_run Cert.DownDwRefIdeal.defs _ _).mono (fun r h => ⟨fun c => (h c).2, funext fun x => nomatch x.2⟩) (Cert.DownDwRefIdeal.Value.run m g)

theorem algebraic : Cert.algebraic_DownDwIdeal_DownDwRefIdeal (hDownDwIdeal := Cert.DownDwIdeal.Gen.facts)
    (hDownDwRefIdeal := Cert.DownDwRefIdeal.Gen.facts) := by
  pair_intro
  · run_from Cert.DownDwIdeal.Gen.run_main m g
  · run_from Cert.DownDwRefIdeal.Value.run m' g'
    obtain ⟨e0, e1⟩ := hagree c
    rw [Cert.DownDwIdeal.Product.final m c, ← e0, ← e1]
    exact Cert.DownDwRefIdeal.Product.eq _ _

end Cert.DownDwClaim
-- ==== Proof.In.lean ====
module

public import proofs.«01_k».proof.Defs
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.InIdeal.Product
open Cert.InIdeal Cert.InIdeal.Gen
variable (m : (ℓ : Loc nD τ sig) → Buf (Elt Ideal) ℓ)

/-- The input projection. -/
def arr (X : FVec Ideal S2048x2048 .f32) (W : FVec Ideal S2048x2560 .f32) : FVec Ideal S2048x2560 .f32 :=
  fun i => ∑ k : Fin 2048, X (ix2 (i 0) k) * W (ix2 k (i 1))

theorem idx : ∀ t : Fin cfg0.N, win0_0.index t = ![0, 0]
    ∧ win0_1.index t = ![(grid0.coords t 1).val, 0, 0]
    ∧ win0_2.index t = ![0, (grid0.coords t 1).val] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InIdeal.Product

namespace Cert.InRefIdeal.Product
open Cert.InRefIdeal Cert.InRefIdeal.Read

theorem eq (X : FVec Ideal S2048x2048 .f32) (W : FVec Ideal S2048x2560 .f32) :
    val_main_v0 (F := Ideal) X W = Cert.InIdeal.Product.arr X W := by
  funext i
  pointwise [val_main_v0, Cert.InIdeal.Product.arr]

end Cert.InRefIdeal.Product

namespace Cert.InClaim

theorem quiet : Cert.quiescent_In (hIn := Cert.In.Gen.facts) := fun m g _ => Cert.In.Gen.frame m g

theorem quiet_ideal : Cert.quiescent_InIdeal (hInIdeal := Cert.InIdeal.Gen.facts) := fun m g _ => Cert.InIdeal.Gen.frame m g

theorem quiet_ref : Cert.quiescent_InRefIdeal (hInRefIdeal := Cert.InRefIdeal.Gen.facts) := fun m g _ =>
  (θ_run Cert.InRefIdeal.defs _ _).mono (fun r h => ⟨fun c => (h c).2, funext fun x => nomatch x.2⟩) (Cert.InRefIdeal.Value.run m g)

theorem algebraic : Cert.algebraic_InIdeal_InRefIdeal (hInIdeal := Cert.InIdeal.Gen.facts)
    (hInRefIdeal := Cert.InRefIdeal.Gen.facts) := by
  pair_intro
  · run_from Cert.InIdeal.Gen.run_main m g
  · run_from Cert.InRefIdeal.Value.run m' g'
    obtain ⟨e0, e1⟩ := hagree c
    rw [Cert.InIdeal.Product.final m c, ← e0, ← e1]
    exact Cert.InRefIdeal.Product.eq _ _

end Cert.InClaim
-- ==== Proof.InDx.lean ====
module

public import proofs.«01_k».proof.Defs
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.InDxIdeal.Product
open Cert.InDxIdeal Cert.InDxIdeal.Gen
variable (m : (ℓ : Loc nD τ sig) → Buf (Elt Ideal) ℓ)

/-- The gradient of the layer's input. -/
def arr (D : FVec Ideal S2048x2560 .f32) (W : FVec Ideal S2048x2560 .f32) : FVec Ideal S2048x2048 .f32 :=
  fun i => ∑ k : Fin 2560, D (ix2 (i 0) k) * W (ix2 (i 1) k)

theorem idx_val : ∀ t : Fin cfg0.N, win0_0.index t = ![0, t.val % 4]
    ∧ win0_1.index t = ![t.val % 4, t.val / 4, 0]
    ∧ win0_2.index t = ![0, t.val / 4] :=
  (by decide +kernel : ∀ t : Fin grid0.N, _)

/-- The left factor's block at a point. -/
def lhs (c : Dev nD) (t : Fin cfg0.N) : S2048x640.Idx → EReal := iblk m c 0 t

/-- The right factor's block at a point. -/
def rhs (c : Dev nD) (t : Fin cfg0.N) : S1x512x640.Idx → EReal := iblk m c 1 t

/-- What one shard contributes to a tile. -/
def part (c : Dev nD) (t : Fin cfg0.N) (y : S2048x512.Idx) : EReal :=
  ∑ f : Fin 640, lhs m c t (ix2 (y 0) f) * rhs m c t (ix3 0 (y 1) f)

theorem first (c : Dev nD) (t : Fin cfg0.N) (h : t.val % 4 = 0) (y : S2048x512.Idx) :
    (outsAt0 m c t.val t.isLt).2 y = 0 + part m c t y := by
  rw [outsAt0_A m c t h (by omega) (by omega)]
  frame_out
  refine Eq.trans ?_ (zero_add _).symm
  pointwise [k0_pay1, part, lhs, rhs]

theorem later (c : Dev nD) (t : Fin cfg0.N) (h : ¬t.val % 4 = 0) (y : S2048x512.Idx) :
    (outsAt0 m c t.val t.isLt).2 y = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay2, part, lhs, rhs]
    rw [read_unread_whole]
  · rw [outsAt0_B m c t h (by omega) h2]
    frame_out
    pointwise [k0_pay2, part, lhs, rhs]
    rw [read_unread_whole]

theorem same (c : Dev nD) (t : Fin cfg0.N) (h : t.val % 4 = 3) :
    (outsAt0 m c t.val t.isLt).1 = (outsAt0 m c t.val t.isLt).2 := by
  rw [outsAt0_C m c t (by omega) (by omega) h]
  frame_out

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  blk_simp
  rw [after0_2, same m c t hr, Pipeline.eq_sum_fin_of_reset_step_apply_of_flush (fun n h => (outsAt0 m c n h).2) 4 (fun _ => 0)
    (fun t y => part m c t y) (fun t h j => first m c t h j) (fun t h j => later m c t h j) t hr _, zero_add]
  refine Fin.sum_mul_add_congr fun s k hl => ?_
  have hs := s.isLt
  have ht := t.isLt
  blk_point [lhs, rhs, iblk, V, idx_val ⟨4 * (t.val / 4) + s.val, Pipeline.run_point_lt_of_flush t hr s⟩, idx_val t]

end Cert.InDxIdeal.Product

namespace Cert.InDxRefIdeal.Product
open Cert.InDxRefIdeal Cert.InDxRefIdeal.Read

theorem eq (D : FVec Ideal S2048x2560 .f32) (W : FVec Ideal S2048x2560 .f32) :
    val_main_v2 (F := Ideal) D W = Cert.InDxIdeal.Product.arr D W := by
  funext i
  pointwise [val_main_v2, val_main_v1, val_main_v0, Cert.InDxIdeal.Product.arr]

end Cert.InDxRefIdeal.Product

namespace Cert.InDxClaim

theorem quiet : Cert.quiescent_InDx (hInDx := Cert.InDx.Gen.facts) := fun m g _ => Cert.InDx.Gen.frame m g

theorem quiet_ideal : Cert.quiescent_InDxIdeal (hInDxIdeal := Cert.InDxIdeal.Gen.facts) := fun m g _ => Cert.InDxIdeal.Gen.frame m g

theorem quiet_ref : Cert.quiescent_InDxRefIdeal (hInDxRefIdeal := Cert.InDxRefIdeal.Gen.facts) := fun m g _ =>
  (θ_run Cert.InDxRefIdeal.defs _ _).mono (fun r h => ⟨fun c => (h c).2, funext fun x => nomatch x.2⟩) (Cert.InDxRefIdeal.Value.run m g)

theorem algebraic : Cert.algebraic_InDxIdeal_InDxRefIdeal (hInDxIdeal := Cert.InDxIdeal.Gen.facts)
    (hInDxRefIdeal := Cert.InDxRefIdeal.Gen.facts) := by
  pair_intro
  · run_from Cert.InDxIdeal.Gen.run_main m g
  · run_from Cert.InDxRefIdeal.Value.run m' g'
    obtain ⟨e0, e1⟩ := hagree c
    rw [Cert.InDxIdeal.Product.final m c, ← e0, ← e1]
    exact Cert.InDxRefIdeal.Product.eq _ _

end Cert.InDxClaim
-- ==== Proof.InDw.lean ====
module

public import proofs.«01_k».proof.Defs
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.InDwIdeal.Product
open Cert.InDwIdeal Cert.InDwIdeal.Gen
variable (m : (ℓ : Loc nD τ sig) → Buf (Elt Ideal) ℓ)

/-- The column of the whole width at which column `f` of shard `q` lies. -/
def col (q : Fin 4) (f : Fin 640) : Fin 2560 := ⟨q.val * 640 + f.val, by omega⟩

/-- The gradient of the input projection's weight, cut into shards. -/
def arr (X : FVec Ideal S2048x2048 .f32) (D : FVec Ideal S2048x2560 .f32) : FVec Ideal S4x2048x640 .f32 :=
  fun i => ∑ k : Fin 2048, X (ix2 k (i 1)) * D (ix2 k (col (i 0) (i 2)))

theorem idx : ∀ t : Fin cfg0.N, win0_0.index t = ![0, (grid0.coords t 1).val]
    ∧ win0_1.index t = ![0, (grid0.coords t 0).val]
    ∧ win0_2.index t = ![(grid0.coords t 0).val, (grid0.coords t 1).val, 0] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr, col]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InDwIdeal.Product

namespace Cert.InDwRefIdeal.Product
open Cert.InDwRefIdeal Cert.InDwRefIdeal.Read

theorem eq (X : FVec Ideal S2048x2048 .f32) (D : FVec Ideal S2048x2560 .f32) :
    val_main_v5 (F := Ideal) X D = Cert.InDwIdeal.Product.arr X D := by
  funext i
  pointwise [val_main_v5, val_main_v4, val_main_v3, val_main_v2, val_main_v1, val_main_v0, Cert.InDwIdeal.Product.arr, Cert.InDwIdeal.Product.col]
  exact Finset.sum_congr rfl fun k _ => mul_comm _ _

end Cert.InDwRefIdeal.Product

namespace Cert.InDwClaim

theorem quiet : Cert.quiescent_InDw (hInDw := Cert.InDw.Gen.facts) := fun m g _ => Cert.InDw.Gen.frame m g

theorem quiet_ideal : Cert.quiescent_InDwIdeal (hInDwIdeal := Cert.InDwIdeal.Gen.facts) := fun m g _ => Cert.InDwIdeal.Gen.frame m g

theorem quiet_ref : Cert.quiescent_InDwRefIdeal (hInDwRefIdeal := Cert.InDwRefIdeal.Gen.facts) := fun m g _ =>
  (θ_run Cert.InDwRefIdeal.defs _ _).mono (fun r h => ⟨fun c => (h c).2, funext fun x => nomatch x.2⟩) (Cert.InDwRefIdeal.Value.run m g)

theorem algebraic : Cert.algebraic_InDwIdeal_InDwRefIdeal (hInDwIdeal := Cert.InDwIdeal.Gen.facts)
    (hInDwRefIdeal := Cert.InDwRefIdeal.Gen.facts) := by
  pair_intro
  · run_from Cert.InDwIdeal.Gen.run_main m g
  · run_from Cert.InDwRefIdeal.Value.run m' g'
    obtain ⟨e0, e1⟩ := hagree c
    rw [Cert.InDwIdeal.Product.final m c, ← e0, ← e1]
    exact Cert.InDwRefIdeal.Product.eq _ _

end Cert.InDwClaim
-- ==== Proof.Out.lean ====
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.OutIdeal.Product
open Cert.OutIdeal Cert.OutIdeal.Gen
variable (m : (ℓ : Loc nD τ sig) → Buf (Elt Ideal) ℓ)

/-- The output projection. -/
def arr (X : FVec Ideal S2048x2048 .f32) (W : FVec Ideal S2048x2048 .f32) : FVec Ideal S2048x2048 .f32 :=
  fun i => ∑ k : Fin 2048, X (ix2 (i 0) k) * W (ix2 k (i 1))

theorem idx : ∀ t : Fin cfg0.N, win0_0.index t = ![0, 0]
    ∧ win0_1.index t = ![0, (grid0.coords t 1).val]
    ∧ win0_2.index t = ![0, (grid0.coords t 1).val] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.OutIdeal.Product

namespace Cert.OutRefIdeal.Product
open Cert.OutRefIdeal Cert.OutRefIdeal.Read

theorem eq (X : FVec Ideal S2048x2048 .f32) (W : FVec Ideal S2048x2048 .f32) :
    val_main_v0 (F := Ideal) X W = Cert.OutIdeal.Product.arr X W := by
  funext i
  pointwise [val_main_v0, Cert.OutIdeal.Product.arr]

end Cert.OutRefIdeal.Product

namespace Cert.OutClaim

theorem quiet : Cert.quiescent_Out (hOut := Cert.Out.Gen.facts) := fun m g _ => Cert.Out.Gen.frame m g

theorem quiet_ideal : Cert.quiescent_OutIdeal (hOutIdeal := Cert.OutIdeal.Gen.facts) := fun m g _ => Cert.OutIdeal.Gen.frame m g

theorem quiet_ref : Cert.quiescent_OutRefIdeal (hOutRefIdeal := Cert.OutRefIdeal.Gen.facts) := fun m g _ =>
  (θ_run Cert.OutRefIdeal.defs _ _).mono (fun r h => ⟨fun c => (h c).2, funext fun x => nomatch x.2⟩) (Cert.OutRefIdeal.Value.run m g)

theorem algebraic : Cert.algebraic_OutIdeal_OutRefIdeal (hOutIdeal := Cert.OutIdeal.Gen.facts)
    (hOutRefIdeal := Cert.OutRefIdeal.Gen.facts) := by
  pair_intro
  · run_from Cert.OutIdeal.Gen.run_main m g
  · run_from Cert.OutRefIdeal.Value.run m' g'
    obtain ⟨e0, e1⟩ := hagree c
    rw [Cert.OutIdeal.Product.final m c, ← e0, ← e1]
    exact Cert.OutRefIdeal.Product.eq _ _

end Cert.OutClaim
-- ==== Proof.OutDx.lean ====
module

public import proofs.«01_k».proof.Defs
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.OutDxIdeal.Product
open Cert.OutDxIdeal Cert.OutDxIdeal.Gen
variable (m : (ℓ : Loc nD τ sig) → Buf (Elt Ideal) ℓ)

/-- The gradient of the mixers' output. -/
def arr (D : FVec Ideal S2048x2048 .f32) (W : FVec Ideal S2048x2048 .f32) : FVec Ideal S2048x2048 .f32 :=
  fun i => ∑ k : Fin 2048, D (ix2 (i 0) k) * W (ix2 (i 1) k)

theorem idx : ∀ t : Fin cfg0.N, win0_0.index t = ![0, 0]
    ∧ win0_1.index t = ![(grid0.coords t 1).val, 0]
    ∧ win0_2.index t = ![0, (grid0.coords t 1).val] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.OutDxIdeal.Product

namespace Cert.OutDxRefIdeal.Product
open Cert.OutDxRefIdeal Cert.OutDxRefIdeal.Read

theorem eq (D : FVec Ideal S2048x2048 .f32) (W : FVec Ideal S2048x2048 .f32) :
    val_main_v2 (F := Ideal) D W = Cert.OutDxIdeal.Product.arr D W := by
  funext i
  pointwise [val_main_v2, val_main_v1, val_main_v0, Cert.OutDxIdeal.Product.arr]

end Cert.OutDxRefIdeal.Product

namespace Cert.OutDxClaim

theorem quiet : Cert.quiescent_OutDx (hOutDx := Cert.OutDx.Gen.facts) := fun m g _ => Cert.OutDx.Gen.frame m g

theorem quiet_ideal : Cert.quiescent_OutDxIdeal (hOutDxIdeal := Cert.OutDxIdeal.Gen.facts) := fun m g _ => Cert.OutDxIdeal.Gen.frame m g

theorem quiet_ref : Cert.quiescent_OutDxRefIdeal (hOutDxRefIdeal := Cert.OutDxRefIdeal.Gen.facts) := fun m g _ =>
  (θ_run Cert.OutDxRefIdeal.defs _ _).mono (fun r h => ⟨fun c => (h c).2, funext fun x => nomatch x.2⟩) (Cert.OutDxRefIdeal.Value.run m g)

theorem algebraic : Cert.algebraic_OutDxIdeal_OutDxRefIdeal (hOutDxIdeal := Cert.OutDxIdeal.Gen.facts)
    (hOutDxRefIdeal := Cert.OutDxRefIdeal.Gen.facts) := by
  pair_intro
  · run_from Cert.OutDxIdeal.Gen.run_main m g
  · run_from Cert.OutDxRefIdeal.Value.run m' g'
    obtain ⟨e0, e1⟩ := hagree c
    rw [Cert.OutDxIdeal.Product.final m c, ← e0, ← e1]
    exact Cert.OutDxRefIdeal.Product.eq _ _

end Cert.OutDxClaim
-- ==== Proof.OutDw.lean ====
module

public import proofs.«01_k».proof.Defs
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.OutDwIdeal.Product
open Cert.OutDwIdeal Cert.OutDwIdeal.Gen
variable (m : (ℓ : Loc nD τ sig) → Buf (Elt Ideal) ℓ)

/-- The gradient of the output projection's weight. -/
def arr (X : FVec Ideal S2048x2048 .f32) (D : FVec Ideal S2048x2048 .f32) : FVec Ideal S2048x2048 .f32 :=
  fun i => ∑ k : Fin 2048, X (ix2 k (i 0)) * D (ix2 k (i 1))

theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.OutDwIdeal.Product

namespace Cert.OutDwRefIdeal.Product
open Cert.OutDwRefIdeal Cert.OutDwRefIdeal.Read

theorem eq (X : FVec Ideal S2048x2048 .f32) (D : FVec Ideal S2048x2048 .f32) :
    val_main_v3 (F := Ideal) X D = Cert.OutDwIdeal.Product.arr X D := by
  funext i
  pointwise [val_main_v3, val_main_v2, val_main_v1, val_main_v0, Cert.OutDwIdeal.Product.arr]
  exact Finset.sum_congr rfl fun k _ => mul_comm _ _

end Cert.OutDwRefIdeal.Product

namespace Cert.OutDwClaim

theorem quiet : Cert.quiescent_OutDw (hOutDw := Cert.OutDw.Gen.facts) := fun m g _ => Cert.OutDw.Gen.frame m g

theorem quiet_ideal : Cert.quiescent_OutDwIdeal (hOutDwIdeal := Cert.OutDwIdeal.Gen.facts) := fun m g _ => Cert.OutDwIdeal.Gen.frame m g

theorem quiet_ref : Cert.quiescent_OutDwRefIdeal (hOutDwRefIdeal := Cert.OutDwRefIdeal.Gen.facts) := fun m g _ =>
  (θ_run Cert.OutDwRefIdeal.defs _ _).mono (fun r h => ⟨fun c => (h c).2, funext fun x => nomatch x.2⟩) (Cert.OutDwRefIdeal.Value.run m g)

theorem algebraic : Cert.algebraic_OutDwIdeal_OutDwRefIdeal (hOutDwIdeal := Cert.OutDwIdeal.Gen.facts)
    (hOutDwRefIdeal := Cert.OutDwRefIdeal.Gen.facts) := by
  pair_intro
  · run_from Cert.OutDwIdeal.Gen.run_main m g
  · run_from Cert.OutDwRefIdeal.Value.run m' g'
    obtain ⟨e0, e1⟩ := hagree c
    rw [Cert.OutDwIdeal.Product.final m c, ← e0, ← e1]
    exact Cert.OutDwRefIdeal.Product.eq _ _

end Cert.OutDwClaim
-- ==== Proof.GluBwd.lean ====
module

public import proofs.«01_k».proof.Defs
public import proofs.«01_k».proof.Proof.Gen.GluBwd.Frame
public import proofs.«01_k».proof.Proof.Gen.GluBwdIdeal.Frame
public import proofs.«01_k».proof.Proof.Gen.GluBwdIdeal.Value
public import proofs.«01_k».proof.Proof.Gen.GluBwdRefIdeal.Run
public import proofs.«01_k».proof.Proof.Gen.GluBwdRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GluBwdIdeal.Product
open Cert.GluBwdIdeal Cert.GluBwdIdeal.Gen
variable (m : (ℓ : Loc nD τ sig) → Buf (Elt Ideal) ℓ)

/-- The gradient of the gate: of the value half where the column is among the first 512, of the gate half after. -/
def arr (X : FVec Ideal S2048x1024 .f32) (C : FVec Ideal S2048x512 .f32) : FVec Ideal S2048x1024 .bf16 :=
  fun i => if h : (i 1).val < 512 then
      C (ix2 (i 0) ⟨(i 1).val, h⟩) * Ideal.logistic (X (ix2 (i 0) ⟨512 + (i 1).val, by omega⟩))
    else X (ix2 (i 0) ⟨(i 1).val - 512, by have := (i 1).isLt; simp at this; omega⟩) * C (ix2 (i 0) ⟨(i 1).val - 512, by have := (i 1).isLt; simp at this; omega⟩)
      * (Ideal.logistic (X i) * (1 - Ideal.logistic (X i)))

theorem idx : ∀ t : Fin cfg0.N, win0_0.index t = ![(grid0.coords t 0).val, 0]
    ∧ win0_1.index t = ![(grid0.coords t 0).val, 0]
    ∧ win0_2.index t = ![(grid0.coords t 0).val, 0] :=
  (by decide +kernel : ∀ t : Fin grid0.N, _)

theorem arr_lo (X : FVec Ideal S2048x1024 .f32) (C : FVec Ideal S2048x512 .f32) (i : S2048x1024.Idx) (h : (i 1).val < 512) :
    arr X C i = C (ix2 (i 0) ⟨(i 1).val, h⟩) * Ideal.logistic (X (ix2 (i 0) ⟨512 + (i 1).val, by omega⟩)) := dif_pos h

theorem arr_hi (X : FVec Ideal S2048x1024 .f32) (C : FVec Ideal S2048x512 .f32) (i : S2048x1024.Idx) (h : ¬ (i 1).val < 512) :
    arr X C i = X (ix2 (i 0) ⟨(i 1).val - 512, by have := (i 1).isLt; simp at this; omega⟩)
      * C (ix2 (i 0) ⟨(i 1).val - 512, by have := (i 1).isLt; simp at this; omega⟩)
      * (Ideal.logistic (X i) * (1 - Ideal.logistic (X i))) := dif_neg h

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  have h1 : ((((cfg0.win 2).blk t).view.emb y) 1 : ℕ) = (y 1).val := by blk_simp [idx t]
  by_cases h : (y 1).val < 512
  · rw [arr_lo _ _ _ (by omega)]
    pointwise [k0_pay1]
    rw [dif_pos h, dif_pos h, zero_add]
    blk_point [iblk, V, idx t]
  · rw [arr_hi _ _ _ (by omega)]
    pointwise [k0_pay1]
    rw [dif_neg h, dif_neg h, add_zero]
    blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.GluBwdIdeal.Product

namespace Cert.GluBwdRefIdeal.Product
open Cert.GluBwdRefIdeal Cert.GluBwdRefIdeal.Read

theorem eq (X : FVec Ideal S2048x1024 .f32) (C : FVec Ideal S2048x512 .f32) :
    val_main_v18 (F := Ideal) X C = Cert.GluBwdIdeal.Product.arr X C := by
  funext i
  by_cases h : (i 1).val < 512
  · rw [Cert.GluBwdIdeal.Product.arr_lo _ _ _ h]
    pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, Ideal.logistic]
    rw [dif_neg (by omega), dif_pos h, zero_add]
  · have hi := (i 1).isLt
    simp at hi
    rw [Cert.GluBwdIdeal.Product.arr_hi _ _ _ h]
    pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, Ideal.logistic]
    have hx : ∀ p, (ix2 (i 0) ⟨512 + ((i 1).val - 512), p⟩ : S2048x1024.Idx) = i := fun p => by
      funext a
      apply Fin.ext
      match a with
      | ⟨0, _⟩ => rfl
      | ⟨1, _⟩ => show 512 + ((i 1).val - 512) = (i 1).val; omega
    rw [dif_pos (by omega), dif_neg h, add_zero, hx]

end Cert.GluBwdRefIdeal.Product

namespace Cert.GluBwdClaim

theorem quiet : Cert.quiescent_GluBwd (hGluBwd := Cert.GluBwd.Gen.facts) := fun m g _ => Cert.GluBwd.Gen.frame m g

theorem quiet_ideal : Cert.quiescent_GluBwdIdeal (hGluBwdIdeal := Cert.GluBwdIdeal.Gen.facts) := fun m g _ => Cert.GluBwdIdeal.Gen.frame m g

theorem quiet_ref : Cert.quiescent_GluBwdRefIdeal (hGluBwdRefIdeal := Cert.GluBwdRefIdeal.Gen.facts) := fun m g _ =>
  (θ_run Cert.GluBwdRefIdeal.defs _ _).mono (fun r h => ⟨fun c => (h c).2, funext fun x => nomatch x.2⟩) (Cert.GluBwdRefIdeal.Value.run m g)

theorem algebraic : Cert.algebraic_GluBwdIdeal_GluBwdRefIdeal (hGluBwdIdeal := Cert.GluBwdIdeal.Gen.facts)
    (hGluBwdRefIdeal := Cert.GluBwdRefIdeal.Gen.facts) := by
  pair_intro
  · run_from Cert.GluBwdIdeal.Gen.run_main m g
  · run_from Cert.GluBwdRefIdeal.Value.run m' g'
    obtain ⟨e0, e1⟩ := hagree c
    rw [Cert.GluBwdIdeal.Product.final m c, ← e0, ← e1]
    exact Cert.GluBwdRefIdeal.Product.eq _ _

end Cert.GluBwdClaim
-- ==== Proof.GeluBwd.lean ====
module

public import proofs.«01_k».proof.Defs
public import proofs.«01_k».proof.Proof.Gen.GeluBwd.Frame
public import proofs.«01_k».proof.Proof.Gen.GeluBwdIdeal.Frame
public import proofs.«01_k».proof.Proof.Gen.GeluBwdIdeal.Value
public import proofs.«01_k».proof.Proof.Gen.GeluBwdRefIdeal.Run
public import proofs.«01_k».proof.Proof.Gen.GeluBwdRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GeluBwdIdeal.Product
open Cert.GeluBwdIdeal Cert.GeluBwdIdeal.Gen
variable (m : (ℓ : Loc nD τ sig) → Buf (Elt Ideal) ℓ)

/-- The derivative of the activation at `x`, times the cotangent `c`. -/
def slope (x c : EReal) : EReal :=
  let k : EReal := FloatOps.ofBits (F := Ideal) .f32 0x3F4C422A#32
  let q : EReal := FloatOps.ofBits (F := Ideal) .f32 0x3D372713#32
  let h : EReal := FloatOps.ofBits (F := Ideal) .f32 0x3F000000#32
  let one : EReal := FloatOps.ofBits (F := Ideal) .f32 0x3F800000#32
  let three : EReal := FloatOps.ofBits (F := Ideal) .f32 0x40400000#32
  let s : EReal := Ideal.tanh (k * (x + q * (x * (x * x))))
  let e : EReal := k * (h * (x * c) * ((one + s) * (one - s)))
  c * (h * (one + s)) + e + q * e * (three * (x * x))

/-- The skip vector's entry of a column. -/
def skip (D : FVec Ideal Cert.GeluBwdRefIdeal.S32x16 .f32) (j : Fin 512) : EReal := D (ix2 ⟨j.val / 16, by omega⟩ ⟨j.val % 16, by omega⟩)

/-- What the activation is applied to. -/
def pre (Y U : FVec Ideal S2048x512 .f32) (D : FVec Ideal Cert.GeluBwdRefIdeal.S32x16 .f32) (i : S2048x512.Idx) : EReal :=
  Y i + skip D (i 1) * U i

/-- The gradient of the scan's output. -/
def arr4 (Y U : FVec Ideal S2048x512 .f32) (D : FVec Ideal Cert.GeluBwdRefIdeal.S32x16 .f32) (C : FVec Ideal S2048x512 .f32) : FVec Ideal S2048x512 .bf16 :=
  fun i => slope (pre Y U D i) (C i)

/-- The gradient of the scan's input, through the skip connection. -/
def arr5 (Y U : FVec Ideal S2048x512 .f32) (D : FVec Ideal Cert.GeluBwdRefIdeal.S32x16 .f32) (C : FVec Ideal S2048x512 .f32) : FVec Ideal S2048x512 .f32 :=
  fun i => skip D (i 1) * slope (pre Y U D i) (C i)

/-- The gradient of the skip vector. -/
def arr6 (Y U : FVec Ideal S2048x512 .f32) (D : FVec Ideal Cert.GeluBwdRefIdeal.S32x16 .f32) (C : FVec Ideal S2048x512 .f32) : FVec Ideal S1x512 .f32 :=
  fun i => ∑ r : Fin 2048, slope (pre Y U D (ix2 r (i 1))) (C (ix2 r (i 1))) * U (ix2 r (i 1))

theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![0, 0]
    ∧ win0_4.index t = ![(grid0.coords t 0).val, 0]
    ∧ win0_5.index t = ![(grid0.coords t 0).val, 0]
    ∧ win0_6.index t = ![0, 0] :=
  (by decide +kernel : ∀ t : Fin grid0.N, _)

theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

abbrev Ya (c : Dev nD) : FVec Ideal S2048x512 .f32 := m ((c : Thread nD τ).loc main_arg0)
abbrev Ua (c : Dev nD) : FVec Ideal S2048x512 .f32 := m ((c : Thread nD τ).loc main_arg1)
abbrev Da (c : Dev nD) : FVec Ideal Cert.GeluBwdRefIdeal.S32x16 .f32 := m ((c : Thread nD τ).loc main_arg2)
abbrev Ca (c : Dev nD) : FVec Ideal S2048x512 .f32 := m ((c : Thread nD τ).loc main_arg3)

def row (t : Fin cfg0.N) (r : Fin 512) : Fin 2048 := ⟨t.val * 512 + r.val, by have : t.val < 4 := t.isLt; omega⟩

theorem pay4_at (x c : Vec Ideal S512x512 .f32) (y) : k0_pay4 (F := Ideal) x c y = slope (x y) (c y) := by
  pointwise [k0_pay4, slope]

def X0 (c : Dev nD) (t : Fin cfg0.N) : S512x512.Idx → EReal := iblk m c 0 t
def X1 (c : Dev nD) (t : Fin cfg0.N) : S512x512.Idx → EReal := iblk m c 1 t
def X2 (c : Dev nD) (t : Fin cfg0.N) : S512x512.Idx → EReal := iblk m c 2 t
def X3 (c : Dev nD) (t : Fin cfg0.N) : S1x512.Idx → EReal := iblk m c 3 t

theorem b0 (c : Dev nD) (t : Fin cfg0.N) (y : S512x512.Idx) :
    X0 m c t y = pre (Ya m c) (Ua m c) (Da m c) (ix2 (row t (y 0)) (y 1)) := by
  have h : ((cfg0.win 0).blk t).view.emb y = ix2 (row t (y 0)) (y 1) := by
    unfold row
    blk_ext [idx_val t]
  have e : X0 m c t y = pre (Ya m c) (Ua m c) (Da m c) (((cfg0.win 0).blk t).view.emb y) := by
    unfold X0 iblk V
    blk_simp [idx_val t]
    entry_read
    pointwise
    rfl
  rw [e, h]
  rfl

theorem b1 (c : Dev nD) (t : Fin cfg0.N) (y : S512x512.Idx) : X1 m c t y = Ca m c (ix2 (row t (y 0)) (y 1)) := by
  unfold X1 Ca row
  blk_point [iblk, V, idx_val t]

theorem b2 (c : Dev nD) (t : Fin cfg0.N) (y : S512x512.Idx) : X2 m c t y = Ua m c (ix2 (row t (y 0)) (y 1)) := by
  unfold X2 Ua row
  blk_point [iblk, V, idx_val t]

theorem b3 (c : Dev nD) (t : Fin cfg0.N) (y : S1x512.Idx) : X3 m c t y = skip (Da m c) (y 1) := by
  unfold X3 skip Da
  blk_point [iblk, V, idx_val t]

/-- What a block of rows adds to a column of the skip vector's gradient. -/
def part (c : Dev nD) (t : Fin cfg0.N) (y : S1x512.Idx) : EReal :=
  ∑ r : Fin 512, slope (X0 m c t (ix2 r (y 1))) (X1 m c t (ix2 r (y 1))) * X2 m c t (ix2 r (y 1))

theorem after4 (c : Dev nD) (t : Fin cfg0.N) (y : S512x512.Idx) : (outsAt0 m c t.val t.isLt).1 y = slope (X0 m c t y) (X1 m c t y) := by
  by_cases h : t.val % 4 = 0
  · rw [outsAt0_A m c t h]
    frame_out
    pointwise [k0_pay5]
    exact pay4_at _ _ _
  · rw [outsAt0_B m c t h]
    frame_out
    pointwise [k0_pay5]
    exact pay4_at _ _ _

theorem after5 (c : Dev nD) (t : Fin cfg0.N) (y : S512x512.Idx) :
    (outsAt0 m c t.val t.isLt).2.1 y = X3 m c t (ix2 0 (y 1)) * slope (X0 m c t y) (X1 m c t y) := by
  by_cases h : t.val % 4 = 0
  · rw [outsAt0_A m c t h]
    frame_out
    pointwise [k0_pay6, k0_pay1, pay4_at]
    rfl
  · rw [outsAt0_B m c t h]
    frame_out
    pointwise [k0_pay6, k0_pay1, pay4_at]
    rfl

theorem first (c : Dev nD) (t : Fin cfg0.N) (h : t.val % 4 = 0) (y : S1x512.Idx) :
    (outsAt0 m c t.val t.isLt).2.2 y = 0 + part m c t y := by
  rw [outsAt0_A m c t h]
  frame_out
  pointwise [k0_pay3, k0_pay2, pay4_at, part, X0, X1, X2]

theorem later (c : Dev nD) (t : Fin cfg0.N) (h : ¬t.val % 4 = 0) (y : S1x512.Idx) :
    (outsAt0 m c t.val t.isLt).2.2 y = (outsAt0 m c (t.val - 1) (Nat.lt_of_le_of_lt (Nat.sub_le _ _) t.isLt)).2.2 y + part m c t y := by
  rw [outsAt0_B m c t h]
  frame_out
  pointwise [k0_pay3, k0_pay2, pay4_at, part, X0, X1, X2]

theorem final4 (c : Dev nD) : (dats m 0 c).arrAt 4 (cfgs 0).N = arr4 (Ya m c) (Ua m c) (Da m c) (Ca m c) := by
  refine (dats m 0 c).arrAt_eq_of_covers 4 _ (by decide +kernel) fun t hf y => ?_
  blk_simp; rw [after0_4, after4, b0, b1]
  have h : ((cfg0.win 4).blk t).view.emb y = ix2 (row t (y 0)) (y 1) := by
    unfold row
    blk_ext [idx_val t]
  rw [h]; rfl

theorem final5 (c : Dev nD) : (dats m 0 c).arrAt 5 (cfgs 0).N = arr5 (Ya m c) (Ua m c) (Da m c) (Ca m c) := by
  refine (dats m 0 c).arrAt_eq_of_covers 5 _ (by decide +kernel) fun t hf y => ?_
  blk_simp; rw [after0_5, after5, b0, b1, b3]
  have h : ((cfg0.win 5).blk t).view.emb y = ix2 (row t (y 0)) (y 1) := by
    unfold row
    blk_ext [idx_val t]
  rw [h]; rfl

theorem final6 (c : Dev nD) : (dats m 0 c).arrAt 6 (cfgs 0).N = arr6 (Ya m c) (Ua m c) (Da m c) (Ca m c) := by
  refine (dats m 0 c).arrAt_eq_of_covers 6 _ (by decide +kernel) fun t hf y => ?_
  have hr : t.val % 4 = 3 := (flush0_6 t).mp hf
  have h : ((cfg0.win 6).blk t).view.emb y = ix2 (y 0) (y 1) := by
    blk_ext [idx_val t]
  blk_simp
  rw [h, after0_6, Pipeline.eq_sum_fin_of_reset_step_apply_of_flush (fun n h => (outsAt0 m c n h).2.2) 4 (fun _ => 0)
    (fun t y => part m c t y) (fun t h j => first m c t h j) (fun t h j => later m c t h j) t hr _, zero_add]
  refine Fin.sum_mul_add_congr fun s k hl => ?_
  have hs := s.isLt
  have ht := t.isLt
  rw [b0, b1, b2]
  have e : row ⟨4 * (t.val / 4) + s.val, Pipeline.run_point_lt_of_flush t hr s⟩ k = ⟨s.val * 512 + k.val, hl⟩ := by
    unfold row
    apply Fin.ext
    show (4 * (t.val / 4) + s.val) * 512 + k.val = s.val * 512 + k.val
    have : t.val < 4 := t.isLt
    omega
  rw [← e]; rfl

end Cert.GeluBwdIdeal.Product

namespace Cert.GeluBwdRefIdeal.Product
open Cert.GeluBwdRefIdeal Cert.GeluBwdRefIdeal.Read Cert.GeluBwdIdeal.Product

theorem v6_at (Y U : FVec Ideal S2048x512 .f32) (D : FVec Ideal S32x16 .f32) (i : S2048x512.Idx) :
    val_main_v6 (F := Ideal) Y U D i = pre Y U D i := by
  pointwise [val_main_v6, val_main_v5, val_main_v4, val_main_v3, val_main_v2, val_main_v1, val_main_v0, pre, skip]

/-- The derivative, entry by entry. -/
theorem v39_at (Y U : FVec Ideal S2048x512 .f32) (D : FVec Ideal S32x16 .f32) (C : FVec Ideal S2048x512 .f32) (i : S2048x512.Idx) :
    val_main_v39 (F := Ideal) Y U D C i = slope (pre Y U D i) (C i) := by
  rw [← v6_at]
  generalize hx : val_main_v6 (F := Ideal) Y U D i = x
  have hq : x * x * x = x * (x * x) := mul_comm _ _
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst_0, val_main_cst_1, val_main_cst_2, val_main_cst_3, val_main_cst_4, val_main_cst_5, val_main_cst_6, val_main_cst_7, val_main_cst_8, val_main_cst, Cert.GeluBwdIdeal.Product.slope]
  rw [hx, hq]

theorem v40_at (Y U : FVec Ideal S2048x512 .f32) (D : FVec Ideal S32x16 .f32) (C : FVec Ideal S2048x512 .f32) (i : S2048x32x16.Idx) :
    val_main_v40 (F := Ideal) Y U D C i = val_main_v39 (F := Ideal) Y U D C (ix2 (i 0) ⟨(i 1).val * 16 + (i 2).val, by
      have h1 : (i 1).val < 32 := (i 1).isLt
      have h2 : (i 2).val < 16 := (i 2).isLt
      omega⟩) := by
  pointwise [val_main_v40]

theorem eq49 (Y U : FVec Ideal S2048x512 .f32) (D : FVec Ideal S32x16 .f32) (C : FVec Ideal S2048x512 .f32) :
    val_main_v49 (F := Ideal) Y U D C = arr4 Y U D C := by
  funext i
  show val_main_v49 (F := Ideal) Y U D C i = slope (pre Y U D i) (C i)
  rw [← v39_at]
  pointwise [val_main_v49, val_main_v48, val_main_v40]

theorem eq47 (Y U : FVec Ideal S2048x512 .f32) (D : FVec Ideal S32x16 .f32) (C : FVec Ideal S2048x512 .f32) :
    val_main_v47 (F := Ideal) Y U D C = arr5 Y U D C := by
  funext i
  show val_main_v47 (F := Ideal) Y U D C i = skip D (i 1) * slope (pre Y U D i) (C i)
  rw [← v39_at]
  pointwise [val_main_v47, val_main_v42, val_main_v41, val_main_v2, val_main_v40, skip]

theorem eq50 (Y U : FVec Ideal S2048x512 .f32) (D : FVec Ideal S32x16 .f32) (C : FVec Ideal S2048x512 .f32) :
    val_main_v50 (F := Ideal) Y U D C = arr6 Y U D C := by
  funext i
  show val_main_v50 (F := Ideal) Y U D C i = ∑ r : Fin 2048, slope (pre Y U D (ix2 r (i 1))) (C (ix2 r (i 1))) * U (ix2 r (i 1))
  simp only [← v39_at]
  pointwise [val_main_v50, val_main_v46, val_main_v45, val_main_v44, val_main_v43, val_main_v40, val_main_v1, val_main_cst_9, val_main_cst_10]
  simp only [Finset.univ_unique, Finset.sum_const, Finset.card_singleton, one_smul]

end Cert.GeluBwdRefIdeal.Product

namespace Cert.GeluBwdClaim

theorem quiet : Cert.quiescent_GeluBwd (hGeluBwd := Cert.GeluBwd.Gen.facts) := fun m g _ => Cert.GeluBwd.Gen.frame m g

theorem quiet_ideal : Cert.quiescent_GeluBwdIdeal (hGeluBwdIdeal := Cert.GeluBwdIdeal.Gen.facts) := fun m g _ => Cert.GeluBwdIdeal.Gen.frame m g

theorem quiet_ref : Cert.quiescent_GeluBwdRefIdeal (hGeluBwdRefIdeal := Cert.GeluBwdRefIdeal.Gen.facts) := fun m g _ =>
  (θ_run Cert.GeluBwdRefIdeal.defs _ _).mono (fun r h => ⟨fun c => (h c).2.2.2, funext fun x => nomatch x.2⟩) (Cert.GeluBwdRefIdeal.Value.run m g)

theorem algebraic : Cert.algebraic_GeluBwdIdeal_GeluBwdRefIdeal (hGeluBwdIdeal := Cert.GeluBwdIdeal.Gen.facts)
    (hGeluBwdRefIdeal := Cert.GeluBwdRefIdeal.Gen.facts) := by
  pair_intro
  · run_from Cert.GeluBwdIdeal.Gen.run_main m g
  · run_from Cert.GeluBwdRefIdeal.Value.run m' g'
    · obtain ⟨e0, e1, e2, e3⟩ := hagree c
      rw [Cert.GeluBwdIdeal.Product.final4 m c, Cert.GeluBwdRefIdeal.Read.val_main_v49_eq, Cert.GeluBwdRefIdeal.Product.eq49, e0, e1, e2, e3]
    · obtain ⟨e0, e1, e2, e3⟩ := hagree c
      rw [Cert.GeluBwdIdeal.Product.final5 m c, Cert.GeluBwdRefIdeal.Read.val_main_v47_eq, Cert.GeluBwdRefIdeal.Product.eq47, e0, e1, e2, e3]
    · obtain ⟨e0, e1, e2, e3⟩ := hagree c
      rw [Cert.GeluBwdIdeal.Product.final6 m c, Cert.GeluBwdRefIdeal.Read.val_main_v50_eq, Cert.GeluBwdRefIdeal.Product.eq50, e0, e1, e2, e3]

end Cert.GeluBwdClaim
-- ==== Proof.LnBwd.lean ====
module

public import proofs.«01_k».proof.Defs
public import proofs.«01_k».proof.Proof.Gen.LnBwd.Frame
public import proofs.«01_k».proof.Proof.Gen.LnBwdIdeal.Frame
public import proofs.«01_k».proof.Proof.Gen.LnBwdIdeal.Value
public import proofs.«01_k».proof.Proof.Gen.LnBwdRefIdeal.Run
public import proofs.«01_k».proof.Proof.Gen.LnBwdRefIdeal.Read
public import Idealize.ShloMosaic.Lib.Claim
public import Idealize.ShloMosaic.Lib.Pipeline.ValueKit
public import Idealize.ShloMosaic.Lib.Pipeline.ReadBack

@[expose] public section

set_option maxRecDepth 16384
set_option maxHeartbeats 1000000
noncomputable section
open Idealize.ShloMosaic Idealize.ShloMosaic.TcCoe Idealize.SL.Sem
open Idealize.ShloMosaic.Pipeline (Dat)
open scoped BigOperators

namespace Cert.LnBwdIdeal.Product
open Cert.LnBwdIdeal Cert.LnBwdIdeal.Gen
variable (m : (ℓ : Loc nD τ sig) → Buf (Elt Ideal) ℓ)

/-! ## The layer norm of a row, and its gradient -/

def mean (f : Fin 2048 → EReal) : EReal := Ideal.div (∑ k, f k) (Ideal.ofBits .f32 0x45000000#32)

/-- The variance of a row, and the small constant. -/
def var (f : Fin 2048 → EReal) : EReal :=
  Ideal.div (∑ k, (f k - mean f) * (f k - mean f)) (Ideal.ofBits .f32 0x45000000#32) + Ideal.ofBits .f32 0x3727C5AC#32

/-- What the variance receives, times the weight of an entry in it; `u` is the row's cotangent times the scale. -/
def pull (f u : Fin 2048 → EReal) : EReal :=
  Ideal.div ((∑ k, (f k - mean f) * u k) * (Ideal.ofBits .f32 0xBF000000#32 * Ideal.div (Ideal.rsqrt (var f)) (var f))) (Ideal.ofBits .f32 0x45000000#32)

/-- The gradient of an entry `e` of the row before the mean's part. -/
def direct (f : Fin 2048 → EReal) (ue : EReal) : EReal := ue * Ideal.rsqrt (var f)
def spread (f u : Fin 2048 → EReal) (e : EReal) : EReal := pull f u * (Ideal.ofBits .f32 0x40000000#32 * (e - mean f))

/-- The gradient of an entry `e` of the row. -/
def grad (f u : Fin 2048 → EReal) (e ue : EReal) : EReal :=
  direct f ue + spread f u e + Ideal.div (∑ k, -direct f (u k) + ∑ k, -spread f u (f k)) (Ideal.ofBits .f32 0x45000000#32)

/-- The residual sum, and the cotangent of the normalised rows. -/
def res (X Y : FVec Ideal S2048x2048 .f32) : S2048x2048.Idx → EReal := fun i => Ideal.ofBits .f32 0x3FD744FD#32 * X i + Y i

def arr5 (X Y : FVec Ideal S2048x2048 .f32) (g : FVec Ideal Cert.LnBwdRefIdeal.S2048 .f32) (P Q : FVec Ideal S2048x2048 .f32) : S2048x2048.Idx → EReal := fun i =>
  grad (fun k => res X Y (ix2 (i 0) k)) (fun k => res P Q (ix2 (i 0) k) * g (ix1 k)) (res X Y i) (res P Q i * g (ix1 (i 1)))

def arr7 (X Y P Q : FVec Ideal S2048x2048 .f32) : S1x2048.Idx → EReal := fun i =>
  ∑ r : Fin 2048, (res X Y (ix2 r (i 1)) - mean (fun k => res X Y (ix2 r k))) * Ideal.rsqrt (var (fun k => res X Y (ix2 r k))) * res P Q (ix2 r (i 1))

def arr8 (P Q : FVec Ideal S2048x2048 .f32) : S1x2048.Idx → EReal := fun i => ∑ r : Fin 2048, res P Q (ix2 r (i 1))

abbrev Xa (c : Dev nD) : FVec Ideal S2048x2048 .f32 := m ((c : Thread nD τ).loc main_arg0)
abbrev Ya (c : Dev nD) : FVec Ideal S2048x2048 .f32 := m ((c : Thread nD τ).loc main_arg1)
abbrev Ga (c : Dev nD) : FVec Ideal Cert.LnBwdRefIdeal.S2048 .f32 := m ((c : Thread nD τ).loc main_arg2)
abbrev Pa (c : Dev nD) : FVec Ideal S2048x2048 .f32 := m ((c : Thread nD τ).loc main_arg4)
abbrev Qa (c : Dev nD) : FVec Ideal S2048x2048 .f32 := m ((c : Thread nD τ).loc main_arg5)

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

def row (t : Fin cfg0.N) (r : Fin 256) : Fin 2048 := ⟨t.val * 256 + r.val, by have : t.val < 8 := t.isLt; omega⟩

/-! ## The payloads, entry by entry -/

theorem pay2_at (v0 v3 : FVec Ideal S256x2048 .f32) (y : S256x2048.Idx) :
    k0_pay2 (F := Ideal) v0 v3 y = Ideal.ofBits .f32 0x3FD744FD#32 * v0 y + v3 y := by
  pointwise [k0_pay2]

theorem pay4_at (v5 : FVec Ideal S256x2048 .f32) (y : S256x1.Idx) :
    k0_pay4 (F := Ideal) v5 y = mean (fun k => v5 (ix2 (y 0) k)) := by
  unfold mean
  pointwise [k0_pay4, k0_pay3]

theorem pay5_at (v5 : FVec Ideal S256x2048 .f32) (y : S256x2048.Idx) :
    k0_pay5 (F := Ideal) v5 y = v5 y - mean (fun k => v5 (ix2 (y 0) k)) := by
  pointwise [k0_pay5, k0_pay3, pay4_at]

theorem pay7_at (v5 : FVec Ideal S256x2048 .f32) (y : S256x2048.Idx) :
    k0_pay7 (F := Ideal) v5 y = v5 y - mean (fun k => v5 (ix2 (y 0) k)) := by
  pointwise [k0_pay7, k0_pay3, pay4_at]

theorem pay8_at (v5 : FVec Ideal S256x2048 .f32) (y : S256x1.Idx) :
    k0_pay8 (F := Ideal) v5 y = var (fun k => v5 (ix2 (y 0) k)) := by
  unfold var
  pointwise [k0_pay8, pay5_at]

theorem pay9_at (v5 : FVec Ideal S256x2048 .f32) (y : S256x1.Idx) :
    k0_pay9 (F := Ideal) v5 y = Ideal.rsqrt (var (fun k => v5 (ix2 (y 0) k))) := by
  pointwise [k0_pay9, pay8_at]

theorem pay10_at (v5 : FVec Ideal S256x2048 .f32) (y : S256x1.Idx) :
    k0_pay10 (F := Ideal) v5 y = Ideal.ofBits .f32 0xBF000000#32 * Ideal.div (Ideal.rsqrt (var (fun k => v5 (ix2 (y 0) k)))) (var (fun k => v5 (ix2 (y 0) k))) := by
  pointwise [k0_pay10, pay8_at, pay9_at]

theorem pay11_at (v0 v3 : FVec Ideal S256x2048 .f32) (y : S1x2048.Idx) :
    k0_pay11 (F := Ideal) v0 v3 y = ∑ r : Fin 256, (Ideal.ofBits .f32 0x3FD744FD#32 * v0 (ix2 r (y 1)) + v3 (ix2 r (y 1))) := by
  pointwise [k0_pay11, pay2_at]

theorem pay12_at (v0 v3 v5 : FVec Ideal S256x2048 .f32) (y : S1x2048.Idx) :
    k0_pay12 (F := Ideal) v0 v3 v5 y = ∑ r : Fin 256, (v5 (ix2 r (y 1)) - mean (fun k => v5 (ix2 r k))) * Ideal.rsqrt (var (fun k => v5 (ix2 r k)))
      * (Ideal.ofBits .f32 0x3FD744FD#32 * v0 (ix2 r (y 1)) + v3 (ix2 r (y 1))) := by
  pointwise [k0_pay12, pay2_at, pay7_at, pay9_at]

theorem pay13_at (v0 v3 : FVec Ideal S256x2048 .f32) (v7 : FVec Ideal S1x2048 .f32) (y : S256x2048.Idx) :
    k0_pay13 (F := Ideal) v0 v3 v7 y = (Ideal.ofBits .f32 0x3FD744FD#32 * v0 y + v3 y) * v7 (ix2 0 (y 1)) := by
  pointwise [k0_pay13, pay2_at]

theorem pay14_at (v0 v3 v5 : FVec Ideal S256x2048 .f32) (v7 : FVec Ideal S1x2048 .f32) (y : S256x2048.Idx) :
    k0_pay14 (F := Ideal) v0 v3 v5 v7 y = (v5 y - mean (fun k => v5 (ix2 (y 0) k))) * ((Ideal.ofBits .f32 0x3FD744FD#32 * v0 y + v3 y) * v7 (ix2 0 (y 1))) := by
  pointwise [k0_pay14, pay7_at, pay13_at]

theorem pay15_at (v0 v3 v5 : FVec Ideal S256x2048 .f32) (v7 : FVec Ideal S1x2048 .f32) (y : S256x2048.Idx) :
    k0_pay15 (F := Ideal) (k0_pay6 v5) (k0_pay9 v5) (k0_pay10 v5) (k0_pay13 v0 v3 v7) (k0_pay14 v0 v3 v5 v7) y
      = grad (fun k => v5 (ix2 (y 0) k)) (fun k => (Ideal.ofBits .f32 0x3FD744FD#32 * v0 (ix2 (y 0) k) + v3 (ix2 (y 0) k)) * v7 (ix2 0 k))
        (v5 y) ((Ideal.ofBits .f32 0x3FD744FD#32 * v0 y + v3 y) * v7 (ix2 0 (y 1))) := by
  unfold grad direct spread pull
  pointwise [k0_pay15, k0_pay6, pay5_at, pay9_at, pay10_at, pay13_at, pay14_at]
  simp only [Finset.univ_unique, Finset.sum_const, Finset.card_singleton, one_smul, zero_sub]

theorem pay16_at (a : FVec Ideal S256x2048 .f32) (b d : FVec Ideal S256x1 .f32) (e f : FVec Ideal S256x2048 .f32) (y : S256x2048.Idx) :
    k0_pay16 (F := Ideal) a b d e f y = k0_pay15 (F := Ideal) a b d e f y := by
  pointwise [k0_pay16]

theorem pay19_at (a b : FVec Ideal S1x2048 .f32) (y : S1x2048.Idx) : k0_pay19 (F := Ideal) a b y = b y + a y := by
  pointwise [k0_pay19]

theorem pay1_at (a b : FVec Ideal S1x2048 .f32) (y : S1x2048.Idx) : k0_pay1 (F := Ideal) a b y = b y + a y := by
  pointwise [k0_pay1]

theorem pay17_at (y : S1x2048.Idx) : k0_pay17 (F := Ideal) y = 0 := by
  pointwise! [k0_pay17]

theorem pay18_at (y : S1x2048.Idx) : k0_pay18 (F := Ideal) y = 0 := by
  pointwise! [k0_pay18]

def X0 (c : Dev nD) (t : Fin cfg0.N) : S256x2048.Idx → EReal := iblk m c 0 t
def X1 (c : Dev nD) (t : Fin cfg0.N) : S1x2048.Idx → EReal := iblk m c 1 t
def X3 (c : Dev nD) (t : Fin cfg0.N) : S256x2048.Idx → EReal := iblk m c 3 t
def X4 (c : Dev nD) (t : Fin cfg0.N) : S256x2048.Idx → EReal := iblk m c 4 t

theorem b0 (c : Dev nD) (t : Fin cfg0.N) (y : S256x2048.Idx) : X0 m c t y = res (Xa m c) (Ya m c) (ix2 (row t (y 0)) (y 1)) := by
  have h : ((cfg0.win 0).blk t).view.emb y = ix2 (row t (y 0)) (y 1) := by
    unfold row
    blk_ext [idx_val t]
  have e : X0 m c t y = res (Xa m c) (Ya m c) (((cfg0.win 0).blk t).view.emb y) := by
    unfold X0 iblk V
    blk_simp [idx_val t]
    entry_read
    pointwise
    rfl
  rw [e, h]
  rfl

theorem b1 (c : Dev nD) (t : Fin cfg0.N) (y : S1x2048.Idx) : X1 m c t y = Ga m c (ix1 (y 1)) := by
  unfold X1 Ga
  blk_point [iblk, V, idx_val t]

theorem b3 (c : Dev nD) (t : Fin cfg0.N) (y : S256x2048.Idx) : X3 m c t y = Pa m c (ix2 (row t (y 0)) (y 1)) := by
  unfold X3 Pa row
  blk_point [iblk, V, idx_val t]

theorem b4 (c : Dev nD) (t : Fin cfg0.N) (y : S256x2048.Idx) : X4 m c t y = Qa m c (ix2 (row t (y 0)) (y 1)) := by
  unfold X4 Qa row
  blk_point [iblk, V, idx_val t]

theorem grad_at (c : Dev nD) (t : Fin cfg0.N) (y : S256x2048.Idx) :
    k0_pay15 (F := Ideal) (k0_pay6 (X0 m c t)) (k0_pay9 (X0 m c t)) (k0_pay10 (X0 m c t)) (k0_pay13 (X3 m c t) (X4 m c t) (X1 m c t))
        (k0_pay14 (X3 m c t) (X4 m c t) (X0 m c t) (X1 m c t)) y
      = arr5 (Xa m c) (Ya m c) (Ga m c) (Pa m c) (Qa m c) (ix2 (row t (y 0)) (y 1)) := by
  rw [pay15_at]
  simp only [b0, b1, b3, b4]
  rfl

/-- What a block of rows adds to a column of the scale's gradient, and of the shift's. -/
def part7 (c : Dev nD) (t : Fin cfg0.N) (y : S1x2048.Idx) : EReal := k0_pay12 (F := Ideal) (X3 m c t) (X4 m c t) (X0 m c t) y
def part8 (c : Dev nD) (t : Fin cfg0.N) (y : S1x2048.Idx) : EReal := k0_pay11 (F := Ideal) (X3 m c t) (X4 m c t) y

theorem after5 (c : Dev nD) (t : Fin cfg0.N) (y : S256x2048.Idx) :
    (outsAt0 m c t.val t.isLt).1 y = arr5 (Xa m c) (Ya m c) (Ga m c) (Pa m c) (Qa m c) (ix2 (row t (y 0)) (y 1)) := by
  by_cases h : t.val % 8 = 0
  · rw [outsAt0_A m c t h]
    frame_out
    exact grad_at m c t y
  · rw [outsAt0_B m c t h]
    frame_out
    exact grad_at m c t y

theorem after6 (c : Dev nD) (t : Fin cfg0.N) (y : S256x2048.Idx) :
    (outsAt0 m c t.val t.isLt).2.1 y = arr5 (Xa m c) (Ya m c) (Ga m c) (Pa m c) (Qa m c) (ix2 (row t (y 0)) (y 1)) := by
  by_cases h : t.val % 8 = 0
  · rw [outsAt0_A m c t h]
    frame_out
    exact (pay16_at _ _ _ _ _ y).trans (grad_at m c t y)
  · rw [outsAt0_B m c t h]
    frame_out
    exact (pay16_at _ _ _ _ _ y).trans (grad_at m c t y)

theorem first7 (c : Dev nD) (t : Fin cfg0.N) (h : t.val % 8 = 0) (y : S1x2048.Idx) :
    (outsAt0 m c t.val t.isLt).2.2.1 y = 0 + part7 m c t y := by
  rw [outsAt0_A m c t h]
  frame_out
  rw [pay19_at, pay17_at]
  rfl

theorem later7 (c : Dev nD) (t : Fin cfg0.N) (h : ¬t.val % 8 = 0) (y : S1x2048.Idx) :
    (outsAt0 m c t.val t.isLt).2.2.1 y = (outsAt0 m c (t.val - 1) (Nat.lt_of_le_of_lt (Nat.sub_le _ _) t.isLt)).2.2.1 y + part7 m c t y := by
  rw [outsAt0_B m c t h]
  frame_out
  rw [pay19_at]
  rfl

theorem first8 (c : Dev nD) (t : Fin cfg0.N) (h : t.val % 8 = 0) (y : S1x2048.Idx) :
    (outsAt0 m c t.val t.isLt).2.2.2 y = 0 + part8 m c t y := by
  rw [outsAt0_A m c t h]
  frame_out
  rw [pay1_at, pay18_at]
  rfl

theorem later8 (c : Dev nD) (t : Fin cfg0.N) (h : ¬t.val % 8 = 0) (y : S1x2048.Idx) :
    (outsAt0 m c t.val t.isLt).2.2.2 y = (outsAt0 m c (t.val - 1) (Nat.lt_of_le_of_lt (Nat.sub_le _ _) t.isLt)).2.2.2 y + part8 m c t y := by
  rw [outsAt0_B m c t h]
  frame_out
  rw [pay1_at]
  rfl

theorem final5 (c : Dev nD) : (dats m 0 c).arrAt 5 (cfgs 0).N = (arr5 (Xa m c) (Ya m c) (Ga m c) (Pa m c) (Qa m c) : FVec Ideal S2048x2048 .f32) := by
  refine (dats m 0 c).arrAt_eq_of_covers 5 _ (by decide +kernel) fun t hf y => ?_
  blk_simp; rw [after0_5, after5]
  have h : ((cfg0.win 5).blk t).view.emb y = ix2 (row t (y 0)) (y 1) := by
    unfold row
    blk_ext [idx_val t]
  rw [h]; rfl

theorem final6 (c : Dev nD) : (dats m 0 c).arrAt 6 (cfgs 0).N = (arr5 (Xa m c) (Ya m c) (Ga m c) (Pa m c) (Qa m c) : FVec Ideal S2048x2048 .bf16) := by
  refine (dats m 0 c).arrAt_eq_of_covers 6 _ (by decide +kernel) fun t hf y => ?_
  blk_simp; rw [after0_6, after6]
  have h : ((cfg0.win 6).blk t).view.emb y = ix2 (row t (y 0)) (y 1) := by
    unfold row
    blk_ext [idx_val t]
  rw [h]; rfl

theorem row_eq (t : Fin cfg0.N) (hr : t.val % 8 = 7) (s : Fin 8) (p : 8 * (t.val / 8) + s.val < cfg0.N) (k : Fin 256) (hl : s.val * 256 + k.val < 2048) :
    row ⟨8 * (t.val / 8) + s.val, p⟩ k = ⟨s.val * 256 + k.val, hl⟩ := by
  unfold row
  apply Fin.ext
  show (8 * (t.val / 8) + s.val) * 256 + k.val = s.val * 256 + k.val
  have : t.val < 8 := t.isLt
  omega

theorem final7 (c : Dev nD) : (dats m 0 c).arrAt 7 (cfgs 0).N = (arr7 (Xa m c) (Ya m c) (Pa m c) (Qa m c) : FVec Ideal S1x2048 .f32) := by
  refine (dats m 0 c).arrAt_eq_of_covers 7 _ (by decide +kernel) fun t hf y => ?_
  have hr : t.val % 8 = 7 := (flush0_7 t).mp hf
  have h : ((cfg0.win 7).blk t).view.emb y = ix2 (y 0) (y 1) := by
    blk_ext [idx_val t]
  blk_simp
  rw [h, after0_7, Pipeline.eq_sum_fin_of_reset_step_apply_of_flush (fun n h => (outsAt0 m c n h).2.2.1) 8 (fun _ => 0)
    (fun t y => part7 m c t y) (fun t h j => first7 m c t h j) (fun t h j => later7 m c t h j) t hr _, zero_add]
  unfold part7
  simp only [pay12_at]
  refine Fin.sum_mul_add_congr fun s k hl => ?_
  simp only [b0, b3, b4]
  rw [← row_eq t hr s (Pipeline.run_point_lt_of_flush t hr s) k hl]; rfl

theorem final8 (c : Dev nD) : (dats m 0 c).arrAt 8 (cfgs 0).N = (arr8 (Pa m c) (Qa m c) : FVec Ideal S1x2048 .f32) := by
  refine (dats m 0 c).arrAt_eq_of_covers 8 _ (by decide +kernel) fun t hf y => ?_
  have hr : t.val % 8 = 7 := (flush0_8 t).mp hf
  have h : ((cfg0.win 8).blk t).view.emb y = ix2 (y 0) (y 1) := by
    blk_ext [idx_val t]
  blk_simp
  rw [h, after0_8, Pipeline.eq_sum_fin_of_reset_step_apply_of_flush (fun n h => (outsAt0 m c n h).2.2.2) 8 (fun _ => 0)
    (fun t y => part8 m c t y) (fun t h j => first8 m c t h j) (fun t h j => later8 m c t h j) t hr _, zero_add]
  unfold part8
  simp only [pay11_at]
  refine Fin.sum_mul_add_congr fun s k hl => ?_
  simp only [b3, b4]
  rw [← row_eq t hr s (Pipeline.run_point_lt_of_flush t hr s) k hl]; rfl

end Cert.LnBwdIdeal.Product

namespace Cert.LnBwdRefIdeal.Product
open Cert.LnBwdRefIdeal Cert.LnBwdRefIdeal.Gen Cert.LnBwdRefIdeal.Read
open Cert.LnBwdIdeal.Product (mean var pull direct spread grad res arr5 arr7 arr8)

theorem v2_at (X Y : FVec Ideal S2048x2048 .f32) (i) : val_main_v2 (F := Ideal) X Y i = res X Y i := by
  unfold res
  pointwise [val_main_v2, val_main_v1, val_main_v0, val_main_cst]

theorem v6_at (X Y : FVec Ideal S2048x2048 .f32) (i) : val_main_v6 (F := Ideal) X Y i = mean (fun k => res X Y (ix2 (i 0) k)) := by
  unfold mean
  pointwise [val_main_v6, val_main_v5, val_main_cst_1, val_main_v4, val_main_v3, val_main_cst_0, v2_at]

theorem v8_at (X Y : FVec Ideal S2048x2048 .f32) (i) : val_main_v8 (F := Ideal) X Y i = res X Y i - mean (fun k => res X Y (ix2 (i 0) k)) := by
  pointwise [val_main_v8, val_main_v7, v6_at, v2_at]

theorem v17_at (X Y : FVec Ideal S2048x2048 .f32) (i) : val_main_v17 (F := Ideal) X Y i = res X Y i - mean (fun k => res X Y (ix2 (i 0) k)) := by
  pointwise [val_main_v17, val_main_v16, v6_at, v2_at]

theorem v19_at (X Y : FVec Ideal S2048x2048 .f32) (i) : val_main_v19 (F := Ideal) X Y i = var (fun k => res X Y (ix2 (i 0) k)) := by
  unfold var
  pointwise [val_main_v19, val_main_v18, val_main_cst_5, val_main_v15, val_main_v14, val_main_cst_4, val_main_v13, val_main_v12, val_main_cst_3, val_main_v9, v8_at]

theorem v36_at (P Q : FVec Ideal S2048x2048 .f32) (i) : val_main_v36 (F := Ideal) P Q i = res P Q i := by
  unfold res
  rw [add_comm]
  pointwise [val_main_v36, val_main_v35, val_main_v34, val_main_cst_8]

theorem v37_at (P Q : FVec Ideal S2048x2048 .f32) (i) : val_main_v37 (F := Ideal) P Q i = res P Q i := by
  pointwise [val_main_v37, v36_at]

theorem v45_at (P Q : FVec Ideal S2048x2048 .f32) (g : FVec Ideal S2048 .f32) (i) : val_main_v45 (F := Ideal) g P Q i = res P Q i * g (ix1 (i 1)) := by
  pointwise [val_main_v45, val_main_v44, val_main_v26, v37_at]

theorem v51_at (X Y P Q : FVec Ideal S2048x2048 .f32) (g : FVec Ideal S2048 .f32) (i) :
    val_main_v51 (F := Ideal) X Y g P Q i = direct (fun k => res X Y (ix2 (i 0) k)) (res P Q i * g (ix1 (i 1))) := by
  unfold direct
  pointwise [val_main_v51, val_main_v50, val_main_v20, v19_at, v45_at]

theorem v60_at (X Y P Q : FVec Ideal S2048x2048 .f32) (g : FVec Ideal S2048 .f32) (i) :
    val_main_v60 (F := Ideal) X Y g P Q i = spread (fun k => res X Y (ix2 (i 0) k)) (fun k => res P Q (ix2 (i 0) k) * g (ix1 k)) (res X Y i) := by
  unfold spread pull
  pointwise [val_main_v60, val_main_v11, val_main_v10, val_main_cst_2, val_main_v59, val_main_v58, val_main_cst_16, val_main_v57, val_main_v56, val_main_cst_15, val_main_v52, val_main_v23, val_main_v21, val_main_v20, val_main_v22, val_main_cst_6, val_main_v49, val_main_v48, val_main_cst_13, val_main_v47, v8_at, v17_at, v19_at, v45_at]
  simp only [Finset.univ_unique, Finset.sum_const, Finset.card_singleton, one_smul]

theorem eq70 (X Y P Q : FVec Ideal S2048x2048 .f32) (g : FVec Ideal S2048 .f32) : val_main_v70 (F := Ideal) X Y g P Q = arr5 X Y g P Q := by
  funext i
  unfold arr5 grad
  pointwise [val_main_v70, val_main_v69, val_main_v68, val_main_cst_19, val_main_v67, val_main_v66, val_main_cst_18, val_main_v65, val_main_v63, val_main_v62, val_main_cst_17, val_main_v61, val_main_v55, val_main_v54, val_main_cst_14, val_main_v53, val_main_v64, v51_at, v60_at]
  simp only [Finset.univ_unique, Finset.sum_const, Finset.card_singleton, one_smul]

theorem eq71 (X Y P Q : FVec Ideal S2048x2048 .f32) (g : FVec Ideal S2048 .f32) : val_main_v71 (F := Ideal) X Y g P Q = arr5 X Y g P Q :=
  eq70 X Y P Q g

theorem eq72 (X Y P Q : FVec Ideal S2048x2048 .f32) : val_main_v72 (F := Ideal) X Y P Q = arr7 X Y P Q := by
  funext i
  unfold arr7
  pointwise [val_main_v72, val_main_v46, val_main_cst_12, val_main_v43, val_main_v42, val_main_cst_11, val_main_v41, val_main_v25, val_main_v24, val_main_v20, v17_at, v19_at, v37_at]
  simp only [Finset.univ_unique, Finset.sum_const, Finset.card_singleton, one_smul]

theorem eq73 (P Q : FVec Ideal S2048x2048 .f32) : val_main_v73 (F := Ideal) P Q = arr8 P Q := by
  funext i
  unfold arr8
  pointwise [val_main_v73, val_main_v40, val_main_cst_10, val_main_v39, val_main_v38, val_main_cst_9, v36_at]
  simp only [Finset.univ_unique, Finset.sum_const, Finset.card_singleton, one_smul]

end Cert.LnBwdRefIdeal.Product

namespace Cert.LnBwdClaim

theorem quiet : Cert.quiescent_LnBwd (hLnBwd := Cert.LnBwd.Gen.facts) := fun m g _ => Cert.LnBwd.Gen.frame m g

theorem quiet_ideal : Cert.quiescent_LnBwdIdeal (hLnBwdIdeal := Cert.LnBwdIdeal.Gen.facts) := fun m g _ => Cert.LnBwdIdeal.Gen.frame m g

theorem quiet_ref : Cert.quiescent_LnBwdRefIdeal (hLnBwdRefIdeal := Cert.LnBwdRefIdeal.Gen.facts) := fun m g _ =>
  (θ_run Cert.LnBwdRefIdeal.defs _ _).mono (fun r h => ⟨fun c => (h c).2.2.2.2, funext fun x => nomatch x.2⟩) (Cert.LnBwdRefIdeal.Value.run m g)

theorem algebraic : Cert.algebraic_LnBwdIdeal_LnBwdRefIdeal (hLnBwdIdeal := Cert.LnBwdIdeal.Gen.facts)
    (hLnBwdRefIdeal := Cert.LnBwdRefIdeal.Gen.facts) := by
  pair_intro
  · run_from Cert.LnBwdIdeal.Gen.run_main m g
  · run_from Cert.LnBwdRefIdeal.Value.run m' g'
    · obtain ⟨e0, e1, e2, e3, e4, e5⟩ := hagree c
      rw [Cert.LnBwdIdeal.Product.final5 m c, Cert.LnBwdRefIdeal.Read.val_main_v70_eq, Cert.LnBwdRefIdeal.Product.eq70, e0, e1, e2, e4, e5]
    · obtain ⟨e0, e1, e2, e3, e4, e5⟩ := hagree c
      rw [Cert.LnBwdIdeal.Product.final6 m c, Cert.LnBwdRefIdeal.Read.val_main_v71_eq, Cert.LnBwdRefIdeal.Product.eq71, e0, e1, e2, e4, e5]
    · rw [Cert.LnBwdIdeal.Product.final7 m c, Cert.LnBwdRefIdeal.Read.val_main_v72_eq, Cert.LnBwdRefIdeal.Product.eq72]
    · rw [Cert.LnBwdIdeal.Product.final8 m c, Cert.LnBwdRefIdeal.Read.val_main_v73_eq, Cert.LnBwdRefIdeal.Product.eq73]

end Cert.LnBwdClaim
-- ==== Proof.Ln.lean ====
module

public import proofs.«01_k».proof.Defs
public import proofs.«01_k».proof.Proof.Gen.Ln.Frame
public import proofs.«01_k».proof.Proof.Gen.LnIdeal.Frame
public import proofs.«01_k».proof.Proof.Gen.LnIdeal.Value
public import proofs.«01_k».proof.Proof.Gen.LnRefIdeal.Run
public import proofs.«01_k».proof.Proof.Gen.LnRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.LnIdeal.Product
open Cert.LnIdeal Cert.LnIdeal.Gen
variable (m : (ℓ : Loc nD τ sig) → Buf (Elt Ideal) ℓ)

/-! ## The layer norm of a row -/

def mean (f : Fin 2048 → EReal) : EReal := Ideal.div (∑ k, f k) (Ideal.ofBits .f32 0x45000000#32)

def var (f : Fin 2048 → EReal) : EReal := Ideal.div (∑ k, (f k - mean f) * (f k - mean f)) (Ideal.ofBits .f32 0x45000000#32)

/-- An entry `e` of the row `f`, normalised. -/
def normAt (f : Fin 2048 → EReal) (e : EReal) : EReal := (e - mean f) * Ideal.rsqrt (var f + Ideal.ofBits .f32 0x3727c5ac#32)

/-- The residual sum. -/
def res (X Y : FVec Ideal S2048x2048 .f32) : FVec Ideal S2048x2048 .f32 := fun i => Ideal.ofBits .f32 0x3fd744fd#32 * X i + Y i

/-- The normalised rows, scaled and shifted. -/
def scaled (X Y : FVec Ideal S2048x2048 .f32) (g b : FVec Ideal Cert.LnRefIdeal.S2048 .f32) : S2048x2048.Idx → EReal := fun i =>
  normAt (fun k => res X Y (ix2 (i 0) k)) (res X Y i) * g (ix1 (i 1)) + b (ix1 (i 1))

abbrev Xa (c : Dev nD) : FVec Ideal S2048x2048 .f32 := m ((c : Thread nD τ).loc main_arg0)
abbrev Ya (c : Dev nD) : FVec Ideal S2048x2048 .f32 := m ((c : Thread nD τ).loc main_arg1)
abbrev Ga (c : Dev nD) : FVec Ideal Cert.LnRefIdeal.S2048 .f32 := m ((c : Thread nD τ).loc main_arg2)
abbrev Ba (c : Dev nD) : FVec Ideal Cert.LnRefIdeal.S2048 .f32 := m ((c : Thread nD τ).loc main_arg3)

theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

def row (t : Fin cfg0.N) (r : Fin 256) : Fin 2048 := ⟨t.val * 256 + r.val, by have : t.val < 8 := t.isLt; omega⟩

theorem pay1_at (v0 v1 : FVec Ideal S256x2048 .f32) (y : S256x2048.Idx) :
    k0_pay1 (F := Ideal) v0 v1 y = Ideal.ofBits .f32 0x3fd744fd#32 * v0 y + v1 y := by
  pointwise [k0_pay1]

theorem pay2_at (v0 v1 : FVec Ideal S256x2048 .f32) (v2 v3 : FVec Ideal S1x2048 .f32) (y : S256x2048.Idx) :
    k0_pay2 (F := Ideal) v0 v1 v2 v3 y
      = normAt (fun k => Ideal.ofBits .f32 0x3fd744fd#32 * v0 (ix2 (y 0) k) + v1 (ix2 (y 0) k)) (Ideal.ofBits .f32 0x3fd744fd#32 * v0 y + v1 y)
        * v2 (ix2 0 (y 1)) + v3 (ix2 0 (y 1)) := by
  unfold normAt var mean
  pointwise [k0_pay2, k0_pay1]

theorem pay3_at (v0 v1 : FVec Ideal S256x2048 .f32) (v2 v3 : FVec Ideal S1x2048 .f32) (y : S256x2048.Idx) :
    k0_pay3 (F := Ideal) v0 v1 v2 v3 y = k0_pay2 (F := Ideal) v0 v1 v2 v3 y := by
  pointwise [k0_pay3]

def X0 (c : Dev nD) (t : Fin cfg0.N) : S256x2048.Idx → EReal := iblk m c 0 t
def X1 (c : Dev nD) (t : Fin cfg0.N) : S256x2048.Idx → EReal := iblk m c 1 t
def X2 (c : Dev nD) (t : Fin cfg0.N) : S1x2048.Idx → EReal := iblk m c 2 t
def X3 (c : Dev nD) (t : Fin cfg0.N) : S1x2048.Idx → EReal := iblk m c 3 t

theorem b0 (c : Dev nD) (t : Fin cfg0.N) (y : S256x2048.Idx) : X0 m c t y = Xa m c (ix2 (row t (y 0)) (y 1)) := by
  unfold X0 Xa row
  blk_point [iblk, V, idx_val t]

theorem b1 (c : Dev nD) (t : Fin cfg0.N) (y : S256x2048.Idx) : X1 m c t y = Ya m c (ix2 (row t (y 0)) (y 1)) := by
  unfold X1 Ya row
  blk_point [iblk, V, idx_val t]

theorem b2 (c : Dev nD) (t : Fin cfg0.N) (y : S1x2048.Idx) : X2 m c t y = Ga m c (ix1 (y 1)) := by
  unfold X2 Ga
  blk_point [iblk, V, idx_val t]

theorem b3 (c : Dev nD) (t : Fin cfg0.N) (y : S1x2048.Idx) : X3 m c t y = Ba m c (ix1 (y 1)) := by
  unfold X3 Ba
  blk_point [iblk, V, idx_val t]

theorem scaled_at (c : Dev nD) (t : Fin cfg0.N) (y : S256x2048.Idx) :
    k0_pay2 (F := Ideal) (X0 m c t) (X1 m c t) (X2 m c t) (X3 m c t) y
      = scaled (Xa m c) (Ya m c) (Ga m c) (Ba m c) (ix2 (row t (y 0)) (y 1)) := by
  rw [pay2_at]
  simp only [b0, b1, b2, b3]
  rfl

theorem final4 (c : Dev nD) : (dats m 0 c).arrAt 4 (cfgs 0).N = res (Xa m c) (Ya m c) := by
  refine (dats m 0 c).arrAt_eq_of_covers 4 _ (by decide +kernel) fun t hf y => ?_
  have h : ((cfg0.win 4).blk t).view.emb y = ix2 (row t (y 0)) (y 1) := by
    unfold row
    blk_ext [idx_val t]
  blk_simp; rw [after0_4]; frame_out
  refine (pay1_at (X0 m c t) (X1 m c t) y).trans ?_
  rw [b0, b1, h]; rfl

theorem final5 (c : Dev nD) : (dats m 0 c).arrAt 5 (cfgs 0).N = (scaled (Xa m c) (Ya m c) (Ga m c) (Ba m c) : FVec Ideal S2048x2048 .f32) := by
  refine (dats m 0 c).arrAt_eq_of_covers 5 _ (by decide +kernel) fun t hf y => ?_
  have h : ((cfg0.win 5).blk t).view.emb y = ix2 (row t (y 0)) (y 1) := by
    unfold row
    blk_ext [idx_val t]
  blk_simp; rw [after0_5]; frame_out
  refine (scaled_at m c t y).trans ?_
  rw [h]; rfl

theorem final6 (c : Dev nD) : (dats m 0 c).arrAt 6 (cfgs 0).N = (scaled (Xa m c) (Ya m c) (Ga m c) (Ba m c) : FVec Ideal S2048x2048 .bf16) := by
  refine (dats m 0 c).arrAt_eq_of_covers 6 _ (by decide +kernel) fun t hf y => ?_
  have h : ((cfg0.win 6).blk t).view.emb y = ix2 (row t (y 0)) (y 1) := by
    unfold row
    blk_ext [idx_val t]
  blk_simp; rw [after0_6]; frame_out
  refine (pay3_at (X0 m c t) (X1 m c t) (X2 m c t) (X3 m c t) y).trans ?_
  refine (scaled_at m c t y).trans ?_
  rw [h]; rfl

end Cert.LnIdeal.Product

namespace Cert.LnRefIdeal.Product
open Cert.LnRefIdeal Cert.LnRefIdeal.Gen Cert.LnRefIdeal.Read
open Cert.LnIdeal.Product (mean var normAt res scaled)

theorem eq2 (X Y : FVec Ideal S2048x2048 .f32) : val_main_v2 (F := Ideal) X Y = res X Y := by
  funext i
  pointwise [val_main_v2, val_main_v1, val_main_v0, val_main_cst, res]

theorem eq26 (X Y : FVec Ideal S2048x2048 .f32) (g b : FVec Ideal S2048 .f32) : val_main_v26 (F := Ideal) X Y g b = scaled X Y g b := by
  funext i
  unfold scaled normAt var mean res
  pointwise [val_main_v26, val_main_v25, val_main_v24, val_main_v23, val_main_v22, val_main_v21, val_main_v20, val_main_v19, val_main_v18, val_main_v17, val_main_v16, val_main_cst_4, val_main_v13, val_main_v12, val_main_cst_3, val_main_v11, val_main_v10, val_main_cst_2, val_main_v9, val_main_v8, val_main_v7, val_main_v6, val_main_v5, val_main_cst_1, val_main_v4, val_main_v3, val_main_cst_0, val_main_v2, val_main_v1, val_main_v0, val_main_cst, val_main_v15, val_main_v14]

theorem eq27 (X Y : FVec Ideal S2048x2048 .f32) (g b : FVec Ideal S2048 .f32) : val_main_v27 (F := Ideal) X Y g b = scaled X Y g b :=
  eq26 X Y g b

end Cert.LnRefIdeal.Product

namespace Cert.LnClaim

theorem quiet : Cert.quiescent_Ln (hLn := Cert.Ln.Gen.facts) := fun m g _ => Cert.Ln.Gen.frame m g

theorem quiet_ideal : Cert.quiescent_LnIdeal (hLnIdeal := Cert.LnIdeal.Gen.facts) := fun m g _ => Cert.LnIdeal.Gen.frame m g

theorem quiet_ref : Cert.quiescent_LnRefIdeal (hLnRefIdeal := Cert.LnRefIdeal.Gen.facts) := fun m g _ =>
  (θ_run Cert.LnRefIdeal.defs _ _).mono (fun r h => ⟨fun c => (h c).2.2.2, funext fun x => nomatch x.2⟩) (Cert.LnRefIdeal.Value.run m g)

theorem algebraic : Cert.algebraic_LnIdeal_LnRefIdeal (hLnIdeal := Cert.LnIdeal.Gen.facts)
    (hLnRefIdeal := Cert.LnRefIdeal.Gen.facts) := by
  pair_intro
  · run_from Cert.LnIdeal.Gen.run_main m g
  · run_from Cert.LnRefIdeal.Value.run m' g'
    · rw [Cert.LnIdeal.Product.final4 m c, Cert.LnRefIdeal.Read.val_main_v2_eq, Cert.LnRefIdeal.Product.eq2]
    · rw [Cert.LnIdeal.Product.final5 m c, Cert.LnRefIdeal.Read.val_main_v26_eq, Cert.LnRefIdeal.Product.eq26]
    · rw [Cert.LnIdeal.Product.final6 m c, Cert.LnRefIdeal.Read.val_main_v27_eq, Cert.LnRefIdeal.Product.eq27]

end Cert.LnClaim
-- ==== Proof.Loss.lean ====
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.LossIdeal.Product
open Cert.LossIdeal Cert.LossIdeal.Gen
variable (m : (ℓ : Loc nD τ sig) → Buf (Elt Ideal) ℓ)

/-- A finite non-negative factor comes out of a sum. -/
theorem mul_sum_of_nonneg {a : EReal} (h0 : 0 ≤ a) (ht : a ≠ ⊤) {ι : Type} (s : Finset ι) (f : ι → EReal) :
    a * ∑ k ∈ s, f k = ∑ k ∈ s, a * f k := by
  classical
  induction s using Finset.induction_on with
  | empty => simp
  | insert k s hk ih => rw [Finset.sum_insert hk, Finset.sum_insert hk, EReal.left_distrib_of_nonneg_of_ne_top h0 ht, ih]

theorem half_eq : Ideal.ofBits .f32 0x3F000000#32 = (((1 / 2 : ℝ)) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num
theorem width_eq : Ideal.ofBits .f32 0x45000000#32 = ((2048 : ℝ) : EReal) := by simp [Ideal.ofBits, Ideal.ieee, -EReal.coe_mul]; norm_num
theorem inv_eq : Ideal.ofBits .f32 0x3A000000#32 = (((1 / 2048 : ℝ)) : EReal) := by simp [Ideal.ofBits, Ideal.ieee, -EReal.coe_mul]; norm_num

theorem half_nonneg : (0 : EReal) ≤ Ideal.ofBits .f32 0x3F000000#32 := by rw [half_eq]; exact_mod_cast (by norm_num : (0 : ℝ) ≤ 1 / 2)
theorem half_ne_top : Ideal.ofBits .f32 0x3F000000#32 ≠ ⊤ := by rw [half_eq]; exact EReal.coe_ne_top _

/-- Half the weight of a row, times twice the difference, is the difference times the reciprocal of the width. -/
theorem scale_eq (d : EReal) :
    Ideal.div (Ideal.ofBits .f32 0x3F000000#32 * Ideal.ofBits .f32 0x3F800000#32) (Ideal.ofBits .f32 0x45000000#32) * (Ideal.ofBits .f32 0x40000000#32 * d)
      = d * Ideal.ofBits .f32 0x3A000000#32 := by
  have e : Ideal.div (Ideal.ofBits .f32 0x3F000000#32 * Ideal.ofBits .f32 0x3F800000#32) (Ideal.ofBits .f32 0x45000000#32) * Ideal.ofBits .f32 0x40000000#32
      = Ideal.ofBits .f32 0x3A000000#32 := by
    rw [half_eq, two_eq, width_eq, inv_eq, Ideal.ofBits_one_f32, mul_one]
    unfold Ideal.div
    rw [if_neg (by norm_num), ← EReal.coe_inv, ← EReal.coe_mul, ← EReal.coe_mul]
    norm_num
  rw [← mul_assoc, e, mul_comm]

/-- The gradient of the loss at an entry. -/
def arr2 (Y T : FVec Ideal S2048x2048 .f32) : FVec Ideal S2048x2048 .f32 := fun i => (Y i - T i) * Ideal.ofBits .f32 0x3A000000#32

/-- The mean square of the difference along a row. -/
def meanSq (Y T : FVec Ideal S2048x2048 .f32) (r : Fin 2048) : EReal :=
  Ideal.div (∑ k : Fin 2048, (Y (ix2 r k) - T (ix2 r k)) * (Y (ix2 r k) - T (ix2 r k))) (Ideal.ofBits .f32 0x45000000#32)

/-- The loss, in every entry. -/
def arr3 (Y T : FVec Ideal S2048x2048 .f32) : FVec Ideal S8x128 .f32 := fun _ => Ideal.ofBits .f32 0x3F000000#32 * ∑ r : Fin 2048, meanSq Y T r

abbrev Ya (c : Dev nD) : FVec Ideal S2048x2048 .f32 := m ((c : Thread nD τ).loc main_arg0)
abbrev Ta (c : Dev nD) : FVec Ideal S2048x2048 .f32 := m ((c : Thread nD τ).loc main_arg1)

theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![0, 0] :=
  (by decide +kernel : ∀ t : Fin grid0.N, _)

theorem idx_val : ∀ t : Fin cfg0.N, win0_0.index t = ![t.val, 0]
    ∧ win0_1.index t = ![t.val, 0]
    ∧ win0_2.index t = ![t.val, 0]
    ∧ win0_3.index t = ![0, 0] :=
  (by decide +kernel : ∀ t : Fin grid0.N, _)

/-- The part one block of 256 rows adds to the loss. -/
def part (v0 v1 : FVec Ideal S256x2048 .f32) : EReal :=
  Ideal.ofBits .f32 0x3F000000#32 * ∑ r : Fin 256, Ideal.div (∑ k : Fin 2048, (v0 (ix2 r k) - v1 (ix2 r k)) * (v0 (ix2 r k) - v1 (ix2 r k))) (Ideal.ofBits .f32 0x45000000#32)

theorem hzero (j : S8x128.Idx) : k0_pay3 (F := Ideal) j = 0 := by
  pointwise! [k0_pay3]

theorem hpay (v0 v1 : FVec Ideal S256x2048 .f32) (v9 : FVec Ideal S8x128 .f32) (j : S8x128.Idx) :
    k0_pay4 v0 v1 v9 j = v9 j + part v0 v1 := by
  unfold part
  pointwise [k0_pay4, k0_pay1]

theorem point (c : Dev nD) (t : Fin cfg0.N) (y) :
    k0_pay2 (iblk m c 0 t) (iblk m c 1 t) y = arr2 (Ya m c) (Ta m c) (((cfg0.win 2).blk t).view.emb y) := by
  unfold arr2
  pointwise [k0_pay2, k0_pay1]
  blk_point [iblk, V, idx_val t]

theorem final2 (c : Dev nD) : (dats m 0 c).arrAt 2 (cfgs 0).N = arr2 (Ya m c) (Ta m c) := by
  refine (dats m 0 c).arrAt_eq_of_covers 2 _ (by decide +kernel) fun t hf y => ?_
  blk_simp; rw [after0_2]
  by_cases h : t.val % 8 = 0
  · rw [outsAt0_A m c t h]; dsimp only; frame_out; exact point m c t y
  · rw [outsAt0_B m c t h]; dsimp only; frame_out; exact point m c t y

/-- A block of the outputs, and one of the targets. -/
def Yb (c : Dev nD) (t : Fin cfg0.N) : FVec Ideal S256x2048 .f32 := iblk m c 0 t
def Tb (c : Dev nD) (t : Fin cfg0.N) : FVec Ideal S256x2048 .f32 := iblk m c 1 t

theorem Yb_at (c : Dev nD) (t : Fin cfg0.N) (h : t.val < 8) (r : Fin 256) (k : Fin 2048) :
    Yb m c t (ix2 r k) = Ya m c (ix2 ⟨t.val * 256 + r.val, by omega⟩ k) := by
  unfold Yb
  blk_point [iblk, V, idx_val t]

theorem Tb_at (c : Dev nD) (t : Fin cfg0.N) (h : t.val < 8) (r : Fin 256) (k : Fin 2048) :
    Tb m c t (ix2 r k) = Ta m c (ix2 ⟨t.val * 256 + r.val, by omega⟩ k) := by
  unfold Tb
  blk_point [iblk, V, idx_val t]

theorem part_eq (c : Dev nD) (t : Fin cfg0.N) (h : t.val < 8) :
    part (Yb m c t) (Tb m c t) = Ideal.ofBits .f32 0x3F000000#32 * ∑ r : Fin 256, meanSq (Ya m c) (Ta m c) ⟨t.val * 256 + r.val, by omega⟩ := by
  unfold part meanSq
  simp only [Yb_at m c t h, Tb_at m c t h]

theorem final3 (c : Dev nD) : (dats m 0 c).arrAt 3 (cfgs 0).N = arr3 (Ya m c) (Ta m c) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) (fun t _ => part (Yb m c t) (Tb m c t))
    (fun t h j => by rw [outsAt0_A m c t h]; frame_out; rw [hpay, hzero]; rfl)
    (fun t h j => by rw [outsAt0_B m c t h]; frame_out; rw [hpay]; rfl)
    (le_of_eq N_0) t0_7 rfl j, zero_add]
  unfold arr3
  rw [mul_sum_of_nonneg half_nonneg half_ne_top]
  simp only [part_eq m c _ (lt_of_lt_of_eq (Fin.is_lt _) N_0), mul_sum_of_nonneg half_nonneg half_ne_top]
  refine Fin.sum_mul_add_congr fun s k hl => ?_
  rfl

end Cert.LossIdeal.Product

namespace Cert.LossRefIdeal.Product
open Cert.LossRefIdeal Cert.LossRefIdeal.Gen Cert.LossRefIdeal.Read
open Cert.LossIdeal.Product (arr2 arr3 meanSq scale_eq)

theorem eq14 (Y T : FVec Ideal S2048x2048 .f32) : val_main_v14 (F := Ideal) Y T = arr2 Y T := by
  funext i
  unfold arr2
  rw [← scale_eq]
  pointwise [val_main_v14, val_main_v3, val_main_v0, val_main_v2, val_main_cst, val_main_v13, val_main_v12, val_main_v11, val_main_cst_6, val_main_v10, val_main_v9, val_main_cst_5, val_main_cst_4]

theorem eq15 (Y T : FVec Ideal S2048x2048 .f32) : val_main_v15 (F := Ideal) Y T = arr3 Y T := by
  funext i
  unfold arr3 meanSq
  pointwise [val_main_v15, val_main_v8, val_main_v7, val_main_cst_2, val_main_v6, val_main_v5, val_main_cst_1, val_main_v4, val_main_cst_0, val_main_v1, val_main_v0, val_main_cst_3]

end Cert.LossRefIdeal.Product

namespace Cert.LossClaim

theorem quiet : Cert.quiescent_Loss (hLoss := Cert.Loss.Gen.facts) := fun m g _ => Cert.Loss.Gen.frame m g

theorem quiet_ideal : Cert.quiescent_LossIdeal (hLossIdeal := Cert.LossIdeal.Gen.facts) := fun m g _ => Cert.LossIdeal.Gen.frame m g

theorem quiet_ref : Cert.quiescent_LossRefIdeal (hLossRefIdeal := Cert.LossRefIdeal.Gen.facts) := fun m g _ =>
  (θ_run Cert.LossRefIdeal.defs _ _).mono (fun r h => ⟨fun c => (h c).2.2, funext fun x => nomatch x.2⟩) (Cert.LossRefIdeal.Value.run m g)

theorem algebraic : Cert.algebraic_LossIdeal_LossRefIdeal (hLossIdeal := Cert.LossIdeal.Gen.facts)
    (hLossRefIdeal := Cert.LossRefIdeal.Gen.facts) := by
  pair_intro
  · run_from Cert.LossIdeal.Gen.run_main m g
  · run_from Cert.LossRefIdeal.Value.run m' g'
    · rw [Cert.LossIdeal.Product.final2 m c, Cert.LossRefIdeal.Read.val_main_v14_eq, Cert.LossRefIdeal.Product.eq14]
    · rw [Cert.LossIdeal.Product.final3 m c, Cert.LossRefIdeal.Read.val_main_v15_eq, Cert.LossRefIdeal.Product.eq15]

end Cert.LossClaim
-- ==== Proof.GradX.lean ====
module

public import proofs.«01_k».proof.Defs
public import proofs.«01_k».proof.Proof.Gen.GradX.Frame
public import proofs.«01_k».proof.Proof.Gen.GradXIdeal.Frame
public import proofs.«01_k».proof.Proof.Gen.GradXIdeal.Value
public import proofs.«01_k».proof.Proof.Gen.GradXRefIdeal.Run
public import proofs.«01_k».proof.Proof.Gen.GradXRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GradXIdeal.Product
open Cert.GradXIdeal Cert.GradXIdeal.Gen
variable (m : (ℓ : Loc nD τ sig) → Buf (Elt Ideal) ℓ)

/-- The gradient of the input: the residual's part, scaled, and the part through the input projection. -/
def arr (A : FVec Ideal S2048x2048 .f32) (B : FVec Ideal S2048x2048 .f32) : FVec Ideal S2048x2048 .f32 :=
  fun i => (FloatOps.ofBits .f32 0x3FD744FD#32 : Ideal .f32) * A i + B i

theorem idx : ∀ t : Fin cfg0.N, win0_0.index t = ![(grid0.coords t 0).val, 0]
    ∧ win0_1.index t = ![(grid0.coords t 0).val, 0]
    ∧ win0_2.index t = ![(grid0.coords t 0).val, 0] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.GradXIdeal.Product

namespace Cert.GradXRefIdeal.Product
open Cert.GradXRefIdeal Cert.GradXRefIdeal.Read

theorem eq (A : FVec Ideal S2048x2048 .f32) (B : FVec Ideal S2048x2048 .f32) :
    val_main_v5 (F := Ideal) A B = Cert.GradXIdeal.Product.arr A B := by
  funext i
  pointwise [val_main_v5, val_main_v4, val_main_v3, val_main_cst_1, Cert.GradXIdeal.Product.arr]
  exact add_comm _ _

end Cert.GradXRefIdeal.Product

namespace Cert.GradXClaim

theorem quiet : Cert.quiescent_GradX (hGradX := Cert.GradX.Gen.facts) := fun m g _ => Cert.GradX.Gen.frame m g

theorem quiet_ideal : Cert.quiescent_GradXIdeal (hGradXIdeal := Cert.GradXIdeal.Gen.facts) := fun m g _ => Cert.GradXIdeal.Gen.frame m g

theorem quiet_ref : Cert.quiescent_GradXRefIdeal (hGradXRefIdeal := Cert.GradXRefIdeal.Gen.facts) := fun m g _ =>
  (θ_run Cert.GradXRefIdeal.defs _ _).mono (fun r h => ⟨fun c => (h c).2, funext fun x => nomatch x.2⟩) (Cert.GradXRefIdeal.Value.run m g)

theorem algebraic : Cert.algebraic_GradXIdeal_GradXRefIdeal (hGradXIdeal := Cert.GradXIdeal.Gen.facts)
    (hGradXRefIdeal := Cert.GradXRefIdeal.Gen.facts) := by
  pair_intro
  · run_from Cert.GradXIdeal.Gen.run_main m g
  · run_from Cert.GradXRefIdeal.Value.run m' g'
    obtain ⟨e0, e1⟩ := hagree c
    rw [Cert.GradXIdeal.Product.final m c, ← e0, ← e1]
    exact Cert.GradXRefIdeal.Product.eq _ _

end Cert.GradXClaim
-- ==== Proof.AdamwEntry.lean ====
module

public import proofs.«01_k».proof.Defs
public import proofs.«01_k».proof.Proof.Gen.Adamw.Frame
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Claim
public import Idealize.ShloMosaic.Lib.StableHlo.RunRead
public import Idealize.ShloMosaic.Lib.Pipeline.ValueKit
public import Idealize.ShloMosaic.Lib.Pipeline.ReadBack

@[expose] public section

set_option maxRecDepth 16384
set_option maxHeartbeats 2000000
noncomputable section
open Idealize.ShloMosaic Idealize.ShloMosaic.TcCoe Idealize.SL.Sem
open Idealize.ShloMosaic.Pipeline (Dat)
open scoped BigOperators

namespace Cert.AdamwRefIdeal.Product
open Cert.AdamwRefIdeal Cert.AdamwRefIdeal.Gen Cert.AdamwRefIdeal.Read

/-! ## What packing does to arrays of any kind -/

/-- Sixteen arrays, one per weight that is packed. -/
structure Packed (α : Type) where
  p0 : S4x16.Idx → α
  p1 : S4x4x128x128.Idx → α
  p2 : S4x512.Idx → α
  p3 : S4x32x64.Idx → α
  p4 : S4x32x64.Idx → α
  p5 : S4x32.Idx → α
  p6 : S4x32x64x16.Idx → α
  p7 : S4x32x64x16.Idx → α
  p8 : S4x32x16x64.Idx → α
  p9 : S4x32x16x64.Idx → α
  p10 : S4x32x16.Idx → α
  p11 : S4x2048.Idx → α
  p12 : S4x2048.Idx → α
  p13 : S4x11008.Idx → α
  p14 : S4x2048.Idx → α
  p15 : S4x2048.Idx → α

/-- The padded rows side by side, laid out in rows of 128. -/
def lay {α : Type} (q0 : S4x1024.Idx → α) (q1 : S4x65536.Idx → α) (q2 : S4x1024.Idx → α) (q3 : S4x2048.Idx → α) (q4 : S4x2048.Idx → α) (q5 : S4x1024.Idx → α) (q6 : S4x32768.Idx → α) (q7 : S4x32768.Idx → α) (q8 : S4x32768.Idx → α) (q9 : S4x32768.Idx → α) (q10 : S4x1024.Idx → α) (q11 : S4x2048.Idx → α) (q12 : S4x2048.Idx → α) (q13 : S4x11264.Idx → α) (q14 : S4x2048.Idx → α) (q15 : S4x2048.Idx → α) : S7008x128.Idx → α :=
  shapeCast S7008x128 (concatenate S4x224256 1 [⟨S4x1024, q0⟩, ⟨S4x65536, q1⟩, ⟨S4x1024, q2⟩, ⟨S4x2048, q3⟩, ⟨S4x2048, q4⟩, ⟨S4x1024, q5⟩, ⟨S4x32768, q6⟩, ⟨S4x32768, q7⟩, ⟨S4x32768, q8⟩, ⟨S4x32768, q9⟩, ⟨S4x1024, q10⟩, ⟨S4x2048, q11⟩, ⟨S4x2048, q12⟩, ⟨S4x11264, q13⟩, ⟨S4x2048, q14⟩, ⟨S4x2048, q15⟩] concatenates_S4x1024_S4x65536_S4x1024_S4x2048_S4x2048_S4x1024_S4x32768_S4x32768_S4x32768_S4x32768_S4x1024_S4x2048_S4x2048_S4x11264_S4x2048_S4x2048_S4x224256_d1) shapeCasts_S4x224256_S7008x128

def row0 {α : Type} (v : S_.Idx → α) (x : S4x16.Idx → α) : S4x1024.Idx → α := pad S4x1024 ![0, 0] ![0, 1008] ![0, 0] x v pads_S4x16_S4x1024_000_010080 h_S_
def row1 {α : Type} (v : S_.Idx → α) (x : S4x4x128x128.Idx → α) : S4x65536.Idx → α := pad S4x65536 ![0, 0] ![0, 0] ![0, 0] (shapeCast _ x shapeCasts_S4x4x128x128_S4x65536) v pads_S4x65536_S4x65536_000_000 h_S_
def row2 {α : Type} (v : S_.Idx → α) (x : S4x512.Idx → α) : S4x1024.Idx → α := pad S4x1024 ![0, 0] ![0, 512] ![0, 0] x v pads_S4x512_S4x1024_000_05120 h_S_
def row3 {α : Type} (v : S_.Idx → α) (x : S4x32x64.Idx → α) : S4x2048.Idx → α := pad S4x2048 ![0, 0] ![0, 0] ![0, 0] (shapeCast _ x shapeCasts_S4x32x64_S4x2048) v pads_S4x2048_S4x2048_000_000 h_S_
def row4 {α : Type} (v : S_.Idx → α) (x : S4x32x64.Idx → α) : S4x2048.Idx → α := pad S4x2048 ![0, 0] ![0, 0] ![0, 0] (shapeCast _ x shapeCasts_S4x32x64_S4x2048) v pads_S4x2048_S4x2048_000_000 h_S_
def row5 {α : Type} (v : S_.Idx → α) (x : S4x32.Idx → α) : S4x1024.Idx → α := pad S4x1024 ![0, 0] ![0, 992] ![0, 0] x v pads_S4x32_S4x1024_000_09920 h_S_
def row6 {α : Type} (v : S_.Idx → α) (x : S4x32x64x16.Idx → α) : S4x32768.Idx → α := pad S4x32768 ![0, 0] ![0, 0] ![0, 0] (shapeCast _ x shapeCasts_S4x32x64x16_S4x32768) v pads_S4x32768_S4x32768_000_000 h_S_
def row7 {α : Type} (v : S_.Idx → α) (x : S4x32x64x16.Idx → α) : S4x32768.Idx → α := pad S4x32768 ![0, 0] ![0, 0] ![0, 0] (shapeCast _ x shapeCasts_S4x32x64x16_S4x32768) v pads_S4x32768_S4x32768_000_000 h_S_
def row8 {α : Type} (v : S_.Idx → α) (x : S4x32x16x64.Idx → α) : S4x32768.Idx → α := pad S4x32768 ![0, 0] ![0, 0] ![0, 0] (shapeCast _ x shapeCasts_S4x32x16x64_S4x32768) v pads_S4x32768_S4x32768_000_000 h_S_
def row9 {α : Type} (v : S_.Idx → α) (x : S4x32x16x64.Idx → α) : S4x32768.Idx → α := pad S4x32768 ![0, 0] ![0, 0] ![0, 0] (shapeCast _ x shapeCasts_S4x32x16x64_S4x32768) v pads_S4x32768_S4x32768_000_000 h_S_
def row10 {α : Type} (v : S_.Idx → α) (x : S4x32x16.Idx → α) : S4x1024.Idx → α := pad S4x1024 ![0, 0] ![0, 512] ![0, 0] (shapeCast _ x shapeCasts_S4x32x16_S4x512) v pads_S4x512_S4x1024_000_05120 h_S_
def row11 {α : Type} (v : S_.Idx → α) (x : S4x2048.Idx → α) : S4x2048.Idx → α := pad S4x2048 ![0, 0] ![0, 0] ![0, 0] x v pads_S4x2048_S4x2048_000_000 h_S_
def row12 {α : Type} (v : S_.Idx → α) (x : S4x2048.Idx → α) : S4x2048.Idx → α := pad S4x2048 ![0, 0] ![0, 0] ![0, 0] x v pads_S4x2048_S4x2048_000_000 h_S_
def row13 {α : Type} (v : S_.Idx → α) (x : S4x11008.Idx → α) : S4x11264.Idx → α := pad S4x11264 ![0, 0] ![0, 256] ![0, 0] x v pads_S4x11008_S4x11264_000_02560 h_S_
def row14 {α : Type} (v : S_.Idx → α) (x : S4x2048.Idx → α) : S4x2048.Idx → α := pad S4x2048 ![0, 0] ![0, 0] ![0, 0] x v pads_S4x2048_S4x2048_000_000 h_S_
def row15 {α : Type} (v : S_.Idx → α) (x : S4x2048.Idx → α) : S4x2048.Idx → α := pad S4x2048 ![0, 0] ![0, 0] ![0, 0] x v pads_S4x2048_S4x2048_000_000 h_S_

/-- The arrays, each padded by `v` to whole units, packed. -/
def pack {α : Type} (v : S_.Idx → α) (a : Packed α) : S7008x128.Idx → α :=
  lay (row0 v a.p0) (row1 v a.p1) (row2 v a.p2) (row3 v a.p3) (row4 v a.p4) (row5 v a.p5) (row6 v a.p6) (row7 v a.p7) (row8 v a.p8) (row9 v a.p9) (row10 v a.p10) (row11 v a.p11) (row12 v a.p12) (row13 v a.p13) (row14 v a.p14) (row15 v a.p15)

def Packed.map {α β : Type} (g : α → β) (a : Packed α) : Packed β := ⟨fun i => g (a.p0 i), fun i => g (a.p1 i), fun i => g (a.p2 i), fun i => g (a.p3 i), fun i => g (a.p4 i), fun i => g (a.p5 i), fun i => g (a.p6 i), fun i => g (a.p7 i), fun i => g (a.p8 i), fun i => g (a.p9 i), fun i => g (a.p10 i), fun i => g (a.p11 i), fun i => g (a.p12 i), fun i => g (a.p13 i), fun i => g (a.p14 i), fun i => g (a.p15 i)⟩

def Packed.zip {α : Type} (w g m v : Packed α) : Packed (α × α × α × α) := ⟨fun i => (w.p0 i, g.p0 i, m.p0 i, v.p0 i), fun i => (w.p1 i, g.p1 i, m.p1 i, v.p1 i), fun i => (w.p2 i, g.p2 i, m.p2 i, v.p2 i), fun i => (w.p3 i, g.p3 i, m.p3 i, v.p3 i), fun i => (w.p4 i, g.p4 i, m.p4 i, v.p4 i), fun i => (w.p5 i, g.p5 i, m.p5 i, v.p5 i), fun i => (w.p6 i, g.p6 i, m.p6 i, v.p6 i), fun i => (w.p7 i, g.p7 i, m.p7 i, v.p7 i), fun i => (w.p8 i, g.p8 i, m.p8 i, v.p8 i), fun i => (w.p9 i, g.p9 i, m.p9 i, v.p9 i), fun i => (w.p10 i, g.p10 i, m.p10 i, v.p10 i), fun i => (w.p11 i, g.p11 i, m.p11 i, v.p11 i), fun i => (w.p12 i, g.p12 i, m.p12 i, v.p12 i), fun i => (w.p13 i, g.p13 i, m.p13 i, v.p13 i), fun i => (w.p14 i, g.p14 i, m.p14 i, v.p14 i), fun i => (w.p15 i, g.p15 i, m.p15 i, v.p15 i)⟩

theorem pad_map {α β : Type} {s : Shape} (t : Shape) (lo hi interior : Fin s.rank → Nat) (x : s.Idx → α) {u : Shape} (v : u.Idx → α)
    (h : s.Pads lo hi interior t) (hu : 0 < u.numel) (g : α → β) :
    pad t lo hi interior (fun i => g (x i)) (fun i => g (v i)) h hu = fun j => g (pad t lo hi interior x v h hu j) := by
  funext j
  unfold pad
  split <;> rfl

def mapPiece {α β : Type} (g : α → β) (p : (s : Shape) × (s.Idx → α)) : (s : Shape) × (s.Idx → β) := ⟨p.1, fun i => g (p.2 i)⟩

theorem at_map {α β : Type} (g : α → β) {t : Shape} (a : Fin t.rank) (j : t.Idx) :
    ∀ (xs : List ((s : Shape) × (s.Idx → α))) (hs : ∀ s ∈ xs.map (·.1), s.FitsOff t a)
      (hs' : ∀ s ∈ (xs.map (mapPiece g)).map (·.1), s.FitsOff t a) (c : Nat)
      (hc : c < (axisSizes t a xs).sum) (hc' : c < (axisSizes t a (xs.map (mapPiece g))).sum),
      concatenateAt t a j (xs.map (mapPiece g)) hs' c hc' = g (concatenateAt t a j xs hs c hc)
  | [], _, _, _, hc, _ => absurd hc (Nat.not_lt_zero _)
  | [p], _, _, _, _, _ => rfl
  | p :: q :: xs, hs, hs', c, hc, hc' => by
    show concatenateAt t a j (mapPiece g p :: mapPiece g q :: xs.map (mapPiece g)) _ c _ = _
    by_cases hlt : c < p.1.size (a.cast (hs p.1 List.mem_cons_self).rank_eq.symm)
    · rw [concatenateAt, concatenateAt, dif_pos hlt]
      exact dif_pos hlt
    · rw [concatenateAt, concatenateAt, dif_neg hlt]
      exact (dif_neg hlt).trans (at_map g a j (q :: xs) _ _ _ _ _)

theorem concatenate_map {α β : Type} (g : α → β) (t : Shape) (a : Fin t.rank) (xs : List ((s : Shape) × (s.Idx → α)))
    (h : Shape.Concatenates (xs.map (·.1)) t a) (h' : Shape.Concatenates ((xs.map (mapPiece g)).map (·.1)) t a) :
    concatenate t a (xs.map (mapPiece g)) h' = fun j => g (concatenate t a xs h j) := by
  funext j
  rw [concatenate_apply, concatenate_apply]
  exact at_map g a j xs _ _ _ _ _

theorem lay_map {α β : Type} (g : α → β) (q0 : S4x1024.Idx → α) (q1 : S4x65536.Idx → α) (q2 : S4x1024.Idx → α) (q3 : S4x2048.Idx → α) (q4 : S4x2048.Idx → α) (q5 : S4x1024.Idx → α) (q6 : S4x32768.Idx → α) (q7 : S4x32768.Idx → α) (q8 : S4x32768.Idx → α) (q9 : S4x32768.Idx → α) (q10 : S4x1024.Idx → α) (q11 : S4x2048.Idx → α) (q12 : S4x2048.Idx → α) (q13 : S4x11264.Idx → α) (q14 : S4x2048.Idx → α) (q15 : S4x2048.Idx → α) :
    lay (fun i => g (q0 i)) (fun i => g (q1 i)) (fun i => g (q2 i)) (fun i => g (q3 i)) (fun i => g (q4 i)) (fun i => g (q5 i)) (fun i => g (q6 i)) (fun i => g (q7 i)) (fun i => g (q8 i)) (fun i => g (q9 i)) (fun i => g (q10 i)) (fun i => g (q11 i)) (fun i => g (q12 i)) (fun i => g (q13 i)) (fun i => g (q14 i)) (fun i => g (q15 i)) = fun j => g (lay q0 q1 q2 q3 q4 q5 q6 q7 q8 q9 q10 q11 q12 q13 q14 q15 j) := by
  funext j
  exact congrFun (congrArg (fun z => shapeCast S7008x128 z shapeCasts_S4x224256_S7008x128)
    (concatenate_map g S4x224256 1 [⟨S4x1024, q0⟩, ⟨S4x65536, q1⟩, ⟨S4x1024, q2⟩, ⟨S4x2048, q3⟩, ⟨S4x2048, q4⟩, ⟨S4x1024, q5⟩, ⟨S4x32768, q6⟩, ⟨S4x32768, q7⟩, ⟨S4x32768, q8⟩, ⟨S4x32768, q9⟩, ⟨S4x1024, q10⟩, ⟨S4x2048, q11⟩, ⟨S4x2048, q12⟩, ⟨S4x11264, q13⟩, ⟨S4x2048, q14⟩, ⟨S4x2048, q15⟩] concatenates_S4x1024_S4x65536_S4x1024_S4x2048_S4x2048_S4x1024_S4x32768_S4x32768_S4x32768_S4x32768_S4x1024_S4x2048_S4x2048_S4x11264_S4x2048_S4x2048_S4x224256_d1 concatenates_S4x1024_S4x65536_S4x1024_S4x2048_S4x2048_S4x1024_S4x32768_S4x32768_S4x32768_S4x32768_S4x1024_S4x2048_S4x2048_S4x11264_S4x2048_S4x2048_S4x224256_d1)) j

theorem row0_map {α β : Type} (g : α → β) (v : S_.Idx → α) (x : S4x16.Idx → α) : row0 (fun i => g (v i)) (fun i => g (x i)) = fun j => g (row0 v x j) :=
  pad_map _ _ _ _ x v _ _ g
theorem row1_map {α β : Type} (g : α → β) (v : S_.Idx → α) (x : S4x4x128x128.Idx → α) : row1 (fun i => g (v i)) (fun i => g (x i)) = fun j => g (row1 v x j) :=
  pad_map _ _ _ _ (shapeCast _ x shapeCasts_S4x4x128x128_S4x65536) v _ _ g
theorem row2_map {α β : Type} (g : α → β) (v : S_.Idx → α) (x : S4x512.Idx → α) : row2 (fun i => g (v i)) (fun i => g (x i)) = fun j => g (row2 v x j) :=
  pad_map _ _ _ _ x v _ _ g
theorem row3_map {α β : Type} (g : α → β) (v : S_.Idx → α) (x : S4x32x64.Idx → α) : row3 (fun i => g (v i)) (fun i => g (x i)) = fun j => g (row3 v x j) :=
  pad_map _ _ _ _ (shapeCast _ x shapeCasts_S4x32x64_S4x2048) v _ _ g
theorem row4_map {α β : Type} (g : α → β) (v : S_.Idx → α) (x : S4x32x64.Idx → α) : row4 (fun i => g (v i)) (fun i => g (x i)) = fun j => g (row4 v x j) :=
  pad_map _ _ _ _ (shapeCast _ x shapeCasts_S4x32x64_S4x2048) v _ _ g
theorem row5_map {α β : Type} (g : α → β) (v : S_.Idx → α) (x : S4x32.Idx → α) : row5 (fun i => g (v i)) (fun i => g (x i)) = fun j => g (row5 v x j) :=
  pad_map _ _ _ _ x v _ _ g
theorem row6_map {α β : Type} (g : α → β) (v : S_.Idx → α) (x : S4x32x64x16.Idx → α) : row6 (fun i => g (v i)) (fun i => g (x i)) = fun j => g (row6 v x j) :=
  pad_map _ _ _ _ (shapeCast _ x shapeCasts_S4x32x64x16_S4x32768) v _ _ g
theorem row7_map {α β : Type} (g : α → β) (v : S_.Idx → α) (x : S4x32x64x16.Idx → α) : row7 (fun i => g (v i)) (fun i => g (x i)) = fun j => g (row7 v x j) :=
  pad_map _ _ _ _ (shapeCast _ x shapeCasts_S4x32x64x16_S4x32768) v _ _ g
theorem row8_map {α β : Type} (g : α → β) (v : S_.Idx → α) (x : S4x32x16x64.Idx → α) : row8 (fun i => g (v i)) (fun i => g (x i)) = fun j => g (row8 v x j) :=
  pad_map _ _ _ _ (shapeCast _ x shapeCasts_S4x32x16x64_S4x32768) v _ _ g
theorem row9_map {α β : Type} (g : α → β) (v : S_.Idx → α) (x : S4x32x16x64.Idx → α) : row9 (fun i => g (v i)) (fun i => g (x i)) = fun j => g (row9 v x j) :=
  pad_map _ _ _ _ (shapeCast _ x shapeCasts_S4x32x16x64_S4x32768) v _ _ g
theorem row10_map {α β : Type} (g : α → β) (v : S_.Idx → α) (x : S4x32x16.Idx → α) : row10 (fun i => g (v i)) (fun i => g (x i)) = fun j => g (row10 v x j) :=
  pad_map _ _ _ _ (shapeCast _ x shapeCasts_S4x32x16_S4x512) v _ _ g
theorem row11_map {α β : Type} (g : α → β) (v : S_.Idx → α) (x : S4x2048.Idx → α) : row11 (fun i => g (v i)) (fun i => g (x i)) = fun j => g (row11 v x j) :=
  pad_map _ _ _ _ x v _ _ g
theorem row12_map {α β : Type} (g : α → β) (v : S_.Idx → α) (x : S4x2048.Idx → α) : row12 (fun i => g (v i)) (fun i => g (x i)) = fun j => g (row12 v x j) :=
  pad_map _ _ _ _ x v _ _ g
theorem row13_map {α β : Type} (g : α → β) (v : S_.Idx → α) (x : S4x11008.Idx → α) : row13 (fun i => g (v i)) (fun i => g (x i)) = fun j => g (row13 v x j) :=
  pad_map _ _ _ _ x v _ _ g
theorem row14_map {α β : Type} (g : α → β) (v : S_.Idx → α) (x : S4x2048.Idx → α) : row14 (fun i => g (v i)) (fun i => g (x i)) = fun j => g (row14 v x j) :=
  pad_map _ _ _ _ x v _ _ g
theorem row15_map {α β : Type} (g : α → β) (v : S_.Idx → α) (x : S4x2048.Idx → α) : row15 (fun i => g (v i)) (fun i => g (x i)) = fun j => g (row15 v x j) :=
  pad_map _ _ _ _ x v _ _ g

/-- Packing commutes with a function applied entry by entry. -/
theorem pack_map {α β : Type} (g : α → β) (v : S_.Idx → α) (a : Packed α) :
    pack (fun i => g (v i)) (a.map g) = fun j => g (pack v a j) := by
  unfold pack Packed.map
  simp only [row0_map, row1_map, row2_map, row3_map, row4_map, row5_map, row6_map, row7_map, row8_map, row9_map, row10_map, row11_map, row12_map, row13_map, row14_map, row15_map]
  exact lay_map g _ _ _ _ _ _ _ _ _ _ _ _ _ _ _ _

/-- A function of four entries, which is `z` where all four are the padding `z`, may be applied before packing or after. -/
theorem pack_four {α : Type} (f : α → α → α → α → α) (z : α) (hz : f z z z z = z) (w g m v : Packed α) :
    pack (fun _ => z) ((w.zip g m v).map fun q => f q.1 q.2.1 q.2.2.1 q.2.2.2)
      = fun j => f (pack (fun _ => z) w j) (pack (fun _ => z) g j) (pack (fun _ => z) m j) (pack (fun _ => z) v j) := by
  have e := pack_map (fun q : α × α × α × α => f q.1 q.2.1 q.2.2.1 q.2.2.2) (fun _ => (z, z, z, z)) (w.zip g m v)
  have e0 := pack_map (fun q : α × α × α × α => q.1) (fun _ => (z, z, z, z)) (w.zip g m v)
  have e1 := pack_map (fun q : α × α × α × α => q.2.1) (fun _ => (z, z, z, z)) (w.zip g m v)
  have e2 := pack_map (fun q : α × α × α × α => q.2.2.1) (fun _ => (z, z, z, z)) (w.zip g m v)
  have e3 := pack_map (fun q : α × α × α × α => q.2.2.2) (fun _ => (z, z, z, z)) (w.zip g m v)
  dsimp only at e
  rw [hz] at e
  rw [e]
  funext j
  have h0 : pack (fun _ => z) w j = (pack (fun _ => (z, z, z, z)) (w.zip g m v) j).1 := congrFun e0 j
  have h1 : pack (fun _ => z) g j = (pack (fun _ => (z, z, z, z)) (w.zip g m v) j).2.1 := congrFun e1 j
  have h2 : pack (fun _ => z) m j = (pack (fun _ => (z, z, z, z)) (w.zip g m v) j).2.2.1 := congrFun e2 j
  have h3 : pack (fun _ => z) v j = (pack (fun _ => (z, z, z, z)) (w.zip g m v) j).2.2.2 := congrFun e3 j
  rw [h0, h1, h2, h3]

/-! ## The optimiser's step -/

/-- The new first moment of one entry. -/
def newM (g m : EReal) : EReal := Ideal.ofBits .f32 0x3F666666#32 * m + Ideal.ofBits .f32 0x3DCCCCCD#32 * g

/-- The new second moment of one entry. -/
def newV (g v : EReal) : EReal := Ideal.ofBits .f32 0x3F7FBE77#32 * v + Ideal.ofBits .f32 0x3A83126F#32 * (g * g)

/-- The change of one weight. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-- The padding, as the programs write it. -/
def zp : FVec Ideal S_ .f32 := sitofp .f32 (constantI S_ 32 0#32)

theorem zp_eq : zp = fun _ => (0 : EReal) := by
  funext i
  unfold zp
  pointwise
  show (((0#32 : BitVec 32).toInt : ℝ) : EReal) = 0
  simp

theorem newM_zero : newM 0 0 = 0 := by simp [newM]
theorem newV_zero : newV 0 0 = 0 := by simp [newV]
theorem delta_zero : delta 0 0 0 0 = 0 := by
  have h0 : Ideal.ofBits .f32 0x3F26BD02#32 ≠ 0 := by simp [Ideal.ofBits, Ideal.ieee, -EReal.coe_mul]
  have h1 : Ideal.ofBits .f32 0x3C231ACC#32 ≠ 0 := by simp [Ideal.ofBits, Ideal.ieee, -EReal.coe_mul]
  have h2 : Ideal.ofBits .f32 0x322BCC77#32 ≠ 0 := by simp [Ideal.ofBits, Ideal.ieee, -EReal.coe_mul]
  have h3 : Ideal.sqrt 0 = 0 := by show (if (0 : ℝ) < 0 then (⊥ : EReal) else ((Real.sqrt 0 : ℝ) : EReal)) = 0; simp
  simp [delta, newM_zero, newV_zero, Ideal.div, h0, h1, h2, h3]

theorem d0 (w g m v : FVec Ideal S4x16 .f32) : val_main_v23 (F := Ideal) w g m v = fun i => delta (w i) (g i) (m i) (v i) := by
  funext i
  rfl
theorem d1 (w g m v : FVec Ideal S4x4x128x128 .f32) : val_main_v47 (F := Ideal) w g m v = fun i => delta (w i) (g i) (m i) (v i) := by
  funext i
  rfl
theorem d2 (w g m v : FVec Ideal S4x512 .f32) : val_main_v71 (F := Ideal) w g m v = fun i => delta (w i) (g i) (m i) (v i) := by
  funext i
  rfl
theorem d3 (w g m v : FVec Ideal S4x32x64 .f32) : val_main_v95 (F := Ideal) w g m v = fun i => delta (w i) (g i) (m i) (v i) := by
  funext i
  rfl
theorem d4 (w g m v : FVec Ideal S4x32x64 .f32) : val_main_v119 (F := Ideal) w g m v = fun i => delta (w i) (g i) (m i) (v i) := by
  funext i
  rfl
theorem d5 (w g m v : FVec Ideal S4x32 .f32) : val_main_v143 (F := Ideal) w g m v = fun i => delta (w i) (g i) (m i) (v i) := by
  funext i
  rfl
theorem d6 (w g m v : FVec Ideal S4x32x64x16 .f32) : val_main_v167 (F := Ideal) w g m v = fun i => delta (w i) (g i) (m i) (v i) := by
  funext i
  rfl
theorem d7 (w g m v : FVec Ideal S4x32x64x16 .f32) : val_main_v191 (F := Ideal) w g m v = fun i => delta (w i) (g i) (m i) (v i) := by
  funext i
  rfl
theorem d8 (w g m v : FVec Ideal S4x32x16x64 .f32) : val_main_v215 (F := Ideal) w g m v = fun i => delta (w i) (g i) (m i) (v i) := by
  funext i
  rfl
theorem d9 (w g m v : FVec Ideal S4x32x16x64 .f32) : val_main_v239 (F := Ideal) w g m v = fun i => delta (w i) (g i) (m i) (v i) := by
  funext i
  rfl
theorem d10 (w g m v : FVec Ideal S4x32x16 .f32) : val_main_v263 (F := Ideal) w g m v = fun i => delta (w i) (g i) (m i) (v i) := by
  funext i
  rfl
theorem d11 (w g m v : FVec Ideal S4x2048 .f32) : val_main_v287 (F := Ideal) w g m v = fun i => delta (w i) (g i) (m i) (v i) := by
  funext i
  rfl
theorem d12 (w g m v : FVec Ideal S4x2048 .f32) : val_main_v311 (F := Ideal) w g m v = fun i => delta (w i) (g i) (m i) (v i) := by
  funext i
  rfl
theorem d13 (w g m v : FVec Ideal S4x11008 .f32) : val_main_v335 (F := Ideal) w g m v = fun i => delta (w i) (g i) (m i) (v i) := by
  funext i
  rfl
theorem d14 (w g m v : FVec Ideal S4x2048 .f32) : val_main_v359 (F := Ideal) w g m v = fun i => delta (w i) (g i) (m i) (v i) := by
  funext i
  rfl
theorem d15 (w g m v : FVec Ideal S4x2048 .f32) : val_main_v383 (F := Ideal) w g m v = fun i => delta (w i) (g i) (m i) (v i) := by
  funext i
  rfl

theorem m0 (g m : FVec Ideal S4x16 .f32) : val_main_v4 (F := Ideal) g m = fun i => newM (g i) (m i) := by
  funext i
  rfl
theorem m1 (g m : FVec Ideal S4x4x128x128 .f32) : val_main_v28 (F := Ideal) g m = fun i => newM (g i) (m i) := by
  funext i
  rfl
theorem m2 (g m : FVec Ideal S4x512 .f32) : val_main_v52 (F := Ideal) g m = fun i => newM (g i) (m i) := by
  funext i
  rfl
theorem m3 (g m : FVec Ideal S4x32x64 .f32) : val_main_v76 (F := Ideal) g m = fun i => newM (g i) (m i) := by
  funext i
  rfl
theorem m4 (g m : FVec Ideal S4x32x64 .f32) : val_main_v100 (F := Ideal) g m = fun i => newM (g i) (m i) := by
  funext i
  rfl
theorem m5 (g m : FVec Ideal S4x32 .f32) : val_main_v124 (F := Ideal) g m = fun i => newM (g i) (m i) := by
  funext i
  rfl
theorem m6 (g m : FVec Ideal S4x32x64x16 .f32) : val_main_v148 (F := Ideal) g m = fun i => newM (g i) (m i) := by
  funext i
  rfl
theorem m7 (g m : FVec Ideal S4x32x64x16 .f32) : val_main_v172 (F := Ideal) g m = fun i => newM (g i) (m i) := by
  funext i
  rfl
theorem m8 (g m : FVec Ideal S4x32x16x64 .f32) : val_main_v196 (F := Ideal) g m = fun i => newM (g i) (m i) := by
  funext i
  rfl
theorem m9 (g m : FVec Ideal S4x32x16x64 .f32) : val_main_v220 (F := Ideal) g m = fun i => newM (g i) (m i) := by
  funext i
  rfl
theorem m10 (g m : FVec Ideal S4x32x16 .f32) : val_main_v244 (F := Ideal) g m = fun i => newM (g i) (m i) := by
  funext i
  rfl
theorem m11 (g m : FVec Ideal S4x2048 .f32) : val_main_v268 (F := Ideal) g m = fun i => newM (g i) (m i) := by
  funext i
  rfl
theorem m12 (g m : FVec Ideal S4x2048 .f32) : val_main_v292 (F := Ideal) g m = fun i => newM (g i) (m i) := by
  funext i
  rfl
theorem m13 (g m : FVec Ideal S4x11008 .f32) : val_main_v316 (F := Ideal) g m = fun i => newM (g i) (m i) := by
  funext i
  rfl
theorem m14 (g m : FVec Ideal S4x2048 .f32) : val_main_v340 (F := Ideal) g m = fun i => newM (g i) (m i) := by
  funext i
  rfl
theorem m15 (g m : FVec Ideal S4x2048 .f32) : val_main_v364 (F := Ideal) g m = fun i => newM (g i) (m i) := by
  funext i
  rfl

theorem v0 (g v : FVec Ideal S4x16 .f32) : val_main_v10 (F := Ideal) g v = fun i => newV (g i) (v i) := by
  funext i
  rfl
theorem v1 (g v : FVec Ideal S4x4x128x128 .f32) : val_main_v34 (F := Ideal) g v = fun i => newV (g i) (v i) := by
  funext i
  rfl
theorem v2 (g v : FVec Ideal S4x512 .f32) : val_main_v58 (F := Ideal) g v = fun i => newV (g i) (v i) := by
  funext i
  rfl
theorem v3 (g v : FVec Ideal S4x32x64 .f32) : val_main_v82 (F := Ideal) g v = fun i => newV (g i) (v i) := by
  funext i
  rfl
theorem v4 (g v : FVec Ideal S4x32x64 .f32) : val_main_v106 (F := Ideal) g v = fun i => newV (g i) (v i) := by
  funext i
  rfl
theorem v5 (g v : FVec Ideal S4x32 .f32) : val_main_v130 (F := Ideal) g v = fun i => newV (g i) (v i) := by
  funext i
  rfl
theorem v6 (g v : FVec Ideal S4x32x64x16 .f32) : val_main_v154 (F := Ideal) g v = fun i => newV (g i) (v i) := by
  funext i
  rfl
theorem v7 (g v : FVec Ideal S4x32x64x16 .f32) : val_main_v178 (F := Ideal) g v = fun i => newV (g i) (v i) := by
  funext i
  rfl
theorem v8 (g v : FVec Ideal S4x32x16x64 .f32) : val_main_v202 (F := Ideal) g v = fun i => newV (g i) (v i) := by
  funext i
  rfl
theorem v9 (g v : FVec Ideal S4x32x16x64 .f32) : val_main_v226 (F := Ideal) g v = fun i => newV (g i) (v i) := by
  funext i
  rfl
theorem v10 (g v : FVec Ideal S4x32x16 .f32) : val_main_v250 (F := Ideal) g v = fun i => newV (g i) (v i) := by
  funext i
  rfl
theorem v11 (g v : FVec Ideal S4x2048 .f32) : val_main_v274 (F := Ideal) g v = fun i => newV (g i) (v i) := by
  funext i
  rfl
theorem v12 (g v : FVec Ideal S4x2048 .f32) : val_main_v298 (F := Ideal) g v = fun i => newV (g i) (v i) := by
  funext i
  rfl
theorem v13 (g v : FVec Ideal S4x11008 .f32) : val_main_v322 (F := Ideal) g v = fun i => newV (g i) (v i) := by
  funext i
  rfl
theorem v14 (g v : FVec Ideal S4x2048 .f32) : val_main_v346 (F := Ideal) g v = fun i => newV (g i) (v i) := by
  funext i
  rfl
theorem v15 (g v : FVec Ideal S4x2048 .f32) : val_main_v370 (F := Ideal) g v = fun i => newV (g i) (v i) := by
  funext i
  rfl

theorem d_packed (x0 : FVec Ideal S4x16 .f32) (x1 : FVec Ideal S4x4x128x128 .f32) (x2 : FVec Ideal S4x512 .f32) (x3 : FVec Ideal S4x32x64 .f32) (x4 : FVec Ideal S4x32x64 .f32) (x5 : FVec Ideal S4x32 .f32) (x6 : FVec Ideal S4x32x64x16 .f32) (x7 : FVec Ideal S4x32x64x16 .f32) (x8 : FVec Ideal S4x32x16x64 .f32) (x9 : FVec Ideal S4x32x16x64 .f32) (x10 : FVec Ideal S4x32x16 .f32) (x11 : FVec Ideal S4x2048 .f32) (x12 : FVec Ideal S4x2048 .f32) (x13 : FVec Ideal S4x11008 .f32) (x14 : FVec Ideal S4x2048 .f32) (x15 : FVec Ideal S4x2048 .f32) (x16 : FVec Ideal S4x16 .f32) (x17 : FVec Ideal S4x4x128x128 .f32) (x18 : FVec Ideal S4x512 .f32) (x19 : FVec Ideal S4x32x64 .f32) (x20 : FVec Ideal S4x32x64 .f32) (x21 : FVec Ideal S4x32 .f32) (x22 : FVec Ideal S4x32x64x16 .f32) (x23 : FVec Ideal S4x32x64x16 .f32) (x24 : FVec Ideal S4x32x16x64 .f32) (x25 : FVec Ideal S4x32x16x64 .f32) (x26 : FVec Ideal S4x32x16 .f32) (x27 : FVec Ideal S4x2048 .f32) (x28 : FVec Ideal S4x2048 .f32) (x29 : FVec Ideal S4x11008 .f32) (x30 : FVec Ideal S4x2048 .f32) (x31 : FVec Ideal S4x2048 .f32) (x32 : FVec Ideal S4x16 .f32) (x33 : FVec Ideal S4x4x128x128 .f32) (x34 : FVec Ideal S4x512 .f32) (x35 : FVec Ideal S4x32x64 .f32) (x36 : FVec Ideal S4x32x64 .f32) (x37 : FVec Ideal S4x32 .f32) (x38 : FVec Ideal S4x32x64x16 .f32) (x39 : FVec Ideal S4x32x64x16 .f32) (x40 : FVec Ideal S4x32x16x64 .f32) (x41 : FVec Ideal S4x32x16x64 .f32) (x42 : FVec Ideal S4x32x16 .f32) (x43 : FVec Ideal S4x2048 .f32) (x44 : FVec Ideal S4x2048 .f32) (x45 : FVec Ideal S4x11008 .f32) (x46 : FVec Ideal S4x2048 .f32) (x47 : FVec Ideal S4x2048 .f32) (x48 : FVec Ideal S4x16 .f32) (x49 : FVec Ideal S4x4x128x128 .f32) (x50 : FVec Ideal S4x512 .f32) (x51 : FVec Ideal S4x32x64 .f32) (x52 : FVec Ideal S4x32x64 .f32) (x53 : FVec Ideal S4x32 .f32) (x54 : FVec Ideal S4x32x64x16 .f32) (x55 : FVec Ideal S4x32x64x16 .f32) (x56 : FVec Ideal S4x32x16x64 .f32) (x57 : FVec Ideal S4x32x16x64 .f32) (x58 : FVec Ideal S4x32x16 .f32) (x59 : FVec Ideal S4x2048 .f32) (x60 : FVec Ideal S4x2048 .f32) (x61 : FVec Ideal S4x11008 .f32) (x62 : FVec Ideal S4x2048 .f32) (x63 : FVec Ideal S4x2048 .f32) :
    val_main_v409 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63
      = fun j => delta (pack (fun _ => (0 : EReal)) ⟨x0, x1, x2, x3, x4, x5, x6, x7, x8, x9, x10, x11, x12, x13, x14, x15⟩ j) (pack (fun _ => (0 : EReal)) ⟨x16, x17, x18, x19, x20, x21, x22, x23, x24, x25, x26, x27, x28, x29, x30, x31⟩ j) (pack (fun _ => (0 : EReal)) ⟨x32, x33, x34, x35, x36, x37, x38, x39, x40, x41, x42, x43, x44, x45, x46, x47⟩ j) (pack (fun _ => (0 : EReal)) ⟨x48, x49, x50, x51, x52, x53, x54, x55, x56, x57, x58, x59, x60, x61, x62, x63⟩ j) := by
  have e := pack_four (fun w g m v => delta w g m v) (0 : EReal) delta_zero ⟨x0, x1, x2, x3, x4, x5, x6, x7, x8, x9, x10, x11, x12, x13, x14, x15⟩ ⟨x16, x17, x18, x19, x20, x21, x22, x23, x24, x25, x26, x27, x28, x29, x30, x31⟩ ⟨x32, x33, x34, x35, x36, x37, x38, x39, x40, x41, x42, x43, x44, x45, x46, x47⟩ ⟨x48, x49, x50, x51, x52, x53, x54, x55, x56, x57, x58, x59, x60, x61, x62, x63⟩
  refine Eq.trans ?_ e
  rw [← zp_eq]
  have h : val_main_v409 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 = pack zp ⟨val_main_v23 (F := Ideal) x0 x16 x32 x48, val_main_v47 (F := Ideal) x1 x17 x33 x49, val_main_v71 (F := Ideal) x2 x18 x34 x50, val_main_v95 (F := Ideal) x3 x19 x35 x51, val_main_v119 (F := Ideal) x4 x20 x36 x52, val_main_v143 (F := Ideal) x5 x21 x37 x53, val_main_v167 (F := Ideal) x6 x22 x38 x54, val_main_v191 (F := Ideal) x7 x23 x39 x55, val_main_v215 (F := Ideal) x8 x24 x40 x56, val_main_v239 (F := Ideal) x9 x25 x41 x57, val_main_v263 (F := Ideal) x10 x26 x42 x58, val_main_v287 (F := Ideal) x11 x27 x43 x59, val_main_v311 (F := Ideal) x12 x28 x44 x60, val_main_v335 (F := Ideal) x13 x29 x45 x61, val_main_v359 (F := Ideal) x14 x30 x46 x62, val_main_v383 (F := Ideal) x15 x31 x47 x63⟩ := rfl
  rw [h, d0, d1, d2, d3, d4, d5, d6, d7, d8, d9, d10, d11, d12, d13, d14, d15]
  rfl

theorem m_packed (x0 : FVec Ideal S4x16 .f32) (x1 : FVec Ideal S4x4x128x128 .f32) (x2 : FVec Ideal S4x512 .f32) (x3 : FVec Ideal S4x32x64 .f32) (x4 : FVec Ideal S4x32x64 .f32) (x5 : FVec Ideal S4x32 .f32) (x6 : FVec Ideal S4x32x64x16 .f32) (x7 : FVec Ideal S4x32x64x16 .f32) (x8 : FVec Ideal S4x32x16x64 .f32) (x9 : FVec Ideal S4x32x16x64 .f32) (x10 : FVec Ideal S4x32x16 .f32) (x11 : FVec Ideal S4x2048 .f32) (x12 : FVec Ideal S4x2048 .f32) (x13 : FVec Ideal S4x11008 .f32) (x14 : FVec Ideal S4x2048 .f32) (x15 : FVec Ideal S4x2048 .f32) (x16 : FVec Ideal S4x16 .f32) (x17 : FVec Ideal S4x4x128x128 .f32) (x18 : FVec Ideal S4x512 .f32) (x19 : FVec Ideal S4x32x64 .f32) (x20 : FVec Ideal S4x32x64 .f32) (x21 : FVec Ideal S4x32 .f32) (x22 : FVec Ideal S4x32x64x16 .f32) (x23 : FVec Ideal S4x32x64x16 .f32) (x24 : FVec Ideal S4x32x16x64 .f32) (x25 : FVec Ideal S4x32x16x64 .f32) (x26 : FVec Ideal S4x32x16 .f32) (x27 : FVec Ideal S4x2048 .f32) (x28 : FVec Ideal S4x2048 .f32) (x29 : FVec Ideal S4x11008 .f32) (x30 : FVec Ideal S4x2048 .f32) (x31 : FVec Ideal S4x2048 .f32) (x32 : FVec Ideal S4x16 .f32) (x33 : FVec Ideal S4x4x128x128 .f32) (x34 : FVec Ideal S4x512 .f32) (x35 : FVec Ideal S4x32x64 .f32) (x36 : FVec Ideal S4x32x64 .f32) (x37 : FVec Ideal S4x32 .f32) (x38 : FVec Ideal S4x32x64x16 .f32) (x39 : FVec Ideal S4x32x64x16 .f32) (x40 : FVec Ideal S4x32x16x64 .f32) (x41 : FVec Ideal S4x32x16x64 .f32) (x42 : FVec Ideal S4x32x16 .f32) (x43 : FVec Ideal S4x2048 .f32) (x44 : FVec Ideal S4x2048 .f32) (x45 : FVec Ideal S4x11008 .f32) (x46 : FVec Ideal S4x2048 .f32) (x47 : FVec Ideal S4x2048 .f32) (x48 : FVec Ideal S4x16 .f32) (x49 : FVec Ideal S4x4x128x128 .f32) (x50 : FVec Ideal S4x512 .f32) (x51 : FVec Ideal S4x32x64 .f32) (x52 : FVec Ideal S4x32x64 .f32) (x53 : FVec Ideal S4x32 .f32) (x54 : FVec Ideal S4x32x64x16 .f32) (x55 : FVec Ideal S4x32x64x16 .f32) (x56 : FVec Ideal S4x32x16x64 .f32) (x57 : FVec Ideal S4x32x16x64 .f32) (x58 : FVec Ideal S4x32x16 .f32) (x59 : FVec Ideal S4x2048 .f32) (x60 : FVec Ideal S4x2048 .f32) (x61 : FVec Ideal S4x11008 .f32) (x62 : FVec Ideal S4x2048 .f32) (x63 : FVec Ideal S4x2048 .f32) :
    val_main_v435 (F := Ideal) x16 x17 x18 x19 x20 x21 x22 x23 x24 x25 x26 x27 x28 x29 x30 x31 x32 x33 x34 x35 x36 x37 x38 x39 x40 x41 x42 x43 x44 x45 x46 x47
      = fun j => newM (pack (fun _ => (0 : EReal)) ⟨x16, x17, x18, x19, x20, x21, x22, x23, x24, x25, x26, x27, x28, x29, x30, x31⟩ j) (pack (fun _ => (0 : EReal)) ⟨x32, x33, x34, x35, x36, x37, x38, x39, x40, x41, x42, x43, x44, x45, x46, x47⟩ j) := by
  have e := pack_four (fun _ g m _ => newM g m) (0 : EReal) newM_zero ⟨x0, x1, x2, x3, x4, x5, x6, x7, x8, x9, x10, x11, x12, x13, x14, x15⟩ ⟨x16, x17, x18, x19, x20, x21, x22, x23, x24, x25, x26, x27, x28, x29, x30, x31⟩ ⟨x32, x33, x34, x35, x36, x37, x38, x39, x40, x41, x42, x43, x44, x45, x46, x47⟩ ⟨x48, x49, x50, x51, x52, x53, x54, x55, x56, x57, x58, x59, x60, x61, x62, x63⟩
  refine Eq.trans ?_ e
  rw [← zp_eq]
  have h : val_main_v435 (F := Ideal) x16 x17 x18 x19 x20 x21 x22 x23 x24 x25 x26 x27 x28 x29 x30 x31 x32 x33 x34 x35 x36 x37 x38 x39 x40 x41 x42 x43 x44 x45 x46 x47 = pack zp ⟨val_main_v4 (F := Ideal) x16 x32, val_main_v28 (F := Ideal) x17 x33, val_main_v52 (F := Ideal) x18 x34, val_main_v76 (F := Ideal) x19 x35, val_main_v100 (F := Ideal) x20 x36, val_main_v124 (F := Ideal) x21 x37, val_main_v148 (F := Ideal) x22 x38, val_main_v172 (F := Ideal) x23 x39, val_main_v196 (F := Ideal) x24 x40, val_main_v220 (F := Ideal) x25 x41, val_main_v244 (F := Ideal) x26 x42, val_main_v268 (F := Ideal) x27 x43, val_main_v292 (F := Ideal) x28 x44, val_main_v316 (F := Ideal) x29 x45, val_main_v340 (F := Ideal) x30 x46, val_main_v364 (F := Ideal) x31 x47⟩ := rfl
  rw [h, m0, m1, m2, m3, m4, m5, m6, m7, m8, m9, m10, m11, m12, m13, m14, m15]
  rfl

theorem v_packed (x0 : FVec Ideal S4x16 .f32) (x1 : FVec Ideal S4x4x128x128 .f32) (x2 : FVec Ideal S4x512 .f32) (x3 : FVec Ideal S4x32x64 .f32) (x4 : FVec Ideal S4x32x64 .f32) (x5 : FVec Ideal S4x32 .f32) (x6 : FVec Ideal S4x32x64x16 .f32) (x7 : FVec Ideal S4x32x64x16 .f32) (x8 : FVec Ideal S4x32x16x64 .f32) (x9 : FVec Ideal S4x32x16x64 .f32) (x10 : FVec Ideal S4x32x16 .f32) (x11 : FVec Ideal S4x2048 .f32) (x12 : FVec Ideal S4x2048 .f32) (x13 : FVec Ideal S4x11008 .f32) (x14 : FVec Ideal S4x2048 .f32) (x15 : FVec Ideal S4x2048 .f32) (x16 : FVec Ideal S4x16 .f32) (x17 : FVec Ideal S4x4x128x128 .f32) (x18 : FVec Ideal S4x512 .f32) (x19 : FVec Ideal S4x32x64 .f32) (x20 : FVec Ideal S4x32x64 .f32) (x21 : FVec Ideal S4x32 .f32) (x22 : FVec Ideal S4x32x64x16 .f32) (x23 : FVec Ideal S4x32x64x16 .f32) (x24 : FVec Ideal S4x32x16x64 .f32) (x25 : FVec Ideal S4x32x16x64 .f32) (x26 : FVec Ideal S4x32x16 .f32) (x27 : FVec Ideal S4x2048 .f32) (x28 : FVec Ideal S4x2048 .f32) (x29 : FVec Ideal S4x11008 .f32) (x30 : FVec Ideal S4x2048 .f32) (x31 : FVec Ideal S4x2048 .f32) (x32 : FVec Ideal S4x16 .f32) (x33 : FVec Ideal S4x4x128x128 .f32) (x34 : FVec Ideal S4x512 .f32) (x35 : FVec Ideal S4x32x64 .f32) (x36 : FVec Ideal S4x32x64 .f32) (x37 : FVec Ideal S4x32 .f32) (x38 : FVec Ideal S4x32x64x16 .f32) (x39 : FVec Ideal S4x32x64x16 .f32) (x40 : FVec Ideal S4x32x16x64 .f32) (x41 : FVec Ideal S4x32x16x64 .f32) (x42 : FVec Ideal S4x32x16 .f32) (x43 : FVec Ideal S4x2048 .f32) (x44 : FVec Ideal S4x2048 .f32) (x45 : FVec Ideal S4x11008 .f32) (x46 : FVec Ideal S4x2048 .f32) (x47 : FVec Ideal S4x2048 .f32) (x48 : FVec Ideal S4x16 .f32) (x49 : FVec Ideal S4x4x128x128 .f32) (x50 : FVec Ideal S4x512 .f32) (x51 : FVec Ideal S4x32x64 .f32) (x52 : FVec Ideal S4x32x64 .f32) (x53 : FVec Ideal S4x32 .f32) (x54 : FVec Ideal S4x32x64x16 .f32) (x55 : FVec Ideal S4x32x64x16 .f32) (x56 : FVec Ideal S4x32x16x64 .f32) (x57 : FVec Ideal S4x32x16x64 .f32) (x58 : FVec Ideal S4x32x16 .f32) (x59 : FVec Ideal S4x2048 .f32) (x60 : FVec Ideal S4x2048 .f32) (x61 : FVec Ideal S4x11008 .f32) (x62 : FVec Ideal S4x2048 .f32) (x63 : FVec Ideal S4x2048 .f32) :
    val_main_v461 (F := Ideal) x16 x17 x18 x19 x20 x21 x22 x23 x24 x25 x26 x27 x28 x29 x30 x31 x48 x49 x50 x51 x52 x53 x54 x55 x56 x57 x58 x59 x60 x61 x62 x63
      = fun j => newV (pack (fun _ => (0 : EReal)) ⟨x16, x17, x18, x19, x20, x21, x22, x23, x24, x25, x26, x27, x28, x29, x30, x31⟩ j) (pack (fun _ => (0 : EReal)) ⟨x48, x49, x50, x51, x52, x53, x54, x55, x56, x57, x58, x59, x60, x61, x62, x63⟩ j) := by
  have e := pack_four (fun _ g _ v => newV g v) (0 : EReal) newV_zero ⟨x0, x1, x2, x3, x4, x5, x6, x7, x8, x9, x10, x11, x12, x13, x14, x15⟩ ⟨x16, x17, x18, x19, x20, x21, x22, x23, x24, x25, x26, x27, x28, x29, x30, x31⟩ ⟨x32, x33, x34, x35, x36, x37, x38, x39, x40, x41, x42, x43, x44, x45, x46, x47⟩ ⟨x48, x49, x50, x51, x52, x53, x54, x55, x56, x57, x58, x59, x60, x61, x62, x63⟩
  refine Eq.trans ?_ e
  rw [← zp_eq]
  have h : val_main_v461 (F := Ideal) x16 x17 x18 x19 x20 x21 x22 x23 x24 x25 x26 x27 x28 x29 x30 x31 x48 x49 x50 x51 x52 x53 x54 x55 x56 x57 x58 x59 x60 x61 x62 x63 = pack zp ⟨val_main_v10 (F := Ideal) x16 x48, val_main_v34 (F := Ideal) x17 x49, val_main_v58 (F := Ideal) x18 x50, val_main_v82 (F := Ideal) x19 x51, val_main_v106 (F := Ideal) x20 x52, val_main_v130 (F := Ideal) x21 x53, val_main_v154 (F := Ideal) x22 x54, val_main_v178 (F := Ideal) x23 x55, val_main_v202 (F := Ideal) x24 x56, val_main_v226 (F := Ideal) x25 x57, val_main_v250 (F := Ideal) x26 x58, val_main_v274 (F := Ideal) x27 x59, val_main_v298 (F := Ideal) x28 x60, val_main_v322 (F := Ideal) x29 x61, val_main_v346 (F := Ideal) x30 x62, val_main_v370 (F := Ideal) x31 x63⟩ := rfl
  rw [h, v0, v1, v2, v3, v4, v5, v6, v7, v8, v9, v10, v11, v12, v13, v14, v15]
  rfl

end Cert.AdamwRefIdeal.Product
namespace Cert.AdamwIdeal.Product
open Cert.AdamwIdeal Cert.AdamwIdeal.Gen
open Cert.AdamwRefIdeal.Product (Packed lay pack zp zp_eq newM newV delta row0 row1 row2 row3 row4 row5 row6 row7 row8 row9 row10 row11 row12 row13 row14 row15)
variable (m : (ℓ : Loc nD τ sig) → Buf (Elt Ideal) ℓ)

theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0] :=
  (by decide +kernel : ∀ t : Fin grid0.N, _)

/-- The operations before the kernel is called. -/
abbrev line : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128]

/-- A buffer after the first `n` of them. -/
abbrev upTo (n : ℕ) (c : Dev nD) (b : Ref sig .tc) : Buf (Elt Ideal) ((c : Thread nD τ).loc b) :=
  StableHlo.upto line (fun b => m (c, b)) n (Proc.devRef .tc b)

theorem at0_0 (c : Dev nD) : upTo m 56 c main_v0 = row0 zp (m ((c : Thread nD τ).loc main_arg0)) := by
  unfold upTo
  after_reads_simp
  rfl

theorem at0_1 (c : Dev nD) : upTo m 56 c main_v2 = row1 zp (m ((c : Thread nD τ).loc main_arg1)) := by
  unfold upTo
  after_reads_simp
  rfl

theorem at0_2 (c : Dev nD) : upTo m 56 c main_v3 = row2 zp (m ((c : Thread nD τ).loc main_arg2)) := by
  unfold upTo
  after_reads_simp
  rfl

theorem at0_3 (c : Dev nD) : upTo m 56 c main_v5 = row3 zp (m ((c : Thread nD τ).loc main_arg3)) := by
  unfold upTo
  after_reads_simp
  rfl

theorem at0_4 (c : Dev nD) : upTo m 56 c main_v7 = row4 zp (m ((c : Thread nD τ).loc main_arg4)) := by
  unfold upTo
  after_reads_simp
  rfl

theorem at0_5 (c : Dev nD) : upTo m 56 c main_v8 = row5 zp (m ((c : Thread nD τ).loc main_arg5)) := by
  unfold upTo
  after_reads_simp
  rfl

theorem at0_6 (c : Dev nD) : upTo m 56 c main_v10 = row6 zp (m ((c : Thread nD τ).loc main_arg6)) := by
  unfold upTo
  after_reads_simp
  rfl

theorem at0_7 (c : Dev nD) : upTo m 56 c main_v12 = row7 zp (m ((c : Thread nD τ).loc main_arg7)) := by
  unfold upTo
  after_reads_simp
  rfl

theorem at0_8 (c : Dev nD) : upTo m 56 c main_v14 = row8 zp (m ((c : Thread nD τ).loc main_arg8)) := by
  unfold upTo
  after_reads_simp
  rfl

theorem at0_9 (c : Dev nD) : upTo m 56 c main_v16 = row9 zp (m ((c : Thread nD τ).loc main_arg9)) := by
  unfold upTo
  after_reads_simp
  rfl

theorem at0_10 (c : Dev nD) : upTo m 56 c main_v18 = row10 zp (m ((c : Thread nD τ).loc main_arg10)) := by
  unfold upTo
  after_reads_simp
  rfl

theorem at0_11 (c : Dev nD) : upTo m 56 c main_v19 = row11 zp (m ((c : Thread nD τ).loc main_arg11)) := by
  unfold upTo
  after_reads_simp
  rfl

theorem at0_12 (c : Dev nD) : upTo m 56 c main_v20 = row12 zp (m ((c : Thread nD τ).loc main_arg12)) := by
  unfold upTo
  after_reads_simp
  rfl

theorem at0_13 (c : Dev nD) : upTo m 56 c main_v21 = row13 zp (m ((c : Thread nD τ).loc main_arg13)) := by
  unfold upTo
  after_reads_simp
  rfl

theorem at0_14 (c : Dev nD) : upTo m 56 c main_v22 = row14 zp (m ((c : Thread nD τ).loc main_arg14)) := by
  unfold upTo
  after_reads_simp
  rfl

theorem at0_15 (c : Dev nD) : upTo m 56 c main_v23 = row15 zp (m ((c : Thread nD τ).loc main_arg15)) := by
  unfold upTo
  after_reads_simp
  rfl

def arrays0 (c : Dev nD) : Packed EReal := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

theorem entry0 (c : Dev nD) : V m c main_v25 = pack (fun _ => (0 : EReal)) (arrays0 m c) := by
  have h : V m c main_v25 = lay (upTo m 56 c main_v0) (upTo m 56 c main_v2) (upTo m 56 c main_v3) (upTo m 56 c main_v5) (upTo m 56 c main_v7) (upTo m 56 c main_v8) (upTo m 56 c main_v10) (upTo m 56 c main_v12) (upTo m 56 c main_v14) (upTo m 56 c main_v16) (upTo m 56 c main_v18) (upTo m 56 c main_v19) (upTo m 56 c main_v20) (upTo m 56 c main_v21) (upTo m 56 c main_v22) (upTo m 56 c main_v23) := by
    unfold V
    after_reads_simp
    rfl
  rw [h, at0_0, at0_1, at0_2, at0_3, at0_4, at0_5, at0_6, at0_7, at0_8, at0_9, at0_10, at0_11, at0_12, at0_13, at0_14, at0_15, ← zp_eq]
  rfl

theorem at1_0 (c : Dev nD) : upTo m 114 c main_v26 = row0 zp (m ((c : Thread nD τ).loc main_arg16)) := by
  unfold upTo
  after_reads_simp
  rfl

theorem at1_1 (c : Dev nD) : upTo m 114 c main_v28 = row1 zp (m ((c : Thread nD τ).loc main_arg17)) := by
  unfold upTo
  after_reads_simp
  rfl

theorem at1_2 (c : Dev nD) : upTo m 114 c main_v29 = row2 zp (m ((c : Thread nD τ).loc main_arg18)) := by
  unfold upTo
  after_reads_simp
  rfl

theorem at1_3 (c : Dev nD) : upTo m 114 c main_v31 = row3 zp (m ((c : Thread nD τ).loc main_arg19)) := by
  unfold upTo
  after_reads_simp
  rfl

theorem at1_4 (c : Dev nD) : upTo m 114 c main_v33 = row4 zp (m ((c : Thread nD τ).loc main_arg20)) := by
  unfold upTo
  after_reads_simp
  rfl

theorem at1_5 (c : Dev nD) : upTo m 114 c main_v34 = row5 zp (m ((c : Thread nD τ).loc main_arg21)) := by
  unfold upTo
  after_reads_simp
  rfl

theorem at1_6 (c : Dev nD) : upTo m 114 c main_v36 = row6 zp (m ((c : Thread nD τ).loc main_arg22)) := by
  unfold upTo
  after_reads_simp
  rfl

theorem at1_7 (c : Dev nD) : upTo m 114 c main_v38 = row7 zp (m ((c : Thread nD τ).loc main_arg23)) := by
  unfold upTo
  after_reads_simp
  rfl

theorem at1_8 (c : Dev nD) : upTo m 114 c main_v40 = row8 zp (m ((c : Thread nD τ).loc main_arg24)) := by
  unfold upTo
  after_reads_simp
  rfl

theorem at1_9 (c : Dev nD) : upTo m 114 c main_v42 = row9 zp (m ((c : Thread nD τ).loc main_arg25)) := by
  unfold upTo
  after_reads_simp
  rfl

theorem at1_10 (c : Dev nD) : upTo m 114 c main_v44 = row10 zp (m ((c : Thread nD τ).loc main_arg26)) := by
  unfold upTo
  after_reads_simp
  rfl

theorem at1_11 (c : Dev nD) : upTo m 114 c main_v45 = row11 zp (m ((c : Thread nD τ).loc main_arg27)) := by
  unfold upTo
  after_reads_simp
  rfl

theorem at1_12 (c : Dev nD) : upTo m 114 c main_v46 = row12 zp (m ((c : Thread nD τ).loc main_arg28)) := by
  unfold upTo
  after_reads_simp
  rfl

theorem at1_13 (c : Dev nD) : upTo m 114 c main_v47 = row13 zp (m ((c : Thread nD τ).loc main_arg29)) := by
  unfold upTo
  after_reads_simp
  rfl

theorem at1_14 (c : Dev nD) : upTo m 114 c main_v48 = row14 zp (m ((c : Thread nD τ).loc main_arg30)) := by
  unfold upTo
  after_reads_simp
  rfl

theorem at1_15 (c : Dev nD) : upTo m 114 c main_v49 = row15 zp (m ((c : Thread nD τ).loc main_arg31)) := by
  unfold upTo
  after_reads_simp
  rfl

def arrays1 (c : Dev nD) : Packed EReal := ⟨m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31)⟩

theorem entry1 (c : Dev nD) : V m c main_v51 = pack (fun _ => (0 : EReal)) (arrays1 m c) := by
  have h : V m c main_v51 = lay (upTo m 114 c main_v26) (upTo m 114 c main_v28) (upTo m 114 c main_v29) (upTo m 114 c main_v31) (upTo m 114 c main_v33) (upTo m 114 c main_v34) (upTo m 114 c main_v36) (upTo m 114 c main_v38) (upTo m 114 c main_v40) (upTo m 114 c main_v42) (upTo m 114 c main_v44) (upTo m 114 c main_v45) (upTo m 114 c main_v46) (upTo m 114 c main_v47) (upTo m 114 c main_v48) (upTo m 114 c main_v49) := by
    unfold V
    after_reads_simp
    rfl
  rw [h, at1_0, at1_1, at1_2, at1_3, at1_4, at1_5, at1_6, at1_7, at1_8, at1_9, at1_10, at1_11, at1_12, at1_13, at1_14, at1_15, ← zp_eq]
  rfl

theorem at2_0 (c : Dev nD) : upTo m 172 c main_v52 = row0 zp (m ((c : Thread nD τ).loc main_arg32)) := by
  unfold upTo
  after_reads_simp
  rfl

theorem at2_1 (c : Dev nD) : upTo m 172 c main_v54 = row1 zp (m ((c : Thread nD τ).loc main_arg33)) := by
  unfold upTo
  after_reads_simp
  rfl

theorem at2_2 (c : Dev nD) : upTo m 172 c main_v55 = row2 zp (m ((c : Thread nD τ).loc main_arg34)) := by
  unfold upTo
  after_reads_simp
  rfl

theorem at2_3 (c : Dev nD) : upTo m 172 c main_v57 = row3 zp (m ((c : Thread nD τ).loc main_arg35)) := by
  unfold upTo
  after_reads_simp
  rfl

theorem at2_4 (c : Dev nD) : upTo m 172 c main_v59 = row4 zp (m ((c : Thread nD τ).loc main_arg36)) := by
  unfold upTo
  after_reads_simp
  rfl

theorem at2_5 (c : Dev nD) : upTo m 172 c main_v60 = row5 zp (m ((c : Thread nD τ).loc main_arg37)) := by
  unfold upTo
  after_reads_simp
  rfl

theorem at2_6 (c : Dev nD) : upTo m 172 c main_v62 = row6 zp (m ((c : Thread nD τ).loc main_arg38)) := by
  unfold upTo
  after_reads_simp
  rfl

theorem at2_7 (c : Dev nD) : upTo m 172 c main_v64 = row7 zp (m ((c : Thread nD τ).loc main_arg39)) := by
  unfold upTo
  after_reads_simp
  rfl

theorem at2_8 (c : Dev nD) : upTo m 172 c main_v66 = row8 zp (m ((c : Thread nD τ).loc main_arg40)) := by
  unfold upTo
  after_reads_simp
  rfl

theorem at2_9 (c : Dev nD) : upTo m 172 c main_v68 = row9 zp (m ((c : Thread nD τ).loc main_arg41)) := by
  unfold upTo
  after_reads_simp
  rfl

theorem at2_10 (c : Dev nD) : upTo m 172 c main_v70 = row10 zp (m ((c : Thread nD τ).loc main_arg42)) := by
  unfold upTo
  after_reads_simp
  rfl

theorem at2_11 (c : Dev nD) : upTo m 172 c main_v71 = row11 zp (m ((c : Thread nD τ).loc main_arg43)) := by
  unfold upTo
  after_reads_simp
  rfl

theorem at2_12 (c : Dev nD) : upTo m 172 c main_v72 = row12 zp (m ((c : Thread nD τ).loc main_arg44)) := by
  unfold upTo
  after_reads_simp
  rfl

theorem at2_13 (c : Dev nD) : upTo m 172 c main_v73 = row13 zp (m ((c : Thread nD τ).loc main_arg45)) := by
  unfold upTo
  after_reads_simp
  rfl

theorem at2_14 (c : Dev nD) : upTo m 172 c main_v74 = row14 zp (m ((c : Thread nD τ).loc main_arg46)) := by
  unfold upTo
  after_reads_simp
  rfl

theorem at2_15 (c : Dev nD) : upTo m 172 c main_v75 = row15 zp (m ((c : Thread nD τ).loc main_arg47)) := by
  unfold upTo
  after_reads_simp
  rfl

def arrays2 (c : Dev nD) : Packed EReal := ⟨m ((c : Thread nD τ).loc main_arg32), m ((c : Thread nD τ).loc main_arg33), m ((c : Thread nD τ).loc main_arg34), m ((c : Thread nD τ).loc main_arg35), m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44), m ((c : Thread nD τ).loc main_arg45), m ((c : Thread nD τ).loc main_arg46), m ((c : Thread nD τ).loc main_arg47)⟩

theorem entry2 (c : Dev nD) : V m c main_v77 = pack (fun _ => (0 : EReal)) (arrays2 m c) := by
  have h : V m c main_v77 = lay (upTo m 172 c main_v52) (upTo m 172 c main_v54) (upTo m 172 c main_v55) (upTo m 172 c main_v57) (upTo m 172 c main_v59) (upTo m 172 c main_v60) (upTo m 172 c main_v62) (upTo m 172 c main_v64) (upTo m 172 c main_v66) (upTo m 172 c main_v68) (upTo m 172 c main_v70) (upTo m 172 c main_v71) (upTo m 172 c main_v72) (upTo m 172 c main_v73) (upTo m 172 c main_v74) (upTo m 172 c main_v75) := by
    unfold V
    after_reads_simp
    rfl
  rw [h, at2_0, at2_1, at2_2, at2_3, at2_4, at2_5, at2_6, at2_7, at2_8, at2_9, at2_10, at2_11, at2_12, at2_13, at2_14, at2_15, ← zp_eq]
  rfl

theorem at3_0 (c : Dev nD) : upTo m 230 c main_v78 = row0 zp (m ((c : Thread nD τ).loc main_arg48)) := by
  unfold upTo
  after_reads_simp
  rfl

theorem at3_1 (c : Dev nD) : upTo m 230 c main_v80 = row1 zp (m ((c : Thread nD τ).loc main_arg49)) := by
  unfold upTo
  after_reads_simp
  rfl

theorem at3_2 (c : Dev nD) : upTo m 230 c main_v81 = row2 zp (m ((c : Thread nD τ).loc main_arg50)) := by
  unfold upTo
  after_reads_simp
  rfl

theorem at3_3 (c : Dev nD) : upTo m 230 c main_v83 = row3 zp (m ((c : Thread nD τ).loc main_arg51)) := by
  unfold upTo
  after_reads_simp
  rfl

theorem at3_4 (c : Dev nD) : upTo m 230 c main_v85 = row4 zp (m ((c : Thread nD τ).loc main_arg52)) := by
  unfold upTo
  after_reads_simp
  rfl

theorem at3_5 (c : Dev nD) : upTo m 230 c main_v86 = row5 zp (m ((c : Thread nD τ).loc main_arg53)) := by
  unfold upTo
  after_reads_simp
  rfl

theorem at3_6 (c : Dev nD) : upTo m 230 c main_v88 = row6 zp (m ((c : Thread nD τ).loc main_arg54)) := by
  unfold upTo
  after_reads_simp
  rfl

theorem at3_7 (c : Dev nD) : upTo m 230 c main_v90 = row7 zp (m ((c : Thread nD τ).loc main_arg55)) := by
  unfold upTo
  after_reads_simp
  rfl

theorem at3_8 (c : Dev nD) : upTo m 230 c main_v92 = row8 zp (m ((c : Thread nD τ).loc main_arg56)) := by
  unfold upTo
  after_reads_simp
  rfl

theorem at3_9 (c : Dev nD) : upTo m 230 c main_v94 = row9 zp (m ((c : Thread nD τ).loc main_arg57)) := by
  unfold upTo
  after_reads_simp
  rfl

theorem at3_10 (c : Dev nD) : upTo m 230 c main_v96 = row10 zp (m ((c : Thread nD τ).loc main_arg58)) := by
  unfold upTo
  after_reads_simp
  rfl

theorem at3_11 (c : Dev nD) : upTo m 230 c main_v97 = row11 zp (m ((c : Thread nD τ).loc main_arg59)) := by
  unfold upTo
  after_reads_simp
  rfl

theorem at3_12 (c : Dev nD) : upTo m 230 c main_v98 = row12 zp (m ((c : Thread nD τ).loc main_arg60)) := by
  unfold upTo
  after_reads_simp
  rfl

theorem at3_13 (c : Dev nD) : upTo m 230 c main_v99 = row13 zp (m ((c : Thread nD τ).loc main_arg61)) := by
  unfold upTo
  after_reads_simp
  rfl

theorem at3_14 (c : Dev nD) : upTo m 230 c main_v100 = row14 zp (m ((c : Thread nD τ).loc main_arg62)) := by
  unfold upTo
  after_reads_simp
  rfl

theorem at3_15 (c : Dev nD) : upTo m 230 c main_v101 = row15 zp (m ((c : Thread nD τ).loc main_arg63)) := by
  unfold upTo
  after_reads_simp
  rfl

def arrays3 (c : Dev nD) : Packed EReal := ⟨m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53), m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59), m ((c : Thread nD τ).loc main_arg60), m ((c : Thread nD τ).loc main_arg61), m ((c : Thread nD τ).loc main_arg62), m ((c : Thread nD τ).loc main_arg63)⟩

theorem entry3 (c : Dev nD) : V m c main_v103 = pack (fun _ => (0 : EReal)) (arrays3 m c) := by
  have h : V m c main_v103 = lay (upTo m 230 c main_v78) (upTo m 230 c main_v80) (upTo m 230 c main_v81) (upTo m 230 c main_v83) (upTo m 230 c main_v85) (upTo m 230 c main_v86) (upTo m 230 c main_v88) (upTo m 230 c main_v90) (upTo m 230 c main_v92) (upTo m 230 c main_v94) (upTo m 230 c main_v96) (upTo m 230 c main_v97) (upTo m 230 c main_v98) (upTo m 230 c main_v99) (upTo m 230 c main_v100) (upTo m 230 c main_v101) := by
    unfold V
    after_reads_simp
    rfl
  rw [h, at3_0, at3_1, at3_2, at3_3, at3_4, at3_5, at3_6, at3_7, at3_8, at3_9, at3_10, at3_11, at3_12, at3_13, at3_14, at3_15, ← zp_eq]
  rfl

end Cert.AdamwIdeal.Product
-- ==== Proof.AdamwFinal.lean ====
module

public import proofs.«01_k».proof.Defs
public import proofs.«01_k».proof.Proof.Gen.Adamw.Frame
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.AdamwEntry
public import Idealize.ShloMosaic.Lib.Claim
public import Idealize.ShloMosaic.Lib.StableHlo.RunRead
public import Idealize.ShloMosaic.Lib.Pipeline.ValueKit
public import Idealize.ShloMosaic.Lib.Pipeline.ReadBack

@[expose] public section

set_option maxRecDepth 16384
set_option maxHeartbeats 2000000
noncomputable section
open Idealize.ShloMosaic Idealize.ShloMosaic.TcCoe Idealize.SL.Sem
open Idealize.ShloMosaic.Pipeline (Dat)
open scoped BigOperators

namespace Cert.AdamwIdeal.Product
open Cert.AdamwIdeal Cert.AdamwIdeal.Gen
open Cert.AdamwRefIdeal.Product (Packed lay pack zp zp_eq newM newV delta)
variable (m : (ℓ : Loc nD τ sig) → Buf (Elt Ideal) ℓ)

/-- A block of the weights. -/
def B0 (c : Dev nD) (t : Fin cfg0.N) : S2336x128.Idx → EReal := iblk m c 0 t

def A0 (c : Dev nD) : S7008x128.Idx → EReal := V m c main_v25

theorem read0_4 (c : Dev nD) (t : Fin cfg0.N) (y : S2336x128.Idx) : B0 m c t y = A0 m c (((cfg0.win 4).blk t).view.emb y) := by
  have h : ((cfg0.win 0).blk t).view.emb y = ((cfg0.win 4).blk t).view.emb y := by blk_ext [idx t]
  rw [← h]
  unfold B0 A0 iblk
  generalize V m c = X
  rfl

theorem read0_5 (c : Dev nD) (t : Fin cfg0.N) (y : S2336x128.Idx) : B0 m c t y = A0 m c (((cfg0.win 5).blk t).view.emb y) := by
  have h : ((cfg0.win 0).blk t).view.emb y = ((cfg0.win 5).blk t).view.emb y := by blk_ext [idx t]
  rw [← h]
  unfold B0 A0 iblk
  generalize V m c = X
  rfl

theorem read0_6 (c : Dev nD) (t : Fin cfg0.N) (y : S2336x128.Idx) : B0 m c t y = A0 m c (((cfg0.win 6).blk t).view.emb y) := by
  have h : ((cfg0.win 0).blk t).view.emb y = ((cfg0.win 6).blk t).view.emb y := by blk_ext [idx t]
  rw [← h]
  unfold B0 A0 iblk
  generalize V m c = X
  rfl

/-- A block of the gradients. -/
def B1 (c : Dev nD) (t : Fin cfg0.N) : S2336x128.Idx → EReal := iblk m c 1 t

def A1 (c : Dev nD) : S7008x128.Idx → EReal := V m c main_v51

theorem read1_4 (c : Dev nD) (t : Fin cfg0.N) (y : S2336x128.Idx) : B1 m c t y = A1 m c (((cfg0.win 4).blk t).view.emb y) := by
  have h : ((cfg0.win 1).blk t).view.emb y = ((cfg0.win 4).blk t).view.emb y := by blk_ext [idx t]
  rw [← h]
  unfold B1 A1 iblk
  generalize V m c = X
  rfl

theorem read1_5 (c : Dev nD) (t : Fin cfg0.N) (y : S2336x128.Idx) : B1 m c t y = A1 m c (((cfg0.win 5).blk t).view.emb y) := by
  have h : ((cfg0.win 1).blk t).view.emb y = ((cfg0.win 5).blk t).view.emb y := by blk_ext [idx t]
  rw [← h]
  unfold B1 A1 iblk
  generalize V m c = X
  rfl

theorem read1_6 (c : Dev nD) (t : Fin cfg0.N) (y : S2336x128.Idx) : B1 m c t y = A1 m c (((cfg0.win 6).blk t).view.emb y) := by
  have h : ((cfg0.win 1).blk t).view.emb y = ((cfg0.win 6).blk t).view.emb y := by blk_ext [idx t]
  rw [← h]
  unfold B1 A1 iblk
  generalize V m c = X
  rfl

/-- A block of the first moments. -/
def B2 (c : Dev nD) (t : Fin cfg0.N) : S2336x128.Idx → EReal := iblk m c 2 t

def A2 (c : Dev nD) : S7008x128.Idx → EReal := V m c main_v77

theorem read2_4 (c : Dev nD) (t : Fin cfg0.N) (y : S2336x128.Idx) : B2 m c t y = A2 m c (((cfg0.win 4).blk t).view.emb y) := by
  have h : ((cfg0.win 2).blk t).view.emb y = ((cfg0.win 4).blk t).view.emb y := by blk_ext [idx t]
  rw [← h]
  unfold B2 A2 iblk
  generalize V m c = X
  rfl

theorem read2_5 (c : Dev nD) (t : Fin cfg0.N) (y : S2336x128.Idx) : B2 m c t y = A2 m c (((cfg0.win 5).blk t).view.emb y) := by
  have h : ((cfg0.win 2).blk t).view.emb y = ((cfg0.win 5).blk t).view.emb y := by blk_ext [idx t]
  rw [← h]
  unfold B2 A2 iblk
  generalize V m c = X
  rfl

theorem read2_6 (c : Dev nD) (t : Fin cfg0.N) (y : S2336x128.Idx) : B2 m c t y = A2 m c (((cfg0.win 6).blk t).view.emb y) := by
  have h : ((cfg0.win 2).blk t).view.emb y = ((cfg0.win 6).blk t).view.emb y := by blk_ext [idx t]
  rw [← h]
  unfold B2 A2 iblk
  generalize V m c = X
  rfl

/-- A block of the second moments. -/
def B3 (c : Dev nD) (t : Fin cfg0.N) : S2336x128.Idx → EReal := iblk m c 3 t

def A3 (c : Dev nD) : S7008x128.Idx → EReal := V m c main_v103

theorem read3_4 (c : Dev nD) (t : Fin cfg0.N) (y : S2336x128.Idx) : B3 m c t y = A3 m c (((cfg0.win 4).blk t).view.emb y) := by
  have h : ((cfg0.win 3).blk t).view.emb y = ((cfg0.win 4).blk t).view.emb y := by blk_ext [idx t]
  rw [← h]
  unfold B3 A3 iblk
  generalize V m c = X
  rfl

theorem read3_5 (c : Dev nD) (t : Fin cfg0.N) (y : S2336x128.Idx) : B3 m c t y = A3 m c (((cfg0.win 5).blk t).view.emb y) := by
  have h : ((cfg0.win 3).blk t).view.emb y = ((cfg0.win 5).blk t).view.emb y := by blk_ext [idx t]
  rw [← h]
  unfold B3 A3 iblk
  generalize V m c = X
  rfl

theorem read3_6 (c : Dev nD) (t : Fin cfg0.N) (y : S2336x128.Idx) : B3 m c t y = A3 m c (((cfg0.win 6).blk t).view.emb y) := by
  have h : ((cfg0.win 3).blk t).view.emb y = ((cfg0.win 6).blk t).view.emb y := by blk_ext [idx t]
  rw [← h]
  unfold B3 A3 iblk
  generalize V m c = X
  rfl

theorem pay4 (b0 b1 b2 b3 : S2336x128.Idx → EReal) (y : S2336x128.Idx) :
    k0_pay4 (F := Ideal) b0 b1 b2 b3 y = delta (b0 y) (b1 y) (b2 y) (b3 y) := by
  unfold delta newM newV
  pointwise [k0_pay4, k0_pay2, k0_pay3, k0_pay1]

theorem point4 (c : Dev nD) (t : Fin cfg0.N) (y : S2336x128.Idx) :
    k0_pay4 (iblk m c 0 t) (iblk m c 1 t) (iblk m c 2 t) (iblk m c 3 t) y
      = (fun i : S7008x128.Idx => delta (A0 m c i) (A1 m c i) (A2 m c i) (A3 m c i)) (((cfg0.win 4).blk t).view.emb y) := by
  refine (pay4 (B0 m c t) (B1 m c t) (B2 m c t) (B3 m c t) y).trans ?_
  rw [read0_4, read1_4, read2_4, read3_4]

theorem final4 (c : Dev nD) : (dats m 0 c).arrAt 4 (cfgs 0).N
    = fun i : S7008x128.Idx => delta (pack (fun _ => (0 : EReal)) (arrays0 m c) i) (pack (fun _ => (0 : EReal)) (arrays1 m c) i) (pack (fun _ => (0 : EReal)) (arrays2 m c) i) (pack (fun _ => (0 : EReal)) (arrays3 m c) i) := by
  have e : (fun i : S7008x128.Idx => delta (pack (fun _ => (0 : EReal)) (arrays0 m c) i) (pack (fun _ => (0 : EReal)) (arrays1 m c) i) (pack (fun _ => (0 : EReal)) (arrays2 m c) i) (pack (fun _ => (0 : EReal)) (arrays3 m c) i))
      = fun i : S7008x128.Idx => delta (A0 m c i) (A1 m c i) (A2 m c i) (A3 m c i) := by
    unfold A0 A1 A2 A3
    rw [← entry0, ← entry1, ← entry2, ← entry3]
    try rfl
  rw [e]
  refine (dats m 0 c).arrAt_eq_of_covers 4 _ (by decide +kernel) fun t hf y => ?_
  blk_simp; rw [after0_4]; frame_out
  exact point4 m c t y

theorem pay5 (b1 b2 : S2336x128.Idx → EReal) (y : S2336x128.Idx) :
    k0_pay2 (F := Ideal) b1 b2 y = newM (b1 y) (b2 y) := by
  unfold newM
  pointwise [k0_pay2, k0_pay1]

theorem point5 (c : Dev nD) (t : Fin cfg0.N) (y : S2336x128.Idx) :
    k0_pay2 (iblk m c 1 t) (iblk m c 2 t) y
      = (fun i : S7008x128.Idx => newM (A1 m c i) (A2 m c i)) (((cfg0.win 5).blk t).view.emb y) := by
  refine (pay5 (B1 m c t) (B2 m c t) y).trans ?_
  rw [read1_5, read2_5]

theorem final5 (c : Dev nD) : (dats m 0 c).arrAt 5 (cfgs 0).N
    = fun i : S7008x128.Idx => newM (pack (fun _ => (0 : EReal)) (arrays1 m c) i) (pack (fun _ => (0 : EReal)) (arrays2 m c) i) := by
  have e : (fun i : S7008x128.Idx => newM (pack (fun _ => (0 : EReal)) (arrays1 m c) i) (pack (fun _ => (0 : EReal)) (arrays2 m c) i))
      = fun i : S7008x128.Idx => newM (A1 m c i) (A2 m c i) := by
    unfold A1 A2
    rw [← entry1, ← entry2]
    try rfl
  rw [e]
  refine (dats m 0 c).arrAt_eq_of_covers 5 _ (by decide +kernel) fun t hf y => ?_
  blk_simp; rw [after0_5]; frame_out
  exact point5 m c t y

theorem pay6 (b1 b3 : S2336x128.Idx → EReal) (y : S2336x128.Idx) :
    k0_pay3 (F := Ideal) b1 b3 y = newV (b1 y) (b3 y) := by
  unfold newV
  pointwise [k0_pay3, k0_pay1]

theorem point6 (c : Dev nD) (t : Fin cfg0.N) (y : S2336x128.Idx) :
    k0_pay3 (iblk m c 1 t) (iblk m c 3 t) y
      = (fun i : S7008x128.Idx => newV (A1 m c i) (A3 m c i)) (((cfg0.win 6).blk t).view.emb y) := by
  refine (pay6 (B1 m c t) (B3 m c t) y).trans ?_
  rw [read1_6, read3_6]

theorem final6 (c : Dev nD) : (dats m 0 c).arrAt 6 (cfgs 0).N
    = fun i : S7008x128.Idx => newV (pack (fun _ => (0 : EReal)) (arrays1 m c) i) (pack (fun _ => (0 : EReal)) (arrays3 m c) i) := by
  have e : (fun i : S7008x128.Idx => newV (pack (fun _ => (0 : EReal)) (arrays1 m c) i) (pack (fun _ => (0 : EReal)) (arrays3 m c) i))
      = fun i : S7008x128.Idx => newV (A1 m c i) (A3 m c i) := by
    unfold A1 A3
    rw [← entry1, ← entry3]
    try rfl
  rw [e]
  refine (dats m 0 c).arrAt_eq_of_covers 6 _ (by decide +kernel) fun t hf y => ?_
  blk_simp; rw [after0_6]; frame_out
  exact point6 m c t y

end Cert.AdamwIdeal.Product
-- ==== Proof.Adamw.lean ====
module

public import proofs.«01_k».proof.Defs
public import proofs.«01_k».proof.Proof.Gen.Adamw.Frame
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.AdamwFinal
public import Idealize.ShloMosaic.Lib.Claim
public import Idealize.ShloMosaic.Lib.StableHlo.RunRead
public import Idealize.ShloMosaic.Lib.Pipeline.ValueKit
public import Idealize.ShloMosaic.Lib.Pipeline.ReadBack

@[expose] public section

set_option maxRecDepth 16384
set_option maxHeartbeats 2000000
noncomputable section
open Idealize.ShloMosaic Idealize.ShloMosaic.TcCoe Idealize.SL.Sem
open Idealize.ShloMosaic.Pipeline (Dat)
open scoped BigOperators

namespace Cert.AdamwClaim

theorem quiet : Cert.quiescent_Adamw (hAdamw := Cert.Adamw.Gen.facts) := fun m g _ => Cert.Adamw.Gen.frame m g

theorem quiet_ideal : Cert.quiescent_AdamwIdeal (hAdamwIdeal := Cert.AdamwIdeal.Gen.facts) := fun m g _ => Cert.AdamwIdeal.Gen.frame m g

theorem quiet_ref : Cert.quiescent_AdamwRefIdeal (hAdamwRefIdeal := Cert.AdamwRefIdeal.Gen.facts) := fun m g _ =>
  (θ_run Cert.AdamwRefIdeal.defs _ _).mono (fun r h => ⟨fun c => (h c).2.2.2, funext fun x => nomatch x.2⟩) (Cert.AdamwRefIdeal.Value.run m g)

theorem algebraic : Cert.algebraic_AdamwIdeal_AdamwRefIdeal (hAdamwIdeal := Cert.AdamwIdeal.Gen.facts)
    (hAdamwRefIdeal := Cert.AdamwRefIdeal.Gen.facts) := by
  intro m g m' g' hpre hagree
  refine ⟨fun c => (Cert.AdamwIdeal.Gen.dats m 0 c).arrAt 4 (Cert.AdamwIdeal.cfgs 0).N, fun c => (Cert.AdamwIdeal.Gen.dats m 0 c).arrAt 5 (Cert.AdamwIdeal.cfgs 0).N,
    fun c => (Cert.AdamwIdeal.Gen.dats m 0 c).arrAt 6 (Cert.AdamwIdeal.cfgs 0).N, ?_, ?_⟩
  · refine θ_run_mono (θ_run_and (Cert.AdamwIdeal.Gen.run_main m g) (Cert.AdamwIdeal.Gen.unchanged m g)) ?_
    intro r hr c
    exact ⟨(hr.1 c).1 4, (hr.1 c).1 5, (hr.1 c).1 6, hr.2 c⟩
  · refine θ_run_mono (Cert.AdamwRefIdeal.Value.run m' g') ?_
    intro r h c
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63⟩ := hagree c
    have h0 : Cert.AdamwIdeal.Product.arrays0 m c = ⟨StableHlo.launchContents m' c (Proc.devRef .tc Cert.AdamwRefIdeal.main_arg0), StableHlo.launchContents m' c (Proc.devRef .tc Cert.AdamwRefIdeal.main_arg1), StableHlo.launchContents m' c (Proc.devRef .tc Cert.AdamwRefIdeal.main_arg2), StableHlo.launchContents m' c (Proc.devRef .tc Cert.AdamwRefIdeal.main_arg3), StableHlo.launchContents m' c (Proc.devRef .tc Cert.AdamwRefIdeal.main_arg4), StableHlo.launchContents m' c (Proc.devRef .tc Cert.AdamwRefIdeal.main_arg5), StableHlo.launchContents m' c (Proc.devRef .tc Cert.AdamwRefIdeal.main_arg6), StableHlo.launchContents m' c (Proc.devRef .tc Cert.AdamwRefIdeal.main_arg7), StableHlo.launchContents m' c (Proc.devRef .tc Cert.AdamwRefIdeal.main_arg8), StableHlo.launchContents m' c (Proc.devRef .tc Cert.AdamwRefIdeal.main_arg9), StableHlo.launchContents m' c (Proc.devRef .tc Cert.AdamwRefIdeal.main_arg10), StableHlo.launchContents m' c (Proc.devRef .tc Cert.AdamwRefIdeal.main_arg11), StableHlo.launchContents m' c (Proc.devRef .tc Cert.AdamwRefIdeal.main_arg12), StableHlo.launchContents m' c (Proc.devRef .tc Cert.AdamwRefIdeal.main_arg13), StableHlo.launchContents m' c (Proc.devRef .tc Cert.AdamwRefIdeal.main_arg14), StableHlo.launchContents m' c (Proc.devRef .tc Cert.AdamwRefIdeal.main_arg15)⟩ := by
      unfold Cert.AdamwIdeal.Product.arrays0
      rw [← e0, ← e1, ← e2, ← e3, ← e4, ← e5, ← e6, ← e7, ← e8, ← e9, ← e10, ← e11, ← e12, ← e13, ← e14, ← e15]
    have h1 : Cert.AdamwIdeal.Product.arrays1 m c = ⟨StableHlo.launchContents m' c (Proc.devRef .tc Cert.AdamwRefIdeal.main_arg16), StableHlo.launchContents m' c (Proc.devRef .tc Cert.AdamwRefIdeal.main_arg17), StableHlo.launchContents m' c (Proc.devRef .tc Cert.AdamwRefIdeal.main_arg18), StableHlo.launchContents m' c (Proc.devRef .tc Cert.AdamwRefIdeal.main_arg19), StableHlo.launchContents m' c (Proc.devRef .tc Cert.AdamwRefIdeal.main_arg20), StableHlo.launchContents m' c (Proc.devRef .tc Cert.AdamwRefIdeal.main_arg21), StableHlo.launchContents m' c (Proc.devRef .tc Cert.AdamwRefIdeal.main_arg22), StableHlo.launchContents m' c (Proc.devRef .tc Cert.AdamwRefIdeal.main_arg23), StableHlo.launchContents m' c (Proc.devRef .tc Cert.AdamwRefIdeal.main_arg24), StableHlo.launchContents m' c (Proc.devRef .tc Cert.AdamwRefIdeal.main_arg25), StableHlo.launchContents m' c (Proc.devRef .tc Cert.AdamwRefIdeal.main_arg26), StableHlo.launchContents m' c (Proc.devRef .tc Cert.AdamwRefIdeal.main_arg27), StableHlo.launchContents m' c (Proc.devRef .tc Cert.AdamwRefIdeal.main_arg28), StableHlo.launchContents m' c (Proc.devRef .tc Cert.AdamwRefIdeal.main_arg29), StableHlo.launchContents m' c (Proc.devRef .tc Cert.AdamwRefIdeal.main_arg30), StableHlo.launchContents m' c (Proc.devRef .tc Cert.AdamwRefIdeal.main_arg31)⟩ := by
      unfold Cert.AdamwIdeal.Product.arrays1
      rw [← e16, ← e17, ← e18, ← e19, ← e20, ← e21, ← e22, ← e23, ← e24, ← e25, ← e26, ← e27, ← e28, ← e29, ← e30, ← e31]
    have h2 : Cert.AdamwIdeal.Product.arrays2 m c = ⟨StableHlo.launchContents m' c (Proc.devRef .tc Cert.AdamwRefIdeal.main_arg32), StableHlo.launchContents m' c (Proc.devRef .tc Cert.AdamwRefIdeal.main_arg33), StableHlo.launchContents m' c (Proc.devRef .tc Cert.AdamwRefIdeal.main_arg34), StableHlo.launchContents m' c (Proc.devRef .tc Cert.AdamwRefIdeal.main_arg35), StableHlo.launchContents m' c (Proc.devRef .tc Cert.AdamwRefIdeal.main_arg36), StableHlo.launchContents m' c (Proc.devRef .tc Cert.AdamwRefIdeal.main_arg37), StableHlo.launchContents m' c (Proc.devRef .tc Cert.AdamwRefIdeal.main_arg38), StableHlo.launchContents m' c (Proc.devRef .tc Cert.AdamwRefIdeal.main_arg39), StableHlo.launchContents m' c (Proc.devRef .tc Cert.AdamwRefIdeal.main_arg40), StableHlo.launchContents m' c (Proc.devRef .tc Cert.AdamwRefIdeal.main_arg41), StableHlo.launchContents m' c (Proc.devRef .tc Cert.AdamwRefIdeal.main_arg42), StableHlo.launchContents m' c (Proc.devRef .tc Cert.AdamwRefIdeal.main_arg43), StableHlo.launchContents m' c (Proc.devRef .tc Cert.AdamwRefIdeal.main_arg44), StableHlo.launchContents m' c (Proc.devRef .tc Cert.AdamwRefIdeal.main_arg45), StableHlo.launchContents m' c (Proc.devRef .tc Cert.AdamwRefIdeal.main_arg46), StableHlo.launchContents m' c (Proc.devRef .tc Cert.AdamwRefIdeal.main_arg47)⟩ := by
      unfold Cert.AdamwIdeal.Product.arrays2
      rw [← e32, ← e33, ← e34, ← e35, ← e36, ← e37, ← e38, ← e39, ← e40, ← e41, ← e42, ← e43, ← e44, ← e45, ← e46, ← e47]
    have h3 : Cert.AdamwIdeal.Product.arrays3 m c = ⟨StableHlo.launchContents m' c (Proc.devRef .tc Cert.AdamwRefIdeal.main_arg48), StableHlo.launchContents m' c (Proc.devRef .tc Cert.AdamwRefIdeal.main_arg49), StableHlo.launchContents m' c (Proc.devRef .tc Cert.AdamwRefIdeal.main_arg50), StableHlo.launchContents m' c (Proc.devRef .tc Cert.AdamwRefIdeal.main_arg51), StableHlo.launchContents m' c (Proc.devRef .tc Cert.AdamwRefIdeal.main_arg52), StableHlo.launchContents m' c (Proc.devRef .tc Cert.AdamwRefIdeal.main_arg53), StableHlo.launchContents m' c (Proc.devRef .tc Cert.AdamwRefIdeal.main_arg54), StableHlo.launchContents m' c (Proc.devRef .tc Cert.AdamwRefIdeal.main_arg55), StableHlo.launchContents m' c (Proc.devRef .tc Cert.AdamwRefIdeal.main_arg56), StableHlo.launchContents m' c (Proc.devRef .tc Cert.AdamwRefIdeal.main_arg57), StableHlo.launchContents m' c (Proc.devRef .tc Cert.AdamwRefIdeal.main_arg58), StableHlo.launchContents m' c (Proc.devRef .tc Cert.AdamwRefIdeal.main_arg59), StableHlo.launchContents m' c (Proc.devRef .tc Cert.AdamwRefIdeal.main_arg60), StableHlo.launchContents m' c (Proc.devRef .tc Cert.AdamwRefIdeal.main_arg61), StableHlo.launchContents m' c (Proc.devRef .tc Cert.AdamwRefIdeal.main_arg62), StableHlo.launchContents m' c (Proc.devRef .tc Cert.AdamwRefIdeal.main_arg63)⟩ := by
      unfold Cert.AdamwIdeal.Product.arrays3
      rw [← e48, ← e49, ← e50, ← e51, ← e52, ← e53, ← e54, ← e55, ← e56, ← e57, ← e58, ← e59, ← e60, ← e61, ← e62, ← e63]
    refine ⟨(h c).1.trans ?_, (h c).2.1.trans ?_, (h c).2.2.1.trans ?_, (h c).2.2.2⟩
    · refine Eq.trans ?_ (Cert.AdamwIdeal.Product.final4 m c).symm
      refine Eq.trans (Cert.AdamwRefIdeal.Read.val_main_v409_eq (F := Ideal) (StableHlo.launchContents m' c)) ?_
      rw [h0, h1, h2, h3]
      exact Cert.AdamwRefIdeal.Product.d_packed (StableHlo.launchContents m' c (Proc.devRef .tc Cert.AdamwRefIdeal.main_arg0)) (StableHlo.launchContents m' c (Proc.devRef .tc Cert.AdamwRefIdeal.main_arg1)) (StableHlo.launchContents m' c (Proc.devRef .tc Cert.AdamwRefIdeal.main_arg2)) (StableHlo.launchContents m' c (Proc.devRef .tc Cert.AdamwRefIdeal.main_arg3)) (StableHlo.launchContents m' c (Proc.devRef .tc Cert.AdamwRefIdeal.main_arg4)) (StableHlo.launchContents m' c (Proc.devRef .tc Cert.AdamwRefIdeal.main_arg5)) (StableHlo.launchContents m' c (Proc.devRef .tc Cert.AdamwRefIdeal.main_arg6)) (StableHlo.launchContents m' c (Proc.devRef .tc Cert.AdamwRefIdeal.main_arg7)) (StableHlo.launchContents m' c (Proc.devRef .tc Cert.AdamwRefIdeal.main_arg8)) (StableHlo.launchContents m' c (Proc.devRef .tc Cert.AdamwRefIdeal.main_arg9)) (StableHlo.launchContents m' c (Proc.devRef .tc Cert.AdamwRefIdeal.main_arg10)) (StableHlo.launchContents m' c (Proc.devRef .tc Cert.AdamwRefIdeal.main_arg11)) (StableHlo.launchContents m' c (Proc.devRef .tc Cert.AdamwRefIdeal.main_arg12)) (StableHlo.launchContents m' c (Proc.devRef .tc Cert.AdamwRefIdeal.main_arg13)) (StableHlo.launchContents m' c (Proc.devRef .tc Cert.AdamwRefIdeal.main_arg14)) (StableHlo.launchContents m' c (Proc.devRef .tc Cert.AdamwRefIdeal.main_arg15)) (StableHlo.launchContents m' c (Proc.devRef .tc Cert.AdamwRefIdeal.main_arg16)) (StableHlo.launchContents m' c (Proc.devRef .tc Cert.AdamwRefIdeal.main_arg17)) (StableHlo.launchContents m' c (Proc.devRef .tc Cert.AdamwRefIdeal.main_arg18)) (StableHlo.launchContents m' c (Proc.devRef .tc Cert.AdamwRefIdeal.main_arg19)) (StableHlo.launchContents m' c (Proc.devRef .tc Cert.AdamwRefIdeal.main_arg20)) (StableHlo.launchContents m' c (Proc.devRef .tc Cert.AdamwRefIdeal.main_arg21)) (StableHlo.launchContents m' c (Proc.devRef .tc Cert.AdamwRefIdeal.main_arg22)) (StableHlo.launchContents m' c (Proc.devRef .tc Cert.AdamwRefIdeal.main_arg23)) (StableHlo.launchContents m' c (Proc.devRef .tc Cert.AdamwRefIdeal.main_arg24)) (StableHlo.launchContents m' c (Proc.devRef .tc Cert.AdamwRefIdeal.main_arg25)) (StableHlo.launchContents m' c (Proc.devRef .tc Cert.AdamwRefIdeal.main_arg26)) (StableHlo.launchContents m' c (Proc.devRef .tc Cert.AdamwRefIdeal.main_arg27)) (StableHlo.launchContents m' c (Proc.devRef .tc Cert.AdamwRefIdeal.main_arg28)) (StableHlo.launchContents m' c (Proc.devRef .tc Cert.AdamwRefIdeal.main_arg29)) (StableHlo.launchContents m' c (Proc.devRef .tc Cert.AdamwRefIdeal.main_arg30)) (StableHlo.launchContents m' c (Proc.devRef .tc Cert.AdamwRefIdeal.main_arg31)) (StableHlo.launchContents m' c (Proc.devRef .tc Cert.AdamwRefIdeal.main_arg32)) (StableHlo.launchContents m' c (Proc.devRef .tc Cert.AdamwRefIdeal.main_arg33)) (StableHlo.launchContents m' c (Proc.devRef .tc Cert.AdamwRefIdeal.main_arg34)) (StableHlo.launchContents m' c (Proc.devRef .tc Cert.AdamwRefIdeal.main_arg35)) (StableHlo.launchContents m' c (Proc.devRef .tc Cert.AdamwRefIdeal.main_arg36)) (StableHlo.launchContents m' c (Proc.devRef .tc Cert.AdamwRefIdeal.main_arg37)) (StableHlo.launchContents m' c (Proc.devRef .tc Cert.AdamwRefIdeal.main_arg38)) (StableHlo.launchContents m' c (Proc.devRef .tc Cert.AdamwRefIdeal.main_arg39)) (StableHlo.launchContents m' c (Proc.devRef .tc Cert.AdamwRefIdeal.main_arg40)) (StableHlo.launchContents m' c (Proc.devRef .tc Cert.AdamwRefIdeal.main_arg41)) (StableHlo.launchContents m' c (Proc.devRef .tc Cert.AdamwRefIdeal.main_arg42)) (StableHlo.launchContents m' c (Proc.devRef .tc Cert.AdamwRefIdeal.main_arg43)) (StableHlo.launchContents m' c (Proc.devRef .tc Cert.AdamwRefIdeal.main_arg44)) (StableHlo.launchContents m' c (Proc.devRef .tc Cert.AdamwRefIdeal.main_arg45)) (StableHlo.launchContents m' c (Proc.devRef .tc Cert.AdamwRefIdeal.main_arg46)) (StableHlo.launchContents m' c (Proc.devRef .tc Cert.AdamwRefIdeal.main_arg47)) (StableHlo.launchContents m' c (Proc.devRef .tc Cert.AdamwRefIdeal.main_arg48)) (StableHlo.launchContents m' c (Proc.devRef .tc Cert.AdamwRefIdeal.main_arg49)) (StableHlo.launchContents m' c (Proc.devRef .tc Cert.AdamwRefIdeal.main_arg50)) (StableHlo.launchContents m' c (Proc.devRef .tc Cert.AdamwRefIdeal.main_arg51)) (StableHlo.launchContents m' c (Proc.devRef .tc Cert.AdamwRefIdeal.main_arg52)) (StableHlo.launchContents m' c (Proc.devRef .tc Cert.AdamwRefIdeal.main_arg53)) (StableHlo.launchContents m' c (Proc.devRef .tc Cert.AdamwRefIdeal.main_arg54)) (StableHlo.launchContents m' c (Proc.devRef .tc Cert.AdamwRefIdeal.main_arg55)) (StableHlo.launchContents m' c (Proc.devRef .tc Cert.AdamwRefIdeal.main_arg56)) (StableHlo.launchContents m' c (Proc.devRef .tc Cert.AdamwRefIdeal.main_arg57)) (StableHlo.launchContents m' c (Proc.devRef .tc Cert.AdamwRefIdeal.main_arg58)) (StableHlo.launchContents m' c (Proc.devRef .tc Cert.AdamwRefIdeal.main_arg59)) (StableHlo.launchContents m' c (Proc.devRef .tc Cert.AdamwRefIdeal.main_arg60)) (StableHlo.launchContents m' c (Proc.devRef .tc Cert.AdamwRefIdeal.main_arg61)) (StableHlo.launchContents m' c (Proc.devRef .tc Cert.AdamwRefIdeal.main_arg62)) (StableHlo.launchContents m' c (Proc.devRef .tc Cert.AdamwRefIdeal.main_arg63))
    · refine Eq.trans ?_ (Cert.AdamwIdeal.Product.final5 m c).symm
      refine Eq.trans (Cert.AdamwRefIdeal.Read.val_main_v435_eq (F := Ideal) (StableHlo.launchContents m' c)) ?_
      rw [h1, h2]
      exact Cert.AdamwRefIdeal.Product.m_packed (StableHlo.launchContents m' c (Proc.devRef .tc Cert.AdamwRefIdeal.main_arg0)) (StableHlo.launchContents m' c (Proc.devRef .tc Cert.AdamwRefIdeal.main_arg1)) (StableHlo.launchContents m' c (Proc.devRef .tc Cert.AdamwRefIdeal.main_arg2)) (StableHlo.launchContents m' c (Proc.devRef .tc Cert.AdamwRefIdeal.main_arg3)) (StableHlo.launchContents m' c (Proc.devRef .tc Cert.AdamwRefIdeal.main_arg4)) (StableHlo.launchContents m' c (Proc.devRef .tc Cert.AdamwRefIdeal.main_arg5)) (StableHlo.launchContents m' c (Proc.devRef .tc Cert.AdamwRefIdeal.main_arg6)) (StableHlo.launchContents m' c (Proc.devRef .tc Cert.AdamwRefIdeal.main_arg7)) (StableHlo.launchContents m' c (Proc.devRef .tc Cert.AdamwRefIdeal.main_arg8)) (StableHlo.launchContents m' c (Proc.devRef .tc Cert.AdamwRefIdeal.main_arg9)) (StableHlo.launchContents m' c (Proc.devRef .tc Cert.AdamwRefIdeal.main_arg10)) (StableHlo.launchContents m' c (Proc.devRef .tc Cert.AdamwRefIdeal.main_arg11)) (StableHlo.launchContents m' c (Proc.devRef .tc Cert.AdamwRefIdeal.main_arg12)) (StableHlo.launchContents m' c (Proc.devRef .tc Cert.AdamwRefIdeal.main_arg13)) (StableHlo.launchContents m' c (Proc.devRef .tc Cert.AdamwRefIdeal.main_arg14)) (StableHlo.launchContents m' c (Proc.devRef .tc Cert.AdamwRefIdeal.main_arg15)) (StableHlo.launchContents m' c (Proc.devRef .tc Cert.AdamwRefIdeal.main_arg16)) (StableHlo.launchContents m' c (Proc.devRef .tc Cert.AdamwRefIdeal.main_arg17)) (StableHlo.launchContents m' c (Proc.devRef .tc Cert.AdamwRefIdeal.main_arg18)) (StableHlo.launchContents m' c (Proc.devRef .tc Cert.AdamwRefIdeal.main_arg19)) (StableHlo.launchContents m' c (Proc.devRef .tc Cert.AdamwRefIdeal.main_arg20)) (StableHlo.launchContents m' c (Proc.devRef .tc Cert.AdamwRefIdeal.main_arg21)) (StableHlo.launchContents m' c (Proc.devRef .tc Cert.AdamwRefIdeal.main_arg22)) (StableHlo.launchContents m' c (Proc.devRef .tc Cert.AdamwRefIdeal.main_arg23)) (StableHlo.launchContents m' c (Proc.devRef .tc Cert.AdamwRefIdeal.main_arg24)) (StableHlo.launchContents m' c (Proc.devRef .tc Cert.AdamwRefIdeal.main_arg25)) (StableHlo.launchContents m' c (Proc.devRef .tc Cert.AdamwRefIdeal.main_arg26)) (StableHlo.launchContents m' c (Proc.devRef .tc Cert.AdamwRefIdeal.main_arg27)) (StableHlo.launchContents m' c (Proc.devRef .tc Cert.AdamwRefIdeal.main_arg28)) (StableHlo.launchContents m' c (Proc.devRef .tc Cert.AdamwRefIdeal.main_arg29)) (StableHlo.launchContents m' c (Proc.devRef .tc Cert.AdamwRefIdeal.main_arg30)) (StableHlo.launchContents m' c (Proc.devRef .tc Cert.AdamwRefIdeal.main_arg31)) (StableHlo.launchContents m' c (Proc.devRef .tc Cert.AdamwRefIdeal.main_arg32)) (StableHlo.launchContents m' c (Proc.devRef .tc Cert.AdamwRefIdeal.main_arg33)) (StableHlo.launchContents m' c (Proc.devRef .tc Cert.AdamwRefIdeal.main_arg34)) (StableHlo.launchContents m' c (Proc.devRef .tc Cert.AdamwRefIdeal.main_arg35)) (StableHlo.launchContents m' c (Proc.devRef .tc Cert.AdamwRefIdeal.main_arg36)) (StableHlo.launchContents m' c (Proc.devRef .tc Cert.AdamwRefIdeal.main_arg37)) (StableHlo.launchContents m' c (Proc.devRef .tc Cert.AdamwRefIdeal.main_arg38)) (StableHlo.launchContents m' c (Proc.devRef .tc Cert.AdamwRefIdeal.main_arg39)) (StableHlo.launchContents m' c (Proc.devRef .tc Cert.AdamwRefIdeal.main_arg40)) (StableHlo.launchContents m' c (Proc.devRef .tc Cert.AdamwRefIdeal.main_arg41)) (StableHlo.launchContents m' c (Proc.devRef .tc Cert.AdamwRefIdeal.main_arg42)) (StableHlo.launchContents m' c (Proc.devRef .tc Cert.AdamwRefIdeal.main_arg43)) (StableHlo.launchContents m' c (Proc.devRef .tc Cert.AdamwRefIdeal.main_arg44)) (StableHlo.launchContents m' c (Proc.devRef .tc Cert.AdamwRefIdeal.main_arg45)) (StableHlo.launchContents m' c (Proc.devRef .tc Cert.AdamwRefIdeal.main_arg46)) (StableHlo.launchContents m' c (Proc.devRef .tc Cert.AdamwRefIdeal.main_arg47)) (StableHlo.launchContents m' c (Proc.devRef .tc Cert.AdamwRefIdeal.main_arg48)) (StableHlo.launchContents m' c (Proc.devRef .tc Cert.AdamwRefIdeal.main_arg49)) (StableHlo.launchContents m' c (Proc.devRef .tc Cert.AdamwRefIdeal.main_arg50)) (StableHlo.launchContents m' c (Proc.devRef .tc Cert.AdamwRefIdeal.main_arg51)) (StableHlo.launchContents m' c (Proc.devRef .tc Cert.AdamwRefIdeal.main_arg52)) (StableHlo.launchContents m' c (Proc.devRef .tc Cert.AdamwRefIdeal.main_arg53)) (StableHlo.launchContents m' c (Proc.devRef .tc Cert.AdamwRefIdeal.main_arg54)) (StableHlo.launchContents m' c (Proc.devRef .tc Cert.AdamwRefIdeal.main_arg55)) (StableHlo.launchContents m' c (Proc.devRef .tc Cert.AdamwRefIdeal.main_arg56)) (StableHlo.launchContents m' c (Proc.devRef .tc Cert.AdamwRefIdeal.main_arg57)) (StableHlo.launchContents m' c (Proc.devRef .tc Cert.AdamwRefIdeal.main_arg58)) (StableHlo.launchContents m' c (Proc.devRef .tc Cert.AdamwRefIdeal.main_arg59)) (StableHlo.launchContents m' c (Proc.devRef .tc Cert.AdamwRefIdeal.main_arg60)) (StableHlo.launchContents m' c (Proc.devRef .tc Cert.AdamwRefIdeal.main_arg61)) (StableHlo.launchContents m' c (Proc.devRef .tc Cert.AdamwRefIdeal.main_arg62)) (StableHlo.launchContents m' c (Proc.devRef .tc Cert.AdamwRefIdeal.main_arg63))
    · refine Eq.trans ?_ (Cert.AdamwIdeal.Product.final6 m c).symm
      refine Eq.trans (Cert.AdamwRefIdeal.Read.val_main_v461_eq (F := Ideal) (StableHlo.launchContents m' c)) ?_
      rw [h1, h3]
      exact Cert.AdamwRefIdeal.Product.v_packed (StableHlo.launchContents m' c (Proc.devRef .tc Cert.AdamwRefIdeal.main_arg0)) (StableHlo.launchContents m' c (Proc.devRef .tc Cert.AdamwRefIdeal.main_arg1)) (StableHlo.launchContents m' c (Proc.devRef .tc Cert.AdamwRefIdeal.main_arg2)) (StableHlo.launchContents m' c (Proc.devRef .tc Cert.AdamwRefIdeal.main_arg3)) (StableHlo.launchContents m' c (Proc.devRef .tc Cert.AdamwRefIdeal.main_arg4)) (StableHlo.launchContents m' c (Proc.devRef .tc Cert.AdamwRefIdeal.main_arg5)) (StableHlo.launchContents m' c (Proc.devRef .tc Cert.AdamwRefIdeal.main_arg6)) (StableHlo.launchContents m' c (Proc.devRef .tc Cert.AdamwRefIdeal.main_arg7)) (StableHlo.launchContents m' c (Proc.devRef .tc Cert.AdamwRefIdeal.main_arg8)) (StableHlo.launchContents m' c (Proc.devRef .tc Cert.AdamwRefIdeal.main_arg9)) (StableHlo.launchContents m' c (Proc.devRef .tc Cert.AdamwRefIdeal.main_arg10)) (StableHlo.launchContents m' c (Proc.devRef .tc Cert.AdamwRefIdeal.main_arg11)) (StableHlo.launchContents m' c (Proc.devRef .tc Cert.AdamwRefIdeal.main_arg12)) (StableHlo.launchContents m' c (Proc.devRef .tc Cert.AdamwRefIdeal.main_arg13)) (StableHlo.launchContents m' c (Proc.devRef .tc Cert.AdamwRefIdeal.main_arg14)) (StableHlo.launchContents m' c (Proc.devRef .tc Cert.AdamwRefIdeal.main_arg15)) (StableHlo.launchContents m' c (Proc.devRef .tc Cert.AdamwRefIdeal.main_arg16)) (StableHlo.launchContents m' c (Proc.devRef .tc Cert.AdamwRefIdeal.main_arg17)) (StableHlo.launchContents m' c (Proc.devRef .tc Cert.AdamwRefIdeal.main_arg18)) (StableHlo.launchContents m' c (Proc.devRef .tc Cert.AdamwRefIdeal.main_arg19)) (StableHlo.launchContents m' c (Proc.devRef .tc Cert.AdamwRefIdeal.main_arg20)) (StableHlo.launchContents m' c (Proc.devRef .tc Cert.AdamwRefIdeal.main_arg21)) (StableHlo.launchContents m' c (Proc.devRef .tc Cert.AdamwRefIdeal.main_arg22)) (StableHlo.launchContents m' c (Proc.devRef .tc Cert.AdamwRefIdeal.main_arg23)) (StableHlo.launchContents m' c (Proc.devRef .tc Cert.AdamwRefIdeal.main_arg24)) (StableHlo.launchContents m' c (Proc.devRef .tc Cert.AdamwRefIdeal.main_arg25)) (StableHlo.launchContents m' c (Proc.devRef .tc Cert.AdamwRefIdeal.main_arg26)) (StableHlo.launchContents m' c (Proc.devRef .tc Cert.AdamwRefIdeal.main_arg27)) (StableHlo.launchContents m' c (Proc.devRef .tc Cert.AdamwRefIdeal.main_arg28)) (StableHlo.launchContents m' c (Proc.devRef .tc Cert.AdamwRefIdeal.main_arg29)) (StableHlo.launchContents m' c (Proc.devRef .tc Cert.AdamwRefIdeal.main_arg30)) (StableHlo.launchContents m' c (Proc.devRef .tc Cert.AdamwRefIdeal.main_arg31)) (StableHlo.launchContents m' c (Proc.devRef .tc Cert.AdamwRefIdeal.main_arg32)) (StableHlo.launchContents m' c (Proc.devRef .tc Cert.AdamwRefIdeal.main_arg33)) (StableHlo.launchContents m' c (Proc.devRef .tc Cert.AdamwRefIdeal.main_arg34)) (StableHlo.launchContents m' c (Proc.devRef .tc Cert.AdamwRefIdeal.main_arg35)) (StableHlo.launchContents m' c (Proc.devRef .tc Cert.AdamwRefIdeal.main_arg36)) (StableHlo.launchContents m' c (Proc.devRef .tc Cert.AdamwRefIdeal.main_arg37)) (StableHlo.launchContents m' c (Proc.devRef .tc Cert.AdamwRefIdeal.main_arg38)) (StableHlo.launchContents m' c (Proc.devRef .tc Cert.AdamwRefIdeal.main_arg39)) (StableHlo.launchContents m' c (Proc.devRef .tc Cert.AdamwRefIdeal.main_arg40)) (StableHlo.launchContents m' c (Proc.devRef .tc Cert.AdamwRefIdeal.main_arg41)) (StableHlo.launchContents m' c (Proc.devRef .tc Cert.AdamwRefIdeal.main_arg42)) (StableHlo.launchContents m' c (Proc.devRef .tc Cert.AdamwRefIdeal.main_arg43)) (StableHlo.launchContents m' c (Proc.devRef .tc Cert.AdamwRefIdeal.main_arg44)) (StableHlo.launchContents m' c (Proc.devRef .tc Cert.AdamwRefIdeal.main_arg45)) (StableHlo.launchContents m' c (Proc.devRef .tc Cert.AdamwRefIdeal.main_arg46)) (StableHlo.launchContents m' c (Proc.devRef .tc Cert.AdamwRefIdeal.main_arg47)) (StableHlo.launchContents m' c (Proc.devRef .tc Cert.AdamwRefIdeal.main_arg48)) (StableHlo.launchContents m' c (Proc.devRef .tc Cert.AdamwRefIdeal.main_arg49)) (StableHlo.launchContents m' c (Proc.devRef .tc Cert.AdamwRefIdeal.main_arg50)) (StableHlo.launchContents m' c (Proc.devRef .tc Cert.AdamwRefIdeal.main_arg51)) (StableHlo.launchContents m' c (Proc.devRef .tc Cert.AdamwRefIdeal.main_arg52)) (StableHlo.launchContents m' c (Proc.devRef .tc Cert.AdamwRefIdeal.main_arg53)) (StableHlo.launchContents m' c (Proc.devRef .tc Cert.AdamwRefIdeal.main_arg54)) (StableHlo.launchContents m' c (Proc.devRef .tc Cert.AdamwRefIdeal.main_arg55)) (StableHlo.launchContents m' c (Proc.devRef .tc Cert.AdamwRefIdeal.main_arg56)) (StableHlo.launchContents m' c (Proc.devRef .tc Cert.AdamwRefIdeal.main_arg57)) (StableHlo.launchContents m' c (Proc.devRef .tc Cert.AdamwRefIdeal.main_arg58)) (StableHlo.launchContents m' c (Proc.devRef .tc Cert.AdamwRefIdeal.main_arg59)) (StableHlo.launchContents m' c (Proc.devRef .tc Cert.AdamwRefIdeal.main_arg60)) (StableHlo.launchContents m' c (Proc.devRef .tc Cert.AdamwRefIdeal.main_arg61)) (StableHlo.launchContents m' c (Proc.devRef .tc Cert.AdamwRefIdeal.main_arg62)) (StableHlo.launchContents m' c (Proc.devRef .tc Cert.AdamwRefIdeal.main_arg63))

end Cert.AdamwClaim
-- ==== Proof.Glu.lean ====
module

public import proofs.«01_k».proof.Defs
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal.Run
public import proofs.«01_k».proof.Proof.Gen.GluRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GluIdeal.Product
open Cert.GluIdeal Cert.GluIdeal.Gen
variable (m : (ℓ : Loc nD τ sig) → Buf (Elt Ideal) ℓ)

/-- The gate: the first half of the columns, each times the logistic function of its column of the second half. -/
def arr (X : FVec Ideal S2048x1024 .f32) : FVec Ideal S2048x512 .bf16 :=
  fun i => X (ix2 (i 0) ⟨(i 1).val, by have := (i 1).isLt; simp at this; omega⟩)
    * Ideal.logistic (X (ix2 (i 0) ⟨512 + (i 1).val, by have := (i 1).isLt; simp at this; omega⟩))

theorem idx : ∀ t : Fin cfg0.N, win0_0.index t = ![(grid0.coords t 0).val, 0]
    ∧ win0_1.index t = ![(grid0.coords t 0).val, 0] :=
  (by decide +kernel : ∀ t : Fin grid0.N, _)

theorem point (c : Dev nD) (t : Fin cfg0.N) (y) :
    k0_pay1 (iblk m c 0 t) y
      = arr (m ((c : Thread nD τ).loc main_arg0)) (((cfg0.win 1).blk t).view.emb y) := by
  pointwise [k0_pay1, arr]
  blk_point [iblk, V, idx t]

theorem final (c : Dev nD) : (dats m 0 c).arrAt 1 (cfgs 0).N
    = arr (m ((c : Thread nD τ).loc main_arg0)) := by
  refine (dats m 0 c).arrAt_eq_of_covers 1 _ (by decide +kernel) fun t hf y => ?_
  blk_simp; rw [after0_1]; frame_out
  exact point m c t y

end Cert.GluIdeal.Product

namespace Cert.GluRefIdeal.Product
open Cert.GluRefIdeal Cert.GluRefIdeal.Read

theorem eq (X : FVec Ideal S2048x1024 .f32) :
    val_main_v9 (F := Ideal) X = Cert.GluIdeal.Product.arr X := by
  funext i
  pointwise [val_main_v9, val_main_v8, val_main_v7, val_main_v6, val_main_cst_0, val_main_v5, val_main_v4, val_main_cst, val_main_v3, val_main_v2, val_main_v1, val_main_v0, Cert.GluIdeal.Product.arr, Ideal.logistic]

end Cert.GluRefIdeal.Product

namespace Cert.GluClaim

theorem quiet : Cert.quiescent_Glu (hGlu := Cert.Glu.Gen.facts) := fun m g _ => Cert.Glu.Gen.frame m g

theorem quiet_ideal : Cert.quiescent_GluIdeal (hGluIdeal := Cert.GluIdeal.Gen.facts) := fun m g _ => Cert.GluIdeal.Gen.frame m g

theorem quiet_ref : Cert.quiescent_GluRefIdeal (hGluRefIdeal := Cert.GluRefIdeal.Gen.facts) := fun m g _ =>
  (θ_run Cert.GluRefIdeal.defs _ _).mono (fun r h => ⟨fun c => (h c).2, funext fun x => nomatch x.2⟩) (Cert.GluRefIdeal.Value.run m g)

theorem algebraic : Cert.algebraic_GluIdeal_GluRefIdeal (hGluIdeal := Cert.GluIdeal.Gen.facts)
    (hGluRefIdeal := Cert.GluRefIdeal.Gen.facts) := by
  pair_intro
  · run_from Cert.GluIdeal.Gen.run_main m g
  · run_from Cert.GluRefIdeal.Value.run m' g'
    obtain e0 := hagree c
    rw [Cert.GluIdeal.Product.final m c, ← e0]
    exact Cert.GluRefIdeal.Product.eq _

end Cert.GluClaim
-- ==== Proof.SmallSum.lean ====
module

public import proofs.«01_k».proof.Defs
public import proofs.«01_k».proof.Proof.Gen.SmallSum.Frame
public import proofs.«01_k».proof.Proof.Gen.SmallSumIdeal.Frame
public import proofs.«01_k».proof.Proof.Gen.SmallSumIdeal.Value
public import proofs.«01_k».proof.Proof.Gen.SmallSumRefIdeal.Run
public import proofs.«01_k».proof.Proof.Gen.SmallSumRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.SmallSumIdeal.Product
open Cert.SmallSumIdeal Cert.SmallSumIdeal.Gen
variable (m : (ℓ : Loc nD τ sig) → Buf (Elt Ideal) ℓ)

/-- The sum of the devices' gradients. -/
def arr (A : FVec Ideal S8x7008x128 .f32) : FVec Ideal S7008x128 .f32 := fun i => ∑ k : Fin 8, A (ix3 k (i 0) (i 1))

theorem idx : ∀ t : Fin cfg0.N, win0_0.index t = ![0, (grid0.coords t 0).val, 0]
    ∧ win0_1.index t = ![(grid0.coords t 0).val, 0] :=
  (by decide +kernel : ∀ t : Fin grid0.N, _)

def block (c : Dev nD) (t : Fin cfg0.N) : S8x1168x128.Idx → EReal := iblk m c 0 t

theorem block_at (c : Dev nD) (t : Fin cfg0.N) (k : Fin 8) (y : S1168x128.Idx) :
    block m c t (ix3 k (y 0) (y 1)) = (m ((c : Thread nD τ).loc main_arg0) : FVec Ideal S8x7008x128 .f32)
      (ix3 k ((((cfg0.win 1).blk t).view.emb y : S7008x128.Idx) 0) ((((cfg0.win 1).blk t).view.emb y : S7008x128.Idx) 1)) := by
  unfold block
  blk_point [iblk, V, idx t]

theorem final (c : Dev nD) : (dats m 0 c).arrAt 1 (cfgs 0).N = arr (m ((c : Thread nD τ).loc main_arg0)) := by
  refine (dats m 0 c).arrAt_eq_of_covers 1 _ (by decide +kernel) fun t hf y => ?_
  blk_simp; rw [after0_1]; frame_out
  pointwise [k0_pay1, arr]
  rw [Fin.sum_univ_eight]
  simp only [← block_at]
  rfl

end Cert.SmallSumIdeal.Product

namespace Cert.SmallSumRefIdeal.Product
open Cert.SmallSumRefIdeal Cert.SmallSumRefIdeal.Read

theorem eq (A : FVec Ideal S8x7008x128 .f32) : val_main_v0 (F := Ideal) A = Cert.SmallSumIdeal.Product.arr A := by
  funext i
  pointwise [val_main_v0, val_main_cst, Cert.SmallSumIdeal.Product.arr]

end Cert.SmallSumRefIdeal.Product

namespace Cert.SmallSumClaim

theorem quiet : Cert.quiescent_SmallSum (hSmallSum := Cert.SmallSum.Gen.facts) := fun m g _ => Cert.SmallSum.Gen.frame m g

theorem quiet_ideal : Cert.quiescent_SmallSumIdeal (hSmallSumIdeal := Cert.SmallSumIdeal.Gen.facts) := fun m g _ => Cert.SmallSumIdeal.Gen.frame m g

theorem quiet_ref : Cert.quiescent_SmallSumRefIdeal (hSmallSumRefIdeal := Cert.SmallSumRefIdeal.Gen.facts) := fun m g _ =>
  (θ_run Cert.SmallSumRefIdeal.defs _ _).mono (fun r h => ⟨fun c => (h c).2, funext fun x => nomatch x.2⟩) (Cert.SmallSumRefIdeal.Value.run m g)

theorem algebraic : Cert.algebraic_SmallSumIdeal_SmallSumRefIdeal (hSmallSumIdeal := Cert.SmallSumIdeal.Gen.facts)
    (hSmallSumRefIdeal := Cert.SmallSumRefIdeal.Gen.facts) := by
  pair_intro
  · run_from Cert.SmallSumIdeal.Gen.run_main m g
  · refine θ_run_mono (Cert.SmallSumRefIdeal.Value.run m' g') fun r h c => ⟨(h c).1.trans ?_, (h c).2⟩
    refine Eq.trans ?_ (Cert.SmallSumIdeal.Product.final m c).symm
    rw [← hagree c, Cert.SmallSumRefIdeal.Read.val_main_v0_eq]
    exact Cert.SmallSumRefIdeal.Product.eq _

end Cert.SmallSumClaim
-- ==== Proof.GluProj.lean ====
module

public import proofs.«01_k».proof.Defs
public import proofs.«01_k».proof.Proof.Gen.GluProj.Frame
public import proofs.«01_k».proof.Proof.Gen.GluProjIdeal.Frame
public import proofs.«01_k».proof.Proof.Gen.GluProjIdeal.Value
public import proofs.«01_k».proof.Proof.Gen.GluProjRefIdeal.Run
public import proofs.«01_k».proof.Proof.Gen.GluProjRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GluProjIdeal.Product
open Cert.GluProjIdeal Cert.GluProjIdeal.Gen
variable (m : (ℓ : Loc nD τ sig) → Buf (Elt Ideal) ℓ)

/-- The product before the gate. -/
def arr (X : FVec Ideal S2048x512 .f32) (W : FVec Ideal S512x1024 .f32) : FVec Ideal S2048x1024 .f32 :=
  fun i => ∑ k : Fin 512, X (ix2 (i 0) k) * W (ix2 k (i 1))

theorem idx : ∀ t : Fin cfg0.N, win0_0.index t = ![0, 0]
    ∧ win0_1.index t = ![(grid0.coords t 1).val, 0, 0]
    ∧ win0_2.index t = ![0, (grid0.coords t 1).val] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.GluProjIdeal.Product

namespace Cert.GluProjRefIdeal.Product
open Cert.GluProjRefIdeal Cert.GluProjRefIdeal.Read

theorem eq (X : FVec Ideal S2048x512 .f32) (W : FVec Ideal S512x1024 .f32) :
    val_main_v0 (F := Ideal) X W = Cert.GluProjIdeal.Product.arr X W := by
  funext i
  pointwise [val_main_v0, Cert.GluProjIdeal.Product.arr]

end Cert.GluProjRefIdeal.Product

namespace Cert.GluProjClaim

theorem quiet : Cert.quiescent_GluProj (hGluProj := Cert.GluProj.Gen.facts) := fun m g _ => Cert.GluProj.Gen.frame m g

theorem quiet_ideal : Cert.quiescent_GluProjIdeal (hGluProjIdeal := Cert.GluProjIdeal.Gen.facts) := fun m g _ => Cert.GluProjIdeal.Gen.frame m g

theorem quiet_ref : Cert.quiescent_GluProjRefIdeal (hGluProjRefIdeal := Cert.GluProjRefIdeal.Gen.facts) := fun m g _ =>
  (θ_run Cert.GluProjRefIdeal.defs _ _).mono (fun r h => ⟨fun c => (h c).2, funext fun x => nomatch x.2⟩) (Cert.GluProjRefIdeal.Value.run m g)

theorem algebraic : Cert.algebraic_GluProjIdeal_GluProjRefIdeal (hGluProjIdeal := Cert.GluProjIdeal.Gen.facts)
    (hGluProjRefIdeal := Cert.GluProjRefIdeal.Gen.facts) := by
  pair_intro
  · run_from Cert.GluProjIdeal.Gen.run_main m g
  · run_from Cert.GluProjRefIdeal.Value.run m' g'
    obtain ⟨e0, e1⟩ := hagree c
    rw [Cert.GluProjIdeal.Product.final m c, ← e0, ← e1]
    exact Cert.GluProjRefIdeal.Product.eq _ _

end Cert.GluProjClaim
-- ==== Proof.GluProjDx.lean ====
module

public import proofs.«01_k».proof.Defs
public import proofs.«01_k».proof.Proof.Gen.GluProjDx.Frame
public import proofs.«01_k».proof.Proof.Gen.GluProjDxIdeal.Frame
public import proofs.«01_k».proof.Proof.Gen.GluProjDxIdeal.Value
public import proofs.«01_k».proof.Proof.Gen.GluProjDxRefIdeal.Run
public import proofs.«01_k».proof.Proof.Gen.GluProjDxRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GluProjDxIdeal.Product
open Cert.GluProjDxIdeal Cert.GluProjDxIdeal.Gen
variable (m : (ℓ : Loc nD τ sig) → Buf (Elt Ideal) ℓ)

/-- The gradient of the activation. -/
def arr (D : FVec Ideal S2048x1024 .f32) (W : FVec Ideal S512x1024 .f32) : FVec Ideal S2048x512 .f32 :=
  fun i => ∑ k : Fin 1024, D (ix2 (i 0) k) * W (ix2 (i 1) k)

theorem idx_val : ∀ t : Fin cfg0.N, win0_0.index t = ![0, t.val % 4]
    ∧ win0_1.index t = ![t.val % 4, t.val / 4, 0]
    ∧ win0_2.index t = ![0, t.val / 4] :=
  (by decide +kernel : ∀ t : Fin grid0.N, _)

/-- The left factor's block at a point. -/
def lhs (c : Dev nD) (t : Fin cfg0.N) : S2048x256.Idx → EReal := iblk m c 0 t

/-- The right factor's block at a point. -/
def rhs (c : Dev nD) (t : Fin cfg0.N) : S1x512x256.Idx → EReal := iblk m c 1 t

/-- What one shard contributes to a tile. -/
def part (c : Dev nD) (t : Fin cfg0.N) (y : S2048x512.Idx) : EReal :=
  ∑ f : Fin 256, lhs m c t (ix2 (y 0) f) * rhs m c t (ix3 0 (y 1) f)

theorem first (c : Dev nD) (t : Fin cfg0.N) (h : t.val % 4 = 0) (y : S2048x512.Idx) :
    (outsAt0 m c t.val t.isLt).2 y = 0 + part m c t y := by
  have ht : t.val < 4 := t.isLt
  rw [outsAt0_A m c t h (by omega) (by omega)]
  frame_out
  refine Eq.trans ?_ (zero_add _).symm
  pointwise [k0_pay1, part, lhs, rhs]

theorem later (c : Dev nD) (t : Fin cfg0.N) (h : ¬t.val % 4 = 0) (y : S2048x512.Idx) :
    (outsAt0 m c t.val t.isLt).2 y = (outsAt0 m c (t.val - 1) (Nat.lt_of_le_of_lt (Nat.sub_le _ _) t.isLt)).2 y + part m c t y := by
  by_cases h2 : t.val % 4 = 3
  · rw [outsAt0_C m c t h (by omega) h2]
    frame_out
    pointwise [k0_pay2, part, lhs, rhs]
    rw [read_unread_whole]
  · rw [outsAt0_B m c t h (by omega) h2]
    frame_out
    pointwise [k0_pay2, part, lhs, rhs]
    rw [read_unread_whole]

theorem same (c : Dev nD) (t : Fin cfg0.N) (h : t.val % 4 = 3) :
    (outsAt0 m c t.val t.isLt).1 = (outsAt0 m c t.val t.isLt).2 := by
  rw [outsAt0_C m c t (by omega) (by omega) h]
  frame_out

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  have hr : t.val % 4 = 3 := (flush0_2 t).mp hf
  blk_simp
  rw [after0_2, same m c t hr, Pipeline.eq_sum_fin_of_reset_step_apply_of_flush (fun n h => (outsAt0 m c n h).2) 4 (fun _ => 0)
    (fun t y => part m c t y) (fun t h j => first m c t h j) (fun t h j => later m c t h j) t hr _, zero_add]
  refine Fin.sum_mul_add_congr fun s k hl => ?_
  have hs := s.isLt
  have ht := t.isLt
  blk_point [lhs, rhs, iblk, V, idx_val ⟨4 * (t.val / 4) + s.val, Pipeline.run_point_lt_of_flush t hr s⟩, idx_val t]

end Cert.GluProjDxIdeal.Product

namespace Cert.GluProjDxRefIdeal.Product
open Cert.GluProjDxRefIdeal Cert.GluProjDxRefIdeal.Read

theorem eq (D : FVec Ideal S2048x1024 .f32) (W : FVec Ideal S512x1024 .f32) :
    val_main_v2 (F := Ideal) D W = Cert.GluProjDxIdeal.Product.arr D W := by
  funext i
  pointwise [val_main_v2, val_main_v1, val_main_v0, Cert.GluProjDxIdeal.Product.arr]

end Cert.GluProjDxRefIdeal.Product

namespace Cert.GluProjDxClaim

theorem quiet : Cert.quiescent_GluProjDx (hGluProjDx := Cert.GluProjDx.Gen.facts) := fun m g _ => Cert.GluProjDx.Gen.frame m g

theorem quiet_ideal : Cert.quiescent_GluProjDxIdeal (hGluProjDxIdeal := Cert.GluProjDxIdeal.Gen.facts) := fun m g _ => Cert.GluProjDxIdeal.Gen.frame m g

theorem quiet_ref : Cert.quiescent_GluProjDxRefIdeal (hGluProjDxRefIdeal := Cert.GluProjDxRefIdeal.Gen.facts) := fun m g _ =>
  (θ_run Cert.GluProjDxRefIdeal.defs _ _).mono (fun r h => ⟨fun c => (h c).2, funext fun x => nomatch x.2⟩) (Cert.GluProjDxRefIdeal.Value.run m g)

theorem algebraic : Cert.algebraic_GluProjDxIdeal_GluProjDxRefIdeal (hGluProjDxIdeal := Cert.GluProjDxIdeal.Gen.facts)
    (hGluProjDxRefIdeal := Cert.GluProjDxRefIdeal.Gen.facts) := by
  pair_intro
  · run_from Cert.GluProjDxIdeal.Gen.run_main m g
  · run_from Cert.GluProjDxRefIdeal.Value.run m' g'
    obtain ⟨e0, e1⟩ := hagree c
    rw [Cert.GluProjDxIdeal.Product.final m c, ← e0, ← e1]
    exact Cert.GluProjDxRefIdeal.Product.eq _ _

end Cert.GluProjDxClaim
-- ==== Proof.GluProjDw.lean ====
module

public import proofs.«01_k».proof.Defs
public import proofs.«01_k».proof.Proof.Gen.GluProjDw.Frame
public import proofs.«01_k».proof.Proof.Gen.GluProjDwIdeal.Frame
public import proofs.«01_k».proof.Proof.Gen.GluProjDwIdeal.Value
public import proofs.«01_k».proof.Proof.Gen.GluProjDwRefIdeal.Run
public import proofs.«01_k».proof.Proof.Gen.GluProjDwRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GluProjDwIdeal.Product
open Cert.GluProjDwIdeal Cert.GluProjDwIdeal.Gen
variable (m : (ℓ : Loc nD τ sig) → Buf (Elt Ideal) ℓ)

/-- The column of the whole width at which column `f` of shard `q` lies. -/
def col (q : Fin 4) (f : Fin 256) : Fin 1024 := ⟨q.val * 256 + f.val, by omega⟩

/-- The gradient of the weight of the product before the gate, cut into shards. -/
def arr (X : FVec Ideal S2048x512 .f32) (D : FVec Ideal S2048x1024 .f32) : FVec Ideal S4x512x256 .f32 :=
  fun i => ∑ k : Fin 2048, X (ix2 k (i 1)) * D (ix2 k (col (i 0) (i 2)))

theorem idx : ∀ t : Fin cfg0.N, win0_0.index t = ![0, (grid0.coords t 1).val]
    ∧ win0_1.index t = ![0, (grid0.coords t 0).val]
    ∧ win0_2.index t = ![(grid0.coords t 0).val, (grid0.coords t 1).val, 0] :=
  (by decide +kernel : ∀ t : Fin grid0.N, _)

theorem point (c : Dev nD) (t : Fin cfg0.N) (y) :
    k0_pay1 (iblk m c 0 t) (iblk m c 1 t) y
      = arr (m ((c : Thread nD τ).loc main_arg0)) (m ((c : Thread nD τ).loc main_arg1)) (((cfg0.win 2).blk t).view.emb y) := by
  pointwise [k0_pay1, arr, col]
  blk_point [iblk, V, idx t]

theorem final (c : Dev nD) : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.GluProjDwIdeal.Product

namespace Cert.GluProjDwRefIdeal.Product
open Cert.GluProjDwRefIdeal Cert.GluProjDwRefIdeal.Read

theorem eq (X : FVec Ideal S2048x512 .f32) (D : FVec Ideal S2048x1024 .f32) :
    val_main_v5 (F := Ideal) X D = Cert.GluProjDwIdeal.Product.arr X D := by
  funext i
  pointwise [val_main_v5, val_main_v4, val_main_v3, val_main_v2, val_main_v1, val_main_v0, Cert.GluProjDwIdeal.Product.arr, Cert.GluProjDwIdeal.Product.col]
  exact Finset.sum_congr rfl fun k _ => mul_comm _ _

end Cert.GluProjDwRefIdeal.Product

namespace Cert.GluProjDwClaim

theorem quiet : Cert.quiescent_GluProjDw (hGluProjDw := Cert.GluProjDw.Gen.facts) := fun m g _ => Cert.GluProjDw.Gen.frame m g

theorem quiet_ideal : Cert.quiescent_GluProjDwIdeal (hGluProjDwIdeal := Cert.GluProjDwIdeal.Gen.facts) := fun m g _ => Cert.GluProjDwIdeal.Gen.frame m g

theorem quiet_ref : Cert.quiescent_GluProjDwRefIdeal (hGluProjDwRefIdeal := Cert.GluProjDwRefIdeal.Gen.facts) := fun m g _ =>
  (θ_run Cert.GluProjDwRefIdeal.defs _ _).mono (fun r h => ⟨fun c => (h c).2, funext fun x => nomatch x.2⟩) (Cert.GluProjDwRefIdeal.Value.run m g)

theorem algebraic : Cert.algebraic_GluProjDwIdeal_GluProjDwRefIdeal (hGluProjDwIdeal := Cert.GluProjDwIdeal.Gen.facts)
    (hGluProjDwRefIdeal := Cert.GluProjDwRefIdeal.Gen.facts) := by
  pair_intro
  · run_from Cert.GluProjDwIdeal.Gen.run_main m g
  · run_from Cert.GluProjDwRefIdeal.Value.run m' g'
    obtain ⟨e0, e1⟩ := hagree c
    rw [Cert.GluProjDwIdeal.Product.final m c, ← e0, ← e1]
    exact Cert.GluProjDwRefIdeal.Product.eq _ _

end Cert.GluProjDwClaim
-- ==== Proof.Gelu.lean ====
module

public import proofs.«01_k».proof.Defs
public import proofs.«01_k».proof.Proof.Gen.Gelu.Frame
public import proofs.«01_k».proof.Proof.Gen.GeluIdeal.Frame
public import proofs.«01_k».proof.Proof.Gen.GeluIdeal.Value
public import proofs.«01_k».proof.Proof.Gen.GeluRefIdeal.Run
public import proofs.«01_k».proof.Proof.Gen.GeluRefIdeal.Read
public import Idealize.ShloMosaic.Lib.Claim
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
open scoped BigOperators

namespace Cert.GeluIdeal.Product
open Cert.GeluIdeal Cert.GeluIdeal.Gen
variable (m : (ℓ : Loc nD τ sig) → Buf (Elt Ideal) ℓ)

/-- The activation at `x`, in its tanh form. -/
def act (x : EReal) : EReal :=
  let k : EReal := FloatOps.ofBits (F := Ideal) .f32 0x3F4C422A#32
  let q : EReal := FloatOps.ofBits (F := Ideal) .f32 0x3D372713#32
  let h : EReal := FloatOps.ofBits (F := Ideal) .f32 0x3F000000#32
  let one : EReal := FloatOps.ofBits (F := Ideal) .f32 0x3F800000#32
  x * (h * (one + Ideal.tanh (k * (x + q * (x * (x * x))))))

/-- The skip vector's entry of a column. -/
def skip (D : FVec Ideal Cert.GeluRefIdeal.S32x16 .f32) (j : Fin 512) : EReal := D (ix2 ⟨j.val / 16, by omega⟩ ⟨j.val % 16, by omega⟩)

/-- What the activation is applied to: the scan's output and its input through the skip connection. -/
def pre (Y U : FVec Ideal S2048x512 .f32) (D : FVec Ideal Cert.GeluRefIdeal.S32x16 .f32) : FVec Ideal S2048x512 .f32 :=
  fun i => Y i + skip D (i 1) * U i

/-- The activation, entry by entry. -/
def arr4 (Y U : FVec Ideal S2048x512 .f32) (D : FVec Ideal Cert.GeluRefIdeal.S32x16 .f32) : FVec Ideal S2048x512 .bf16 :=
  fun i => act (pre Y U D i)

theorem idx_val : ∀ t : Fin cfg0.N, win0_0.index t = ![t.val, 0]
    ∧ win0_1.index t = ![t.val, 0]
    ∧ win0_2.index t = ![0, 0]
    ∧ win0_3.index t = ![t.val, 0]
    ∧ win0_4.index t = ![t.val, 0] :=
  (by decide +kernel : ∀ t : Fin grid0.N, _)

abbrev Ya (c : Dev nD) : FVec Ideal S2048x512 .f32 := m ((c : Thread nD τ).loc main_arg0)
abbrev Ua (c : Dev nD) : FVec Ideal S2048x512 .f32 := m ((c : Thread nD τ).loc main_arg1)
abbrev Da (c : Dev nD) : FVec Ideal Cert.GeluRefIdeal.S32x16 .f32 := m ((c : Thread nD τ).loc main_arg2)

def row (t : Fin cfg0.N) (r : Fin 512) : Fin 2048 := ⟨t.val * 512 + r.val, by have : t.val < 4 := t.isLt; omega⟩

def X0 (c : Dev nD) (t : Fin cfg0.N) : S512x512.Idx → EReal := iblk m c 0 t
def X1 (c : Dev nD) (t : Fin cfg0.N) : S512x512.Idx → EReal := iblk m c 1 t
def X2 (c : Dev nD) (t : Fin cfg0.N) : S1x512.Idx → EReal := iblk m c 2 t

theorem b0 (c : Dev nD) (t : Fin cfg0.N) (y : S512x512.Idx) : X0 m c t y = Ya m c (ix2 (row t (y 0)) (y 1)) := by
  unfold X0 Ya row
  blk_point [iblk, V, idx_val t]

theorem b1 (c : Dev nD) (t : Fin cfg0.N) (y : S512x512.Idx) : X1 m c t y = Ua m c (ix2 (row t (y 0)) (y 1)) := by
  unfold X1 Ua row
  blk_point [iblk, V, idx_val t]

theorem b2 (c : Dev nD) (t : Fin cfg0.N) (y : S1x512.Idx) : X2 m c t y = skip (Da m c) (y 1) := by
  unfold X2 skip Da
  blk_point [iblk, V, idx_val t]

theorem pay1_at (a : Vec Ideal S512x512 .f32) (d : Vec Ideal S1x512 .f32) (b : Vec Ideal S512x512 .f32) (y : S512x512.Idx) :
    k0_pay1 (F := Ideal) a d b y = a y + d (ix2 0 (y 1)) * b y := by
  pointwise [k0_pay1]

theorem pay2_at (a : Vec Ideal S512x512 .f32) (d : Vec Ideal S1x512 .f32) (b : Vec Ideal S512x512 .f32) (y : S512x512.Idx) :
    k0_pay2 (F := Ideal) a d b y = act (a y + d (ix2 0 (y 1)) * b y) := by
  rw [← pay1_at]
  pointwise [k0_pay2, act]

theorem out3 (c : Dev nD) (t : Fin cfg0.N) (y : S512x512.Idx) :
    out0_3 (iblk m c 0 t) (iblk m c 1 t) (iblk m c 2 t) y = X0 m c t y + X2 m c t (ix2 0 (y 1)) * X1 m c t y := by
  frame_out
  rw [pay1_at]
  rfl

theorem out4 (c : Dev nD) (t : Fin cfg0.N) (y : S512x512.Idx) :
    out0_4 (iblk m c 0 t) (iblk m c 1 t) (iblk m c 2 t) y = act (X0 m c t y + X2 m c t (ix2 0 (y 1)) * X1 m c t y) := by
  frame_out
  rw [pay2_at]
  rfl

theorem final3 (c : Dev nD) : (dats m 0 c).arrAt 3 (cfgs 0).N = pre (Ya m c) (Ua m c) (Da m c) := by
  refine (dats m 0 c).arrAt_eq_of_covers 3 _ (by decide +kernel) fun t hf y => ?_
  blk_simp; rw [after0_3, out3, b0, b1, b2]
  have h : ((cfg0.win 3).blk t).view.emb y = ix2 (row t (y 0)) (y 1) := by
    unfold row
    blk_ext [idx_val t]
  rw [h]; rfl

theorem final4 (c : Dev nD) : (dats m 0 c).arrAt 4 (cfgs 0).N = arr4 (Ya m c) (Ua m c) (Da m c) := by
  refine (dats m 0 c).arrAt_eq_of_covers 4 _ (by decide +kernel) fun t hf y => ?_
  blk_simp; rw [after0_4, out4, b0, b1, b2]
  have h : ((cfg0.win 4).blk t).view.emb y = ix2 (row t (y 0)) (y 1) := by
    unfold row
    blk_ext [idx_val t]
  rw [h]; rfl

end Cert.GeluIdeal.Product

namespace Cert.GeluRefIdeal.Product
open Cert.GeluRefIdeal Cert.GeluRefIdeal.Read Cert.GeluIdeal.Product

theorem eq6 (Y U : FVec Ideal S2048x512 .f32) (D : FVec Ideal S32x16 .f32) : val_main_v6 (F := Ideal) Y U D = pre Y U D := by
  funext i
  pointwise [val_main_v6, val_main_v5, val_main_v4, val_main_v3, val_main_v2, val_main_v1, val_main_v0, pre, skip]

theorem eq20 (Y U : FVec Ideal S2048x512 .f32) (D : FVec Ideal S32x16 .f32) : val_main_v20 (F := Ideal) Y U D = arr4 Y U D := by
  funext i
  show val_main_v20 (F := Ideal) Y U D i = act (pre Y U D i)
  rw [← eq6]
  generalize hx : val_main_v6 (F := Ideal) Y U D i = x
  have hq : x * x * x = x * (x * x) := mul_comm _ _
  pointwise [val_main_v20, val_main_v19, val_main_v18, val_main_v17, val_main_v16, val_main_v15, val_main_v14, val_main_v13, val_main_v12, val_main_v11, val_main_v10, val_main_v9, val_main_v8, val_main_v7, val_main_cst_0, val_main_cst_1, val_main_cst_2, val_main_cst, act]
  rw [hx, hq]

end Cert.GeluRefIdeal.Product

namespace Cert.GeluClaim

theorem quiet : Cert.quiescent_Gelu (hGelu := Cert.Gelu.Gen.facts) := fun m g _ => Cert.Gelu.Gen.frame m g

theorem quiet_ideal : Cert.quiescent_GeluIdeal (hGeluIdeal := Cert.GeluIdeal.Gen.facts) := fun m g _ => Cert.GeluIdeal.Gen.frame m g

theorem quiet_ref : Cert.quiescent_GeluRefIdeal (hGeluRefIdeal := Cert.GeluRefIdeal.Gen.facts) := fun m g _ =>
  (θ_run Cert.GeluRefIdeal.defs _ _).mono (fun r h => ⟨fun c => (h c).2.2, funext fun x => nomatch x.2⟩) (Cert.GeluRefIdeal.Value.run m g)

theorem algebraic : Cert.algebraic_GeluIdeal_GeluRefIdeal (hGeluIdeal := Cert.GeluIdeal.Gen.facts)
    (hGeluRefIdeal := Cert.GeluRefIdeal.Gen.facts) := by
  pair_intro
  · run_from Cert.GeluIdeal.Gen.run_main m g
  · run_from Cert.GeluRefIdeal.Value.run m' g'
    · rw [Cert.GeluIdeal.Product.final3 m c, Cert.GeluRefIdeal.Read.val_main_v6_eq, Cert.GeluRefIdeal.Product.eq6]
    · rw [Cert.GeluIdeal.Product.final4 m c, Cert.GeluRefIdeal.Read.val_main_v20_eq, Cert.GeluRefIdeal.Product.eq20]

end Cert.GeluClaim
-- ==== Proof.LnLast.lean ====
module

public import proofs.«01_k».proof.Defs
public import proofs.«01_k».proof.Proof.Gen.LnLast.Frame
public import proofs.«01_k».proof.Proof.Gen.LnLastIdeal.Frame
public import proofs.«01_k».proof.Proof.Gen.LnLastIdeal.Value
public import proofs.«01_k».proof.Proof.Gen.LnLastRefIdeal.Run
public import proofs.«01_k».proof.Proof.Gen.LnLastRefIdeal.Read
public import Idealize.ShloMosaic.Lib.Claim
public import Idealize.ShloMosaic.Lib.Pipeline.ValueKit
public import Idealize.ShloMosaic.Lib.Pipeline.ReadBack

@[expose] public section

set_option maxRecDepth 16384
set_option maxHeartbeats 1000000
noncomputable section
open Idealize.ShloMosaic Idealize.ShloMosaic.TcCoe Idealize.SL.Sem
open Idealize.ShloMosaic.Pipeline (Dat)
open scoped BigOperators

namespace Cert.LnLastIdeal.Product
open Cert.LnLastIdeal Cert.LnLastIdeal.Gen
variable (m : (ℓ : Loc nD τ sig) → Buf (Elt Ideal) ℓ)

/-! ## The layer norm of a row, and its gradient -/

def mean (f : Fin 2048 → EReal) : EReal := Ideal.div (∑ k, f k) (Ideal.ofBits .f32 0x45000000#32)

/-- The variance of a row, and the small constant. -/
def var (f : Fin 2048 → EReal) : EReal :=
  Ideal.div (∑ k, (f k - mean f) * (f k - mean f)) (Ideal.ofBits .f32 0x45000000#32) + Ideal.ofBits .f32 0x3727C5AC#32

/-- What the variance receives, times the weight of an entry in it; `u` is the row's cotangent times the scale. -/
def pull (f u : Fin 2048 → EReal) : EReal :=
  Ideal.div ((∑ k, (f k - mean f) * u k) * (Ideal.ofBits .f32 0xBF000000#32 * Ideal.div (Ideal.rsqrt (var f)) (var f))) (Ideal.ofBits .f32 0x45000000#32)

/-- The gradient of an entry `e` of the row before the mean's part. -/
def direct (f : Fin 2048 → EReal) (ue : EReal) : EReal := ue * Ideal.rsqrt (var f)
def spread (f u : Fin 2048 → EReal) (e : EReal) : EReal := pull f u * (Ideal.ofBits .f32 0x40000000#32 * (e - mean f))

/-- The gradient of an entry `e` of the row. -/
def grad (f u : Fin 2048 → EReal) (e ue : EReal) : EReal :=
  direct f ue + spread f u e + Ideal.div (∑ k, -direct f (u k) + ∑ k, -spread f u (f k)) (Ideal.ofBits .f32 0x45000000#32)

/-- The residual sum. -/
def res (X Y : FVec Ideal S2048x2048 .f32) : S2048x2048.Idx → EReal := fun i => Ideal.ofBits .f32 0x3FD744FD#32 * X i + Y i

/-- The gradient of the residual branch, of the scale and of the shift, from the cotangent of the normalised rows. -/
def arr4 (X Y : FVec Ideal S2048x2048 .f32) (g : FVec Ideal Cert.LnLastRefIdeal.S2048 .f32) (P : FVec Ideal S2048x2048 .f32) : S2048x2048.Idx → EReal := fun i =>
  grad (fun k => res X Y (ix2 (i 0) k)) (fun k => P (ix2 (i 0) k) * g (ix1 k)) (res X Y i) (P i * g (ix1 (i 1)))

def arr6 (X Y P : FVec Ideal S2048x2048 .f32) : S1x2048.Idx → EReal := fun i =>
  ∑ r : Fin 2048, (res X Y (ix2 r (i 1)) - mean (fun k => res X Y (ix2 r k))) * Ideal.rsqrt (var (fun k => res X Y (ix2 r k))) * P (ix2 r (i 1))

def arr7 (P : FVec Ideal S2048x2048 .f32) : S1x2048.Idx → EReal := fun i => ∑ r : Fin 2048, P (ix2 r (i 1))

abbrev Xa (c : Dev nD) : FVec Ideal S2048x2048 .f32 := m ((c : Thread nD τ).loc main_arg0)
abbrev Ya (c : Dev nD) : FVec Ideal S2048x2048 .f32 := m ((c : Thread nD τ).loc main_arg1)
abbrev Ga (c : Dev nD) : FVec Ideal Cert.LnLastRefIdeal.S2048 .f32 := m ((c : Thread nD τ).loc main_arg2)
abbrev Pa (c : Dev nD) : FVec Ideal S2048x2048 .f32 := m ((c : Thread nD τ).loc main_arg4)

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![0, 0]
    ∧ win0_7.index t = ![0, 0] :=
  (by decide +kernel : ∀ t : Fin grid0.N, _)

def row (t : Fin cfg0.N) (r : Fin 256) : Fin 2048 := ⟨t.val * 256 + r.val, by have : t.val < 8 := t.isLt; omega⟩

/-! ## The payloads, entry by entry -/

theorem pay2_at (v1 : FVec Ideal S256x2048 .f32) (y : S256x1.Idx) :
    k0_pay2 (F := Ideal) v1 y = mean (fun k => v1 (ix2 (y 0) k)) := by
  unfold mean
  pointwise [k0_pay2, k0_pay1]

theorem pay3_at (v1 : FVec Ideal S256x2048 .f32) (y : S256x2048.Idx) :
    k0_pay3 (F := Ideal) v1 y = v1 y - mean (fun k => v1 (ix2 (y 0) k)) := by
  pointwise [k0_pay3, k0_pay1, pay2_at]

theorem pay5_at (v1 : FVec Ideal S256x2048 .f32) (y : S256x2048.Idx) :
    k0_pay5 (F := Ideal) v1 y = v1 y - mean (fun k => v1 (ix2 (y 0) k)) := by
  pointwise [k0_pay5, k0_pay1, pay2_at]

theorem pay6_at (v1 : FVec Ideal S256x2048 .f32) (y : S256x1.Idx) :
    k0_pay6 (F := Ideal) v1 y = var (fun k => v1 (ix2 (y 0) k)) := by
  unfold var
  pointwise [k0_pay6, pay3_at]

theorem pay7_at (v1 : FVec Ideal S256x2048 .f32) (y : S256x1.Idx) :
    k0_pay7 (F := Ideal) v1 y = Ideal.rsqrt (var (fun k => v1 (ix2 (y 0) k))) := by
  pointwise [k0_pay7, pay6_at]

theorem pay9_at (v0 : FVec Ideal S256x2048 .f32) (y : S1x2048.Idx) :
    k0_pay9 (F := Ideal) v0 y = ∑ r : Fin 256, v0 (ix2 r (y 1)) := by
  pointwise [k0_pay9]

theorem pay10_at (v0 v1 : FVec Ideal S256x2048 .f32) (y : S1x2048.Idx) :
    k0_pay10 (F := Ideal) v0 v1 y = ∑ r : Fin 256, (v1 (ix2 r (y 1)) - mean (fun k => v1 (ix2 r k))) * Ideal.rsqrt (var (fun k => v1 (ix2 r k)))
      * v0 (ix2 r (y 1)) := by
  pointwise [k0_pay10, k0_pay8, pay5_at, pay7_at]

theorem pay11_at (v0 : FVec Ideal S256x2048 .f32) (v3 : FVec Ideal S1x2048 .f32) (y : S256x2048.Idx) :
    k0_pay11 (F := Ideal) v0 v3 y = v0 y * v3 (ix2 0 (y 1)) := by
  pointwise [k0_pay11, k0_pay8]

theorem pay12_at (v0 v1 : FVec Ideal S256x2048 .f32) (v3 : FVec Ideal S1x2048 .f32) (y : S256x2048.Idx) :
    k0_pay12 (F := Ideal) v0 v1 v3 y = direct (fun k => v1 (ix2 (y 0) k)) (v0 y * v3 (ix2 0 (y 1))) := by
  unfold direct
  pointwise [k0_pay12, pay11_at, pay7_at]

theorem pay13_at (v0 v1 : FVec Ideal S256x2048 .f32) (v3 : FVec Ideal S1x2048 .f32) (y : S256x1.Idx) :
    k0_pay13 (F := Ideal) v0 v1 v3 y = (∑ k : Fin 2048, (v1 (ix2 (y 0) k) - mean (fun k => v1 (ix2 (y 0) k))) * (v0 (ix2 (y 0) k) * v3 (ix2 0 k)))
      * (Ideal.ofBits .f32 0xBF000000#32 * Ideal.div (Ideal.rsqrt (var (fun k => v1 (ix2 (y 0) k)))) (var (fun k => v1 (ix2 (y 0) k)))) := by
  pointwise [k0_pay13, pay5_at, pay6_at, pay7_at, pay11_at]

theorem pay14_at (v0 v1 : FVec Ideal S256x2048 .f32) (v3 : FVec Ideal S1x2048 .f32) (y : S256x2048.Idx) :
    k0_pay14 (F := Ideal) (k0_pay4 v1) (k0_pay12 v0 v1 v3) (k0_pay13 v0 v1 v3) (Scalar.ofBits .f32 0x00000000#32) y
      = grad (fun k => v1 (ix2 (y 0) k)) (fun k => v0 (ix2 (y 0) k) * v3 (ix2 0 k)) (v1 y) (v0 y * v3 (ix2 0 (y 1))) := by
  unfold grad spread pull
  pointwise [k0_pay14, k0_pay4, pay3_at, pay12_at, pay13_at]
  simp only [Finset.univ_unique, Finset.sum_const, Finset.card_singleton, one_smul, zero_sub]

theorem pay15_at (a b : FVec Ideal S256x2048 .f32) (d : FVec Ideal S256x1 .f32) (e : Ideal .f32) (y : S256x2048.Idx) :
    k0_pay15 (F := Ideal) a b d e y = k0_pay14 (F := Ideal) a b d e y := by
  pointwise [k0_pay15]

theorem pay18_at (a b : FVec Ideal S1x2048 .f32) (y : S1x2048.Idx) : k0_pay18 (F := Ideal) a b y = b y + a y := by
  pointwise [k0_pay18]

theorem pay19_at (a b : FVec Ideal S1x2048 .f32) (y : S1x2048.Idx) : k0_pay19 (F := Ideal) a b y = b y + a y := by
  pointwise [k0_pay19]

theorem pay16_at (y : S1x2048.Idx) : k0_pay16 (F := Ideal) y = 0 := by
  pointwise! [k0_pay16]

theorem pay17_at (y : S1x2048.Idx) : k0_pay17 (F := Ideal) y = 0 := by
  pointwise! [k0_pay17]

def X0 (c : Dev nD) (t : Fin cfg0.N) : S256x2048.Idx → EReal := iblk m c 0 t
def X1 (c : Dev nD) (t : Fin cfg0.N) : S1x2048.Idx → EReal := iblk m c 1 t
def X3 (c : Dev nD) (t : Fin cfg0.N) : S256x2048.Idx → EReal := iblk m c 3 t

theorem b0 (c : Dev nD) (t : Fin cfg0.N) (y : S256x2048.Idx) : X0 m c t y = res (Xa m c) (Ya m c) (ix2 (row t (y 0)) (y 1)) := by
  have h : ((cfg0.win 0).blk t).view.emb y = ix2 (row t (y 0)) (y 1) := by
    unfold row
    blk_ext [idx_val t]
  have e : X0 m c t y = res (Xa m c) (Ya m c) (((cfg0.win 0).blk t).view.emb y) := by
    unfold X0 iblk V
    blk_simp [idx_val t]
    entry_read
    pointwise
    rfl
  rw [e, h]
  rfl

theorem b1 (c : Dev nD) (t : Fin cfg0.N) (y : S1x2048.Idx) : X1 m c t y = Ga m c (ix1 (y 1)) := by
  unfold X1 Ga
  blk_point [iblk, V, idx_val t]

theorem b3 (c : Dev nD) (t : Fin cfg0.N) (y : S256x2048.Idx) : X3 m c t y = Pa m c (ix2 (row t (y 0)) (y 1)) := by
  unfold X3 Pa row
  blk_point [iblk, V, idx_val t]

theorem grad_at (c : Dev nD) (t : Fin cfg0.N) (y : S256x2048.Idx) :
    k0_pay14 (F := Ideal) (k0_pay4 (X0 m c t)) (k0_pay12 (X3 m c t) (X0 m c t) (X1 m c t)) (k0_pay13 (X3 m c t) (X0 m c t) (X1 m c t))
        (Scalar.ofBits .f32 0x00000000#32) y
      = arr4 (Xa m c) (Ya m c) (Ga m c) (Pa m c) (ix2 (row t (y 0)) (y 1)) := by
  rw [pay14_at]
  simp only [b0, b1, b3]
  rfl

/-- What a block of rows adds to a column of the scale's gradient, and of the shift's. -/
def part6 (c : Dev nD) (t : Fin cfg0.N) (y : S1x2048.Idx) : EReal := k0_pay10 (F := Ideal) (X3 m c t) (X0 m c t) y
def part7 (c : Dev nD) (t : Fin cfg0.N) (y : S1x2048.Idx) : EReal := k0_pay9 (F := Ideal) (X3 m c t) y

theorem after4 (c : Dev nD) (t : Fin cfg0.N) (y : S256x2048.Idx) :
    (outsAt0 m c t.val t.isLt).1 y = arr4 (Xa m c) (Ya m c) (Ga m c) (Pa m c) (ix2 (row t (y 0)) (y 1)) := by
  by_cases h : t.val % 8 = 0
  · rw [outsAt0_A m c t h]
    frame_out
    exact grad_at m c t y
  · rw [outsAt0_B m c t h]
    frame_out
    exact grad_at m c t y

theorem after5 (c : Dev nD) (t : Fin cfg0.N) (y : S256x2048.Idx) :
    (outsAt0 m c t.val t.isLt).2.1 y = arr4 (Xa m c) (Ya m c) (Ga m c) (Pa m c) (ix2 (row t (y 0)) (y 1)) := by
  by_cases h : t.val % 8 = 0
  · rw [outsAt0_A m c t h]
    frame_out
    exact (pay15_at _ _ _ _ y).trans (grad_at m c t y)
  · rw [outsAt0_B m c t h]
    frame_out
    exact (pay15_at _ _ _ _ y).trans (grad_at m c t y)

theorem first6 (c : Dev nD) (t : Fin cfg0.N) (h : t.val % 8 = 0) (y : S1x2048.Idx) :
    (outsAt0 m c t.val t.isLt).2.2.1 y = 0 + part6 m c t y := by
  rw [outsAt0_A m c t h]
  frame_out
  rw [pay18_at, pay16_at]
  rfl

theorem later6 (c : Dev nD) (t : Fin cfg0.N) (h : ¬t.val % 8 = 0) (y : S1x2048.Idx) :
    (outsAt0 m c t.val t.isLt).2.2.1 y = (outsAt0 m c (t.val - 1) (Nat.lt_of_le_of_lt (Nat.sub_le _ _) t.isLt)).2.2.1 y + part6 m c t y := by
  rw [outsAt0_B m c t h]
  frame_out
  rw [pay18_at]
  rfl

theorem first7 (c : Dev nD) (t : Fin cfg0.N) (h : t.val % 8 = 0) (y : S1x2048.Idx) :
    (outsAt0 m c t.val t.isLt).2.2.2 y = 0 + part7 m c t y := by
  rw [outsAt0_A m c t h]
  frame_out
  rw [pay19_at, pay17_at]
  rfl

theorem later7 (c : Dev nD) (t : Fin cfg0.N) (h : ¬t.val % 8 = 0) (y : S1x2048.Idx) :
    (outsAt0 m c t.val t.isLt).2.2.2 y = (outsAt0 m c (t.val - 1) (Nat.lt_of_le_of_lt (Nat.sub_le _ _) t.isLt)).2.2.2 y + part7 m c t y := by
  rw [outsAt0_B m c t h]
  frame_out
  rw [pay19_at]
  rfl

theorem final4 (c : Dev nD) : (dats m 0 c).arrAt 4 (cfgs 0).N = (arr4 (Xa m c) (Ya m c) (Ga m c) (Pa m c) : FVec Ideal S2048x2048 .f32) := by
  refine (dats m 0 c).arrAt_eq_of_covers 4 _ (by decide +kernel) fun t hf y => ?_
  blk_simp; rw [after0_4, after4]
  have h : ((cfg0.win 4).blk t).view.emb y = ix2 (row t (y 0)) (y 1) := by
    unfold row
    blk_ext [idx_val t]
  rw [h]; rfl

theorem final5 (c : Dev nD) : (dats m 0 c).arrAt 5 (cfgs 0).N = (arr4 (Xa m c) (Ya m c) (Ga m c) (Pa m c) : FVec Ideal S2048x2048 .bf16) := by
  refine (dats m 0 c).arrAt_eq_of_covers 5 _ (by decide +kernel) fun t hf y => ?_
  blk_simp; rw [after0_5, after5]
  have h : ((cfg0.win 5).blk t).view.emb y = ix2 (row t (y 0)) (y 1) := by
    unfold row
    blk_ext [idx_val t]
  rw [h]; rfl

theorem row_eq (t : Fin cfg0.N) (hr : t.val % 8 = 7) (s : Fin 8) (p : 8 * (t.val / 8) + s.val < cfg0.N) (k : Fin 256) (hl : s.val * 256 + k.val < 2048) :
    row ⟨8 * (t.val / 8) + s.val, p⟩ k = ⟨s.val * 256 + k.val, hl⟩ := by
  unfold row
  apply Fin.ext
  show (8 * (t.val / 8) + s.val) * 256 + k.val = s.val * 256 + k.val
  have : t.val < 8 := t.isLt
  omega

theorem final6 (c : Dev nD) : (dats m 0 c).arrAt 6 (cfgs 0).N = (arr6 (Xa m c) (Ya m c) (Pa m c) : FVec Ideal S1x2048 .f32) := by
  refine (dats m 0 c).arrAt_eq_of_covers 6 _ (by decide +kernel) fun t hf y => ?_
  have hr : t.val % 8 = 7 := (flush0_6 t).mp hf
  have h : ((cfg0.win 6).blk t).view.emb y = ix2 (y 0) (y 1) := by
    blk_ext [idx_val t]
  blk_simp
  rw [h, after0_6, Pipeline.eq_sum_fin_of_reset_step_apply_of_flush (fun n h => (outsAt0 m c n h).2.2.1) 8 (fun _ => 0)
    (fun t y => part6 m c t y) (fun t h j => first6 m c t h j) (fun t h j => later6 m c t h j) t hr _, zero_add]
  unfold part6
  simp only [pay10_at]
  refine Fin.sum_mul_add_congr fun s k hl => ?_
  simp only [b0, b3]
  rw [← row_eq t hr s (Pipeline.run_point_lt_of_flush t hr s) k hl]; rfl

theorem final7 (c : Dev nD) : (dats m 0 c).arrAt 7 (cfgs 0).N = (arr7 (Pa m c) : FVec Ideal S1x2048 .f32) := by
  refine (dats m 0 c).arrAt_eq_of_covers 7 _ (by decide +kernel) fun t hf y => ?_
  have hr : t.val % 8 = 7 := (flush0_7 t).mp hf
  have h : ((cfg0.win 7).blk t).view.emb y = ix2 (y 0) (y 1) := by
    blk_ext [idx_val t]
  blk_simp
  rw [h, after0_7, Pipeline.eq_sum_fin_of_reset_step_apply_of_flush (fun n h => (outsAt0 m c n h).2.2.2) 8 (fun _ => 0)
    (fun t y => part7 m c t y) (fun t h j => first7 m c t h j) (fun t h j => later7 m c t h j) t hr _, zero_add]
  unfold part7
  simp only [pay9_at]
  refine Fin.sum_mul_add_congr fun s k hl => ?_
  simp only [b3]
  rw [← row_eq t hr s (Pipeline.run_point_lt_of_flush t hr s) k hl]; rfl

end Cert.LnLastIdeal.Product

namespace Cert.LnLastRefIdeal.Product
open Cert.LnLastRefIdeal Cert.LnLastRefIdeal.Gen Cert.LnLastRefIdeal.Read
open Cert.LnLastIdeal.Product (mean var pull direct spread grad res arr4 arr6 arr7)

theorem v2_at (X Y : FVec Ideal S2048x2048 .f32) (i) : val_main_v2 (F := Ideal) X Y i = res X Y i := by
  unfold res
  pointwise [val_main_v2, val_main_v1, val_main_v0, val_main_cst]

theorem v6_at (X Y : FVec Ideal S2048x2048 .f32) (i) : val_main_v6 (F := Ideal) X Y i = mean (fun k => res X Y (ix2 (i 0) k)) := by
  unfold mean
  pointwise [val_main_v6, val_main_v5, val_main_cst_1, val_main_v4, val_main_v3, val_main_cst_0, v2_at]

theorem v8_at (X Y : FVec Ideal S2048x2048 .f32) (i) : val_main_v8 (F := Ideal) X Y i = res X Y i - mean (fun k => res X Y (ix2 (i 0) k)) := by
  pointwise [val_main_v8, val_main_v7, v6_at, v2_at]

theorem v17_at (X Y : FVec Ideal S2048x2048 .f32) (i) : val_main_v17 (F := Ideal) X Y i = res X Y i - mean (fun k => res X Y (ix2 (i 0) k)) := by
  pointwise [val_main_v17, val_main_v16, v6_at, v2_at]

theorem v19_at (X Y : FVec Ideal S2048x2048 .f32) (i) : val_main_v19 (F := Ideal) X Y i = var (fun k => res X Y (ix2 (i 0) k)) := by
  unfold var
  pointwise [val_main_v19, val_main_v18, val_main_cst_5, val_main_v15, val_main_v14, val_main_cst_4, val_main_v13, val_main_v12, val_main_cst_3, val_main_v9, v8_at]

theorem v32_at (P : FVec Ideal S2048x2048 .f32) (i) : val_main_v32 (F := Ideal) P i = P i := by
  pointwise [val_main_v32]

theorem v40_at (P : FVec Ideal S2048x2048 .f32) (g : FVec Ideal S2048 .f32) (i) : val_main_v40 (F := Ideal) g P i = P i * g (ix1 (i 1)) := by
  pointwise [val_main_v40, val_main_v39, val_main_v26, v32_at]

theorem v46_at (X Y P : FVec Ideal S2048x2048 .f32) (g : FVec Ideal S2048 .f32) (i) :
    val_main_v46 (F := Ideal) X Y g P i = direct (fun k => res X Y (ix2 (i 0) k)) (P i * g (ix1 (i 1))) := by
  unfold direct
  pointwise [val_main_v46, val_main_v45, val_main_v20, v19_at, v40_at]

theorem v55_at (X Y P : FVec Ideal S2048x2048 .f32) (g : FVec Ideal S2048 .f32) (i) :
    val_main_v55 (F := Ideal) X Y g P i = spread (fun k => res X Y (ix2 (i 0) k)) (fun k => P (ix2 (i 0) k) * g (ix1 k)) (res X Y i) := by
  unfold spread pull
  pointwise [val_main_v55, val_main_v11, val_main_v10, val_main_cst_2, val_main_v54, val_main_v53, val_main_cst_14, val_main_v52, val_main_v51, val_main_cst_13, val_main_v47, val_main_v23, val_main_v21, val_main_v20, val_main_v22, val_main_cst_6, val_main_v44, val_main_v43, val_main_cst_11, val_main_v42, v8_at, v17_at, v19_at, v40_at]
  simp only [Finset.univ_unique, Finset.sum_const, Finset.card_singleton, one_smul]

theorem eq65 (X Y P : FVec Ideal S2048x2048 .f32) (g : FVec Ideal S2048 .f32) : val_main_v65 (F := Ideal) X Y g P = arr4 X Y g P := by
  funext i
  unfold arr4 grad
  pointwise [val_main_v65, val_main_v64, val_main_v63, val_main_cst_17, val_main_v62, val_main_v61, val_main_cst_16, val_main_v60, val_main_v58, val_main_v57, val_main_cst_15, val_main_v56, val_main_v50, val_main_v49, val_main_cst_12, val_main_v48, val_main_v59, v46_at, v55_at]
  simp only [Finset.univ_unique, Finset.sum_const, Finset.card_singleton, one_smul]

theorem eq66 (X Y P : FVec Ideal S2048x2048 .f32) (g : FVec Ideal S2048 .f32) : val_main_v66 (F := Ideal) X Y g P = arr4 X Y g P :=
  eq65 X Y P g

theorem eq67 (X Y P : FVec Ideal S2048x2048 .f32) : val_main_v67 (F := Ideal) X Y P = arr6 X Y P := by
  funext i
  unfold arr6
  pointwise [val_main_v67, val_main_v41, val_main_cst_10, val_main_v38, val_main_v37, val_main_cst_9, val_main_v36, val_main_v25, val_main_v24, val_main_v20, v17_at, v19_at, v32_at]
  simp only [Finset.univ_unique, Finset.sum_const, Finset.card_singleton, one_smul]

theorem eq68 (P : FVec Ideal S2048x2048 .f32) : val_main_v68 (F := Ideal) P = arr7 P := by
  funext i
  unfold arr7
  pointwise [val_main_v68, val_main_v35, val_main_cst_8, val_main_v34, val_main_v33, val_main_cst_7]
  simp only [Finset.univ_unique, Finset.sum_const, Finset.card_singleton, one_smul]

end Cert.LnLastRefIdeal.Product

namespace Cert.LnLastClaim

theorem quiet : Cert.quiescent_LnLast (hLnLast := Cert.LnLast.Gen.facts) := fun m g _ => Cert.LnLast.Gen.frame m g

theorem quiet_ideal : Cert.quiescent_LnLastIdeal (hLnLastIdeal := Cert.LnLastIdeal.Gen.facts) := fun m g _ => Cert.LnLastIdeal.Gen.frame m g

theorem quiet_ref : Cert.quiescent_LnLastRefIdeal (hLnLastRefIdeal := Cert.LnLastRefIdeal.Gen.facts) := fun m g _ =>
  (θ_run Cert.LnLastRefIdeal.defs _ _).mono (fun r h => ⟨fun c => (h c).2.2.2.2, funext fun x => nomatch x.2⟩) (Cert.LnLastRefIdeal.Value.run m g)

theorem algebraic : Cert.algebraic_LnLastIdeal_LnLastRefIdeal (hLnLastIdeal := Cert.LnLastIdeal.Gen.facts)
    (hLnLastRefIdeal := Cert.LnLastRefIdeal.Gen.facts) := by
  pair_intro
  · run_from Cert.LnLastIdeal.Gen.run_main m g
  · run_from Cert.LnLastRefIdeal.Value.run m' g'
    · obtain ⟨e0, e1, e2, e3, e4⟩ := hagree c
      rw [Cert.LnLastIdeal.Product.final4 m c, Cert.LnLastRefIdeal.Read.val_main_v65_eq, Cert.LnLastRefIdeal.Product.eq65, e0, e1, e2, e4]
    · obtain ⟨e0, e1, e2, e3, e4⟩ := hagree c
      rw [Cert.LnLastIdeal.Product.final5 m c, Cert.LnLastRefIdeal.Read.val_main_v66_eq, Cert.LnLastRefIdeal.Product.eq66, e0, e1, e2, e4]
    · rw [Cert.LnLastIdeal.Product.final6 m c, Cert.LnLastRefIdeal.Read.val_main_v67_eq, Cert.LnLastRefIdeal.Product.eq67]
    · rw [Cert.LnLastIdeal.Product.final7 m c, Cert.LnLastRefIdeal.Read.val_main_v68_eq, Cert.LnLastRefIdeal.Product.eq68]

end Cert.LnLastClaim
-- ==== Proof.lean ====
module

public import proofs.«01_k».proof.Defs
public import proofs.«01_k».proof.Proof.Grad
public import proofs.«01_k».proof.Proof.Up
public import proofs.«01_k».proof.Proof.UpDx
public import proofs.«01_k».proof.Proof.UpDw
public import proofs.«01_k».proof.Proof.Down
public import proofs.«01_k».proof.Proof.DownDact
public import proofs.«01_k».proof.Proof.DownDw
public import proofs.«01_k».proof.Proof.In
public import proofs.«01_k».proof.Proof.InDx
public import proofs.«01_k».proof.Proof.InDw
public import proofs.«01_k».proof.Proof.Out
public import proofs.«01_k».proof.Proof.OutDx
public import proofs.«01_k».proof.Proof.OutDw
public import proofs.«01_k».proof.Proof.GluBwd
public import proofs.«01_k».proof.Proof.GeluBwd
public import proofs.«01_k».proof.Proof.LnBwd
public import proofs.«01_k».proof.Proof.Ln
public import proofs.«01_k».proof.Proof.Loss
public import proofs.«01_k».proof.Proof.GradX
public import proofs.«01_k».proof.Proof.Adamw
public import proofs.«01_k».proof.Proof.Glu
public import proofs.«01_k».proof.Proof.SmallSum
public import proofs.«01_k».proof.Proof.GluProj
public import proofs.«01_k».proof.Proof.GluProjDx
public import proofs.«01_k».proof.Proof.GluProjDw
public import proofs.«01_k».proof.Proof.Gelu
public import proofs.«01_k».proof.Proof.LnLast

@[expose] public section

/-! The certificate: the feed-forward block and the projections, forward and backward. -/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Up.Gen.facts,
    Cert.UpIdeal.Gen.facts, Cert.UpRefIdeal.Gen.facts, Cert.UpDx.Gen.facts, Cert.UpDxIdeal.Gen.facts,
    Cert.UpDxRefIdeal.Gen.facts, Cert.UpDw.Gen.facts, Cert.UpDwIdeal.Gen.facts, Cert.UpDwRefIdeal.Gen.facts,
    Cert.Down.Gen.facts, Cert.DownIdeal.Gen.facts, Cert.DownRefIdeal.Gen.facts, Cert.DownDact.Gen.facts,
    Cert.DownDactIdeal.Gen.facts, Cert.DownDactRefIdeal.Gen.facts, Cert.DownDw.Gen.facts, Cert.DownDwIdeal.Gen.facts,
    Cert.DownDwRefIdeal.Gen.facts, Cert.In.Gen.facts, Cert.InIdeal.Gen.facts, Cert.InRefIdeal.Gen.facts,
    Cert.InDx.Gen.facts, Cert.InDxIdeal.Gen.facts, Cert.InDxRefIdeal.Gen.facts, Cert.InDw.Gen.facts,
    Cert.InDwIdeal.Gen.facts, Cert.InDwRefIdeal.Gen.facts, Cert.Out.Gen.facts, Cert.OutIdeal.Gen.facts,
    Cert.OutRefIdeal.Gen.facts, Cert.OutDx.Gen.facts, Cert.OutDxIdeal.Gen.facts, Cert.OutDxRefIdeal.Gen.facts,
    Cert.OutDw.Gen.facts, Cert.OutDwIdeal.Gen.facts, Cert.OutDwRefIdeal.Gen.facts, Cert.GluBwd.Gen.facts,
    Cert.GluBwdIdeal.Gen.facts, Cert.GluBwdRefIdeal.Gen.facts, Cert.GeluBwd.Gen.facts, Cert.GeluBwdIdeal.Gen.facts,
    Cert.GeluBwdRefIdeal.Gen.facts, Cert.LnBwd.Gen.facts, Cert.LnBwdIdeal.Gen.facts, Cert.LnBwdRefIdeal.Gen.facts,
    Cert.Ln.Gen.facts, Cert.LnIdeal.Gen.facts, Cert.LnRefIdeal.Gen.facts, Cert.Loss.Gen.facts,
    Cert.LossIdeal.Gen.facts, Cert.LossRefIdeal.Gen.facts, Cert.GradX.Gen.facts, Cert.GradXIdeal.Gen.facts,
    Cert.GradXRefIdeal.Gen.facts, Cert.Adamw.Gen.facts, Cert.AdamwIdeal.Gen.facts, Cert.AdamwRefIdeal.Gen.facts,
    Cert.Glu.Gen.facts, Cert.GluIdeal.Gen.facts, Cert.GluRefIdeal.Gen.facts, Cert.SmallSum.Gen.facts,
    Cert.SmallSumIdeal.Gen.facts, Cert.SmallSumRefIdeal.Gen.facts, Cert.GluProj.Gen.facts,
    Cert.GluProjIdeal.Gen.facts, Cert.GluProjRefIdeal.Gen.facts, Cert.GluProjDx.Gen.facts,
    Cert.GluProjDxIdeal.Gen.facts, Cert.GluProjDxRefIdeal.Gen.facts, Cert.GluProjDw.Gen.facts,
    Cert.GluProjDwIdeal.Gen.facts, Cert.GluProjDwRefIdeal.Gen.facts, Cert.Gelu.Gen.facts, Cert.GeluIdeal.Gen.facts,
    Cert.GeluRefIdeal.Gen.facts, Cert.LnLast.Gen.facts, Cert.LnLastIdeal.Gen.facts, Cert.LnLastRefIdeal.Gen.facts,
    Cert.Grad.preFacts, Cert.Grad.quiet_kernel, Cert.Grad.quiet_ideal, Cert.Grad.quiet_ideal_pre,
    Cert.Grad.quiet_ref, Cert.Grad.quiet_ref_pre, Cert.UpClaim.quiet, Cert.UpClaim.quiet_ideal,
    Cert.UpClaim.quiet_ref, Cert.UpDxClaim.quiet, Cert.UpDxClaim.quiet_ideal, Cert.UpDxClaim.quiet_ref,
    Cert.UpDwClaim.quiet, Cert.UpDwClaim.quiet_ideal, Cert.UpDwClaim.quiet_ref, Cert.DownClaim.quiet,
    Cert.DownClaim.quiet_ideal, Cert.DownClaim.quiet_ref, Cert.DownDactClaim.quiet, Cert.DownDactClaim.quiet_ideal,
    Cert.DownDactClaim.quiet_ref, Cert.DownDwClaim.quiet, Cert.DownDwClaim.quiet_ideal, Cert.DownDwClaim.quiet_ref,
    Cert.InClaim.quiet, Cert.InClaim.quiet_ideal, Cert.InClaim.quiet_ref, Cert.InDxClaim.quiet,
    Cert.InDxClaim.quiet_ideal, Cert.InDxClaim.quiet_ref, Cert.InDwClaim.quiet, Cert.InDwClaim.quiet_ideal,
    Cert.InDwClaim.quiet_ref, Cert.OutClaim.quiet, Cert.OutClaim.quiet_ideal, Cert.OutClaim.quiet_ref,
    Cert.OutDxClaim.quiet, Cert.OutDxClaim.quiet_ideal, Cert.OutDxClaim.quiet_ref, Cert.OutDwClaim.quiet,
    Cert.OutDwClaim.quiet_ideal, Cert.OutDwClaim.quiet_ref, Cert.GluBwdClaim.quiet, Cert.GluBwdClaim.quiet_ideal,
    Cert.GluBwdClaim.quiet_ref, Cert.GeluBwdClaim.quiet, Cert.GeluBwdClaim.quiet_ideal, Cert.GeluBwdClaim.quiet_ref,
    Cert.LnBwdClaim.quiet, Cert.LnBwdClaim.quiet_ideal, Cert.LnBwdClaim.quiet_ref, Cert.LnClaim.quiet,
    Cert.LnClaim.quiet_ideal, Cert.LnClaim.quiet_ref, Cert.LossClaim.quiet, Cert.LossClaim.quiet_ideal,
    Cert.LossClaim.quiet_ref, Cert.GradXClaim.quiet, Cert.GradXClaim.quiet_ideal, Cert.GradXClaim.quiet_ref,
    Cert.AdamwClaim.quiet, Cert.AdamwClaim.quiet_ideal, Cert.AdamwClaim.quiet_ref, Cert.GluClaim.quiet,
    Cert.GluClaim.quiet_ideal, Cert.GluClaim.quiet_ref, Cert.SmallSumClaim.quiet, Cert.SmallSumClaim.quiet_ideal,
    Cert.SmallSumClaim.quiet_ref, Cert.GluProjClaim.quiet, Cert.GluProjClaim.quiet_ideal,
    Cert.GluProjClaim.quiet_ref, Cert.GluProjDxClaim.quiet, Cert.GluProjDxClaim.quiet_ideal,
    Cert.GluProjDxClaim.quiet_ref, Cert.GluProjDwClaim.quiet, Cert.GluProjDwClaim.quiet_ideal,
    Cert.GluProjDwClaim.quiet_ref, Cert.GeluClaim.quiet, Cert.GeluClaim.quiet_ideal, Cert.GeluClaim.quiet_ref,
    Cert.LnLastClaim.quiet, Cert.LnLastClaim.quiet_ideal, Cert.LnLastClaim.quiet_ref, trivial, Cert.Grad.algebraic,
    trivial, Cert.UpClaim.algebraic, trivial, Cert.UpDxClaim.algebraic, trivial, Cert.UpDwClaim.algebraic, trivial,
    Cert.DownClaim.algebraic, trivial, Cert.DownDactClaim.algebraic, trivial, Cert.DownDwClaim.algebraic, trivial,
    Cert.InClaim.algebraic, trivial, Cert.InDxClaim.algebraic, trivial, Cert.InDwClaim.algebraic, trivial,
    Cert.OutClaim.algebraic, trivial, Cert.OutDxClaim.algebraic, trivial, Cert.OutDwClaim.algebraic, trivial,
    Cert.GluBwdClaim.algebraic, trivial, Cert.GeluBwdClaim.algebraic, trivial, Cert.LnBwdClaim.algebraic, trivial,
    Cert.LnClaim.algebraic, trivial, Cert.LossClaim.algebraic, trivial, Cert.GradXClaim.algebraic, trivial,
    Cert.AdamwClaim.algebraic, trivial, Cert.GluClaim.algebraic, trivial, Cert.SmallSumClaim.algebraic, trivial,
    Cert.GluProjClaim.algebraic, trivial, Cert.GluProjDxClaim.algebraic, trivial, Cert.GluProjDwClaim.algebraic,
    trivial, Cert.GeluClaim.algebraic, trivial, Cert.LnLastClaim.algebraic⟩

end Cert.Proof

end
